-- ==== Defs.lean ====
def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendRefIdeal (m : (ℓ : Loc Cert.AttendRefIdeal.nD Cert.AttendRefIdeal.τ Cert.AttendRefIdeal.sig) → Buf (Elt Ideal) ℓ) : Prop :=
  True

def Pre_Distances (m : (ℓ : Loc Cert.Distances.nD Cert.Distances.τ Cert.Distances.sig) → Buf (Elt Bits) ℓ) : Prop :=
  True

def Pre_DistancesIdeal (m : (ℓ : Loc Cert.DistancesIdeal.nD Cert.DistancesIdeal.τ Cert.DistancesIdeal.sig) → Buf (Elt Ideal) ℓ) : Prop :=
  True

def Pre_DistancesIdeal_lengths_in_range [hPre_lengths_in_range : Cert.Pre_lengths_in_range.Facts] (m : (ℓ : Loc Cert.DistancesIdeal.nD Cert.DistancesIdeal.τ Cert.DistancesIdeal.sig) → Buf (Elt Ideal) ℓ) : Prop :=
  ∀ c : Dev Cert.DistancesIdeal.nD,
    (Cert.Pre_lengths_in_range.fn (F := Ideal) (m ((c.tc : Thread Cert.DistancesIdeal.nD Cert.DistancesIdeal.τ).loc Cert.DistancesIdeal.main_arg0)) (m ((c.tc : Thread Cert.DistancesIdeal.nD Cert.DistancesIdeal.τ).loc Cert.DistancesIdeal.main_arg1)) (m ((c.tc : Thread Cert.DistancesIdeal.nD Cert.DistancesIdeal.τ).loc Cert.DistancesIdeal.main_arg2))) = (fun _ => 1#1)

def Pre_DistancesRefIdeal (m : (ℓ : Loc Cert.DistancesRefIdeal.nD Cert.DistancesRefIdeal.τ Cert.DistancesRefIdeal.sig) → Buf (Elt Ideal) ℓ) : Prop :=
  True

def Pre_DistancesRefIdeal_lengths_in_range [hPre_lengths_in_range : Cert.Pre_lengths_in_range.Facts] (m : (ℓ : Loc Cert.DistancesRefIdeal.nD Cert.DistancesRefIdeal.τ Cert.DistancesRefIdeal.sig) → Buf (Elt Ideal) ℓ) : Prop :=
  ∀ c : Dev Cert.DistancesRefIdeal.nD,
    (Cert.Pre_lengths_in_range.fn (F := Ideal) (m ((c.tc : Thread Cert.DistancesRefIdeal.nD Cert.DistancesRefIdeal.τ).loc Cert.DistancesRefIdeal.main_arg0)) (m ((c.tc : Thread Cert.DistancesRefIdeal.nD Cert.DistancesRefIdeal.τ).loc Cert.DistancesRefIdeal.main_arg1)) (m ((c.tc : Thread Cert.DistancesRefIdeal.nD Cert.DistancesRefIdeal.τ).loc Cert.DistancesRefIdeal.main_arg2))) = (fun _ => 1#1)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ r.2.sem = fun _ => 0)

def quiescent_AttendRefIdeal [hAttendRefIdeal : Cert.AttendRefIdeal.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2)
      ∧ r.2.mem ((c.tc : Thread Cert.AttendRefIdeal.nD Cert.AttendRefIdeal.τ).loc Cert.AttendRefIdeal.main_arg3) = m ((c.tc : Thread Cert.AttendRefIdeal.nD Cert.AttendRefIdeal.τ).loc Cert.AttendRefIdeal.main_arg3))
      ∧ r.2.sem = fun _ => 0)

def quiescent_Distances [hDistances : Cert.Distances.Facts] : Prop :=
  ∀ (m : (ℓ : Loc Cert.Distances.nD Cert.Distances.τ Cert.Distances.sig) → Buf (Elt Bits) ℓ) (g : Dev Cert.Distances.nD → PrngReg), Pre_Distances m →
    θ_run (Cert.Distances.defs (F := Bits)) (onTc (τ := Cert.Distances.τ) (Cert.Distances.main (F := Bits))) ⟨m, fun _ => 0, g⟩ (fun r => (∀ c : Dev Cert.Distances.nD,
      r.2.mem ((c.tc : Thread Cert.Distances.nD Cert.Distances.τ).loc Cert.Distances.main_arg0) = m ((c.tc : Thread Cert.Distances.nD Cert.Distances.τ).loc Cert.Distances.main_arg0)
      ∧ r.2.mem ((c.tc : Thread Cert.Distances.nD Cert.Distances.τ).loc Cert.Distances.main_arg1) = m ((c.tc : Thread Cert.Distances.nD Cert.Distances.τ).loc Cert.Distances.main_arg1)
      ∧ r.2.mem ((c.tc : Thread Cert.Distances.nD Cert.Distances.τ).loc Cert.Distances.main_arg2) = m ((c.tc : Thread Cert.Distances.nD Cert.Distances.τ).loc Cert.Distances.main_arg2))
      ∧ r.2.sem = fun _ => 0)

def quiescent_DistancesIdeal [hDistancesIdeal : Cert.DistancesIdeal.Facts] : Prop :=
  ∀ (m : (ℓ : Loc Cert.DistancesIdeal.nD Cert.DistancesIdeal.τ Cert.DistancesIdeal.sig) → Buf (Elt Ideal) ℓ) (g : Dev Cert.DistancesIdeal.nD → PrngReg), Pre_DistancesIdeal m →
    θ_run (Cert.DistancesIdeal.defs (F := Ideal)) (onTc (τ := Cert.DistancesIdeal.τ) (Cert.DistancesIdeal.main (F := Ideal))) ⟨m, fun _ => 0, g⟩ (fun r => (∀ c : Dev Cert.DistancesIdeal.nD,
      r.2.mem ((c.tc : Thread Cert.DistancesIdeal.nD Cert.DistancesIdeal.τ).loc Cert.DistancesIdeal.main_arg0) = m ((c.tc : Thread Cert.DistancesIdeal.nD Cert.DistancesIdeal.τ).loc Cert.DistancesIdeal.main_arg0)
      ∧ r.2.mem ((c.tc : Thread Cert.DistancesIdeal.nD Cert.DistancesIdeal.τ).loc Cert.DistancesIdeal.main_arg1) = m ((c.tc : Thread Cert.DistancesIdeal.nD Cert.DistancesIdeal.τ).loc Cert.DistancesIdeal.main_arg1)
      ∧ r.2.mem ((c.tc : Thread Cert.DistancesIdeal.nD Cert.DistancesIdeal.τ).loc Cert.DistancesIdeal.main_arg2) = m ((c.tc : Thread Cert.DistancesIdeal.nD Cert.DistancesIdeal.τ).loc Cert.DistancesIdeal.main_arg2))
      ∧ r.2.sem = fun _ => 0)

def quiescent_DistancesIdeal_pre_lengths_in_range [hDistancesIdeal : Cert.DistancesIdeal.Facts] [hPre_lengths_in_range : Cert.Pre_lengths_in_range.Facts] : Prop :=
  ∀ (m : (ℓ : Loc Cert.DistancesIdeal.nD Cert.DistancesIdeal.τ Cert.DistancesIdeal.sig) → Buf (Elt Ideal) ℓ) (g : Dev Cert.DistancesIdeal.nD → PrngReg), Pre_DistancesIdeal_lengths_in_range m →
    θ_run (Cert.DistancesIdeal.defs (F := Ideal)) (onTc (τ := Cert.DistancesIdeal.τ) (Cert.DistancesIdeal.main (F := Ideal))) ⟨m, fun _ => 0, g⟩ (fun r => (∀ c : Dev Cert.DistancesIdeal.nD,
      r.2.mem ((c.tc : Thread Cert.DistancesIdeal.nD Cert.DistancesIdeal.τ).loc Cert.DistancesIdeal.main_arg0) = m ((c.tc : Thread Cert.DistancesIdeal.nD Cert.DistancesIdeal.τ).loc Cert.DistancesIdeal.main_arg0)
      ∧ r.2.mem ((c.tc : Thread Cert.DistancesIdeal.nD Cert.DistancesIdeal.τ).loc Cert.DistancesIdeal.main_arg1) = m ((c.tc : Thread Cert.DistancesIdeal.nD Cert.DistancesIdeal.τ).loc Cert.DistancesIdeal.main_arg1)
      ∧ r.2.mem ((c.tc : Thread Cert.DistancesIdeal.nD Cert.DistancesIdeal.τ).loc Cert.DistancesIdeal.main_arg2) = m ((c.tc : Thread Cert.DistancesIdeal.nD Cert.DistancesIdeal.τ).loc Cert.DistancesIdeal.main_arg2))
      ∧ r.2.sem = fun _ => 0)

def quiescent_DistancesRefIdeal [hDistancesRefIdeal : Cert.DistancesRefIdeal.Facts] : Prop :=
  ∀ (m : (ℓ : Loc Cert.DistancesRefIdeal.nD Cert.DistancesRefIdeal.τ Cert.DistancesRefIdeal.sig) → Buf (Elt Ideal) ℓ) (g : Dev Cert.DistancesRefIdeal.nD → PrngReg), Pre_DistancesRefIdeal m →
    θ_run (Cert.DistancesRefIdeal.defs (F := Ideal)) (onTc (τ := Cert.DistancesRefIdeal.τ) (Cert.DistancesRefIdeal.main (F := Ideal))) ⟨m, fun _ => 0, g⟩ (fun r => (∀ c : Dev Cert.DistancesRefIdeal.nD,
      r.2.mem ((c.tc : Thread Cert.DistancesRefIdeal.nD Cert.DistancesRefIdeal.τ).loc Cert.DistancesRefIdeal.main_arg0) = m ((c.tc : Thread Cert.DistancesRefIdeal.nD Cert.DistancesRefIdeal.τ).loc Cert.DistancesRefIdeal.main_arg0)
      ∧ r.2.mem ((c.tc : Thread Cert.DistancesRefIdeal.nD Cert.DistancesRefIdeal.τ).loc Cert.DistancesRefIdeal.main_arg1) = m ((c.tc : Thread Cert.DistancesRefIdeal.nD Cert.DistancesRefIdeal.τ).loc Cert.DistancesRefIdeal.main_arg1)
      ∧ r.2.mem ((c.tc : Thread Cert.DistancesRefIdeal.nD Cert.DistancesRefIdeal.τ).loc Cert.DistancesRefIdeal.main_arg2) = m ((c.tc : Thread Cert.DistancesRefIdeal.nD Cert.DistancesRefIdeal.τ).loc Cert.DistancesRefIdeal.main_arg2))
      ∧ r.2.sem = fun _ => 0)

def quiescent_DistancesRefIdeal_pre_lengths_in_range [hDistancesRefIdeal : Cert.DistancesRefIdeal.Facts] [hPre_lengths_in_range : Cert.Pre_lengths_in_range.Facts] : Prop :=
  ∀ (m : (ℓ : Loc Cert.DistancesRefIdeal.nD Cert.DistancesRefIdeal.τ Cert.DistancesRefIdeal.sig) → Buf (Elt Ideal) ℓ) (g : Dev Cert.DistancesRefIdeal.nD → PrngReg), Pre_DistancesRefIdeal_lengths_in_range m →
    θ_run (Cert.DistancesRefIdeal.defs (F := Ideal)) (onTc (τ := Cert.DistancesRefIdeal.τ) (Cert.DistancesRefIdeal.main (F := Ideal))) ⟨m, fun _ => 0, g⟩ (fun r => (∀ c : Dev Cert.DistancesRefIdeal.nD,
      r.2.mem ((c.tc : Thread Cert.DistancesRefIdeal.nD Cert.DistancesRefIdeal.τ).loc Cert.DistancesRefIdeal.main_arg0) = m ((c.tc : Thread Cert.DistancesRefIdeal.nD Cert.DistancesRefIdeal.τ).loc Cert.DistancesRefIdeal.main_arg0)
      ∧ r.2.mem ((c.tc : Thread Cert.DistancesRefIdeal.nD Cert.DistancesRefIdeal.τ).loc Cert.DistancesRefIdeal.main_arg1) = m ((c.tc : Thread Cert.DistancesRefIdeal.nD Cert.DistancesRefIdeal.τ).loc Cert.DistancesRefIdeal.main_arg1)
      ∧ r.2.mem ((c.tc : Thread Cert.DistancesRefIdeal.nD Cert.DistancesRefIdeal.τ).loc Cert.DistancesRefIdeal.main_arg2) = m ((c.tc : Thread Cert.DistancesRefIdeal.nD Cert.DistancesRefIdeal.τ).loc Cert.DistancesRefIdeal.main_arg2))
      ∧ r.2.sem = fun _ => 0)

def preserves_Attend_AttendIdeal : Prop :=
  True

def algebraic_AttendIdeal_AttendRefIdeal [hAttendIdeal : Cert.AttendIdeal.Facts] [hAttendRefIdeal : Cert.AttendRefIdeal.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendRefIdeal.nD Cert.AttendRefIdeal.τ Cert.AttendRefIdeal.sig) → Buf (Elt Ideal) ℓ) (g' : Dev Cert.AttendRefIdeal.nD → PrngReg), Pre_AttendIdeal m →
    (∀ c : Dev Cert.AttendIdeal.nD,
      m' ((c.tc : Thread Cert.AttendRefIdeal.nD Cert.AttendRefIdeal.τ).loc Cert.AttendRefIdeal.main_arg0) = m ((c.tc : Thread Cert.AttendIdeal.nD Cert.AttendIdeal.τ).loc Cert.AttendIdeal.main_arg0)
      ∧ m' ((c.tc : Thread Cert.AttendRefIdeal.nD Cert.AttendRefIdeal.τ).loc Cert.AttendRefIdeal.main_arg1) = m ((c.tc : Thread Cert.AttendIdeal.nD Cert.AttendIdeal.τ).loc Cert.AttendIdeal.main_arg1)
      ∧ m' ((c.tc : Thread Cert.AttendRefIdeal.nD Cert.AttendRefIdeal.τ).loc Cert.AttendRefIdeal.main_arg2) = m ((c.tc : Thread Cert.AttendIdeal.nD Cert.AttendIdeal.τ).loc Cert.AttendIdeal.main_arg2)
      ∧ m' ((c.tc : Thread Cert.AttendRefIdeal.nD Cert.AttendRefIdeal.τ).loc Cert.AttendRefIdeal.main_arg3) = m ((c.tc : Thread Cert.AttendIdeal.nD Cert.AttendIdeal.τ).loc Cert.AttendIdeal.main_arg3)) →
    ∃ (v0 : (c : Dev Cert.AttendIdeal.nD) → Buf (Elt Ideal) ((c.tc : Thread Cert.AttendIdeal.nD Cert.AttendIdeal.τ).loc Cert.AttendIdeal.main_v2_0)) (v1 : (c : Dev Cert.AttendIdeal.nD) → Buf (Elt Ideal) ((c.tc : Thread Cert.AttendIdeal.nD Cert.AttendIdeal.τ).loc Cert.AttendIdeal.main_v2_1)) (v2 : (c : Dev Cert.AttendIdeal.nD) → Buf (Elt Ideal) ((c.tc : Thread Cert.AttendIdeal.nD Cert.AttendIdeal.τ).loc Cert.AttendIdeal.main_v2_2)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v2_0) = v0 c
          ∧ r.2.mem ((c.tc : Thread Cert.AttendIdeal.nD Cert.AttendIdeal.τ).loc Cert.AttendIdeal.main_v2_1) = v1 c
          ∧ r.2.mem ((c.tc : Thread Cert.AttendIdeal.nD Cert.AttendIdeal.τ).loc Cert.AttendIdeal.main_v2_2) = v2 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ θ_run (Cert.AttendRefIdeal.defs (F := Ideal)) (onTc (τ := Cert.AttendRefIdeal.τ) (Cert.AttendRefIdeal.main (F := Ideal))) ⟨m', fun _ => 0, g'⟩ (fun r => ∀ c : Dev Cert.AttendRefIdeal.nD,
          r.2.mem ((c.tc : Thread Cert.AttendRefIdeal.nD Cert.AttendRefIdeal.τ).loc Cert.AttendRefIdeal.main_v23) = v0 c
          ∧ r.2.mem ((c.tc : Thread Cert.AttendRefIdeal.nD Cert.AttendRefIdeal.τ).loc Cert.AttendRefIdeal.main_v0) = v1 c
          ∧ r.2.mem ((c.tc : Thread Cert.AttendRefIdeal.nD Cert.AttendRefIdeal.τ).loc Cert.AttendRefIdeal.main_v19) = v2 c
          ∧ r.2.mem ((c.tc : Thread Cert.AttendRefIdeal.nD Cert.AttendRefIdeal.τ).loc Cert.AttendRefIdeal.main_arg0) = m' ((c.tc : Thread Cert.AttendRefIdeal.nD Cert.AttendRefIdeal.τ).loc Cert.AttendRefIdeal.main_arg0)
          ∧ r.2.mem ((c.tc : Thread Cert.AttendRefIdeal.nD Cert.AttendRefIdeal.τ).loc Cert.AttendRefIdeal.main_arg1) = m' ((c.tc : Thread Cert.AttendRefIdeal.nD Cert.AttendRefIdeal.τ).loc Cert.AttendRefIdeal.main_arg1)
          ∧ r.2.mem ((c.tc : Thread Cert.AttendRefIdeal.nD Cert.AttendRefIdeal.τ).loc Cert.AttendRefIdeal.main_arg2) = m' ((c.tc : Thread Cert.AttendRefIdeal.nD Cert.AttendRefIdeal.τ).loc Cert.AttendRefIdeal.main_arg2)
          ∧ r.2.mem ((c.tc : Thread Cert.AttendRefIdeal.nD Cert.AttendRefIdeal.τ).loc Cert.AttendRefIdeal.main_arg3) = m' ((c.tc : Thread Cert.AttendRefIdeal.nD Cert.AttendRefIdeal.τ).loc Cert.AttendRefIdeal.main_arg3))

def preserves_Distances_DistancesIdeal : Prop :=
  True

def algebraic_DistancesIdeal_DistancesRefIdeal_pre_lengths_in_range [hDistancesIdeal : Cert.DistancesIdeal.Facts] [hDistancesRefIdeal : Cert.DistancesRefIdeal.Facts] [hPre_lengths_in_range : Cert.Pre_lengths_in_range.Facts] : Prop :=
  ∀ (m : (ℓ : Loc Cert.DistancesIdeal.nD Cert.DistancesIdeal.τ Cert.DistancesIdeal.sig) → Buf (Elt Ideal) ℓ) (g : Dev Cert.DistancesIdeal.nD → PrngReg)
    (m' : (ℓ : Loc Cert.DistancesRefIdeal.nD Cert.DistancesRefIdeal.τ Cert.DistancesRefIdeal.sig) → Buf (Elt Ideal) ℓ) (g' : Dev Cert.DistancesRefIdeal.nD → PrngReg), Pre_DistancesIdeal_lengths_in_range m →
    (∀ c : Dev Cert.DistancesIdeal.nD,
      m' ((c.tc : Thread Cert.DistancesRefIdeal.nD Cert.DistancesRefIdeal.τ).loc Cert.DistancesRefIdeal.main_arg0) = m ((c.tc : Thread Cert.DistancesIdeal.nD Cert.DistancesIdeal.τ).loc Cert.DistancesIdeal.main_arg0)
      ∧ m' ((c.tc : Thread Cert.DistancesRefIdeal.nD Cert.DistancesRefIdeal.τ).loc Cert.DistancesRefIdeal.main_arg1) = m ((c.tc : Thread Cert.DistancesIdeal.nD Cert.DistancesIdeal.τ).loc Cert.DistancesIdeal.main_arg1)
      ∧ m' ((c.tc : Thread Cert.DistancesRefIdeal.nD Cert.DistancesRefIdeal.τ).loc Cert.DistancesRefIdeal.main_arg2) = m ((c.tc : Thread Cert.DistancesIdeal.nD Cert.DistancesIdeal.τ).loc Cert.DistancesIdeal.main_arg2)) →
    ∃ (v0 : (c : Dev Cert.DistancesIdeal.nD) → Buf (Elt Ideal) ((c.tc : Thread Cert.DistancesIdeal.nD Cert.DistancesIdeal.τ).loc Cert.DistancesIdeal.main_v0_0)) (v1 : (c : Dev Cert.DistancesIdeal.nD) → Buf (Elt Ideal) ((c.tc : Thread Cert.DistancesIdeal.nD Cert.DistancesIdeal.τ).loc Cert.DistancesIdeal.main_v0_1)),
      θ_run (Cert.DistancesIdeal.defs (F := Ideal)) (onTc (τ := Cert.DistancesIdeal.τ) (Cert.DistancesIdeal.main (F := Ideal))) ⟨m, fun _ => 0, g⟩ (fun r => ∀ c : Dev Cert.DistancesIdeal.nD,
          r.2.mem ((c.tc : Thread Cert.DistancesIdeal.nD Cert.DistancesIdeal.τ).loc Cert.DistancesIdeal.main_v0_0) = v0 c
          ∧ r.2.mem ((c.tc : Thread Cert.DistancesIdeal.nD Cert.DistancesIdeal.τ).loc Cert.DistancesIdeal.main_v0_1) = v1 c
          ∧ r.2.mem ((c.tc : Thread Cert.DistancesIdeal.nD Cert.DistancesIdeal.τ).loc Cert.DistancesIdeal.main_arg0) = m ((c.tc : Thread Cert.DistancesIdeal.nD Cert.DistancesIdeal.τ).loc Cert.DistancesIdeal.main_arg0)
          ∧ r.2.mem ((c.tc : Thread Cert.DistancesIdeal.nD Cert.DistancesIdeal.τ).loc Cert.DistancesIdeal.main_arg1) = m ((c.tc : Thread Cert.DistancesIdeal.nD Cert.DistancesIdeal.τ).loc Cert.DistancesIdeal.main_arg1)
          ∧ r.2.mem ((c.tc : Thread Cert.DistancesIdeal.nD Cert.DistancesIdeal.τ).loc Cert.DistancesIdeal.main_arg2) = m ((c.tc : Thread Cert.DistancesIdeal.nD Cert.DistancesIdeal.τ).loc Cert.DistancesIdeal.main_arg2))
      ∧ θ_run (Cert.DistancesRefIdeal.defs (F := Ideal)) (onTc (τ := Cert.DistancesRefIdeal.τ) (Cert.DistancesRefIdeal.main (F := Ideal))) ⟨m', fun _ => 0, g'⟩ (fun r => ∀ c : Dev Cert.DistancesRefIdeal.nD,
          r.2.mem ((c.tc : Thread Cert.DistancesRefIdeal.nD Cert.DistancesRefIdeal.τ).loc Cert.DistancesRefIdeal.main_v37) = v0 c
          ∧ r.2.mem ((c.tc : Thread Cert.DistancesRefIdeal.nD Cert.DistancesRefIdeal.τ).loc Cert.DistancesRefIdeal.main_v38) = v1 c
          ∧ r.2.mem ((c.tc : Thread Cert.DistancesRefIdeal.nD Cert.DistancesRefIdeal.τ).loc Cert.DistancesRefIdeal.main_arg0) = m' ((c.tc : Thread Cert.DistancesRefIdeal.nD Cert.DistancesRefIdeal.τ).loc Cert.DistancesRefIdeal.main_arg0)
          ∧ r.2.mem ((c.tc : Thread Cert.DistancesRefIdeal.nD Cert.DistancesRefIdeal.τ).loc Cert.DistancesRefIdeal.main_arg1) = m' ((c.tc : Thread Cert.DistancesRefIdeal.nD Cert.DistancesRefIdeal.τ).loc Cert.DistancesRefIdeal.main_arg1)
          ∧ r.2.mem ((c.tc : Thread Cert.DistancesRefIdeal.nD Cert.DistancesRefIdeal.τ).loc Cert.DistancesRefIdeal.main_arg2) = m' ((c.tc : Thread Cert.DistancesRefIdeal.nD Cert.DistancesRefIdeal.τ).loc Cert.DistancesRefIdeal.main_arg2))

def Claim : Prop :=
  ∃ (hAttend : Cert.Attend.Facts) (hAttendIdeal : Cert.AttendIdeal.Facts) (hAttendRefIdeal : Cert.AttendRefIdeal.Facts) (hDistances : Cert.Distances.Facts) (hDistancesIdeal : Cert.DistancesIdeal.Facts) (hDistancesRefIdeal : Cert.DistancesRefIdeal.Facts) (hPre_lengths_in_range : Cert.Pre_lengths_in_range.Facts),
    quiescent_Attend (hAttend := hAttend)
    ∧ quiescent_AttendIdeal (hAttendIdeal := hAttendIdeal)
    ∧ quiescent_AttendRefIdeal (hAttendRefIdeal := hAttendRefIdeal)
    ∧ quiescent_Distances (hDistances := hDistances)
    ∧ quiescent_DistancesIdeal (hDistancesIdeal := hDistancesIdeal)
    ∧ quiescent_DistancesIdeal_pre_lengths_in_range (hDistancesIdeal := hDistancesIdeal) (hPre_lengths_in_range := hPre_lengths_in_range)
    ∧ quiescent_DistancesRefIdeal (hDistancesRefIdeal := hDistancesRefIdeal)
    ∧ quiescent_DistancesRefIdeal_pre_lengths_in_range (hDistancesRefIdeal := hDistancesRefIdeal) (hPre_lengths_in_range := hPre_lengths_in_range)
    ∧ preserves_Attend_AttendIdeal
    ∧ algebraic_AttendIdeal_AttendRefIdeal (hAttendIdeal := hAttendIdeal) (hAttendRefIdeal := hAttendRefIdeal)
    ∧ preserves_Distances_DistancesIdeal
    ∧ algebraic_DistancesIdeal_DistancesRefIdeal_pre_lengths_in_range (hDistancesIdeal := hDistancesIdeal) (hDistancesRefIdeal := hDistancesRefIdeal) (hPre_lengths_in_range := hPre_lengths_in_range)
-- ==== Pre_lengths_in_range.lean ====
abbrev S640 : Shape := ⟨1, ![640]⟩
abbrev S2x640 : Shape := ⟨2, ![2, 640]⟩
abbrev S640x2x10112 : Shape := ⟨3, ![640, 2, 10112]⟩
abbrev S_ : Shape := ⟨0, ![]⟩

class Facts : Prop where
  bcast_S_S640 : S_.BroadcastsInDim S640 (![] : Fin 0 → Fin S640.rank)

variable [Facts]

def fn {F : FTy → Type} [FloatOps F] (main_arg0 : IVec S640 32) (main_arg1 : IVec S2x640 32) (main_arg2 : IVec S640x2x10112 32) : IVec S640 1 :=
  let main_c : IVec S_ 32 := constantI S_ 32 0#32
  let main_v0 : IVec S640 32 := broadcastInDim S640 ![] bcast_S_S640 main_c
  let main_v1 : IVec S640 1 := cmpi .sge main_arg0 main_v0
  let main_c_0 : IVec S_ 32 := constantI S_ 32 10112#32
  let main_v2 : IVec S640 32 := broadcastInDim S640 ![] bcast_S_S640 main_c_0
  let main_v3 : IVec S640 1 := cmpi .sle main_arg0 main_v2
  let main_v4 : IVec S640 1 := andi main_v1 main_v3
  main_v4
-- ==== Attend.lean ====
abbrev S640x128 : Shape := ⟨2, ![640, 128]⟩
abbrev S40960 : Shape := ⟨1, ![40960]⟩
abbrev S10240x128 : Shape := ⟨2, ![10240, 128]⟩
abbrev S320x128 : Shape := ⟨2, ![320, 128]⟩
abbrev S640x64 : Shape := ⟨2, ![640, 64]⟩
abbrev S32x128 : Shape := ⟨2, ![32, 128]⟩
abbrev S16x128 : Shape := ⟨2, ![16, 128]⟩
abbrev S512x128 : Shape := ⟨2, ![512, 128]⟩
abbrev S32x64 : Shape := ⟨2, ![32, 64]⟩
abbrev S8x512 : Shape := ⟨2, ![8, 512]⟩
abbrev S128x128 : Shape := ⟨2, ![128, 128]⟩
abbrev S1x128 : Shape := ⟨2, ![1, 128]⟩
abbrev S8x128 : Shape := ⟨2, ![8, 128]⟩
abbrev S8 : Shape := ⟨1, ![8]⟩
abbrev S8x1 : Shape := ⟨2, ![8, 1]⟩
abbrev S8x64 : Shape := ⟨2, ![8, 64]⟩

abbrev nBuf : Space → Nat
  | .hbm => 9
  | .vmem => 14
  | .smem => 0
  | _ => 0

abbrev bufTy : (tb : Table) → Fin (tcTables nBuf tb) → BufTy
  | .hbm, ⟨0, _⟩ => ⟨S640x128, .bf16⟩
  | .hbm, ⟨1, _⟩ => ⟨S40960, .i32⟩
  | .hbm, ⟨2, _⟩ => ⟨S40960, .f32⟩
  | .hbm, ⟨3, _⟩ => ⟨S10240x128, .i32⟩
  | .hbm, ⟨4, _⟩ => ⟨S320x128, .i32⟩
  | .hbm, ⟨5, _⟩ => ⟨S320x128, .f32⟩
  | .hbm, ⟨6, _⟩ => ⟨S640x128, .bf16⟩
  | .hbm, ⟨7, _⟩ => ⟨S640x64, .i32⟩
  | .hbm, ⟨8, _⟩ => ⟨S640x64, .f32⟩
  | .local _ .vmem, ⟨0, _⟩ => ⟨S32x128, .bf16⟩
  | .local _ .vmem, ⟨1, _⟩ => ⟨S32x128, .bf16⟩
  | .local _ .vmem, ⟨2, _⟩ => ⟨S16x128, .i32⟩
  | .local _ .vmem, ⟨3, _⟩ => ⟨S16x128, .i32⟩
  | .local _ .vmem, ⟨4, _⟩ => ⟨S16x128, .f32⟩
  | .local _ .vmem, ⟨5, _⟩ => ⟨S16x128, .f32⟩
  | .local _ .vmem, ⟨6, _⟩ => ⟨S512x128, .i32⟩
  | .local _ .vmem, ⟨7, _⟩ => ⟨S512x128, .i32⟩
  | .local _ .vmem, ⟨8, _⟩ => ⟨S32x128, .bf16⟩
  | .local _ .vmem, ⟨9, _⟩ => ⟨S32x128, .bf16⟩
  | .local _ .vmem, ⟨10, _⟩ => ⟨S32x64, .i32⟩
  | .local _ .vmem, ⟨11, _⟩ => ⟨S32x64, .i32⟩
  | .local _ .vmem, ⟨12, _⟩ => ⟨S32x64, .f32⟩
  | .local _ .vmem, ⟨13, _⟩ => ⟨S32x64, .f32⟩
  | _, _ => ⟨S640x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x64 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttendRefIdeal.lean ====
abbrev S640x128 : Shape := ⟨2, ![640, 128]⟩
abbrev S40960 : Shape := ⟨1, ![40960]⟩
abbrev S10240x128 : Shape := ⟨2, ![10240, 128]⟩
abbrev S640x64 : Shape := ⟨2, ![640, 64]⟩
abbrev S10240x4x128 : Shape := ⟨3, ![10240, 4, 128]⟩
abbrev S10240x1x128 : Shape := ⟨3, ![10240, 1, 128]⟩
abbrev S640x64x128 : Shape := ⟨3, ![640, 64, 128]⟩
abbrev S_ : Shape := ⟨0, ![]⟩
abbrev S640 : Shape := ⟨1, ![640]⟩
abbrev S640x1 : Shape := ⟨2, ![640, 1]⟩

abbrev nBuf : Space → Nat
  | .hbm => 32
  | .vmem => 2
  | .smem => 0
  | _ => 0

abbrev bufTy : (tb : Table) → Fin (tcTables nBuf tb) → BufTy
  | .hbm, ⟨0, _⟩ => ⟨S640x128, .bf16⟩
  | .hbm, ⟨1, _⟩ => ⟨S40960, .i32⟩
  | .hbm, ⟨2, _⟩ => ⟨S40960, .f32⟩
  | .hbm, ⟨3, _⟩ => ⟨S10240x128, .i32⟩
  | .hbm, ⟨4, _⟩ => ⟨S640x64, .i32⟩
  | .hbm, ⟨5, _⟩ => ⟨S640x64, .f32⟩
  | .hbm, ⟨6, _⟩ => ⟨S10240x4x128, .f32⟩
  | .hbm, ⟨7, _⟩ => ⟨S640x64x128, .f32⟩
  | .hbm, ⟨8, _⟩ => ⟨S640x64x128, .bf16⟩
  | .hbm, ⟨9, _⟩ => ⟨S640x64, .f32⟩
  | .hbm, ⟨10, _⟩ => ⟨S640x64, .f32⟩
  | .hbm, ⟨11, _⟩ => ⟨S_, .f32⟩
  | .hbm, ⟨12, _⟩ => ⟨S640x64, .f32⟩
  | .hbm, ⟨13, _⟩ => ⟨S640x64, .f32⟩
  | .hbm, ⟨14, _⟩ => ⟨S_, .f32⟩
  | .hbm, ⟨15, _⟩ => ⟨S640, .f32⟩
  | .hbm, ⟨16, _⟩ => ⟨S_, .f32⟩
  | .hbm, ⟨17, _⟩ => ⟨S640, .f32⟩
  | .hbm, ⟨18, _⟩ => ⟨S640, .f32⟩
  | .hbm, ⟨19, _⟩ => ⟨S640x1, .f32⟩
  | .hbm, ⟨20, _⟩ => ⟨S640x64, .f32⟩
  | .hbm, ⟨21, _⟩ => ⟨S640x64, .f32⟩
  | .hbm, ⟨22, _⟩ => ⟨S640x64, .f32⟩
  | .hbm, ⟨23, _⟩ => ⟨S_, .f32⟩
  | .hbm, ⟨24, _⟩ => ⟨S640, .f32⟩
  | .hbm, ⟨25, _⟩ => ⟨S640x1, .f32⟩
  | .hbm, ⟨26, _⟩ => ⟨S640x64, .f32⟩
  | .hbm, ⟨27, _⟩ => ⟨S640x64, .f32⟩
  | .hbm, ⟨28, _⟩ => ⟨S640x64, .f32⟩
  | .hbm, ⟨29, _⟩ => ⟨S640x64, .bf16⟩
  | .hbm, ⟨30, _⟩ => ⟨S640x128, .f32⟩
  | .hbm, ⟨31, _⟩ => ⟨S640x128, .bf16⟩
  | .local _ .vmem, ⟨0, _⟩ => ⟨S10240x128, .i32⟩
  | .local _ .vmem, ⟨1, _⟩ => ⟨S10240x4x128, .f32⟩
  | _, _ => ⟨S640x128, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S10240x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10240x4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Distances.lean ====
abbrev S640 : Shape := ⟨1, ![640]⟩
abbrev S2x640 : Shape := ⟨2, ![2, 640]⟩
abbrev S640x2x10112 : Shape := ⟨3, ![640, 2, 10112]⟩
abbrev S640x1x3072 : Shape := ⟨3, ![640, 1, 3072]⟩
abbrev S640x1x1024 : Shape := ⟨3, ![640, 1, 1024]⟩
abbrev S16x1x3072 : Shape := ⟨3, ![16, 1, 3072]⟩
abbrev S16x1x1024 : Shape := ⟨3, ![16, 1, 1024]⟩
abbrev S3x2x16x1x12288 : Shape := ⟨5, ![3, 2, 16, 1, 12288]⟩
abbrev S1x1024 : Shape := ⟨2, ![1, 1024]⟩
abbrev S3 : Shape := ⟨1, ![3]⟩
abbrev S1 : Shape := ⟨1, ![1]⟩
abbrev S_ : Shape := ⟨0, ![]⟩
abbrev S1x1x16x1x10112 : Shape := ⟨5, ![1, 1, 16, 1, 10112]⟩
abbrev S16x10112 : Shape := ⟨2, ![16, 10112]⟩
abbrev S16x1x10112 : Shape := ⟨3, ![16, 1, 10112]⟩
abbrev S1x1 : Shape := ⟨2, ![1, 1]⟩
abbrev S1x1x1x1x1024 : Shape := ⟨5, ![1, 1, 1, 1, 1024]⟩
abbrev S1x1x1024 : Shape := ⟨3, ![1, 1, 1024]⟩

abbrev nBuf : Space → Nat
  | .hbm => 3
  | .vmem => 6
  | .smem => 2
  | _ => 0

abbrev bufTy : (tb : Table) → Fin (tcTables nBuf tb) → BufTy
  | .hbm, ⟨0, _⟩ => ⟨S640x2x10112, .i32⟩
  | .hbm, ⟨1, _⟩ => ⟨S640x1x3072, .i32⟩
  | .hbm, ⟨2, _⟩ => ⟨S640x1x1024, .i32⟩
  | .local _ .vmem, ⟨0, _⟩ => ⟨S16x1x3072, .i32⟩
  | .local _ .vmem, ⟨1, _⟩ => ⟨S16x1x3072, .i32⟩
  | .local _ .vmem, ⟨2, _⟩ => ⟨S16x1x1024, .i32⟩
  | .local _ .vmem, ⟨3, _⟩ => ⟨S16x1x1024, .i32⟩
  | .local _ .vmem, ⟨4, _⟩ => ⟨S3x2x16x1x12288, .i32⟩
  | .local _ .vmem, ⟨5, _⟩ => ⟨S1x1024, .i32⟩
  | .local _ .smem, ⟨0, _⟩ => ⟨S640, .i32⟩
  | .local _ .smem, ⟨1, _⟩ => ⟨S2x640, .i32⟩
  | _, _ => ⟨S640x2x10112, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg2 : Ref sig .tc := ⟨.hbm, 0, rfl⟩
abbrev main_v0_0 : Ref sig .tc := ⟨.hbm, 1, rfl⟩
abbrev main_v0_1 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![40], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond2 (i : grid0.Coords) : BitVec 1 :=
  let arg0 : BitVec 32 := BitVec.ofNat 32 (i 0).val
  let c2_i32 : BitVec 32 := 2#32
  let v3 : BitVec 32 := Scalar.addi arg0 c2_i32
  let c40_i32 : BitVec 32 := 40#32
  let v4 : BitVec 1 := Scalar.cmpi .slt v3 c40_i32
  let v5 : BitVec 32 := Scalar.extui v4
  let c0_i32_1 : BitVec 32 := 0#32
  let v6 : BitVec 1 := Scalar.cmpi .ne v5 c0_i32_1
  v6

def k0_off1 (i : grid0.Coords) : Fin 1 → Nat :=
  let arg0 : BitVec 32 := BitVec.ofNat 32 (i 0).val
  let c2_i32_36 : BitVec 32 := 2#32
  let v53 : BitVec 32 := Scalar.addi arg0 c2_i32_36
  let c3_i32_37 : BitVec 32 := 3#32
  let c0_i32_38 : BitVec 32 := 0#32
  let v54 : BitVec 1 := Scalar.cmpi .eq c3_i32_37 c0_i32_38
  let c1_i32_39 : BitVec 32 := 1#32
  let v55 : BitVec 32 := Scalar.select v54 c1_i32_39 c3_i32_37
  let v56 : BitVec 32 := Scalar.remsi v53 v55
  let c0_i32_41 : BitVec 32 := 0#32
  let v58 : BitVec 1 := Scalar.cmpi .slt v56 c0_i32_41
  let c0_i32_42 : BitVec 32 := 0#32
  let v59 : BitVec 1 := Scalar.cmpi .slt v55 c0_i32_42
  let v60 : BitVec 1 := Scalar.xori v58 v59
  let c0_i32_40 : BitVec 32 := 0#32
  let v57 : BitVec 1 := Scalar.cmpi .ne v56 c0_i32_40
  let v61 : BitVec 1 := Scalar.andi v60 v57
  let v62 : BitVec 32 := Scalar.addi v56 v55
  let v63 : BitVec 32 := Scalar.select v61 v62 v56
  ![v63.toNat]
def k0_off2 (i : grid0.Coords) : Fin 5 → Nat :=
  let arg0 : BitVec 32 := BitVec.ofNat 32 (i 0).val
  let c2_i32_36 : BitVec 32 := 2#32
  let v53 : BitVec 32 := Scalar.addi arg0 c2_i32_36
  let c3_i32_37 : BitVec 32 := 3#32
  let c0_i32_38 : BitVec 32 := 0#32
  let v54 : BitVec 1 := Scalar.cmpi .eq c3_i32_37 c0_i32_38
  let c1_i32_39 : BitVec 32 := 1#32
  let v55 : BitVec 32 := Scalar.select v54 c1_i32_39 c3_i32_37
  let v56 : BitVec 32 := Scalar.remsi v53 v55
  let c0_i32_41 : BitVec 32 := 0#32
  let v58 : BitVec 1 := Scalar.cmpi .slt v56 c0_i32_41
  let c0_i32_42 : BitVec 32 := 0#32
  let v59 : BitVec 1 := Scalar.cmpi .slt v55 c0_i32_42
  let v60 : BitVec 1 := Scalar.xori v58 v59
  let c0_i32_40 : BitVec 32 := 0#32
  let v57 : BitVec 1 := Scalar.cmpi .ne v56 c0_i32_40
  let v61 : BitVec 1 := Scalar.andi v60 v57
  let v62 : BitVec 32 := Scalar.addi v56 v55
  let v63 : BitVec 32 := Scalar.select v61 v62 v56
  let c0_i32_45 : BitVec 32 := 0#32
  let c0_i32_47 : BitVec 32 := 0#32
  let c0_i32_46 : BitVec 32 := 0#32
  let c0_i32_48 : BitVec 32 := 0#32
  ![v63.toNat, 0, 0, 0, 0]
def k0_off3 (i : grid0.Coords) : Fin 3 → Nat :=
  let arg0 : BitVec 32 := BitVec.ofNat 32 (i 0).val
  let c2_i32_36 : BitVec 32 := 2#32
  let v53 : BitVec 32 := Scalar.addi arg0 c2_i32_36
  let c16_i32_43 : BitVec 32 := 16#32
  let v64 : BitVec 32 := Scalar.muli v53 c16_i32_43
  let c0_i32_44 : BitVec 32 := 0#32
  let c0_i32_49 : BitVec 32 := 0#32
  ![v64.toNat, 0, 0]
def k0_off4 (i : grid0.Coords) : Fin 5 → Nat :=
  let arg0 : BitVec 32 := BitVec.ofNat 32 (i 0).val
  let c2_i32_36 : BitVec 32 := 2#32
  let v53 : BitVec 32 := Scalar.addi arg0 c2_i32_36
  let c3_i32_50 : BitVec 32 := 3#32
  let c0_i32_51 : BitVec 32 := 0#32
  let v71 : BitVec 1 := Scalar.cmpi .eq c3_i32_50 c0_i32_51
  let c1_i32_52 : BitVec 32 := 1#32
  let v72 : BitVec 32 := Scalar.select v71 c1_i32_52 c3_i32_50
  let v73 : BitVec 32 := Scalar.remsi v53 v72
  let c0_i32_54 : BitVec 32 := 0#32
  let v75 : BitVec 1 := Scalar.cmpi .slt v73 c0_i32_54
  let c0_i32_55 : BitVec 32 := 0#32
  let v76 : BitVec 1 := Scalar.cmpi .slt v72 c0_i32_55
  let v77 : BitVec 1 := Scalar.xori v75 v76
  let c0_i32_53 : BitVec 32 := 0#32
  let v74 : BitVec 1 := Scalar.cmpi .ne v73 c0_i32_53
  let v78 : BitVec 1 := Scalar.andi v77 v74
  let v79 : BitVec 32 := Scalar.addi v73 v72
  let v80 : BitVec 32 := Scalar.select v78 v79 v73
  let c1_i32_58 : BitVec 32 := 1#32
  let c0_i32_60 : BitVec 32 := 0#32
  let c0_i32_59 : BitVec 32 := 0#32
  let c0_i32_61 : BitVec 32 := 0#32
  ![v80.toNat, 1, 0, 0, 0]
def k0_off5 (i : grid0.Coords) : Fin 3 → Nat :=
  let arg0 : BitVec 32 := BitVec.ofNat 32 (i 0).val
  let c2_i32_36 : BitVec 32 := 2#32
  let v53 : BitVec 32 := Scalar.addi arg0 c2_i32_36
  let c16_i32_56 : BitVec 32 := 16#32
  let v81 : BitVec 32 := Scalar.muli v53 c16_i32_56
  let c1_i32_57 : BitVec 32 := 1#32
  let c0_i32_62 : BitVec 32 := 0#32
  ![v81.toNat, 1, 0]
def k0_off6 (i : grid0.Coords) : Fin 1 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![v16.toNat]
def k0_off7 (i : grid0.Coords) : Fin 5 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_7 : BitVec 32 := 0#32
  let c0_i32_9 : BitVec 32 := 0#32
  let c0_i32_8 : BitVec 32 := 0#32
  let c0_i32_10 : BitVec 32 := 0#32
  ![v16.toNat, 0, 0, 0, 0]
def k0_off8 (i : grid0.Coords) : Fin 3 → Nat :=
  let arg0 : BitVec 32 := BitVec.ofNat 32 (i 0).val
  let c16_i32 : BitVec 32 := 16#32
  let v17 : BitVec 32 := Scalar.muli arg0 c16_i32
  let c0_i32_6 : BitVec 32 := 0#32
  let c0_i32_11 : BitVec 32 := 0#32
  ![v17.toNat, 0, 0]
def k0_off9 (i : grid0.Coords) : Fin 5 → Nat :=
  let arg0 : BitVec 32 := BitVec.ofNat 32 (i 0).val
  let c3_i32_12 : BitVec 32 := 3#32
  let c0_i32_13 : BitVec 32 := 0#32
  let v24 : BitVec 1 := Scalar.cmpi .eq c3_i32_12 c0_i32_13
  let c1_i32_14 : BitVec 32 := 1#32
  let v25 : BitVec 32 := Scalar.select v24 c1_i32_14 c3_i32_12
  let v26 : BitVec 32 := Scalar.remsi arg0 v25
  let c0_i32_16 : BitVec 32 := 0#32
  let v28 : BitVec 1 := Scalar.cmpi .slt v26 c0_i32_16
  let c0_i32_17 : BitVec 32 := 0#32
  let v29 : BitVec 1 := Scalar.cmpi .slt v25 c0_i32_17
  let v30 : BitVec 1 := Scalar.xori v28 v29
  let c0_i32_15 : BitVec 32 := 0#32
  let v27 : BitVec 1 := Scalar.cmpi .ne v26 c0_i32_15
  let v31 : BitVec 1 := Scalar.andi v30 v27
  let v32 : BitVec 32 := Scalar.addi v26 v25
  let v33 : BitVec 32 := Scalar.select v31 v32 v26
  let c1_i32_20 : BitVec 32 := 1#32
  let c0_i32_22 : BitVec 32 := 0#32
  let c0_i32_21 : BitVec 32 := 0#32
  let c0_i32_23 : BitVec 32 := 0#32
  ![v33.toNat, 1, 0, 0, 0]
def k0_off10 (i : grid0.Coords) : Fin 3 → Nat :=
  let arg0 : BitVec 32 := BitVec.ofNat 32 (i 0).val
  let c16_i32_18 : BitVec 32 := 16#32
  let v34 : BitVec 32 := Scalar.muli arg0 c16_i32_18
  let c1_i32_19 : BitVec 32 := 1#32
  let c0_i32_24 : BitVec 32 := 0#32
  ![v34.toNat, 1, 0]
@[reducible] def k0_t1_loop : Scf.Loop 32 :=
  let c0_i32_32 : BitVec 32 := 0#32
  let c16_i32_33 : BitVec 32 := 16#32
  let v52 : BitVec 32 := Scalar.addi c0_i32_32 c16_i32_33
  let c1_i32_34 : BitVec 32 := 1#32
  ⟨c0_i32_32, v52, c1_i32_34⟩
def k0_off11 (i : grid0.Coords) (k0_t1 : Fin k0_t1_loop.trips) : Fin 1 → Nat :=
  let arg0 : BitVec 32 := BitVec.ofNat 32 (i 0).val
  let c16_i32_36 : BitVec 32 := 16#32
  let v53 : BitVec 32 := Scalar.muli arg0 c16_i32_36
  let c0_i32_32 : BitVec 32 := 0#32
  let c1_i32_34 : BitVec 32 := 1#32
  let arg9 : BitVec 32 := Scf.iv c0_i32_32 c1_i32_34 k0_t1
  let v54 : BitVec 32 := Scalar.addi v53 arg9
  let v55 : Index := Scalar.indexCast v54
  ![v55.toNat]
def k0_off12 (i : grid0.Coords) (k0_t1 : Fin k0_t1_loop.trips) : Fin 2 → Nat :=
  let c0_37 : Index := 0#32
  let arg0 : BitVec 32 := BitVec.ofNat 32 (i 0).val
  let c16_i32_36 : BitVec 32 := 16#32
  let v53 : BitVec 32 := Scalar.muli arg0 c16_i32_36
  let c0_i32_32 : BitVec 32 := 0#32
  let c1_i32_34 : BitVec 32 := 1#32
  let arg9 : BitVec 32 := Scf.iv c0_i32_32 c1_i32_34 k0_t1
  let v54 : BitVec 32 := Scalar.addi v53 arg9
  let v57 : Index := Scalar.indexCast v54
  ![0, v57.toNat]
def k0_off13 (i : grid0.Coords) (k0_t1 : Fin k0_t1_loop.trips) : Fin 2 → Nat :=
  let c1 : Index := 1#32
  let arg0 : BitVec 32 := BitVec.ofNat 32 (i 0).val
  let c16_i32_36 : BitVec 32 := 16#32
  let v53 : BitVec 32 := Scalar.muli arg0 c16_i32_36
  let c0_i32_32 : BitVec 32 := 0#32
  let c1_i32_34 : BitVec 32 := 1#32
  let arg9 : BitVec 32 := Scf.iv c0_i32_32 c1_i32_34 k0_t1
  let v54 : BitVec 32 := Scalar.addi v53 arg9
  let v59 : Index := Scalar.indexCast v54
  ![1, v59.toNat]
def k0_off14 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v63 : Index := Scalar.indexCast v50
  let c0_39 : Index := 0#32
  let c0_i32_32 : BitVec 32 := 0#32
  let c1_i32_34 : BitVec 32 := 1#32
  let arg9 : BitVec 32 := Scf.iv c0_i32_32 c1_i32_34 k0_t1
  let v64 : Index := Scalar.indexCast arg9
  let c0_40 : Index := 0#32
  let c0_41 : Index := 0#32
  ![v63.toNat, 0, v64.toNat, 0, 0]
def k0_off15 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v67 : Index := Scalar.indexCast v50
  let c1_42 : Index := 1#32
  let c0_i32_32 : BitVec 32 := 0#32
  let c1_i32_34 : BitVec 32 := 1#32
  let arg9 : BitVec 32 := Scf.iv c0_i32_32 c1_i32_34 k0_t1
  let v68 : Index := Scalar.indexCast arg9
  let c0_43 : Index := 0#32
  let c0_44 : Index := 0#32
  ![v67.toNat, 1, v68.toNat, 0, 0]
def k0_off16 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v87 : Index := Scalar.indexCast v50
  let c0_48 : Index := 0#32
  let c0_i32_32 : BitVec 32 := 0#32
  let c1_i32_34 : BitVec 32 := 1#32
  let arg9 : BitVec 32 := Scf.iv c0_i32_32 c1_i32_34 k0_t1
  let v88 : Index := Scalar.indexCast arg9
  let c0_49 : Index := 0#32
  let c1024 : Index := 1024#32
  ![v87.toNat, 0, v88.toNat, 0, 1024]
def k0_off17 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v91 : Index := Scalar.indexCast v50
  let c1_50 : Index := 1#32
  let c0_i32_32 : BitVec 32 := 0#32
  let c1_i32_34 : BitVec 32 := 1#32
  let arg9 : BitVec 32 := Scf.iv c0_i32_32 c1_i32_34 k0_t1
  let v92 : Index := Scalar.indexCast arg9
  let c0_51 : Index := 0#32
  let c1024_52 : Index := 1024#32
  ![v91.toNat, 1, v92.toNat, 0, 1024]
def k0_off18 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v111 : Index := Scalar.indexCast v50
  let c0_54 : Index := 0#32
  let c0_i32_32 : BitVec 32 := 0#32
  let c1_i32_34 : BitVec 32 := 1#32
  let arg9 : BitVec 32 := Scf.iv c0_i32_32 c1_i32_34 k0_t1
  let v112 : Index := Scalar.indexCast arg9
  let c0_55 : Index := 0#32
  let c2048 : Index := 2048#32
  ![v111.toNat, 0, v112.toNat, 0, 2048]
def k0_off19 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v115 : Index := Scalar.indexCast v50
  let c1_56 : Index := 1#32
  let c0_i32_32 : BitVec 32 := 0#32
  let c1_i32_34 : BitVec 32 := 1#32
  let arg9 : BitVec 32 := Scf.iv c0_i32_32 c1_i32_34 k0_t1
  let v116 : Index := Scalar.indexCast arg9
  let c0_57 : Index := 0#32
  let c2048_58 : Index := 2048#32
  ![v115.toNat, 1, v116.toNat, 0, 2048]
def k0_off20 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v135 : Index := Scalar.indexCast v50
  let c0_61 : Index := 0#32
  let c0_i32_32 : BitVec 32 := 0#32
  let c1_i32_34 : BitVec 32 := 1#32
  let arg9 : BitVec 32 := Scf.iv c0_i32_32 c1_i32_34 k0_t1
  let v136 : Index := Scalar.indexCast arg9
  let c0_62 : Index := 0#32
  let c3072 : Index := 3072#32
  ![v135.toNat, 0, v136.toNat, 0, 3072]
def k0_off21 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v139 : Index := Scalar.indexCast v50
  let c1_63 : Index := 1#32
  let c0_i32_32 : BitVec 32 := 0#32
  let c1_i32_34 : BitVec 32 := 1#32
  let arg9 : BitVec 32 := Scf.iv c0_i32_32 c1_i32_34 k0_t1
  let v140 : Index := Scalar.indexCast arg9
  let c0_64 : Index := 0#32
  let c3072_65 : Index := 3072#32
  ![v139.toNat, 1, v140.toNat, 0, 3072]
def k0_off22 (k0_t1 : Fin k0_t1_loop.trips) : Fin 3 → Nat :=
  let c0_i32_32 : BitVec 32 := 0#32
  let c1_i32_34 : BitVec 32 := 1#32
  let arg9 : BitVec 32 := Scf.iv c0_i32_32 c1_i32_34 k0_t1
  let v159 : Index := Scalar.indexCast arg9
  let c0_67 : Index := 0#32
  let c0_68 : Index := 0#32
  ![v159.toNat, 0, 0]
def k0_off23 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v164 : Index := Scalar.indexCast v50
  let c0_70 : Index := 0#32
  let c0_i32_32 : BitVec 32 := 0#32
  let c1_i32_34 : BitVec 32 := 1#32
  let arg9 : BitVec 32 := Scf.iv c0_i32_32 c1_i32_34 k0_t1
  let v165 : Index := Scalar.indexCast arg9
  let c0_71 : Index := 0#32
  let c4096 : Index := 4096#32
  ![v164.toNat, 0, v165.toNat, 0, 4096]
def k0_off24 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v168 : Index := Scalar.indexCast v50
  let c1_72 : Index := 1#32
  let c0_i32_32 : BitVec 32 := 0#32
  let c1_i32_34 : BitVec 32 := 1#32
  let arg9 : BitVec 32 := Scf.iv c0_i32_32 c1_i32_34 k0_t1
  let v169 : Index := Scalar.indexCast arg9
  let c0_73 : Index := 0#32
  let c4096_74 : Index := 4096#32
  ![v168.toNat, 1, v169.toNat, 0, 4096]
def k0_off25 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v188 : Index := Scalar.indexCast v50
  let c0_77 : Index := 0#32
  let c0_i32_32 : BitVec 32 := 0#32
  let c1_i32_34 : BitVec 32 := 1#32
  let arg9 : BitVec 32 := Scf.iv c0_i32_32 c1_i32_34 k0_t1
  let v189 : Index := Scalar.indexCast arg9
  let c0_78 : Index := 0#32
  let c5120 : Index := 5120#32
  ![v188.toNat, 0, v189.toNat, 0, 5120]
def k0_off26 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v192 : Index := Scalar.indexCast v50
  let c1_79 : Index := 1#32
  let c0_i32_32 : BitVec 32 := 0#32
  let c1_i32_34 : BitVec 32 := 1#32
  let arg9 : BitVec 32 := Scf.iv c0_i32_32 c1_i32_34 k0_t1
  let v193 : Index := Scalar.indexCast arg9
  let c0_80 : Index := 0#32
  let c5120_81 : Index := 5120#32
  ![v192.toNat, 1, v193.toNat, 0, 5120]
def k0_off27 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v212 : Index := Scalar.indexCast v50
  let c0_84 : Index := 0#32
  let c0_i32_32 : BitVec 32 := 0#32
  let c1_i32_34 : BitVec 32 := 1#32
  let arg9 : BitVec 32 := Scf.iv c0_i32_32 c1_i32_34 k0_t1
  let v213 : Index := Scalar.indexCast arg9
  let c0_85 : Index := 0#32
  let c6144 : Index := 6144#32
  ![v212.toNat, 0, v213.toNat, 0, 6144]
def k0_off28 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v216 : Index := Scalar.indexCast v50
  let c1_86 : Index := 1#32
  let c0_i32_32 : BitVec 32 := 0#32
  let c1_i32_34 : BitVec 32 := 1#32
  let arg9 : BitVec 32 := Scf.iv c0_i32_32 c1_i32_34 k0_t1
  let v217 : Index := Scalar.indexCast arg9
  let c0_87 : Index := 0#32
  let c6144_88 : Index := 6144#32
  ![v216.toNat, 1, v217.toNat, 0, 6144]
def k0_off29 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v236 : Index := Scalar.indexCast v50
  let c0_91 : Index := 0#32
  let c0_i32_32 : BitVec 32 := 0#32
  let c1_i32_34 : BitVec 32 := 1#32
  let arg9 : BitVec 32 := Scf.iv c0_i32_32 c1_i32_34 k0_t1
  let v237 : Index := Scalar.indexCast arg9
  let c0_92 : Index := 0#32
  let c7168 : Index := 7168#32
  ![v236.toNat, 0, v237.toNat, 0, 7168]
def k0_off30 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v240 : Index := Scalar.indexCast v50
  let c1_93 : Index := 1#32
  let c0_i32_32 : BitVec 32 := 0#32
  let c1_i32_34 : BitVec 32 := 1#32
  let arg9 : BitVec 32 := Scf.iv c0_i32_32 c1_i32_34 k0_t1
  let v241 : Index := Scalar.indexCast arg9
  let c0_94 : Index := 0#32
  let c7168_95 : Index := 7168#32
  ![v240.toNat, 1, v241.toNat, 0, 7168]
def k0_off31 (k0_t1 : Fin k0_t1_loop.trips) : Fin 3 → Nat :=
  let c0_i32_32 : BitVec 32 := 0#32
  let c1_i32_34 : BitVec 32 := 1#32
  let arg9 : BitVec 32 := Scf.iv c0_i32_32 c1_i32_34 k0_t1
  let v260 : Index := Scalar.indexCast arg9
  let c0_98 : Index := 0#32
  let c1024_99 : Index := 1024#32
  ![v260.toNat, 0, 1024]
def k0_off32 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v265 : Index := Scalar.indexCast v50
  let c0_101 : Index := 0#32
  let c0_i32_32 : BitVec 32 := 0#32
  let c1_i32_34 : BitVec 32 := 1#32
  let arg9 : BitVec 32 := Scf.iv c0_i32_32 c1_i32_34 k0_t1
  let v266 : Index := Scalar.indexCast arg9
  let c0_102 : Index := 0#32
  let c8192 : Index := 8192#32
  ![v265.toNat, 0, v266.toNat, 0, 8192]
def k0_off33 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v269 : Index := Scalar.indexCast v50
  let c1_103 : Index := 1#32
  let c0_i32_32 : BitVec 32 := 0#32
  let c1_i32_34 : BitVec 32 := 1#32
  let arg9 : BitVec 32 := Scf.iv c0_i32_32 c1_i32_34 k0_t1
  let v270 : Index := Scalar.indexCast arg9
  let c0_104 : Index := 0#32
  let c8192_105 : Index := 8192#32
  ![v269.toNat, 1, v270.toNat, 0, 8192]
def k0_off34 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v289 : Index := Scalar.indexCast v50
  let c0_108 : Index := 0#32
  let c0_i32_32 : BitVec 32 := 0#32
  let c1_i32_34 : BitVec 32 := 1#32
  let arg9 : BitVec 32 := Scf.iv c0_i32_32 c1_i32_34 k0_t1
  let v290 : Index := Scalar.indexCast arg9
  let c0_109 : Index := 0#32
  let c9216 : Index := 9216#32
  ![v289.toNat, 0, v290.toNat, 0, 9216]
def k0_off35 (i : grid0.Coords) (k0_t1 : Fin k0_t1_loop.trips) : Fin 5 → Nat :=
  let arg0 : BitVec 32 := BitVec.ofNat 32 (i 0).val
  let c3_i32_25 : BitVec 32 := 3#32
  let c0_i32_26 : BitVec 32 := 0#32
  let v41 : BitVec 1 := Scalar.cmpi .eq c3_i32_25 c0_i32_26
  let c1_i32_27 : BitVec 32 := 1#32
  let v42 : BitVec 32 := Scalar.select v41 c1_i32_27 c3_i32_25
  let v43 : BitVec 32 := Scalar.remsi arg0 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let v293 : Index := Scalar.indexCast v50
  let c1_110 : Index := 1#32
  let c0_i32_32 : BitVec 32 := 0#32
  let c1_i32_34 : BitVec 32 := 1#32
  let arg9 : BitVec 32 := Scf.iv c0_i32_32 c1_i32_34 k0_t1
  let v294 : Index := Scalar.indexCast arg9
  let c0_111 : Index := 0#32
  let c9216_112 : Index := 9216#32
  ![v293.toNat, 1, v294.toNat, 0, 9216]
def k0_off36 (k0_t1 : Fin k0_t1_loop.trips) : Fin 3 → Nat :=
  let c0_i32_32 : BitVec 32 := 0#32
  let c1_i32_34 : BitVec 32 := 1#32
  let arg9 : BitVec 32 := Scf.iv c0_i32_32 c1_i32_34 k0_t1
  let v317 : Index := Scalar.indexCast arg9
  let c0_115 : Index := 0#32
  let c2048_116 : Index := 2048#32
  ![v317.toNat, 0, 2048]
def k0_off37 (k0_t1 : Fin k0_t1_loop.trips) : Fin 3 → Nat :=
  let c0_i32_32 : BitVec 32 := 0#32
  let c1_i32_34 : BitVec 32 := 1#32
  let arg9 : BitVec 32 := Scf.iv c0_i32_32 c1_i32_34 k0_t1
  let v321 : Index := Scalar.indexCast arg9
  let c0_117 : Index := 0#32
  let c0_118 : Index := 0#32
  ![v321.toNat, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1x3072 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== DistancesRefIdeal.lean ====
abbrev S640 : Shape := ⟨1, ![640]⟩
abbrev S2x640 : Shape := ⟨2, ![2, 640]⟩
abbrev S640x2x10112 : Shape := ⟨3, ![640, 2, 10112]⟩
abbrev S640x2 : Shape := ⟨2, ![640, 2]⟩
abbrev S640x2x1 : Shape := ⟨3, ![640, 2, 1]⟩
abbrev S_ : Shape := ⟨0, ![]⟩
abbrev S640x10112 : Shape := ⟨2, ![640, 10112]⟩
abbrev S10112 : Shape := ⟨1, ![10112]⟩
abbrev S1x10112 : Shape := ⟨2, ![1, 10112]⟩
abbrev S640x1 : Shape := ⟨2, ![640, 1]⟩
abbrev S640x12288 : Shape := ⟨2, ![640, 12288]⟩
abbrev S640x3x4x1024 : Shape := ⟨4, ![640, 3, 4, 1024]⟩
abbrev S640x3x1x1024 : Shape := ⟨4, ![640, 3, 1, 1024]⟩
abbrev S640x3x1024 : Shape := ⟨3, ![640, 3, 1024]⟩
abbrev S640x12x1024 : Shape := ⟨3, ![640, 12, 1024]⟩
abbrev S640x1024 : Shape := ⟨2, ![640, 1024]⟩
abbrev S640x1x3072 : Shape := ⟨3, ![640, 1, 3072]⟩
abbrev S640x1x1024 : Shape := ⟨3, ![640, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S640, .i32⟩
  | .hbm, ⟨1, _⟩ => ⟨S2x640, .i32⟩
  | .hbm, ⟨2, _⟩ => ⟨S640x2x10112, .i32⟩
  | .hbm, ⟨3, _⟩ => ⟨S640x2, .i32⟩
  | .hbm, ⟨4, _⟩ => ⟨S640x2x1, .i32⟩
  | .hbm, ⟨5, _⟩ => ⟨S640x2x10112, .i32⟩
  | .hbm, ⟨6, _⟩ => ⟨S640x2x10112, .i32⟩
  | .hbm, ⟨7, _⟩ => ⟨S640x2x10112, .i32⟩
  | .hbm, ⟨8, _⟩ => ⟨S640x2x10112, .i32⟩
  | .hbm, ⟨9, _⟩ => ⟨S_, .i32⟩
  | .hbm, ⟨10, _⟩ => ⟨S640x10112, .i32⟩
  | .hbm, ⟨11, _⟩ => ⟨S10112, .i32⟩
  | .hbm, ⟨12, _⟩ => ⟨S1x10112, .i32⟩
  | .hbm, ⟨13, _⟩ => ⟨S640x1, .i32⟩
  | .hbm, ⟨14, _⟩ => ⟨S640x10112, .i32⟩
  | .hbm, ⟨15, _⟩ => ⟨S640x10112, .i32⟩
  | .hbm, ⟨16, _⟩ => ⟨S640x10112, .i1⟩
  | .hbm, ⟨17, _⟩ => ⟨S_, .i32⟩
  | .hbm, ⟨18, _⟩ => ⟨S_, .i32⟩
  | .hbm, ⟨19, _⟩ => ⟨S640x10112, .i32⟩
  | .hbm, ⟨20, _⟩ => ⟨S640x10112, .i32⟩
  | .hbm, ⟨21, _⟩ => ⟨S640x10112, .i8⟩
  | .hbm, ⟨22, _⟩ => ⟨S640x10112, .i32⟩
  | .hbm, ⟨23, _⟩ => ⟨S_, .i32⟩
  | .hbm, ⟨24, _⟩ => ⟨S_, .i32⟩
  | .hbm, ⟨25, _⟩ => ⟨S640x12288, .i32⟩
  | .hbm, ⟨26, _⟩ => ⟨S640x3x4x1024, .i32⟩
  | .hbm, ⟨27, _⟩ => ⟨S640x3x1x1024, .i32⟩
  | .hbm, ⟨28, _⟩ => ⟨S640x3x1024, .i32⟩
  | .hbm, ⟨29, _⟩ => ⟨S640x3x1x1024, .i32⟩
  | .hbm, ⟨30, _⟩ => ⟨S640x3x1024, .i32⟩
  | .hbm, ⟨31, _⟩ => ⟨S_, .i32⟩
  | .hbm, ⟨32, _⟩ => ⟨S640x3x1024, .i32⟩
  | .hbm, ⟨33, _⟩ => ⟨S640x3x1024, .i32⟩
  | .hbm, ⟨34, _⟩ => ⟨S640x3x1024, .i32⟩
  | .hbm, ⟨35, _⟩ => ⟨S640x3x1x1024, .i32⟩
  | .hbm, ⟨36, _⟩ => ⟨S640x3x1024, .i32⟩
  | .hbm, ⟨37, _⟩ => ⟨S_, .i32⟩
  | .hbm, ⟨38, _⟩ => ⟨S640x3x1024, .i32⟩
  | .hbm, ⟨39, _⟩ => ⟨S640x3x1024, .i32⟩
  | .hbm, ⟨40, _⟩ => ⟨S640x3x1024, .i32⟩
  | .hbm, ⟨41, _⟩ => ⟨S640x3x1x1024, .i32⟩
  | .hbm, ⟨42, _⟩ => ⟨S640x3x1024, .i32⟩
  | .hbm, ⟨43, _⟩ => ⟨S_, .i32⟩
  | .hbm, ⟨44, _⟩ => ⟨S640x3x1024, .i32⟩
  | .hbm, ⟨45, _⟩ => ⟨S640x3x1024, .i32⟩
  | .hbm, ⟨46, _⟩ => ⟨S640x3x1024, .i32⟩
  | .hbm, ⟨47, _⟩ => ⟨S640x12x1024, .i32⟩
  | .hbm, ⟨48, _⟩ => ⟨S_, .i32⟩
  | .hbm, ⟨49, _⟩ => ⟨S640x1024, .i32⟩
  | .hbm, ⟨50, _⟩ => ⟨S640x1x3072, .i32⟩
  | .hbm, ⟨51, _⟩ => ⟨S640x1x1024, .i32⟩
  | _, _ => ⟨S640, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_call1_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.Softmax.lean ====
/-
  Sums and maxima over a row of 512 = 8 · 64 keys of which only the 64 keys of one batch row count, on the
  extended reals.

  `key r k` is key `k` of row `r` among the 512 keys that eight rows share. A softmax over all 512 whose logits
  are `⊥` outside the row's own 64 has the maximum, the sum and (on its own keys) the weights of the softmax
  over the 64 alone; off its own keys its weights are `Ideal.div 0 S`, which is `0` unless `S = 0`, and if
  `S = 0` then all weights, on and off, are `Ideal.div 0 0 = ⊥`: so adding up the eight aligned pieces of the
  row yields the own weights in every case.
-/
module

public import Idealize.ShloMosaic.PureOps.Ideal
public import Idealize.ShloMosaic.PureOps.Ideal.Laws
public import Idealize.ShloMosaic.Lib.Pointwise.Index

@[expose] public section

noncomputable section

open Idealize.ShloMosaic

namespace Cert.Softmax

/-- Key `k` of row `r` among the keys eight rows share. -/
def key (r : Fin 8) (k : Fin 64) : Fin 512 := ⟨64 * r.val + k.val, by omega⟩

theorem key_div (r : Fin 8) (k : Fin 64) : (key r k).val / 64 = r.val := by
  show (64 * r.val + k.val) / 64 = r.val
  omega

theorem key_inj (r : Fin 8) : Function.Injective (key r) := fun a b h => by
  have : 64 * r.val + a.val = 64 * r.val + b.val := congrArg Fin.val h
  exact Fin.ext (by omega)

theorem eq_key (r : Fin 8) (n : Fin 512) (h : n.val / 64 = r.val) : ∃ k, key r k = n :=
  ⟨⟨n.val % 64, Nat.mod_lt _ (by decide)⟩, Fin.ext (by show 64 * r.val + n.val % 64 = n.val; omega)⟩

/-- A sum over the 512 keys of terms that vanish off row `r` is the sum over the row's own 64. -/
theorem sum_key (r : Fin 8) (f : Fin 512 → EReal) (h : ∀ n : Fin 512, n.val / 64 ≠ r.val → f n = 0) :
    ∑ n, f n = ∑ k, f (key r k) := by
  symm
  refine Finset.sum_of_injOn (key r) ((key_inj r).injOn) (fun _ _ => Finset.mem_coe.2 (Finset.mem_univ _)) ?_ (fun _ _ => rfl)
  intro n _ hn
  refine h n fun e => hn ?_
  obtain ⟨k, rfl⟩ := eq_key r n e
  exact ⟨k, by simp, rfl⟩

/-- A maximum over the 512 keys of terms that are `⊥` off row `r` is the maximum over the row's own 64. -/
theorem max_key (r : Fin 8) (f : Fin 512 → EReal) (h : ∀ n : Fin 512, n.val / 64 ≠ r.val → f n = ⊥) :
    Finset.univ.fold max ⊥ f = Finset.univ.fold max ⊥ fun k => f (key r k) := by
  apply le_antisymm
  · rw [Finset.fold_max_le]
    refine ⟨bot_le, fun n _ => ?_⟩
    by_cases e : n.val / 64 = r.val
    · obtain ⟨k, rfl⟩ := eq_key r n e
      rw [Finset.le_fold_max]
      exact .inr ⟨k, Finset.mem_univ _, le_rfl⟩
    · rw [h n e]; exact bot_le
  · rw [Finset.fold_max_le]
    refine ⟨bot_le, fun k _ => ?_⟩
    rw [Finset.le_fold_max]
    exact .inr ⟨key r k, Finset.mem_univ _, le_rfl⟩

theorem exp_nonneg (x : EReal) : 0 ≤ Ideal.exp x := by
  induction x with
  | bot => exact le_rfl
  | top => exact le_top
  | coe x => exact EReal.coe_nonneg.2 (Real.exp_pos x).le

theorem div_zero_zero : Ideal.div 0 0 = ⊥ := by
  unfold Ideal.div
  rw [if_pos rfl, if_neg (lt_irrefl _)]

theorem zero_div {y : EReal} (h : y ≠ 0) : Ideal.div 0 y = 0 := by
  unfold Ideal.div
  rw [if_neg h, zero_mul]

/-! ## The softmax of one row -/

/-- The maximum of the logits of a row. -/
def top (s : Fin 64 → EReal) : EReal := Finset.univ.fold max ⊥ s
/-- The exponentials of a row's logits, less the maximum. -/
def expo (s : Fin 64 → EReal) (k : Fin 64) : EReal := Ideal.exp (s k - top s)
/-- The softmax of a row. -/
def weight (s : Fin 64 → EReal) (k : Fin 64) : EReal := Ideal.div (expo s k) (∑ k, expo s k)

/-- The logits of the row at its own keys, `⊥` at the others. -/
def masked (r : Fin 8) (f : Fin 512 → EReal) (n : Fin 512) : EReal := if n.val / 64 = r.val then f n else ⊥

variable (r : Fin 8) (f : Fin 512 → EReal)

theorem masked_key (k : Fin 64) : masked r f (key r k) = f (key r k) := if_pos (key_div r k)

theorem masked_top : Finset.univ.fold max ⊥ (masked r f) = top fun k => f (key r k) := by
  rw [max_key r (masked r f) fun n hn => if_neg hn]
  unfold top
  congr 1
  funext k
  exact masked_key r f k

/-- The wide exponentials: off the row's own keys they are `0`. -/
theorem masked_expo_off (M : EReal) {n : Fin 512} (h : n.val / 64 ≠ r.val) : Ideal.exp (masked r f n - M) = 0 := by
  rw [show masked r f n = ⊥ from if_neg h, sub_eq_add_neg, EReal.bot_add]
  rfl

theorem masked_sum (M : EReal) : ∑ n, Ideal.exp (masked r f n - M) = ∑ k, Ideal.exp (f (key r k) - M) := by
  rw [sum_key r _ fun n hn => masked_expo_off r f M hn]
  exact Finset.sum_congr rfl fun k _ => by rw [masked_key]

/-- The wide softmax: over all 512 keys, the logits `⊥` off row `r`. -/
def wide (r : Fin 8) (f : Fin 512 → EReal) (n : Fin 512) : EReal :=
  Ideal.div (Ideal.exp (masked r f n - Finset.univ.fold max ⊥ (masked r f)))
    (∑ n, Ideal.exp (masked r f n - Finset.univ.fold max ⊥ (masked r f)))

theorem wide_key (k : Fin 64) : wide r f (key r k) = weight (fun k => f (key r k)) k := by
  unfold wide weight expo
  rw [masked_top, masked_sum, masked_key]

theorem wide_off {n : Fin 512} (h : n.val / 64 ≠ r.val) :
    wide r f n = Ideal.div 0 (∑ k, expo (fun k => f (key r k)) k) := by
  unfold wide expo
  rw [masked_top, masked_sum, masked_expo_off r f _ h]

/-- Where a row's exponentials add up to `0` its weights are all `⊥`. -/
theorem weight_of_sum_zero (s : Fin 64 → EReal) (h : ∑ k, expo s k = 0) (k : Fin 64) : weight s k = ⊥ := by
  have e : expo s k = 0 :=
    (Finset.sum_eq_zero_iff_of_nonneg (fun k _ => exp_nonneg (s k - top s))).1 h k (Finset.mem_univ _)
  unfold weight
  rw [h, e, div_zero_zero]

/-- The eight aligned pieces of the wide softmax add up to the row's own weights. -/
theorem sum_wide (k : Fin 64) : ∑ b : Fin 8, wide r f (key b k) = weight (fun k => f (key r k)) k := by
  by_cases h : ∑ k, expo (fun k => f (key r k)) k = 0
  · rw [weight_of_sum_zero _ h]
    rw [← Finset.add_sum_erase _ _ (Finset.mem_univ r), wide_key, weight_of_sum_zero _ h, EReal.bot_add]
  · rw [← wide_key]
    refine Finset.sum_eq_single r (fun b _ hb => ?_) (fun hr => absurd (Finset.mem_univ r) hr)
    rw [wide_off r f (n := key b k) (by rw [key_div]; exact fun e => hb (Fin.ext e)), zero_div h]

/-! ## One row of the attention

    `q` the row of `x`, `a` the scales of its 64 keys, `c` their 64 codes. -/

/-- The factor every logit is multiplied by (`128 ^ -0.5`, as the programs write it). -/
def rootD : EReal := Ideal.ofBits .f32 0x3DB504F3#32

/-- The logits of a row. -/
def logits (q : Fin 128 → EReal) (a : Fin 64 → EReal) (c : Fin 64 → Fin 128 → EReal) (k : Fin 64) : EReal :=
  (∑ d, q d * c k d) * a k * rootD
/-- The attention weights of a row. -/
def attnRow (q : Fin 128 → EReal) (a : Fin 64 → EReal) (c : Fin 64 → Fin 128 → EReal) (k : Fin 64) : EReal :=
  weight (logits q a c) k
/-- The pooled keys of a row. -/
def poolRow (q : Fin 128 → EReal) (a : Fin 64 → EReal) (c : Fin 64 → Fin 128 → EReal) (d : Fin 128) : EReal :=
  ∑ k, attnRow q a c k * a k * c k d

/-- Byte `j` of a word, read as an eight-bit code. -/
def code (w : BitVec 32) (j : Nat) : EReal := Ideal.ofBits .fp8e4m3 (w.extractLsb' (8 * j) 8)

theorem ofBits_neg_inf : Ideal.ofBits .f32 0xFF800000#32 = ⊥ := by
  simp [Ideal.ofBits, Ideal.ieee]

/-! ## The rows of the argument arrays -/

/-- Row `B` of `x`. -/
def xq (X : (⟨2, ![640, 128]⟩ : Shape).Idx → EReal) (B : Fin 640) (d : Fin 128) : EReal := X (ix2 B d)
/-- Entry `k` of row `B` of a flat array of 640 rows of 64. -/
def flat {α : Type} (A : (⟨1, ![40960]⟩ : Shape).Idx → α) (B : Fin 640) (k : Fin 64) : α := A (ix1 ⟨64 * B.val + k.val, by omega⟩)
/-- Code `d` of key `k` of row `B`: a row's 64 keys are sixteen word rows, four keys to a word. -/
def kc (W : (⟨2, ![10240, 128]⟩ : Shape).Idx → BitVec 32) (B : Fin 640) (k : Fin 64) (d : Fin 128) : EReal :=
  code (W (ix2 ⟨16 * B.val + k.val / 4, by omega⟩ d)) (k.val % 4)

end Cert.Softmax

end
-- ==== Proof.Tile.lean ====
/-
  ONE TILE OF THE ATTENTION KERNEL at an index: eight rows of `x` against the 512 keys the rows share.
-/
module

public import proofs.«01_k».proof.Proof.Softmax
public import proofs.«01_k».proof.Proof.Gen.AttendIdeal.Skeleton
public import Idealize.ShloMosaic.Lib.Pointwise
public import Idealize.ShloMosaic.Lib.BitcastPair

@[expose] public section

set_option maxRecDepth 16384

noncomputable section

open Idealize.ShloMosaic

namespace Cert.AttendIdeal.Tile

open Cert.AttendIdeal Cert.AttendIdeal.Gen Cert.Softmax

/-- The tile's mask: key `n` is row `r`'s own where `n / 64 = r`. -/
theorem own_apply : ∀ (r : Fin 8) (n : Fin 512), k0_pay2 (ix2 r n) = if n.val / 64 = r.val then 1#1 else 0#1 := by
  decide +kernel

theorem select_own {α : Type} (r : Fin 8) (n : Fin 512) (a b : α) :
    Scalar.select (k0_pay2 (ix2 r n)) a b = if n.val / 64 = r.val then a else b := by
  rw [own_apply]
  by_cases h : n.val / 64 = r.val
  · rw [if_pos h, if_pos h]; rfl
  · rw [if_neg h, if_neg h]; rfl

/-- The logit of key `n` for row `r`. -/
def logit (x : FVec Ideal S8x128 .bf16) (kc : FVec Ideal S512x128 .bf16) (sc : FVec Ideal S8x512 .f32) (r : Fin 8) (n : Fin 512) : EReal :=
  (∑ d : Fin 128, x (ix2 r d) * kc (ix2 n d)) * sc (ix2 r n) * rootD

theorem attn_apply (x : FVec Ideal S8x128 .bf16) (kc : FVec Ideal S512x128 .bf16) (sc : FVec Ideal S8x512 .f32) (r : Fin 8) (n : Fin 512) :
    k0_pay37 (F := Ideal) k0_pay2 kc sc x (constant S8x512 .f32 0x00000000#32) (ix2 r n) = wide r (logit x kc sc r) n := by
  unfold k0_pay37
  pointwise
  simp only [select_own, ofBits_neg_inf]
  rfl

theorem pooled_apply (x : FVec Ideal S8x128 .bf16) (kc : FVec Ideal S512x128 .bf16) (sc : FVec Ideal S8x512 .f32) (r : Fin 8) (d : Fin 128) :
    k0_pay38 (F := Ideal) k0_pay2 kc sc x (constant S8x512 .f32 0x00000000#32) (ix2 r d)
      = poolRow (fun d => x (ix2 r d)) (fun k => sc (ix2 r (key r k))) (fun k d => kc (ix2 (key r k) d)) d := by
  unfold k0_pay38
  pointwise
  simp only [select_own, attn_apply]
  rw [sum_key r _ fun n hn => by simp only [if_neg hn, zero_mul]]
  exact Finset.sum_congr rfl fun k _ => by
    simp only [if_pos (key_div r k), wide_key]
    rfl

theorem diag_apply (x : FVec Ideal S8x128 .bf16) (kc : FVec Ideal S512x128 .bf16) (sc : FVec Ideal S8x512 .f32) (r : Fin 8) (k : Fin 64) :
    k0_pay39 (F := Ideal) k0_pay2 kc sc x (constant S8x512 .f32 0x00000000#32) (ix2 r k)
      = attnRow (fun d => x (ix2 r d)) (fun k => sc (ix2 r (key r k))) (fun k d => kc (ix2 (key r k) d)) k := by
  unfold k0_pay39
  pointwise
  simp only [attn_apply]
  have h := sum_wide r (logit x kc sc r) k
  rw [Fin.sum_univ_eight] at h
  refine Eq.trans ?_ h
  simp only [key]
  congr <;> simp

/-- The codes of the tile: key `n` is byte `n % 4` of word row `n / 4`. -/
theorem codes_apply (w : IVec S128x128 32) (n : Fin 512) (d : Fin 128) :
    k0_pay35 (F := Ideal) w (ix2 n d) = code (w (ix2 ⟨n.val / 4, by omega⟩ d)) (n.val % 4) := by
  unfold k0_pay35
  pointwise
  unfold code
  congr 1
  apply BitVec.eq_of_getLsbD_eq
  intro q hq
  rw [bitcast_getLsbD w _ _ q hq (by decide), BitVec.getLsbD_extractLsb']
  have hr : Shape.row S512x128 (ix2 n d) = n.val := rfl
  have e : (Shape.row S512x128 (ix2 n d) * 8 + q) % 32 = 8 * (n.val % 4) + q := by rw [hr]; omega
  rw [e]
  simp only [hq, decide_true, Bool.true_and]
  congr 2
  have h := bitcasts_S128x128_w32_S512x128_w8
  funext c
  match c with
  | ⟨0, _⟩ => exact Fin.ext ((h.srcIdx_row _ _ _ ⟨0, Nat.zero_lt_two⟩ rfl).trans (by rw [hr]; show (n.val * 8 + q) / 32 = n.val / 4; omega))
  | ⟨1, _⟩ => exact Fin.ext (h.srcIdx_other _ _ _ ⟨1, Nat.one_lt_two⟩ (by show ¬ 1 + 2 = 2; omega))

/-- Four rows of a block laid end to end. -/
theorem four_rows {α : Type} (X : S16x128.Idx → α) (T : Fin 4) (s0 s1 s2 s3 : S1x128.Idx → α)
    (h0 : ∀ l, s0 (ix2 0 l) = X (ix2 ⟨4 * T.val, by omega⟩ l)) (h1 : ∀ l, s1 (ix2 0 l) = X (ix2 ⟨4 * T.val + 1, by omega⟩ l))
    (h2 : ∀ l, s2 (ix2 0 l) = X (ix2 ⟨4 * T.val + 2, by omega⟩ l)) (h3 : ∀ l, s3 (ix2 0 l) = X (ix2 ⟨4 * T.val + 3, by omega⟩ l)) (n : Fin 512) :
    (if h : n.val < 128 then s0 (ix2 0 ⟨n.val, h⟩)
      else if h : n.val - 128 < 128 then s1 (ix2 0 ⟨n.val - 128, h⟩)
      else if h : n.val - 128 - 128 < 128 then s2 (ix2 0 ⟨n.val - 128 - 128, h⟩) else s3 (ix2 0 ⟨n.val - 128 - 128 - 128, by omega⟩))
      = X (ix2 ⟨4 * T.val + n.val / 128, by omega⟩ ⟨n.val % 128, by omega⟩) := by
  split_ifs
  · rw [h0]; congr 2 <;> apply Fin.ext <;> simp only <;> omega
  · rw [h1]; congr 2 <;> apply Fin.ext <;> simp only <;> omega
  · rw [h2]; congr 2 <;> apply Fin.ext <;> simp only <;> omega
  · rw [h3]; congr 2 <;> apply Fin.ext <;> simp only <;> omega

theorem scales_apply (X : S16x128.Idx → EReal) (T : Fin 4) (s0 s1 s2 s3 : FVec Ideal S1x128 .f32)
    (h0 : ∀ l, s0 (ix2 0 l) = X (ix2 ⟨4 * T.val, by omega⟩ l)) (h1 : ∀ l, s1 (ix2 0 l) = X (ix2 ⟨4 * T.val + 1, by omega⟩ l))
    (h2 : ∀ l, s2 (ix2 0 l) = X (ix2 ⟨4 * T.val + 2, by omega⟩ l)) (h3 : ∀ l, s3 (ix2 0 l) = X (ix2 ⟨4 * T.val + 3, by omega⟩ l)) (r : Fin 8) (n : Fin 512) :
    k0_pay36 (F := Ideal) s0 s1 s2 s3 (ix2 r n) = X (ix2 ⟨4 * T.val + n.val / 128, by omega⟩ ⟨n.val % 128, by omega⟩) := by
  refine Eq.trans ?_ (four_rows X T s0 s1 s2 s3 h0 h1 h2 h3 n)
  unfold k0_pay36
  pointwise

/-- The four position rows of a tile, each repeated over the tile's eight rows, laid end to end. -/
def positions (s0 s1 s2 s3 : IVec S1x128 32) : IVec S8x512 32 :=
  concatenate S8x512 1 [⟨S8x128, k0_pay40 (F := Ideal) s0⟩, ⟨S8x128, k0_pay40 (F := Ideal) s1⟩, ⟨S8x128, k0_pay40 (F := Ideal) s2⟩,
    ⟨S8x128, k0_pay40 (F := Ideal) s3⟩] concatenates_S8x128_S8x128_S8x128_S8x128_S8x512_d1

theorem positions_apply (X : S16x128.Idx → BitVec 32) (T : Fin 4) (s0 s1 s2 s3 : IVec S1x128 32)
    (h0 : ∀ l, s0 (ix2 0 l) = X (ix2 ⟨4 * T.val, by omega⟩ l)) (h1 : ∀ l, s1 (ix2 0 l) = X (ix2 ⟨4 * T.val + 1, by omega⟩ l))
    (h2 : ∀ l, s2 (ix2 0 l) = X (ix2 ⟨4 * T.val + 2, by omega⟩ l)) (h3 : ∀ l, s3 (ix2 0 l) = X (ix2 ⟨4 * T.val + 3, by omega⟩ l)) (r : Fin 8) (n : Fin 512) :
    positions s0 s1 s2 s3 (ix2 r n) = X (ix2 ⟨4 * T.val + n.val / 128, by omega⟩ ⟨n.val % 128, by omega⟩) := by
  refine Eq.trans ?_ (four_rows X T s0 s1 s2 s3 h0 h1 h2 h3 n)
  unfold positions k0_pay40
  pointwise

/-- A row's own 64 of the 512 positions the tile's rows share: the others masked to zero, the eight pieces added up. -/
def ownPositions (P : IVec S8x512 32) : IVec S8x64 32 :=
  have v400 : IVec S8x512 32 := select k0_pay2 P (broadcast S8x512 0#32)
  addi (addi (addi (addi (addi (addi (addi (addi (broadcast S8x64 0#32)
    (extractStridedSlice S8x64 ![0, 0] v400 slices_S8x512_o0_0_S8x64))
    (extractStridedSlice S8x64 ![0, 64] v400 slices_S8x512_o0_64_S8x64))
    (extractStridedSlice S8x64 ![0, 128] v400 slices_S8x512_o0_128_S8x64))
    (extractStridedSlice S8x64 ![0, 192] v400 slices_S8x512_o0_192_S8x64))
    (extractStridedSlice S8x64 ![0, 256] v400 slices_S8x512_o0_256_S8x64))
    (extractStridedSlice S8x64 ![0, 320] v400 slices_S8x512_o0_320_S8x64))
    (extractStridedSlice S8x64 ![0, 384] v400 slices_S8x512_o0_384_S8x64))
    (extractStridedSlice S8x64 ![0, 448] v400 slices_S8x512_o0_448_S8x64)

theorem ownPositions_apply (P : IVec S8x512 32) (r : Fin 8) (k : Fin 64) :
    ownPositions P (ix2 r k) = P (ix2 r (key r k)) := by
  unfold ownPositions
  pointwise
  simp only [select_own]
  have d : ∀ b, b < 8 → (64 * b + k.val) / 64 = b := fun b _ => by omega
  have d0 : k.val / 64 = 0 := by omega
  have d1 := d 1 (by omega)
  have d2 := d 2 (by omega)
  have d3 := d 3 (by omega)
  have d4 := d 4 (by omega)
  have d5 := d 5 (by omega)
  have d6 := d 6 (by omega)
  have d7 := d 7 (by omega)
  simp only [Nat.reduceMul] at d1 d2 d3 d4 d5 d6 d7
  simp only [d0, d1, d2, d3, d4, d5, d6, d7, IntOp.addi]
  fin_cases r <;> simp [key]

end Cert.AttendIdeal.Tile
end
-- ==== Proof.Block.lean ====
/-
  ONE BLOCK OF THE ATTENTION KERNEL at an index: what the body leaves in the three result buffers at a grid
  point, as the row functions of `Softmax.lean` of the rows of the point's input blocks.
-/
module

public import proofs.«01_k».proof.Proof.Tile
public import proofs.«01_k».proof.Proof.Gen.AttendIdeal.Frame
public import Idealize.ShloMosaic.Lib.Pipeline.Value

@[expose] public section

set_option maxRecDepth 16384

noncomputable section

open Idealize.ShloMosaic

namespace Cert.AttendIdeal.Block

open Cert.AttendIdeal Cert.AttendIdeal.Gen Cert.AttendIdeal.Tile Cert.Softmax

variable (x0 : Vec Ideal S32x128 .bf16) (x1 : Vec Ideal S16x128 .i32) (x2 : Vec Ideal S16x128 .f32) (x3 : Vec Ideal S512x128 .i32)

/-- Row `b` of the block's `x`. -/
def bq (b : Fin 32) (d : Fin 128) : EReal := x0 (ix2 b d)
/-- Entry `k` of row `b` of a block whose rows hold two batch rows of 64 each. -/
def pair {α : Type} (X : S16x128.Idx → α) (b : Fin 32) (k : Fin 64) : α := X (ix2 ⟨b.val / 2, by omega⟩ ⟨b.val % 2 * 64 + k.val, by omega⟩)
/-- Code `d` of key `k` of row `b`: a row's 64 keys are sixteen word rows, four keys to a word. -/
def bc (b : Fin 32) (k : Fin 64) (d : Fin 128) : EReal := code (x3 (ix2 ⟨16 * b.val + k.val / 4, by omega⟩ d)) (k.val % 4)

/-- Row `r` of tile `T` of the block. -/
def brow (T : Fin 4) (r : Fin 8) : Fin 32 := ⟨8 * T.val + r.val, by omega⟩

theorem brow_zero (r : Fin 8) : brow 0 r = ⟨r.val, by omega⟩ := Fin.ext (Nat.zero_add _)

theorem pair_key {α : Type} (X : S16x128.Idx → α) (T : Fin 4) (r : Fin 8) (k : Fin 64) :
    X (ix2 ⟨4 * T.val + (key r k).val / 128, by omega⟩ ⟨(key r k).val % 128, by omega⟩) = pair X (brow T r) k := by
  unfold pair brow key
  congr 2 <;> apply Fin.ext <;> simp only <;> omega

section Tiles

variable (T : Fin 4) (x : FVec Ideal S8x128 .bf16) (w : IVec S128x128 32) (s0 s1 s2 s3 : FVec Ideal S1x128 .f32)
  (hx : ∀ r d, x (ix2 r d) = x0 (ix2 (brow T r) d)) (hw : ∀ (p : Fin 128) (d : Fin 128), w (ix2 p d) = x3 (ix2 ⟨128 * T.val + p.val, by omega⟩ d))
  (h0 : ∀ l, s0 (ix2 0 l) = x2 (ix2 ⟨4 * T.val, by omega⟩ l)) (h1 : ∀ l, s1 (ix2 0 l) = x2 (ix2 ⟨4 * T.val + 1, by omega⟩ l))
  (h2 : ∀ l, s2 (ix2 0 l) = x2 (ix2 ⟨4 * T.val + 2, by omega⟩ l)) (h3 : ∀ l, s3 (ix2 0 l) = x2 (ix2 ⟨4 * T.val + 3, by omega⟩ l))
include hx hw h0 h1 h2 h3

theorem tile_rows (r : Fin 8) : (fun d => x (ix2 r d)) = bq x0 (brow T r)
    ∧ (fun k => k0_pay36 (F := Ideal) s0 s1 s2 s3 (ix2 r (key r k))) = pair x2 (brow T r)
    ∧ (fun k d => k0_pay35 (F := Ideal) w (ix2 (key r k) d)) = bc x3 (brow T r) := by
  refine ⟨funext fun d => hx r d, funext fun k => ?_, funext fun k => funext fun d => ?_⟩
  · rw [scales_apply x2 T s0 s1 s2 s3 h0 h1 h2 h3, pair_key x2]
  · rw [codes_apply, hw]
    unfold bc brow key
    have e : (64 * r.val + k.val) % 4 = k.val % 4 := by omega
    simp only [e]
    congr 3
    apply Fin.ext
    simp only
    omega

theorem tile_pooled (r : Fin 8) (d : Fin 128) :
    k0_pay38 (F := Ideal) k0_pay2 (k0_pay35 w) (k0_pay36 s0 s1 s2 s3) x (constant S8x512 .f32 0x00000000#32) (ix2 r d)
      = poolRow (bq x0 (brow T r)) (pair x2 (brow T r)) (bc x3 (brow T r)) d := by
  obtain ⟨e1, e2, e3⟩ := tile_rows x0 x2 x3 T x w s0 s1 s2 s3 hx hw h0 h1 h2 h3 r
  rw [pooled_apply, e1, e2, e3]

theorem tile_attn (r : Fin 8) (k : Fin 64) :
    k0_pay39 (F := Ideal) k0_pay2 (k0_pay35 w) (k0_pay36 s0 s1 s2 s3) x (constant S8x512 .f32 0x00000000#32) (ix2 r k)
      = attnRow (bq x0 (brow T r)) (pair x2 (brow T r)) (bc x3 (brow T r)) k := by
  obtain ⟨e1, e2, e3⟩ := tile_rows x0 x2 x3 T x w s0 s1 s2 s3 hx hw h0 h1 h2 h3 r
  rw [diag_apply, e1, e2, e3]

end Tiles

theorem tile_positions (T : Fin 4) (s0 s1 s2 s3 : IVec S1x128 32)
    (h0 : ∀ l, s0 (ix2 0 l) = x1 (ix2 ⟨4 * T.val, by omega⟩ l)) (h1 : ∀ l, s1 (ix2 0 l) = x1 (ix2 ⟨4 * T.val + 1, by omega⟩ l))
    (h2 : ∀ l, s2 (ix2 0 l) = x1 (ix2 ⟨4 * T.val + 2, by omega⟩ l)) (h3 : ∀ l, s3 (ix2 0 l) = x1 (ix2 ⟨4 * T.val + 3, by omega⟩ l)) (r : Fin 8) (k : Fin 64) :
    ownPositions (positions s0 s1 s2 s3) (ix2 r k) = pair x1 (brow T r) k := by
  rw [ownPositions_apply, positions_apply x1 T s0 s1 s2 s3 h0 h1 h2 h3, pair_key x1]

/-! ## The three result buffers, as four pieces of one tile function each -/

theorem out4_eq : out0_4 (F := Ideal) x0 x1 x2 x3 = View.canon
    [⟨r0_26, k0_pay38 k0_pay2 (k0_pay35 (View.ld (Val := Elt Ideal) x3 r0_21)) (k0_pay36 (View.ld (Val := Elt Ideal) x2 r0_22) (View.ld (Val := Elt Ideal) x2 r0_23) (View.ld (Val := Elt Ideal) x2 r0_24) (View.ld (Val := Elt Ideal) x2 r0_25)) (View.ld (Val := Elt Ideal) x0 r0_26) (constant S8x512 .f32 0x00000000#32)⟩,
     ⟨r0_19, k0_pay38 k0_pay2 (k0_pay35 (View.ld (Val := Elt Ideal) x3 r0_14)) (k0_pay36 (View.ld (Val := Elt Ideal) x2 r0_15) (View.ld (Val := Elt Ideal) x2 r0_16) (View.ld (Val := Elt Ideal) x2 r0_17) (View.ld (Val := Elt Ideal) x2 r0_18)) (View.ld (Val := Elt Ideal) x0 r0_19) (constant S8x512 .f32 0x00000000#32)⟩,
     ⟨r0_12, k0_pay38 k0_pay2 (k0_pay35 (View.ld (Val := Elt Ideal) x3 r0_7)) (k0_pay36 (View.ld (Val := Elt Ideal) x2 r0_8) (View.ld (Val := Elt Ideal) x2 r0_9) (View.ld (Val := Elt Ideal) x2 r0_10) (View.ld (Val := Elt Ideal) x2 r0_11)) (View.ld (Val := Elt Ideal) x0 r0_12) (constant S8x512 .f32 0x00000000#32)⟩,
     ⟨r0_5, k0_pay38 k0_pay2 (k0_pay35 (View.ld (Val := Elt Ideal) x3 r0_0)) (k0_pay36 (View.ld (Val := Elt Ideal) x2 r0_1) (View.ld (Val := Elt Ideal) x2 r0_2) (View.ld (Val := Elt Ideal) x2 r0_3) (View.ld (Val := Elt Ideal) x2 r0_4)) (View.ld (Val := Elt Ideal) x0 r0_5) (constant S8x512 .f32 0x00000000#32)⟩] := by
  unfold_out out0_4
  rfl

theorem out6_eq : out0_6 (F := Ideal) x0 x1 x2 x3 = View.canon
    [⟨r0_27, k0_pay39 k0_pay2 (k0_pay35 (View.ld (Val := Elt Ideal) x3 r0_21)) (k0_pay36 (View.ld (Val := Elt Ideal) x2 r0_22) (View.ld (Val := Elt Ideal) x2 r0_23) (View.ld (Val := Elt Ideal) x2 r0_24) (View.ld (Val := Elt Ideal) x2 r0_25)) (View.ld (Val := Elt Ideal) x0 r0_26) (constant S8x512 .f32 0x00000000#32)⟩,
     ⟨r0_20, k0_pay39 k0_pay2 (k0_pay35 (View.ld (Val := Elt Ideal) x3 r0_14)) (k0_pay36 (View.ld (Val := Elt Ideal) x2 r0_15) (View.ld (Val := Elt Ideal) x2 r0_16) (View.ld (Val := Elt Ideal) x2 r0_17) (View.ld (Val := Elt Ideal) x2 r0_18)) (View.ld (Val := Elt Ideal) x0 r0_19) (constant S8x512 .f32 0x00000000#32)⟩,
     ⟨r0_13, k0_pay39 k0_pay2 (k0_pay35 (View.ld (Val := Elt Ideal) x3 r0_7)) (k0_pay36 (View.ld (Val := Elt Ideal) x2 r0_8) (View.ld (Val := Elt Ideal) x2 r0_9) (View.ld (Val := Elt Ideal) x2 r0_10) (View.ld (Val := Elt Ideal) x2 r0_11)) (View.ld (Val := Elt Ideal) x0 r0_12) (constant S8x512 .f32 0x00000000#32)⟩,
     ⟨r0_6, k0_pay39 k0_pay2 (k0_pay35 (View.ld (Val := Elt Ideal) x3 r0_0)) (k0_pay36 (View.ld (Val := Elt Ideal) x2 r0_1) (View.ld (Val := Elt Ideal) x2 r0_2) (View.ld (Val := Elt Ideal) x2 r0_3) (View.ld (Val := Elt Ideal) x2 r0_4)) (View.ld (Val := Elt Ideal) x0 r0_5) (constant S8x512 .f32 0x00000000#32)⟩] := by
  unfold_out out0_6
  rfl

theorem out5_eq : out0_5 (F := Ideal) x0 x1 x2 x3 = View.canon
    [⟨r0_27, ownPositions (positions (View.ld (Val := Elt Ideal) x1 r0_22) (View.ld (Val := Elt Ideal) x1 r0_23) (View.ld (Val := Elt Ideal) x1 r0_24) (View.ld (Val := Elt Ideal) x1 r0_25))⟩,
     ⟨r0_20, ownPositions (positions (View.ld (Val := Elt Ideal) x1 r0_15) (View.ld (Val := Elt Ideal) x1 r0_16) (View.ld (Val := Elt Ideal) x1 r0_17) (View.ld (Val := Elt Ideal) x1 r0_18))⟩,
     ⟨r0_13, ownPositions (positions (View.ld (Val := Elt Ideal) x1 r0_8) (View.ld (Val := Elt Ideal) x1 r0_9) (View.ld (Val := Elt Ideal) x1 r0_10) (View.ld (Val := Elt Ideal) x1 r0_11))⟩,
     ⟨r0_6, ownPositions (positions (View.ld (Val := Elt Ideal) x1 r0_1) (View.ld (Val := Elt Ideal) x1 r0_2) (View.ld (Val := Elt Ideal) x1 r0_3) (View.ld (Val := Elt Ideal) x1 r0_4))⟩] := by
  unfold_out out0_5
  rfl

/-- The block of pooled rows. -/
def pooledBlock : Vec Ideal S32x128 .bf16 := fun y => poolRow (bq x0 (y 0)) (pair x2 (y 0)) (bc x3 (y 0)) (y 1)
/-- The block of attention rows. -/
def attnBlock : Vec Ideal S32x64 .f32 := fun y => attnRow (bq x0 (y 0)) (pair x2 (y 0)) (bc x3 (y 0)) (y 1)
/-- The block of selected positions. -/
def posBlock : Vec Ideal S32x64 .i32 := fun y => pair x1 (y 0) (y 1)

theorem out4_eq_pooled : out0_4 (F := Ideal) x0 x1 x2 x3 = pooledBlock x0 x2 x3 := by
  rw [out4_eq]
  funext y
  refine View.canon_apply_of_pieces (pooledBlock x0 x2 x3) _ ?_ y (cover0_4 _ _ _ _ _)
  intro p hp y
  simp only [List.mem_cons, List.not_mem_nil, or_false] at hp
  rcases hp with rfl | rfl | rfl | rfl
  · show k0_pay38 (F := Ideal) _ _ _ _ _ y = View.ld (Val := Elt Ideal) (pooledBlock x0 x2 x3) r0_26 y
    idx_vars y
    refine (tile_pooled x0 x2 x3 3 _ _ _ _ _ _ ?_ ?_ ?_ ?_ ?_ ?_ _ _).trans ?_
    all_goals intros
    all_goals pointwise
    all_goals rfl
  · show k0_pay38 (F := Ideal) _ _ _ _ _ y = View.ld (Val := Elt Ideal) (pooledBlock x0 x2 x3) r0_19 y
    idx_vars y
    refine (tile_pooled x0 x2 x3 2 _ _ _ _ _ _ ?_ ?_ ?_ ?_ ?_ ?_ _ _).trans ?_
    all_goals intros
    all_goals pointwise
    all_goals rfl
  · show k0_pay38 (F := Ideal) _ _ _ _ _ y = View.ld (Val := Elt Ideal) (pooledBlock x0 x2 x3) r0_12 y
    idx_vars y
    refine (tile_pooled x0 x2 x3 1 _ _ _ _ _ _ ?_ ?_ ?_ ?_ ?_ ?_ _ _).trans ?_
    all_goals intros
    all_goals pointwise
    all_goals rfl
  · show k0_pay38 (F := Ideal) _ _ _ _ _ y = View.ld (Val := Elt Ideal) (pooledBlock x0 x2 x3) r0_5 y
    idx_vars y
    refine (tile_pooled x0 x2 x3 0 _ _ _ _ _ _ ?_ ?_ ?_ ?_ ?_ ?_ _ _).trans ?_
    all_goals intros
    all_goals pointwise
    all_goals first | rfl | (simp only [brow_zero]; try rfl)

theorem out6_eq_attn : out0_6 (F := Ideal) x0 x1 x2 x3 = attnBlock x0 x2 x3 := by
  rw [out6_eq]
  funext y
  refine View.canon_apply_of_pieces (attnBlock x0 x2 x3) _ ?_ y (cover0_6 _ _ _ _ _)
  intro p hp y
  simp only [List.mem_cons, List.not_mem_nil, or_false] at hp
  rcases hp with rfl | rfl | rfl | rfl
  · show k0_pay39 (F := Ideal) _ _ _ _ _ y = View.ld (Val := Elt Ideal) (attnBlock x0 x2 x3) r0_27 y
    idx_vars y
    refine (tile_attn x0 x2 x3 3 _ _ _ _ _ _ ?_ ?_ ?_ ?_ ?_ ?_ _ _).trans ?_
    all_goals intros
    all_goals pointwise
    all_goals rfl
  · show k0_pay39 (F := Ideal) _ _ _ _ _ y = View.ld (Val := Elt Ideal) (attnBlock x0 x2 x3) r0_20 y
    idx_vars y
    refine (tile_attn x0 x2 x3 2 _ _ _ _ _ _ ?_ ?_ ?_ ?_ ?_ ?_ _ _).trans ?_
    all_goals intros
    all_goals pointwise
    all_goals rfl
  · show k0_pay39 (F := Ideal) _ _ _ _ _ y = View.ld (Val := Elt Ideal) (attnBlock x0 x2 x3) r0_13 y
    idx_vars y
    refine (tile_attn x0 x2 x3 1 _ _ _ _ _ _ ?_ ?_ ?_ ?_ ?_ ?_ _ _).trans ?_
    all_goals intros
    all_goals pointwise
    all_goals rfl
  · show k0_pay39 (F := Ideal) _ _ _ _ _ y = View.ld (Val := Elt Ideal) (attnBlock x0 x2 x3) r0_6 y
    idx_vars y
    refine (tile_attn x0 x2 x3 0 _ _ _ _ _ _ ?_ ?_ ?_ ?_ ?_ ?_ _ _).trans ?_
    all_goals intros
    all_goals pointwise
    all_goals first | rfl | (simp only [brow_zero]; try rfl)

theorem out5_eq_positions : out0_5 (F := Ideal) x0 x1 x2 x3 = posBlock x1 := by
  rw [out5_eq]
  funext y
  refine View.canon_apply_of_pieces (posBlock x1) _ ?_ y (cover0_5 _ _ _ _ _)
  intro p hp y
  simp only [List.mem_cons, List.not_mem_nil, or_false] at hp
  rcases hp with rfl | rfl | rfl | rfl
  · show ownPositions _ y = View.ld (Val := Elt Ideal) (posBlock x1) r0_27 y
    idx_vars y
    refine (tile_positions x1 3 _ _ _ _ ?_ ?_ ?_ ?_ _ _).trans ?_
    all_goals intros
    all_goals pointwise
    all_goals rfl
  · show ownPositions _ y = View.ld (Val := Elt Ideal) (posBlock x1) r0_20 y
    idx_vars y
    refine (tile_positions x1 2 _ _ _ _ ?_ ?_ ?_ ?_ _ _).trans ?_
    all_goals intros
    all_goals pointwise
    all_goals rfl
  · show ownPositions _ y = View.ld (Val := Elt Ideal) (posBlock x1) r0_13 y
    idx_vars y
    refine (tile_positions x1 1 _ _ _ _ ?_ ?_ ?_ ?_ _ _).trans ?_
    all_goals intros
    all_goals pointwise
    all_goals rfl
  · show ownPositions _ y = View.ld (Val := Elt Ideal) (posBlock x1) r0_6 y
    idx_vars y
    refine (tile_positions x1 0 _ _ _ _ ?_ ?_ ?_ ?_ _ _).trans ?_
    all_goals intros
    all_goals pointwise
    all_goals first | rfl | (simp only [brow_zero]; try rfl)

end Cert.AttendIdeal.Block
end
-- ==== Proof.Array.lean ====
/-
  THE ATTENTION KERNEL'S RESULT ARRAYS at an index, as the row functions of `Softmax.lean` of the arguments.
-/
module

public import proofs.«01_k».proof.Proof.Block
public import proofs.«01_k».proof.Proof.Gen.AttendIdeal.Value
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)

namespace Cert.AttendIdeal.Arrays

open Cert.AttendIdeal Cert.AttendIdeal.Gen Cert.AttendIdeal.Block Cert.Softmax

variable (m : (ℓ : Loc nD τ sig) → Buf (Elt Ideal) ℓ) (ρ : Dev nD → PrngReg)

/-- The pooled rows of device `c`'s arguments. -/
def pooled (c : Dev nD) : Vec Ideal S640x128 .bf16 := fun i =>
  poolRow (xq (m ((c : Thread nD τ).loc main_arg0)) (i 0)) (flat (m ((c : Thread nD τ).loc main_arg2)) (i 0)) (kc (m ((c : Thread nD τ).loc main_arg3)) (i 0)) (i 1)
/-- The attention rows. -/
def attn (c : Dev nD) : Vec Ideal S640x64 .f32 := fun i =>
  attnRow (xq (m ((c : Thread nD τ).loc main_arg0)) (i 0)) (flat (m ((c : Thread nD τ).loc main_arg2)) (i 0)) (kc (m ((c : Thread nD τ).loc main_arg3)) (i 0)) (i 1)
/-- The selected positions. -/
def positions (c : Dev nD) : Vec Ideal S640x64 .i32 := fun i => flat (α := BitVec 32) (m ((c : Thread nD τ).loc main_arg1)) (i 0) (i 1)

theorem V_main_v0 (c : Dev nD) : V m c main_v0 = shapeCast S320x128 (m ((c : Thread nD τ).loc main_arg1)) shapeCasts_S40960_S320x128 := by
  show StableHlo.after hostOps0 _ (Proc.devRef .tc main_v0) = _
  after_results
  rfl

theorem V_main_v1 (c : Dev nD) : V m c main_v1 = shapeCast S320x128 (m ((c : Thread nD τ).loc main_arg2)) shapeCasts_S40960_S320x128 := by
  show StableHlo.after hostOps0 _ (Proc.devRef .tc main_v1) = _
  after_results
  rfl

/-! ## The windows' blocks in their arrays -/

theorem point_lt (t : Fin cfg0.N) : t.val < 20 := t.isLt

theorem index0 : ∀ t : Fin cfg0.N, win0_0.index t = ![t.val, 0] := (by decide +kernel : ∀ t : Fin grid0.N, _)
theorem emb0 (t : Fin cfg0.N) (b : Fin 32) (d : Fin 128) :
    (win0_0.blk t).view.emb (ix2 b d) = (ix2 ⟨32 * t.val + b.val, by have := point_lt t; omega⟩ d : (⟨2, ![640, 128]⟩ : Shape).Idx) := by
  blk_ext [index0]
theorem index1 : ∀ t : Fin cfg0.N, win0_1.index t = ![t.val, 0] := (by decide +kernel : ∀ t : Fin grid0.N, _)
theorem emb1 (t : Fin cfg0.N) (b : Fin 16) (d : Fin 128) :
    (win0_1.blk t).view.emb (ix2 b d) = (ix2 ⟨16 * t.val + b.val, by have := point_lt t; omega⟩ d : (⟨2, ![320, 128]⟩ : Shape).Idx) := by
  blk_ext [index1]
theorem index2 : ∀ t : Fin cfg0.N, win0_2.index t = ![t.val, 0] := (by decide +kernel : ∀ t : Fin grid0.N, _)
theorem emb2 (t : Fin cfg0.N) (b : Fin 16) (d : Fin 128) :
    (win0_2.blk t).view.emb (ix2 b d) = (ix2 ⟨16 * t.val + b.val, by have := point_lt t; omega⟩ d : (⟨2, ![320, 128]⟩ : Shape).Idx) := by
  blk_ext [index2]
theorem index3 : ∀ t : Fin cfg0.N, win0_3.index t = ![t.val, 0] := (by decide +kernel : ∀ t : Fin grid0.N, _)
theorem emb3 (t : Fin cfg0.N) (b : Fin 512) (d : Fin 128) :
    (win0_3.blk t).view.emb (ix2 b d) = (ix2 ⟨512 * t.val + b.val, by have := point_lt t; omega⟩ d : (⟨2, ![10240, 128]⟩ : Shape).Idx) := by
  blk_ext [index3]
theorem index4 : ∀ t : Fin cfg0.N, win0_4.index t = ![t.val, 0] := (by decide +kernel : ∀ t : Fin grid0.N, _)
theorem emb4 (t : Fin cfg0.N) (b : Fin 32) (d : Fin 128) :
    (win0_4.blk t).view.emb (ix2 b d) = (ix2 ⟨32 * t.val + b.val, by have := point_lt t; omega⟩ d : (⟨2, ![640, 128]⟩ : Shape).Idx) := by
  blk_ext [index4]
theorem index5 : ∀ t : Fin cfg0.N, win0_5.index t = ![t.val, 0] := (by decide +kernel : ∀ t : Fin grid0.N, _)
theorem emb5 (t : Fin cfg0.N) (b : Fin 32) (d : Fin 64) :
    (win0_5.blk t).view.emb (ix2 b d) = (ix2 ⟨32 * t.val + b.val, by have := point_lt t; omega⟩ d : (⟨2, ![640, 64]⟩ : Shape).Idx) := by
  blk_ext [index5]
theorem index6 : ∀ t : Fin cfg0.N, win0_6.index t = ![t.val, 0] := (by decide +kernel : ∀ t : Fin grid0.N, _)
theorem emb6 (t : Fin cfg0.N) (b : Fin 32) (d : Fin 64) :
    (win0_6.blk t).view.emb (ix2 b d) = (ix2 ⟨32 * t.val + b.val, by have := point_lt t; omega⟩ d : (⟨2, ![640, 64]⟩ : Shape).Idx) := by
  blk_ext [index6]

/-! ## The input blocks' rows are the arguments' -/

/-- The batch row at row `b` of point `t`'s block. -/
def row (t : Fin cfg0.N) (b : Fin 32) : Fin 640 := ⟨32 * t.val + b.val, by have := point_lt t; omega⟩

theorem bq_iblk (c : Dev nD) (t : Fin cfg0.N) (b : Fin 32) : bq (iblk m c 0 t) b = xq (m ((c : Thread nD τ).loc main_arg0)) (row t b) := by
  funext d
  show V m c main_arg0 ((win0_0.blk t).view.emb (ix2 b d)) = _
  rw [V_main_arg0, emb0]
  rfl

theorem bc_iblk (c : Dev nD) (t : Fin cfg0.N) (b : Fin 32) : bc (iblk m c 3 t) b = kc (m ((c : Thread nD τ).loc main_arg3)) (row t b) := by
  funext k d
  show code (V m c main_arg3 ((win0_3.blk t).view.emb (ix2 _ d))) _ = _
  rw [V_main_arg3, emb3]
  unfold kc row
  congr 3
  apply Fin.ext
  simp only
  omega

/-- A flat array laid out in rows of 128, read at a block's entry: the array at the batch row's own entry. -/
theorem pair_flat {α : Type} (A : S40960.Idx → α) (t : Fin cfg0.N) (b : Fin 32) (k : Fin 64) :
    shapeCast S320x128 A shapeCasts_S40960_S320x128
      (ix2 ⟨16 * t.val + b.val / 2, by have := point_lt t; omega⟩ ⟨b.val % 2 * 64 + k.val, by omega⟩) = flat A (row t b) k := by
  pointwise
  unfold flat row
  congr 2
  apply Fin.ext
  simp only
  omega

theorem scale_iblk (c : Dev nD) (t : Fin cfg0.N) (b : Fin 32) :
    pair (α := EReal) (iblk m c 2 t) b = flat (m ((c : Thread nD τ).loc main_arg2)) (row t b) := by
  funext k
  show V m c main_v1 ((win0_2.blk t).view.emb (ix2 _ _)) = _
  rw [V_main_v1, emb2]
  exact pair_flat _ t b k

theorem pos_iblk (c : Dev nD) (t : Fin cfg0.N) (b : Fin 32) :
    pair (α := BitVec 32) (iblk m c 1 t) b = flat (m ((c : Thread nD τ).loc main_arg1)) (row t b) := by
  funext k
  show V m c main_v0 ((win0_1.blk t).view.emb (ix2 _ _)) = _
  rw [V_main_v0, emb1]
  exact pair_flat _ t b k

/-! ## The result arrays -/

theorem final4 (c : Dev nD) : (dats m 0 c).arrAt 4 cfg0.N = pooled m c := by
  refine (dats m 0 c).arrAt_eq_of_covers 4 _ (by decide +kernel) fun t hf y => ?_
  blk_simp
  rw [after0_4, out4_eq_pooled]
  obtain ⟨b, d, rfl⟩ : ∃ b d, y = (ix2 b d : S32x128.Idx) := ⟨y 0, y 1, by funext a; match a with | ⟨0, _⟩ => rfl | ⟨1, _⟩ => rfl⟩
  rw [emb4]
  show poolRow (bq (iblk m c 0 t) b) (pair (iblk m c 2 t) b) (bc (iblk m c 3 t) b) d = _
  rw [bq_iblk, scale_iblk, bc_iblk]
  rfl

theorem final6 (c : Dev nD) : (dats m 0 c).arrAt 6 cfg0.N = attn m c := by
  refine (dats m 0 c).arrAt_eq_of_covers 6 _ (by decide +kernel) fun t hf y => ?_
  blk_simp
  rw [after0_6, out6_eq_attn]
  obtain ⟨b, k, rfl⟩ : ∃ b k, y = (ix2 b k : S32x64.Idx) := ⟨y 0, y 1, by funext a; match a with | ⟨0, _⟩ => rfl | ⟨1, _⟩ => rfl⟩
  rw [emb6]
  show attnRow (bq (iblk m c 0 t) b) (pair (iblk m c 2 t) b) (bc (iblk m c 3 t) b) k = _
  rw [bq_iblk, scale_iblk, bc_iblk]
  rfl

theorem final5 (c : Dev nD) : (dats m 0 c).arrAt 5 cfg0.N = positions m c := by
  refine (dats m 0 c).arrAt_eq_of_covers 5 _ (by decide +kernel) fun t hf y => ?_
  blk_simp
  rw [after0_5, out5_eq_positions]
  obtain ⟨b, k, rfl⟩ : ∃ b k, y = (ix2 b k : S32x64.Idx) := ⟨y 0, y 1, by funext a; match a with | ⟨0, _⟩ => rfl | ⟨1, _⟩ => rfl⟩
  rw [emb5]
  show pair (α := BitVec 32) (iblk m c 1 t) b k = _
  rw [pos_iblk]
  rfl

/-- The run: the three result arrays, the arguments unchanged. -/
theorem run : θ_run defs (onTc (τ := τ) (main (F := Ideal))) ⟨m, fun _ => 0, ρ⟩ fun r => ∀ c : Dev nD,
      r.2.mem ((c : Thread nD τ).loc main_v2_0) = pooled m c
      ∧ r.2.mem ((c : Thread nD τ).loc main_v2_1) = positions m c
      ∧ r.2.mem ((c : Thread nD τ).loc main_v2_2) = attn m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3⟩ := h c
    exact ⟨h0.trans (final4 m c), h1.trans (final5 m c), h2.trans (final6 m c), h3⟩) (Value.run_blocks m ρ)

end Cert.AttendIdeal.Arrays
end
-- ==== Proof.RefArray.lean ====
/-
  THE REFERENCE'S RESULT ARRAYS at an index, as the row functions of `Softmax.lean` of the arguments.
-/
module

public import proofs.«01_k».proof.Proof.Softmax
public import proofs.«01_k».proof.Proof.Gen.AttendRefIdeal.Frame
public import Idealize.ShloMosaic.Lib.Pointwise
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)

namespace Cert.AttendRefIdeal.Arrays

open Cert.AttendRefIdeal Cert.AttendRefIdeal.Gen Cert.Softmax

variable (m : (ℓ : Loc nD τ sig) → Buf (Elt Ideal) ℓ) (ρ : Dev nD → PrngReg)

/-- The decoded words: byte `j` of each word, read as an eight-bit code. -/
def decoded (W : (⟨2, ![10240, 128]⟩ : Shape).Idx → BitVec 32) : Vec Ideal S10240x4x128 .f32 := fun i =>
  code (W (ix2 (i 0) (i 2))) (i 1).val

theorem byte_eq (w : BitVec 32) (j : Nat) (hj : j < 4) :
    BitVec.setWidth 8 (IntOp.andi (IntOp.shrsi .vector w (BitVec.ofNat 32 (8 * j))) 255#32) = w.extractLsb' (8 * j) 8 := by
  have hn : (BitVec.ofNat 32 (8 * j)).toNat = 8 * j := by rw [BitVec.toNat_ofNat]; omega
  unfold IntOp.shrsi IntOp.andi
  rw [if_pos (by rw [hn]; omega)]
  apply BitVec.eq_of_getLsbD_eq
  intro q hq
  have h255 : (255#32).getLsbD q = true := by
    revert q; decide
  rw [BitVec.getLsbD_setWidth, BitVec.getLsbD_and, h255, BitVec.getLsbD_extractLsb', BitVec.sshiftRight', BitVec.getLsbD_sshiftRight, hn]
  have h1 : ¬ 32 ≤ q := by omega
  have h2 : 8 * j + q < 32 := by omega
  simp [hq, h1, h2]

theorem pay_eq (W : Vec Ideal S10240x128 .i32) : k0_pay1 (F := Ideal) W = decoded W := by
  funext i
  obtain ⟨a, j, d, rfl⟩ : ∃ a j d, i = (ix3 a j d : S10240x4x128.Idx) := ⟨i 0, i 1, i 2, by funext x; match x with | ⟨0, _⟩ => rfl | ⟨1, _⟩ => rfl | ⟨2, _⟩ => rfl⟩
  unfold k0_pay1
  pointwise
  show _ = code (W (ix2 a d)) j.val
  unfold code
  rw [← byte_eq _ _ j.isLt]
  match j with
  | ⟨0, _⟩ => rfl
  | ⟨1, _⟩ => rfl
  | ⟨2, _⟩ => rfl
  | ⟨3, _⟩ => rfl

theorem index1 : ∀ t : Fin cfg0.N, win0_1.index t = ![0, 0, 0] := (by decide +kernel : ∀ t : Fin grid0.N, _)
theorem index0 : ∀ t : Fin cfg0.N, win0_0.index t = ![0, 0] := (by decide +kernel : ∀ t : Fin grid0.N, _)

theorem emb1 (t : Fin cfg0.N) (a : Fin 10240) (j : Fin 4) (d : Fin 128) :
    (win0_1.blk t).view.emb (ix3 a j d) = (ix3 a j d : S10240x4x128.Idx) := by
  blk_ext [index1]
theorem emb0 (t : Fin cfg0.N) (a : Fin 10240) (d : Fin 128) :
    (win0_0.blk t).view.emb (ix2 a d) = (ix2 a d : S10240x128.Idx) := by
  blk_ext [index0]

theorem iblk_eq (c : Dev nD) (t : Fin cfg0.N) : iblk m c 0 t = (m ((c : Thread nD τ).loc main_arg3) : Vec Ideal S10240x128 .i32) := by
  funext y
  obtain ⟨a, d, rfl⟩ : ∃ a d, y = (ix2 a d : S10240x128.Idx) := ⟨y 0, y 1, by funext x; match x with | ⟨0, _⟩ => rfl | ⟨1, _⟩ => rfl⟩
  show V m c main_arg3 ((win0_0.blk t).view.emb (ix2 a d)) = _
  rw [V_main_arg3, emb0]

/-- The decoded array the reference's kernel leaves. -/
theorem codes_final (c : Dev nD) : (dats m 0 c).arrAt 1 cfg0.N = decoded (m ((c : Thread nD τ).loc main_arg3)) := by
  refine (dats m 0 c).arrAt_eq_of_covers 1 _ (by decide +kernel) fun t hf y => ?_
  blk_simp
  rw [after0_1]
  unfold out0_1
  rw [View.canon_unit_zero (funext fun a => by fin_cases a <;> rfl), View.ld_unit_zero (funext fun a => by fin_cases a <;> rfl), iblk_eq, pay_eq]
  obtain ⟨a, j, d, rfl⟩ : ∃ a j d, y = (ix3 a j d : S10240x4x128.Idx) := ⟨y 0, y 1, y 2, by funext x; match x with | ⟨0, _⟩ => rfl | ⟨1, _⟩ => rfl | ⟨2, _⟩ => rfl⟩
  rw [emb1]

/-! ## The host operations after the kernel -/

/-- The decoded codes by key, in the format of the products. -/
def keys (D : FVec Ideal S10240x4x128 .f32) : FVec Ideal S640x64x128 .bf16 :=
  truncf .bf16 (shapeCast S640x64x128 D shapeCasts_S10240x4x128_S640x64x128) bitsLt_bf16_f32

/-- The logits, as the reference writes them. -/
def hostLogits (X : FVec Ideal S640x128 .bf16) (S : FVec Ideal S640x64 .f32) (K : FVec Ideal S640x64x128 .bf16) : FVec Ideal S640x64 .f32 :=
  mulf (mulf (Host.dotGeneral dot_S640x128_S640x64x128_S640x64_1_2_n_1_0_0 none X K) S) (broadcastInDim S640x64 ![] bcast_S_S640x64 (constant S_ .f32 0x3DB504F3#32))

/-- The exponentials. -/
def hostExpo (L : FVec Ideal S640x64 .f32) : FVec Ideal S640x64 .f32 :=
  Host.exp (subf L (broadcastInDim S640x64 ![0, 1] bcast_S640x1_S640x64_0_1 (broadcastInDim S640x1 ![0] bcast_S640_S640x1_0
    (maximumf (broadcastInDim S640 ![] bcast_S_S640 (constant S_ .f32 0xFF800000#32))
      (Host.reduce FloatOps.maximumf L (constant S_ .f32 0xFF800000#32) reducesTo_S640x64_S640_d1 h_S_)))))

/-- The attention weights. -/
def hostAttn (L : FVec Ideal S640x64 .f32) : FVec Ideal S640x64 .f32 :=
  Host.divf (hostExpo L) (broadcastInDim S640x64 ![0, 1] bcast_S640x1_S640x64_0_1 (broadcastInDim S640x1 ![0] bcast_S640_S640x1_0
    (Host.reduceAdd (hostExpo L) (constant S_ .f32 0x00000000#32) reducesTo_S640x64_S640_d1 h_S_)))

/-- The pooled rows. -/
def hostPooled (A S : FVec Ideal S640x64 .f32) (K : FVec Ideal S640x64x128 .bf16) : FVec Ideal S640x128 .bf16 :=
  truncf .bf16 (Host.dotGeneral dot_S640x64_S640x64x128_S640x128_1_1_n_2_0_0 none (truncf .bf16 (mulf A S) bitsLt_bf16_f32) K) bitsLt_bf16_f32

theorem after_v19 (U : Valuation τ sig (Elt Ideal)) : StableHlo.after hostOps1 U (Proc.devRef .tc main_v19)
    = hostAttn (hostLogits (U (Proc.devRef .tc main_arg0)) (U (Proc.devRef .tc main_v1)) (keys (U (Proc.devRef .tc main_v2)))) := by
  after_results
  rfl

theorem after_v23 (U : Valuation τ sig (Elt Ideal)) : StableHlo.after hostOps1 U (Proc.devRef .tc main_v23)
    = hostPooled (hostAttn (hostLogits (U (Proc.devRef .tc main_arg0)) (U (Proc.devRef .tc main_v1)) (keys (U (Proc.devRef .tc main_v2)))))
        (U (Proc.devRef .tc main_v1)) (keys (U (Proc.devRef .tc main_v2))) := by
  after_results
  rfl

theorem after_v0 (U : Valuation τ sig (Elt Ideal)) : StableHlo.after hostOps1 U (Proc.devRef .tc main_v0) = U (Proc.devRef .tc main_v0) := by
  after_results

theorem V0_v0 (c : Dev nD) : V0 m c (Proc.devRef .tc main_v0) = shapeCast S640x64 (m ((c : Thread nD τ).loc main_arg1)) shapeCasts_S40960_S640x64 := by
  show StableHlo.after hostOps0 _ (Proc.devRef .tc main_v0) = _
  after_results
  rfl

theorem V0_v1 (c : Dev nD) : V0 m c (Proc.devRef .tc main_v1) = shapeCast S640x64 (m ((c : Thread nD τ).loc main_arg2)) shapeCasts_S40960_S640x64 := by
  show StableHlo.after hostOps0 _ (Proc.devRef .tc main_v1) = _
  after_results
  rfl

/-- The device's buffers when the kernel returns. -/
abbrev atReturn (c : Dev nD) : Valuation τ sig (Elt Ideal) := Pipeline.withArrays (cfgs 0).spec c (V0 m c) fun w => (dats m 0 c).arrAt w (cfgs 0).N

theorem atReturn_v2 (c : Dev nD) : atReturn m c (Proc.devRef .tc main_v2) = decoded (m ((c : Thread nD τ).loc main_arg3)) :=
  (Pipeline.withArrays_arr (cfgs 0).spec (by decide) c (V0 m c) _ 1).trans (codes_final m c)
theorem atReturn_arg0 (c : Dev nD) : atReturn m c (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)
theorem atReturn_v0 (c : Dev nD) : atReturn m c (Proc.devRef .tc main_v0) = shapeCast S640x64 (m ((c : Thread nD τ).loc main_arg1)) shapeCasts_S40960_S640x64 :=
  (Pipeline.withArrays_of_ne _ c (V0 m c) _ main_v0 (by exact (by decide : ∀ w, Pipeline.arrRef spec0 w ≠ main_v0))).trans (V0_v0 m c)
theorem atReturn_v1 (c : Dev nD) : atReturn m c (Proc.devRef .tc main_v1) = shapeCast S640x64 (m ((c : Thread nD τ).loc main_arg2)) shapeCasts_S40960_S640x64 :=
  (Pipeline.withArrays_of_ne _ c (V0 m c) _ main_v1 (by exact (by decide : ∀ w, Pipeline.arrRef spec0 w ≠ main_v1))).trans (V0_v1 m c)

/-! ## The host operations at an index -/

theorem keys_apply (W : (⟨2, ![10240, 128]⟩ : Shape).Idx → BitVec 32) (B : Fin 640) (k : Fin 64) (d : Fin 128) :
    keys (decoded W) (ix3 B k d) = code (W (ix2 ⟨16 * B.val + k.val / 4, by omega⟩ d)) (k.val % 4) := by
  unfold keys
  pointwise
  show code (W (ix2 ⟨B.val * 16 + k.val / 4, _⟩ d)) (k.val % 4) = _
  have e : B.val * 16 + k.val / 4 = 16 * B.val + k.val / 4 := by omega
  simp only [e]

theorem hostLogits_apply (X : FVec Ideal S640x128 .bf16) (S : FVec Ideal S640x64 .f32) (K : FVec Ideal S640x64x128 .bf16) (B : Fin 640) (k : Fin 64) :
    hostLogits X S K (ix2 B k) = logits (fun d => X (ix2 B d)) (fun k => S (ix2 B k)) (fun k d => K (ix3 B k d)) k := by
  unfold hostLogits
  pointwise
  rfl

theorem hostExpo_apply (L : FVec Ideal S640x64 .f32) (B : Fin 640) (k : Fin 64) :
    hostExpo L (ix2 B k) = expo (fun k => L (ix2 B k)) k := by
  unfold hostExpo
  pointwise
  rw [ofBits_neg_inf, max_eq_right bot_le]
  rfl

theorem hostAttn_apply (L : FVec Ideal S640x64 .f32) (B : Fin 640) (k : Fin 64) :
    hostAttn L (ix2 B k) = weight (fun k => L (ix2 B k)) k := by
  unfold hostAttn
  pointwise
  simp only [hostExpo_apply]
  rfl

theorem hostPooled_apply (A S : FVec Ideal S640x64 .f32) (K : FVec Ideal S640x64x128 .bf16) (B : Fin 640) (d : Fin 128) :
    hostPooled A S K (ix2 B d) = ∑ k, A (ix2 B k) * S (ix2 B k) * K (ix3 B k d) := by
  unfold hostPooled
  pointwise

/-! ## The result arrays -/

/-- The pooled rows of device `c`'s arguments. -/
def pooled (c : Dev nD) : Vec Ideal S640x128 .bf16 := fun i =>
  poolRow (xq (m ((c : Thread nD τ).loc main_arg0)) (i 0)) (flat (m ((c : Thread nD τ).loc main_arg2)) (i 0)) (kc (m ((c : Thread nD τ).loc main_arg3)) (i 0)) (i 1)
/-- The attention rows. -/
def attn (c : Dev nD) : Vec Ideal S640x64 .f32 := fun i =>
  attnRow (xq (m ((c : Thread nD τ).loc main_arg0)) (i 0)) (flat (m ((c : Thread nD τ).loc main_arg2)) (i 0)) (kc (m ((c : Thread nD τ).loc main_arg3)) (i 0)) (i 1)
/-- The selected positions. -/
def positions (c : Dev nD) : Vec Ideal S640x64 .i32 := fun i => flat (α := BitVec 32) (m ((c : Thread nD τ).loc main_arg1)) (i 0) (i 1)

theorem shape_flat {ty : EltTy} (A : Vec Ideal S40960 ty) (B : Fin 640) (k : Fin 64) :
    (shapeCast S640x64 A shapeCasts_S40960_S640x64 : Vec Ideal S640x64 ty) (ix2 B k) = flat A B k := by
  pointwise
  unfold flat
  have e : B.val * 64 + k.val = 64 * B.val + k.val := by omega
  simp only [e]

theorem attn_eq (c : Dev nD) :
    hostAttn (hostLogits (m ((c : Thread nD τ).loc main_arg0)) (shapeCast S640x64 (m ((c : Thread nD τ).loc main_arg2)) shapeCasts_S40960_S640x64)
      (keys (decoded (m ((c : Thread nD τ).loc main_arg3))))) = attn m c := by
  funext y
  obtain ⟨B, k, rfl⟩ : ∃ B k, y = (ix2 B k : S640x64.Idx) := ⟨y 0, y 1, by funext x; match x with | ⟨0, _⟩ => rfl | ⟨1, _⟩ => rfl⟩
  rw [hostAttn_apply]
  simp only [hostLogits_apply, keys_apply]
  have hf : ∀ k, (shapeCast S640x64 (m ((c : Thread nD τ).loc main_arg2)) shapeCasts_S40960_S640x64 : Vec Ideal S640x64 .f32) (ix2 B k) = flat (m ((c : Thread nD τ).loc main_arg2)) B k :=
    fun k => shape_flat (ty := .f32) _ B k
  simp only [hf]
  rfl

theorem pooled_eq (c : Dev nD) :
    hostPooled (attn m c) (shapeCast S640x64 (m ((c : Thread nD τ).loc main_arg2)) shapeCasts_S40960_S640x64) (keys (decoded (m ((c : Thread nD τ).loc main_arg3)))) = pooled m c := by
  funext y
  obtain ⟨B, d, rfl⟩ : ∃ B d, y = (ix2 B d : S640x128.Idx) := ⟨y 0, y 1, by funext x; match x with | ⟨0, _⟩ => rfl | ⟨1, _⟩ => rfl⟩
  rw [hostPooled_apply]
  have hf : ∀ k, (shapeCast S640x64 (m ((c : Thread nD τ).loc main_arg2)) shapeCasts_S40960_S640x64 : Vec Ideal S640x64 .f32) (ix2 B k) = flat (m ((c : Thread nD τ).loc main_arg2)) B k :=
    fun k => shape_flat (ty := .f32) _ B k
  simp only [hf, keys_apply]
  rfl

theorem positions_eq (c : Dev nD) : (shapeCast S640x64 (m ((c : Thread nD τ).loc main_arg1)) shapeCasts_S40960_S640x64 : Vec Ideal S640x64 .i32) = positions m c := by
  funext y
  obtain ⟨B, k, rfl⟩ : ∃ B k, y = (ix2 B k : S640x64.Idx) := ⟨y 0, y 1, by funext x; match x with | ⟨0, _⟩ => rfl | ⟨1, _⟩ => rfl⟩
  exact shape_flat (ty := .i32) _ B k

theorem end_v0 (c : Dev nD) : Pipeline.afterTail₀ cfgs (dats m) 0 (V0 m) [hostOps1] c main_v0 = positions m c := by
  show StableHlo.after hostOps1 (atReturn m c) (Proc.devRef .tc main_v0) = _
  rw [after_v0, atReturn_v0, positions_eq]

theorem end_v19 (c : Dev nD) : Pipeline.afterTail₀ cfgs (dats m) 0 (V0 m) [hostOps1] c main_v19 = attn m c := by
  show StableHlo.after hostOps1 (atReturn m c) (Proc.devRef .tc main_v19) = _
  rw [after_v19, atReturn_arg0, atReturn_v1, atReturn_v2, attn_eq]

theorem end_v23 (c : Dev nD) : Pipeline.afterTail₀ cfgs (dats m) 0 (V0 m) [hostOps1] c main_v23 = pooled m c := by
  show StableHlo.after hostOps1 (atReturn m c) (Proc.devRef .tc main_v23) = _
  rw [after_v23, atReturn_arg0, atReturn_v1, atReturn_v2, attn_eq, pooled_eq]

/-- From any memory the reference terminates with these result arrays and its arguments unchanged. -/
theorem run : θ_run defs (onTc (τ := τ) (main (F := Ideal))) ⟨m, fun _ => 0, ρ⟩ fun r => ∀ c : Dev nD,
      r.2.mem ((c : Thread nD τ).loc main_v23) = pooled m c
      ∧ r.2.mem ((c : Thread nD τ).loc main_v0) = positions m c
      ∧ r.2.mem ((c : Thread nD τ).loc main_v19) = attn m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h, hu⟩ := h
    exact ⟨((h c).2 main_v23 (Pipeline.mem_restRefs_of main_v23 (by decide) (by decide))).trans (end_v23 m c),
      ((h c).2 main_v0 (Pipeline.mem_restRefs_of main_v0 (by decide) (by decide))).trans (end_v0 m c),
      ((h c).2 main_v19 (Pipeline.mem_restRefs_of main_v19 (by decide) (by decide))).trans (end_v19 m c), hu c⟩)
    (θ_run_and (run_main m ρ) (unchanged m ρ))

end Cert.AttendRefIdeal.Arrays
end
-- ==== Proof.Ring.lean ====
/-  The distance kernel's copies: what the proofs of its three kinds of step share. The signatures stream from HBM through a
    scratch buffer of three slots, each slot two windows (one per signature word) of 16 rows and 10112 columns, both filled
    by copies counted on one semaphore, two blocks ahead of the block in use. Named here: the windows, the blocks, the
    semaphores, the resources of the ring before each step, and the scratch buffer's remaining columns, which no copy fills. -/
module

public import proofs.«01_k».proof.Proof.Gen.Distances.Launch
public import proofs.«01_k».proof.Proof.Gen.Distances.Skeleton
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Distances.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S640 .i32 := Memref.whole main_arg0
abbrev htbM0_0 : tbM0_0.IsWhole := Memref.isWhole_whole _
abbrev tbM0_1 : Memref sig .tc .smem S2x640 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Distances`, Defs.lean, at any `F`). -/
theorem frame_of (hO : Ok m) (rdat : (c : Dev nD) → Pipeline.RDat τ (Elt F) Unit ℕ (Pipeline.UD sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 40 = 0 :=
  (fun t => by
    have ht : t.val < 40 := Nat.lt_of_lt_of_eq t.isLt N_0
    have e0 : (grid0.coords t 0).val = t.val / 1 % 40 := Pipeline.Grid.coords_val t 0 (by decide) rfl
    simp only [cond0_0, e0]
    word_cmp
   : ∀ t : Fin grid0.N, cond0_0 (grid0.coords t) ↔ t.val % 40 = 0)

/-- The condition of the body's `scf.if` 1 (`k0_h2`), from the grid coordinates (the skeleton's scalar
    chain substituted). -/
abbrev cond0_1 (i : grid0.Coords) : Prop := k0_cond2 i = 1#1
/-- It holds at the points before point 38 — decided over the grid. -/
theorem hcond0_1 : ∀ t : Fin grid0.N, cond0_1 (grid0.coords t) ↔ t.val < 38 :=
  (by decide +kernel : ∀ t : Fin grid0.N, cond0_1 (grid0.coords t) ↔ t.val < 38)

/-! ## The memrefs the body is handed -/

/-- Each window's current staging memref at point `t`, spelled as the pipeline passes it, and its wholeness. -/
abbrev ms0_0 (hO : Ok m) (t : Fin (cfgM m hO).N) : Memref sig .tc .vmem S16x1x3072 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S16x1x1024 .i32 := spec0_1.stage ((cfgM m hO).slots t 1)
abbrev hs0_1 (hO : Ok m) (t : Fin (cfgM m hO).N) : (ms0_1 m hO t).IsWhole := hstage0_1 (((cfgM m hO).slots t 1).cast nbuf0_1)
/-- The kernel body at point `t`, on what the pipeline calls it with. -/
abbrev bodyAt0 (a : (pcfg0 (F := F)).Adm) (t : Fin (cfg0 a).N) : Prog (TpuEff nD τ sig (Elt F) Λ₀ .tc) PUnit :=
  cc0_hamming (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (Memref.whole cc0_scratch0) (Memref.isWhole_whole _) (Memref.whole cc0_scratch1) (Memref.isWhole_whole _) cc0_scratch2
/-- The scratch operands: whole scoped buffers of the kernel's own, passed beside the windows. -/
abbrev scM0_0 : Memref sig .tc .vmem S3x2x16x1x12288 .i32 := Memref.whole cc0_scratch0
abbrev scM0_1 : Memref sig .tc .vmem S1x1024 .i32 := Memref.whole cc0_scratch1
/-- The operands left in HBM that the body copies into scratch itself, whole. -/
abbrev hbM0_0 : Memref sig .tc .hbm S640x2x10112 .i32 := Memref.whole main_arg2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 3 → SemLoc sig := fun j => (![SemLoc.dma 4, SemLoc.dma 5, SemLoc.dma 6] : Fin 3 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0) := by
  rw [Pipeline.ownSems0_eq_of_list c osem0 [0, 1, 2] (by decide) (by decide)]; rfl
/-- The HBM operands the body moves, as references: unscoped, no window's array (`Pipeline.restRefs`). -/
def H0 : Finset (Ref sig .tc) := {main_arg2}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2)) := by
  rw [BI.bigSep_eq_bigSepL_of_eq [main_arg2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 4) 0 ∗ semVal ((c : Thread nD τ), SemLoc.dma 5) 0 ∗ semVal ((c : Thread nD τ), SemLoc.dma 6) 0) ∗ iprop(hbPt0 c hbM0_0 (V m c main_arg2))) := by
  rw [Pipeline.ΦD_eq, scopedRest0_eq, ownSems00_eq, hbmPts0_eq]; simp only [scM0_0, scM0_1, owns_whole]; try rfl

/-! ## Ring 0 of kernel 0: `main_arg2` streamed through the 3 slots of `cc0_scratch0`, each slot 2 PARTS filled by 2 transfers counted on one cell of `cc0_scratch2`, 2 blocks ahead, in 40 steps  -/

instance : NeZero grid0.N := ⟨by rw [N_0]; decide⟩
theorem inb_win0_0 (s : Fin 3) (w : Fin 2) : ∀ a, (![s.val, w.val, 0, 0, 0] : Fin 5 → Nat) a + S1x1x16x1x10112.size a ≤ S3x2x16x1x12288.size a := by
  have := s.isLt; have := w.isLt; intro a; fin_cases a <;> simp <;> omega
theorem inb_cell0_0 (s : Fin 3) : ∀ a, (![s.val] : Fin 1 → Nat) a + S1.size a ≤ S3.size a := by
  have := s.isLt; intro a; fin_cases a <;> simp <;> omega
theorem inb_src0_0_0 (b : Fin 40) : ∀ a, (![16 * b.val, 0, 0] : Fin 3 → Nat) a + S16x1x10112.size a ≤ S640x2x10112.size a := by
  have := b.isLt; intro a; fin_cases a <;> simp <;> omega
/-- Part 0 of slot `s`, spelt as the transfers into it spell their destination, at offsets in `s`. -/
def rwin0_0_0 (s : Fin 3) : Memref sig .tc .vmem S16x10112 .i32 :=
  (scM0_0.slice (Rect.unit (s := S3x2x16x1x12288) ![s.val, 0, 0, 0, 0] S1x1x16x1x10112.size (inb_win0_0 s 0)) (fun _ => rfl)).squeeze S16x10112 squeezes_S1x1x16x1x10112_S16x10112
/-- Block `b` of `main_arg2` as part 0's transfers spell their source (the block step `b` waits), at offsets in `b`. -/
def srcB0_0_0 (b : Fin 40) : Memref sig .tc .hbm S16x10112 .i32 :=
  (hbM0_0.slice (Rect.unit (s := S640x2x10112) ![16 * b.val, 0, 0] S16x1x10112.size (inb_src0_0_0 b)) (fun _ => rfl)).squeeze S16x10112 squeezes_S16x1x10112_S16x10112
theorem inb_src0_0_1 (b : Fin 40) : ∀ a, (![16 * b.val, 1, 0] : Fin 3 → Nat) a + S16x1x10112.size a ≤ S640x2x10112.size a := by
  have := b.isLt; intro a; fin_cases a <;> simp <;> omega
/-- Part 1 of slot `s`, spelt as the transfers into it spell their destination, at offsets in `s`. -/
def rwin0_0_1 (s : Fin 3) : Memref sig .tc .vmem S16x10112 .i32 :=
  (scM0_0.slice (Rect.unit (s := S3x2x16x1x12288) ![s.val, 1, 0, 0, 0] S1x1x16x1x10112.size (inb_win0_0 s 1)) (fun _ => rfl)).squeeze S16x10112 squeezes_S1x1x16x1x10112_S16x10112
/-- Block `b` of `main_arg2` as part 1's transfers spell their source (the block step `b` waits), at offsets in `b`. -/
def srcB0_0_1 (b : Fin 40) : Memref sig .tc .hbm S16x10112 .i32 :=
  (hbM0_0.slice (Rect.unit (s := S640x2x10112) ![16 * b.val, 1, 0] S16x1x10112.size (inb_src0_0_1 b)) (fun _ => rfl)).squeeze S16x10112 squeezes_S16x1x10112_S16x10112
/-- Cell `s` of `cc0_scratch2`, spelt as the body spells a cell; its number in the pool. -/
def cellA0_0 (s : Fin 3) : DmaSems sig S_ := (cc0_scratch2.slice (Rect.unit (s := S3) ![s.val] S1.size (inb_cell0_0 s))).squeeze S_ squeezes_S1_S_
abbrev cellR0_0 (s : Fin 3) : SemLoc sig := SemLoc.dma (cellA0_0 s).sem
theorem cellR0_0_0 : cellR0_0 0 = SemLoc.dma 4 := by decide
theorem cellR0_0_1 : cellR0_0 1 = SemLoc.dma 5 := by decide
theorem cellR0_0_2 : cellR0_0 2 = SemLoc.dma 6 := by decide

section Ring0_0
variable (c : Dev nD) (W0 : HbBuf0 (F := F) c hbM0_0)
/-- Each operand is lent BY SHARE, one read-share copy of it per slot and member that streams it (the full share halved down
    a spine): whatever blocks the transfers in flight stream, each borrows from a copy of its own. -/
abbrev qs0_0_0 (s : Fin 3) : PosShare TreeShare := if s.val = 0 then fullShare.left else if s.val = 1 then fullShare.right.left else fullShare.right.right.left
abbrev qs0_0_1 (s : Fin 3) : PosShare TreeShare := if s.val = 0 then fullShare.right.right.right.left else if s.val = 1 then fullShare.right.right.right.right.left else fullShare.right.right.right.right.right
/-- The families the ring is stated over: part `w` of slot `s` held at `e` and the slot as its parts, each at its own contents `f w`; cell `s`
    at zero; per member, block `b`'s elements of slot `s`'s copy of its operand, the REST of that copy, the copy whole, and the part once
    block `b` LANDED in it: one listed write over junk (the executor restates the prior contents), so that what the flight
    delivers is fixed when it is allocated; the FLIGHT of block `b` into slot `s`: Lib/Batch.lean's batch of the 2 transfers on the
    slot's cell, all issued, nothing consumed, delivering each part landed and its lent elements back. -/
abbrev winP0_0_0 (s : Fin 3) (e : HbBuf0 (F := F) c scM0_0) : sProp 𝕄 := (rwin0_0_0 s).view.loc (c : Thread nD τ) ↦[(rwin0_0_0 s).view.set]{fullShare} e
abbrev winP0_0_1 (s : Fin 3) (e : HbBuf0 (F := F) c scM0_0) : sProp 𝕄 := (rwin0_0_1 s).view.loc (c : Thread nD τ) ↦[(rwin0_0_1 s).view.set]{fullShare} e
abbrev slotP0_0 (s : Fin 3) (f : Fin 2 → HbBuf0 (F := F) c scM0_0) : sProp 𝕄 := iprop(winP0_0_0 c s (f 0) ∗ winP0_0_1 c s (f 1))
abbrev cellP0_0 (s : Fin 3) : sProp 𝕄 := semVal ((c : Thread nD τ), cellR0_0 s) 0
abbrev srcP0_0_0 (s : Fin 3) (b : Fin 40) : sProp 𝕄 := (srcB0_0_0 b).view.loc (c : Thread nD τ) ↦[(srcB0_0_0 b).view.set]{qs0_0_0 s} W0
def restP0_0_0 (s : Fin 3) (b : Fin 40) : sProp 𝕄 := ((c : Thread nD τ).loc main_arg2) ↦[Finset.univ \ (srcB0_0_0 b).view.set]{qs0_0_0 s} W0
abbrev wholeP0_0_0 (s : Fin 3) : sProp 𝕄 := ((c : Thread nD τ).loc main_arg2) ↦[Finset.univ]{qs0_0_0 s} W0
abbrev landed0_0_0 (s : Fin 3) (b : Fin 40) : HbBuf0 (F := F) c scM0_0 :=
  (rwin0_0_0 s).view.writes (Elt F) (rwin0_0_0 s).view.junk [⟨Rect.whole S16x10112, ReadAs.same.apply ((srcB0_0_0 b).view.read (Elt F) W0)⟩]
abbrev srcP0_0_1 (s : Fin 3) (b : Fin 40) : sProp 𝕄 := (srcB0_0_1 b).view.loc (c : Thread nD τ) ↦[(srcB0_0_1 b).view.set]{qs0_0_1 s} W0
def restP0_0_1 (s : Fin 3) (b : Fin 40) : sProp 𝕄 := ((c : Thread nD τ).loc main_arg2) ↦[Finset.univ \ (srcB0_0_1 b).view.set]{qs0_0_1 s} W0
abbrev wholeP0_0_1 (s : Fin 3) : sProp 𝕄 := ((c : Thread nD τ).loc main_arg2) ↦[Finset.univ]{qs0_0_1 s} W0
abbrev landed0_0_1 (s : Fin 3) (b : Fin 40) : HbBuf0 (F := F) c scM0_0 :=
  (rwin0_0_1 s).view.writes (Elt F) (rwin0_0_1 s).view.junk [⟨Rect.whole S16x10112, ReadAs.same.apply ((srcB0_0_1 b).view.read (Elt F) W0)⟩]
abbrev landed0_0 (s : Fin 3) (b : Fin 40) : Fin 2 → HbBuf0 (F := F) c scM0_0 := ![landed0_0_0 c W0 s b, landed0_0_1 c W0 s b]
abbrev winD0_0 (s : Fin 3) (b : Fin 40) : Fin 2 → sProp 𝕄 :=
  ![iprop(winP0_0_0 c s (landed0_0_0 c W0 s b) ∗ srcP0_0_0 c W0 s b), iprop(winP0_0_1 c s (landed0_0_1 c W0 s b) ∗ srcP0_0_1 c W0 s b)]
/-- One part's transfer amount on the slot's cell (every part's is this: the executor checks each issue's by evaluation). -/
abbrev NN0_0 : ℕ := (rwin0_0_0 0).view.amount (cellR0_0 0)
abbrev flightP0_0 (s : Fin 3) (b : Fin 40) (_f : Fin 2 → HbBuf0 (F := F) c scM0_0) : sProp 𝕄 :=
  Transfers.Batch countersEmb (c : Thread nD τ) (cellR0_0 s) default NN0_0 (winD0_0 c W0 s b) 2 0
/-- A points-to is storable along the resources' factor, at any signature and algebra: stated over variables, so that citing it
    unfolds nothing of this program (instance search from a delivery's statement does, at a cost that grows with the program). -/
theorem storable_pt0_0 {nD' : Nat} {τ' : Topo} {sg : RefSig} {Ix' : Type} [DecidableEq Ix'] {Val' : EltTy → Type} {Name' : Type} [DecidableEq Name']
    {U' : Type} [URA U'] {Lvl' : Type} (ℓ : Loc nD' τ' sg) (I : Finset (Idx ℓ)) (q : PosShare TreeShare) (f : Buf Val' ℓ) :
    Storable (upEmb : UEmb _ (MT nD' τ' sg Ix' Val' Name' U' Lvl')) (ℓ ↦[I]{q} f) := inferInstance
/-- The flight's deliveries are storable, part by part (what `Transfers.batch_alloc'` asks): each a `Storable.sep` of two points-tos. -/
theorem storable_winD0_0 (s : Fin 3) (b : Fin 40) : ∀ w, Storable (upEmb : UEmb _ 𝕄) (winD0_0 (F := F) c W0 s b w) := by
  intro w; fin_cases w <;> exact @Storable.sep _ _ _ _ _ _ _ _ (storable_pt0_0 _ _ _ _) (storable_pt0_0 _ _ _ _)
/-- Lib/Ring.lean's `slot` and `flight` families: a slot not in flight carries each member's copy of its operand whole; a flight, the
    rests of the copies it borrowed from. No block is held apart: the `home` family is `emp`. -/
abbrev slotW0_0 (s : Fin 3) (f : Fin 2 → HbBuf0 (F := F) c scM0_0) : sProp 𝕄 := iprop(slotP0_0 c s f ∗ wholeP0_0_0 c W0 s ∗ wholeP0_0_1 c W0 s)
abbrev flightW0_0 (s : Fin 3) (b : Fin 40) (f : Fin 2 → HbBuf0 (F := F) c scM0_0) : sProp 𝕄 := iprop(flightP0_0 c W0 s b f ∗ restP0_0_0 c W0 s b ∗ restP0_0_1 c W0 s b)
abbrev noHome0_0 (b : Fin 40) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_0 (k : ℕ) : sProp 𝕄 :=
  if k = 0 then Ring.At₀ (cellP0_0 c) (slotW0_0 c W0) noHome0_0
  else Ring.At 2 (cellP0_0 c) (slotW0_0 c W0) noHome0_0 (flightW0_0 c W0) k
omit [FloatOps F] in
theorem cellP0_0_0 : cellP0_0 (F := F) c 0 = semVal ((c : Thread nD τ), SemLoc.dma 4) 0 := congrArg (fun x => (semVal ((c : Thread nD τ), x) 0 : sProp 𝕄)) cellR0_0_0
omit [FloatOps F] in
theorem cellP0_0_1 : cellP0_0 (F := F) c 1 = semVal ((c : Thread nD τ), SemLoc.dma 5) 0 := congrArg (fun x => (semVal ((c : Thread nD τ), x) 0 : sProp 𝕄)) cellR0_0_1
omit [FloatOps F] in
theorem cellP0_0_2 : cellP0_0 (F := F) c 2 = semVal ((c : Thread nD τ), SemLoc.dma 6) 0 := congrArg (fun x => (semVal ((c : Thread nD τ), x) 0 : sProp 𝕄)) cellR0_0_2
end Ring0_0

/-! ### The slots' parts: boxes of one size at box offsets over (slot, part), pairwise disjoint by box index (Lib/Ring/WriteBehind.lean `boxes_disjoint`); the scratch's other elements beside the ring -/

abbrev winOff0_0 (i : Fin 3 × Fin 2) : Fin 5 → Nat := ![i.1.val, i.2.val, 0, 0, 0]
theorem inb_win0_0' (i : Fin 3 × Fin 2) : ∀ a, winOff0_0 i a + S1x1x16x1x10112.size a ≤ S3x2x16x1x12288.size a := inb_win0_0 i.1 i.2
abbrev winSet0_0 (i : Fin 3 × Fin 2) : Finset S3x2x16x1x12288.Idx := (Rect.unit (s := S3x2x16x1x12288) (winOff0_0 i) S1x1x16x1x10112.size (inb_win0_0' i)).set
theorem winSet0_0_eq_0 (s : Fin 3) : (rwin0_0_0 s).view.set = winSet0_0 (s, 0) := by
  simp only [rwin0_0_0, Memref.view_squeeze, View.set_reshape]; exact View.set_slice_whole _ _
theorem winSet0_0_eq_1 (s : Fin 3) : (rwin0_0_1 s).view.set = winSet0_0 (s, 1) := by
  simp only [rwin0_0_1, Memref.view_squeeze, View.set_reshape]; exact View.set_slice_whole _ _
/-- part (s, w)'s box index per axis (offset / extent), and the (slot, part) at a box index (its left inverse). -/
def winIx0_0 (i : Fin 3 × Fin 2) : Fin 5 → ℕ := ![i.1.val, i.2.val, 0, 0, 0]
def winUn0_0 (v : Fin 5 → ℕ) : Fin 3 × Fin 2 := (Fin.ofNat 3 (v 0), Fin.ofNat 2 (v 1))
theorem winUn0_0_left : ∀ i : Fin 3 × Fin 2, winUn0_0 (winIx0_0 i) = i := by decide +kernel
theorem wins0_0_disjoint (i i' : Fin 3 × Fin 2) (h : i ≠ i') : Disjoint (winSet0_0 i) (winSet0_0 i') :=
  Ring.boxes_disjoint (s := S3x2x16x1x12288) S1x1x16x1x10112.size winOff0_0 inb_win0_0' winIx0_0
    (fun i a => by fin_cases a <;> simp [winOff0_0, winIx0_0] <;> omega) winUn0_0 winUn0_0_left i i' h
/-- The scratch's elements outside the ring's parts (none, when the parts tile it): no statement of the body names them; the
    invariant carries them beside the ring at some contents, so no theorem here says what they are. -/
abbrev spareSet0_0 : Finset S3x2x16x1x12288.Idx := Finset.univ \ Finset.univ.biUnion winSet0_0
abbrev spareP0_0 (c : Dev nD) : sProp 𝕄 := iprop(∃ f : Buf (Elt F) ((c : Thread nD τ).loc cc0_scratch0), ((c : Thread nD τ).loc cc0_scratch0) ↦[spareSet0_0]{fullShare} f)

/-! ### What the launch hands the ring, and takes back -/

section InOut0_0
variable (c : Dev nD) (W0 : HbBuf0 (F := F) c hbM0_0)
theorem winP0_0_eq (i : Fin 3 × Fin 2) (e : HbBuf0 (F := F) c scM0_0) : (![winP0_0_0 (F := F) c i.1 e, winP0_0_1 (F := F) c i.1 e] : Fin 2 → sProp 𝕄) i.2 = (((c : Thread nD τ).loc cc0_scratch0) ↦[winSet0_0 i]{fullShare} e : sProp 𝕄) := by
  obtain ⟨s, w⟩ := i
  fin_cases w
  · show winP0_0_0 (F := F) c s e = _; unfold winP0_0_0; rw [winSet0_0_eq_0]; rfl
  · show winP0_0_1 (F := F) c s e = _; unfold winP0_0_1; rw [winSet0_0_eq_1]; rfl
/-- The parts over (slot, part), each at SOME contents, are the slots, each at some contents per part; -/
theorem slots0_0_eq : (bigSep Finset.univ (fun i : Fin 3 × Fin 2 => iprop(∃ e, (fun (i : Fin 3 × Fin 2) (e : HbBuf0 (F := F) c scM0_0) => (![winP0_0_0 c i.1 e, winP0_0_1 c i.1 e] : Fin 2 → sProp 𝕄) i.2) i e)) : sProp 𝕄) = iprop((∃ f, slotP0_0 (F := F) c 0 f) ∗ (∃ f, slotP0_0 (F := F) c 1 f) ∗ ∃ f, slotP0_0 (F := F) c 2 f) := by
  rw [BI.bigSep_univ_prod, Ring.bigSep_fin3]
  have e : ∀ j : Fin 3, (bigSep Finset.univ (fun w : Fin 2 => iprop(∃ e, (fun (i : Fin 3 × Fin 2) (e : HbBuf0 (F := F) c scM0_0) => (![winP0_0_0 c i.1 e, winP0_0_1 c i.1 e] : Fin 2 → sProp 𝕄) i.2) (j, w) e)) : sProp 𝕄) = iprop(∃ f, slotP0_0 (F := F) c j f) := fun j => by
    rw [← Ring.bigSep_exists_pi_eq]; unfold slotP0_0
    refine congrArg _ (funext fun f => ?_)
    rw [BI.bigSep_eq_bigSepL_of_eq [0, 1] (by decide) (by decide)]; rfl
  rw [e 0, e 1, e 2]

/-- the slot at a tuple of contents written `![…]` is each of its parts at its own entry of the tuple: `rfl` over variables
    reduces the tuple and has no part's contents to unfold (unfolding a part's contents evaluates its view, element by element); -/
theorem slotP0_0_tuple (s : Fin 3) (a0 a1 : HbBuf0 (F := F) c scM0_0) : slotP0_0 (F := F) c s ![a0, a1] = iprop(winP0_0_0 c s a0 ∗ winP0_0_1 c s a1) := rfl
/-- so the slot at the tuple `landed0_0` (what the run names for the freed slot) is each of its parts at its own landed entry, the
    form in which the draining wait hands a part back (its assertion as `winD0_0` states it, verbatim): the run cites this and
    hands each part back by a syntactic match; -/
theorem slotP0_0_landed (s : Fin 3) (b : Fin 40) : iprop(winP0_0_0 c s (landed0_0_0 c W0 s b) ∗ winP0_0_1 c s (landed0_0_1 c W0 s b)) ⊢ slotP0_0 (F := F) c s (landed0_0 c W0 s b) :=
  Entails.of_eq (slotP0_0_tuple c s (landed0_0_0 c W0 s b) (landed0_0_1 c W0 s b)).symm
/-- a slot's copy of part 0's operand, whole, is block `b`'s elements and the rest (any `b`); -/
theorem src0_0_0_split (s : Fin 3) (b : Fin 40) : wholeP0_0_0 (F := F) c W0 s ⊣⊢ iprop(srcP0_0_0 c W0 s b ∗ restP0_0_0 c W0 s b) := by
  unfold restP0_0_0; exact pointsTo_split_subset (Finset.subset_univ _)
/-- a slot's copy of part 1's operand, whole, is block `b`'s elements and the rest (any `b`); -/
theorem src0_0_1_split (s : Fin 3) (b : Fin 40) : wholeP0_0_1 (F := F) c W0 s ⊣⊢ iprop(srcP0_0_1 c W0 s b ∗ restP0_0_1 c W0 s b) := by
  unfold restP0_0_1; exact pointsTo_split_subset (Finset.subset_univ _)
/-- `main_arg2` whole at the full share is its 6 copies (one per slot and member streaming it: the share halved down a spine). -/
theorem whole0_0_r0_split : (hbPt0 c hbM0_0 W0 : sProp 𝕄) ⊣⊢ iprop(wholeP0_0_0 c W0 0 ∗ wholeP0_0_0 c W0 1 ∗ wholeP0_0_0 c W0 2 ∗ wholeP0_0_1 c W0 0 ∗ wholeP0_0_1 c W0 1 ∗ wholeP0_0_1 c W0 2) := by
  refine ⟨?_, ?_⟩
  · iintro H
    ihave G0 := (pointsTo_share (PosShare.mem_left_op_right fullShare)).1 $$ H
    icases G0 with ⟨H0, R1⟩
    ihave G1 := (pointsTo_share (PosShare.mem_left_op_right fullShare.right)).1 $$ R1
    icases G1 with ⟨H1, R2⟩
    ihave G2 := (pointsTo_share (PosShare.mem_left_op_right fullShare.right.right)).1 $$ R2
    icases G2 with ⟨H2, R3⟩
    ihave G3 := (pointsTo_share (PosShare.mem_left_op_right fullShare.right.right.right)).1 $$ R3
    icases G3 with ⟨H3, R4⟩
    ihave G4 := (pointsTo_share (PosShare.mem_left_op_right fullShare.right.right.right.right)).1 $$ R4
    icases G4 with ⟨H4, H5⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2]; · iexact H2
    iapply (pointsTo_share (PosShare.mem_left_op_right fullShare.right.right.right)).2
    isplitl [H3]; · iexact H3
    iapply (pointsTo_share (PosShare.mem_left_op_right fullShare.right.right.right.right)).2
    isplitl [H4]; · iexact H4
    iexact H5

set_option maxHeartbeats 1000000 in
/-- the scratch whole at anything is its slots at something each, part by part, and its other elements at something; and back. -/
theorem slots0_0_in : iprop(∃ d, owns (c : Thread nD τ) scM0_0 fullShare d) ⊢ (iprop(((∃ f, slotP0_0 (F := F) c 0 f) ∗ (∃ f, slotP0_0 (F := F) c 1 f) ∗ ∃ f, slotP0_0 (F := F) c 2 f) ∗ spareP0_0 c) : sProp 𝕄) := by
  simp only [scM0_0, owns_whole]
  rw [← slots0_0_eq c]
  exact Ring.pieces_split_spare (U := Pipeline.UD sig nD τ) (ℓ := (c : Thread nD τ).loc cc0_scratch0) (q := fullShare) winSet0_0 wins0_0_disjoint
    (fun (i : Fin 3 × Fin 2) (e : HbBuf0 (F := F) c scM0_0) => (![winP0_0_0 c i.1 e, winP0_0_1 c i.1 e] : Fin 2 → sProp 𝕄) i.2) (winP0_0_eq c)
set_option maxHeartbeats 1000000 in
theorem slots0_0_out : (iprop(((∃ f, slotP0_0 (F := F) c 0 f) ∗ (∃ f, slotP0_0 (F := F) c 1 f) ∗ ∃ f, slotP0_0 (F := F) c 2 f) ∗ spareP0_0 c) : sProp 𝕄) ⊢ iprop(∃ d, owns (c : Thread nD τ) scM0_0 fullShare d) := by
  simp only [scM0_0, owns_whole]
  rw [← slots0_0_eq c]
  exact Ring.pieces_join_spare (U := Pipeline.UD sig nD τ) (ℓ := (c : Thread nD τ).loc cc0_scratch0) (q := fullShare) winSet0_0 wins0_0_disjoint
    (fun (i : Fin 3 × Fin 2) (e : HbBuf0 (F := F) c scM0_0) => (![winP0_0_0 c i.1 e, winP0_0_1 c i.1 e] : Fin 2 → sProp 𝕄) i.2) (winP0_0_eq c)
end InOut0_0

/-- INTO THE RING: the launch's pieces — the scratch whole, the cells at zero, each operand whole — are the ring before its first step and, beside it, the scratch's other elements; -/
theorem ring0_0_in (c : Dev nD) :
    iprop((∃ d, owns (c : Thread nD τ) scM0_0 fullShare d) ∗ (semVal ((c : Thread nD τ), SemLoc.dma 4) 0 ∗ semVal ((c : Thread nD τ), SemLoc.dma 5) 0 ∗ semVal ((c : Thread nD τ), SemLoc.dma 6) 0) ∗ hbPt0 c hbM0_0 (V m c main_arg2))
      ⊢ iprop(ringAt0_0 c (V m c main_arg2) 0 ∗ spareP0_0 c) := by
  unfold ringAt0_0; rw [if_pos rfl]; unfold Ring.At₀
  rw [Ring.bigSep_fin3]
  simp only [Ring.free, cellP0_0_0, cellP0_0_1, cellP0_0_2]
  iintro ⟨HS, Hc, HR0⟩
  icases Hc with ⟨H0, H1, H2⟩
  ihave HS' := (slots0_0_in (F := F) c) $$ HS
  icases HS' with ⟨⟨⟨%d0, HS0⟩, ⟨%d1, HS1⟩, ⟨%d2, HS2⟩⟩, HSp⟩
  ihave HR0' := (whole0_0_r0_split (F := F) c (V m c main_arg2)).1 $$ HR0
  icases HR0' with ⟨HW0_0, HW0_1, HW0_2, HW1_0, HW1_1, HW1_2⟩
  isplitl [H0 HS0 HW0_0 HW1_0 H1 HS1 HW0_1 HW1_1 H2 HS2 HW0_2 HW1_2]
  · iapply Ring.with_homes₀
    isplitl [H0 HS0 HW0_0 HW1_0]
    · isplitl [H0]; · iexact H0
      iexists d0; isplitl [HS0]; · iexact HS0
      isplitl [HW0_0]; · iexact HW0_0
      iexact HW1_0
    isplitl [H1 HS1 HW0_1 HW1_1]
    · isplitl [H1]; · iexact H1
      iexists d1; isplitl [HS1]; · iexact HS1
      isplitl [HW0_1]; · iexact HW0_1
      iexact HW1_1
    · isplitl [H2]; · iexact H2
      iexists d2; isplitl [HS2]; · iexact HS2
      isplitl [HW0_2]; · iexact HW0_2
      iexact HW1_2
  iexact HSp
/-- OUT OF THE RING: after the last step (every slot free) those pieces again. -/
theorem ring0_0_out (c : Dev nD) :
    iprop(ringAt0_0 c (V m c main_arg2) 40 ∗ spareP0_0 c)
      ⊢ iprop((∃ d, owns (c : Thread nD τ) scM0_0 fullShare d) ∗ (semVal ((c : Thread nD τ), SemLoc.dma 4) 0 ∗ semVal ((c : Thread nD τ), SemLoc.dma 5) 0 ∗ semVal ((c : Thread nD τ), SemLoc.dma 6) 0) ∗ hbPt0 c hbM0_0 (V m c main_arg2)) := by
  unfold ringAt0_0; rw [if_neg (by decide)]
  iintro ⟨H, HSp⟩
  ihave H' := (Ring.free3_of_At_last _ _ _ _) $$ H
  simp only [Ring.free, cellP0_0_0, cellP0_0_1, cellP0_0_2]
  icases H' with ⟨-, ⟨H0, ⟨%f0, HS0, HW0_0, HW1_0⟩⟩, ⟨H1, ⟨%f1, HS1, HW0_1, HW1_1⟩⟩, ⟨H2, ⟨%f2, HS2, HW0_2, HW1_2⟩⟩⟩
  isplitl [HS0 HS1 HS2 HSp]
  · iapply (slots0_0_out (F := F) c); isplitl [HS0 HS1 HS2]
    · isplitl [HS0]; · iexists f0; iexact HS0
      isplitl [HS1]; · iexists f1; iexact HS1
      iexists f2; iexact HS2
    iexact HSp
  isplitl [H0 H1 H2]
  · isplitl [H0]; · iexact H0
    isplitl [H1]; · iexact H1
    iexact H2
  · iapply (whole0_0_r0_split (F := F) c (V m c main_arg2)).2; isplitl [HW0_0]; · iexact HW0_0
    isplitl [HW0_1]; · iexact HW0_1
    isplitl [HW0_2]; · iexact HW0_2
    isplitl [HW1_0]; · iexact HW1_0
    isplitl [HW1_1]; · iexact HW1_1
    iexact HW1_2

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → 1 ≤ t.val ∧ t.val + 2 < 40 ∧ (t.val + 1) = t.val + 1 := by decide +kernel
/-- At the points of case C the ring takes its LAST step. -/
theorem rstep0_0_C : ∀ t : Fin grid0.N, ¬cond0_0 (grid0.coords t) → ¬cond0_1 (grid0.coords t) → 1 ≤ t.val ∧ 40 ≤ t.val + 2 ∧ t.val < 40 ∧ (t.val + 1) = t.val + 1 := by decide +kernel
set_option synthInstance.maxSize 4096 in
theorem coff0_0_1 : ∀ t : Fin grid0.N, cond0_0 (grid0.coords t) → cond0_1 (grid0.coords t) → (![0, 0, 0, 0, 0] : Fin 5 → Nat) = ![(Ring.sl 3 t.val).val, 0, 0, 0, 0] := by decide +kernel
@[sl_canon] theorem canon0_0_1 (t : Fin grid0.N) (h0 : cond0_0 (grid0.coords t)) (h1 : cond0_1 (grid0.coords t)) :
    (scM0_0.slice (Rect.unit (s := S3x2x16x1x12288) ![0, 0, 0, 0, 0] S1x1x16x1x10112.size inb_S3x2x16x1x12288_S1x1x16x1x10112_0_0_0_0_0) (fun _ => rfl)).squeeze S16x10112 squeezes_S1x1x16x1x10112_S16x10112 = rwin0_0_0 (Ring.sl 3 t.val) :=
  congrArg (fun M : Memref sig .tc .vmem S1x1x16x1x10112 .i32 => M.squeeze S16x10112 squeezes_S1x1x16x1x10112_S16x10112) (Memref.slice_unit_congr _ (coff0_0_1 t h0 h1) _ _ (fun _ => rfl) (fun _ => rfl))
@[sl_canon] theorem canon0_0_1' (t : Fin grid0.N) (h0 : cond0_0 (grid0.coords t)) (h1 : cond0_1 (grid0.coords t)) :
    (scM0_0.slice (Rect.unit (s := S3x2x16x1x12288) ![0, 0, 0, 0, 0] ![1, 1, 16, 1, 10112] inb_S3x2x16x1x12288_S1x1x16x1x10112_0_0_0_0_0) (fun _ => rfl)).squeeze S16x10112 squeezes_S1x1x16x1x10112_S16x10112 = rwin0_0_0 (Ring.sl 3 t.val) :=
  canon0_0_1 t h0 h1
set_option synthInstance.maxSize 4096 in
theorem coff0_0_2 : ∀ t : Fin grid0.N, cond0_0 (grid0.coords t) → cond0_1 (grid0.coords t) → (![0] : Fin 1 → Nat) = ![(Ring.sl 3 t.val).val] := by decide +kernel
@[sl_canon] theorem canon0_0_2 (t : Fin grid0.N) (h0 : cond0_0 (grid0.coords t)) (h1 : cond0_1 (grid0.coords t)) :
    (cc0_scratch2.slice (Rect.unit (s := S3) ![0] S1.size inb_S3_S1_0)).squeeze S_ squeezes_S1_S_ = cellA0_0 (Ring.sl 3 t.val) :=
  congrArg (fun A : DmaSems sig S1 => A.squeeze S_ squeezes_S1_S_) (SemArray.slice_unit_congr _ (coff0_0_2 t h0 h1) _ _)
@[sl_canon] theorem canon0_0_2' (t : Fin grid0.N) (h0 : cond0_0 (grid0.coords t)) (h1 : cond0_1 (grid0.coords t)) :
    (cc0_scratch2.slice (Rect.unit (s := S3) ![0] ![1] inb_S3_S1_0)).squeeze S_ squeezes_S1_S_ = cellA0_0 (Ring.sl 3 t.val) :=
  canon0_0_2 t h0 h1
set_option synthInstance.maxSize 4096 in
theorem coff0_0_3 : ∀ t : Fin grid0.N, cond0_0 (grid0.coords t) → cond0_1 (grid0.coords t) → (![0, 0, 0] : Fin 3 → Nat) = ![16 * (Ring.bk 40 t.val).val, 0, 0] := by decide +kernel
@[sl_canon] theorem canon0_0_3 (t : Fin grid0.N) (h0 : cond0_0 (grid0.coords t)) (h1 : cond0_1 (grid0.coords t)) :
    (hbM0_0.slice (Rect.unit (s := S640x2x10112) ![0, 0, 0] S16x1x10112.size inb_S640x2x10112_S16x1x10112_0_0_0) (fun _ => rfl)).squeeze S16x10112 squeezes_S16x1x10112_S16x10112 = srcB0_0_0 (Ring.bk 40 t.val) :=
  congrArg (fun M : Memref sig .tc .hbm S16x1x10112 .i32 => M.squeeze S16x10112 squeezes_S16x1x10112_S16x10112) (Memref.slice_unit_congr _ (coff0_0_3 t h0 h1) _ _ (fun _ => rfl) (fun _ => rfl))
@[sl_canon] theorem canon0_0_3' (t : Fin grid0.N) (h0 : cond0_0 (grid0.coords t)) (h1 : cond0_1 (grid0.coords t)) :
    (hbM0_0.slice (Rect.unit (s := S640x2x10112) ![0, 0, 0] ![16, 1, 10112] inb_S640x2x10112_S16x1x10112_0_0_0) (fun _ => rfl)).squeeze S16x10112 squeezes_S16x1x10112_S16x10112 = srcB0_0_0 (Ring.bk 40 t.val) :=
  canon0_0_3 t h0 h1
set_option synthInstance.maxSize 4096 in
theorem coff0_0_4 : ∀ t : Fin grid0.N, cond0_0 (grid0.coords t) → cond0_1 (grid0.coords t) → (![0, 1, 0, 0, 0] : Fin 5 → Nat) = ![(Ring.sl 3 t.val).val, 1, 0, 0, 0] := by decide +kernel
@[sl_canon] theorem canon0_0_4 (t : Fin grid0.N) (h0 : cond0_0 (grid0.coords t)) (h1 : cond0_1 (grid0.coords t)) :
    (scM0_0.slice (Rect.unit (s := S3x2x16x1x12288) ![0, 1, 0, 0, 0] S1x1x16x1x10112.size inb_S3x2x16x1x12288_S1x1x16x1x10112_0_1_0_0_0) (fun _ => rfl)).squeeze S16x10112 squeezes_S1x1x16x1x10112_S16x10112 = rwin0_0_1 (Ring.sl 3 t.val) :=
  congrArg (fun M : Memref sig .tc .vmem S1x1x16x1x10112 .i32 => M.squeeze S16x10112 squeezes_S1x1x16x1x10112_S16x10112) (Memref.slice_unit_congr _ (coff0_0_4 t h0 h1) _ _ (fun _ => rfl) (fun _ => rfl))
@[sl_canon] theorem canon0_0_4' (t : Fin grid0.N) (h0 : cond0_0 (grid0.coords t)) (h1 : cond0_1 (grid0.coords t)) :
    (scM0_0.slice (Rect.unit (s := S3x2x16x1x12288) ![0, 1, 0, 0, 0] ![1, 1, 16, 1, 10112] inb_S3x2x16x1x12288_S1x1x16x1x10112_0_1_0_0_0) (fun _ => rfl)).squeeze S16x10112 squeezes_S1x1x16x1x10112_S16x10112 = rwin0_0_1 (Ring.sl 3 t.val) :=
  canon0_0_4 t h0 h1
set_option synthInstance.maxSize 4096 in
theorem coff0_0_5 : ∀ t : Fin grid0.N, cond0_0 (grid0.coords t) → cond0_1 (grid0.coords t) → (![0, 1, 0] : Fin 3 → Nat) = ![16 * (Ring.bk 40 t.val).val, 1, 0] := by decide +kernel
@[sl_canon] theorem canon0_0_5 (t : Fin grid0.N) (h0 : cond0_0 (grid0.coords t)) (h1 : cond0_1 (grid0.coords t)) :
    (hbM0_0.slice (Rect.unit (s := S640x2x10112) ![0, 1, 0] S16x1x10112.size inb_S640x2x10112_S16x1x10112_0_1_0) (fun _ => rfl)).squeeze S16x10112 squeezes_S16x1x10112_S16x10112 = srcB0_0_1 (Ring.bk 40 t.val) :=
  congrArg (fun M : Memref sig .tc .hbm S16x1x10112 .i32 => M.squeeze S16x10112 squeezes_S16x1x10112_S16x10112) (Memref.slice_unit_congr _ (coff0_0_5 t h0 h1) _ _ (fun _ => rfl) (fun _ => rfl))
@[sl_canon] theorem canon0_0_5' (t : Fin grid0.N) (h0 : cond0_0 (grid0.coords t)) (h1 : cond0_1 (grid0.coords t)) :
    (hbM0_0.slice (Rect.unit (s := S640x2x10112) ![0, 1, 0] ![16, 1, 10112] inb_S640x2x10112_S16x1x10112_0_1_0) (fun _ => rfl)).squeeze S16x10112 squeezes_S16x1x10112_S16x10112 = srcB0_0_1 (Ring.bk 40 t.val) :=
  canon0_0_5 t h0 h1
set_option synthInstance.maxSize 4096 in
theorem coff0_0_6 : ∀ t : Fin grid0.N, cond0_0 (grid0.coords t) → cond0_1 (grid0.coords t) → (![1, 0, 0, 0, 0] : Fin 5 → Nat) = ![(Ring.sl 3 (t.val + 1)).val, 0, 0, 0, 0] := by decide +kernel
@[sl_canon] theorem canon0_0_6 (t : Fin grid0.N) (h0 : cond0_0 (grid0.coords t)) (h1 : cond0_1 (grid0.coords t)) :
    (scM0_0.slice (Rect.unit (s := S3x2x16x1x12288) ![1, 0, 0, 0, 0] S1x1x16x1x10112.size inb_S3x2x16x1x12288_S1x1x16x1x10112_1_0_0_0_0) (fun _ => rfl)).squeeze S16x10112 squeezes_S1x1x16x1x10112_S16x10112 = rwin0_0_0 (Ring.sl 3 (t.val + 1)) :=
  congrArg (fun M : Memref sig .tc .vmem S1x1x16x1x10112 .i32 => M.squeeze S16x10112 squeezes_S1x1x16x1x10112_S16x10112) (Memref.slice_unit_congr _ (coff0_0_6 t h0 h1) _ _ (fun _ => rfl) (fun _ => rfl))
@[sl_canon] theorem canon0_0_6' (t : Fin grid0.N) (h0 : cond0_0 (grid0.coords t)) (h1 : cond0_1 (grid0.coords t)) :
    (scM0_0.slice (Rect.unit (s := S3x2x16x1x12288) ![1, 0, 0, 0, 0] ![1, 1, 16, 1, 10112] inb_S3x2x16x1x12288_S1x1x16x1x10112_1_0_0_0_0) (fun _ => rfl)).squeeze S16x10112 squeezes_S1x1x16x1x10112_S16x10112 = rwin0_0_0 (Ring.sl 3 (t.val + 1)) :=
  canon0_0_6 t h0 h1
set_option synthInstance.maxSize 4096 in
theorem coff0_0_7 : ∀ t : Fin grid0.N, cond0_0 (grid0.coords t) → cond0_1 (grid0.coords t) → (![1] : Fin 1 → Nat) = ![(Ring.sl 3 (t.val + 1)).val] := by decide +kernel
@[sl_canon] theorem canon0_0_7 (t : Fin grid0.N) (h0 : cond0_0 (grid0.coords t)) (h1 : cond0_1 (grid0.coords t)) :
    (cc0_scratch2.slice (Rect.unit (s := S3) ![1] S1.size inb_S3_S1_1)).squeeze S_ squeezes_S1_S_ = cellA0_0 (Ring.sl 3 (t.val + 1)) :=
  congrArg (fun A : DmaSems sig S1 => A.squeeze S_ squeezes_S1_S_) (SemArray.slice_unit_congr _ (coff0_0_7 t h0 h1) _ _)
@[sl_canon] theorem canon0_0_7' (t : Fin grid0.N) (h0 : cond0_0 (grid0.coords t)) (h1 : cond0_1 (grid0.coords t)) :
    (cc0_scratch2.slice (Rect.unit (s := S3) ![1] ![1] inb_S3_S1_1)).squeeze S_ squeezes_S1_S_ = cellA0_0 (Ring.sl 3 (t.val + 1)) :=
  canon0_0_7 t h0 h1
set_option synthInstance.maxSize 4096 in
theorem coff0_0_8 : ∀ t : Fin grid0.N, cond0_0 (grid0.coords t) → cond0_1 (grid0.coords t) → (![16, 0, 0] : Fin 3 → Nat) = ![16 * (Ring.bk 40 (t.val + 1)).val, 0, 0] := by decide +kernel
@[sl_canon] theorem canon0_0_8 (t : Fin grid0.N) (h0 : cond0_0 (grid0.coords t)) (h1 : cond0_1 (grid0.coords t)) :
    (hbM0_0.slice (Rect.unit (s := S640x2x10112) ![16, 0, 0] S16x1x10112.size inb_S640x2x10112_S16x1x10112_16_0_0) (fun _ => rfl)).squeeze S16x10112 squeezes_S16x1x10112_S16x10112 = srcB0_0_0 (Ring.bk 40 (t.val + 1)) :=
  congrArg (fun M : Memref sig .tc .hbm S16x1x10112 .i32 => M.squeeze S16x10112 squeezes_S16x1x10112_S16x10112) (Memref.slice_unit_congr _ (coff0_0_8 t h0 h1) _ _ (fun _ => rfl) (fun _ => rfl))
@[sl_canon] theorem canon0_0_8' (t : Fin grid0.N) (h0 : cond0_0 (grid0.coords t)) (h1 : cond0_1 (grid0.coords t)) :
    (hbM0_0.slice (Rect.unit (s := S640x2x10112) ![16, 0, 0] ![16, 1, 10112] inb_S640x2x10112_S16x1x10112_16_0_0) (fun _ => rfl)).squeeze S16x10112 squeezes_S16x1x10112_S16x10112 = srcB0_0_0 (Ring.bk 40 (t.val + 1)) :=
  canon0_0_8 t h0 h1
set_option synthInstance.maxSize 4096 in
theorem coff0_0_9 : ∀ t : Fin grid0.N, cond0_0 (grid0.coords t) → cond0_1 (grid0.coords t) → (![1, 1, 0, 0, 0] : Fin 5 → Nat) = ![(Ring.sl 3 (t.val + 1)).val, 1, 0, 0, 0] := by decide +kernel
@[sl_canon] theorem canon0_0_9 (t : Fin grid0.N) (h0 : cond0_0 (grid0.coords t)) (h1 : cond0_1 (grid0.coords t)) :
    (scM0_0.slice (Rect.unit (s := S3x2x16x1x12288) ![1, 1, 0, 0, 0] S1x1x16x1x10112.size inb_S3x2x16x1x12288_S1x1x16x1x10112_1_1_0_0_0) (fun _ => rfl)).squeeze S16x10112 squeezes_S1x1x16x1x10112_S16x10112 = rwin0_0_1 (Ring.sl 3 (t.val + 1)) :=
  congrArg (fun M : Memref sig .tc .vmem S1x1x16x1x10112 .i32 => M.squeeze S16x10112 squeezes_S1x1x16x1x10112_S16x10112) (Memref.slice_unit_congr _ (coff0_0_9 t h0 h1) _ _ (fun _ => rfl) (fun _ => rfl))
@[sl_canon] theorem canon0_0_9' (t : Fin grid0.N) (h0 : cond0_0 (grid0.coords t)) (h1 : cond0_1 (grid0.coords t)) :
    (scM0_0.slice (Rect.unit (s := S3x2x16x1x12288) ![1, 1, 0, 0, 0] ![1, 1, 16, 1, 10112] inb_S3x2x16x1x12288_S1x1x16x1x10112_1_1_0_0_0) (fun _ => rfl)).squeeze S16x10112 squeezes_S1x1x16x1x10112_S16x10112 = rwin0_0_1 (Ring.sl 3 (t.val + 1)) :=
  canon0_0_9 t h0 h1
set_option synthInstance.maxSize 4096 in
theorem coff0_0_10 : ∀ t : Fin grid0.N, cond0_0 (grid0.coords t) → cond0_1 (grid0.coords t) → (![16, 1, 0] : Fin 3 → Nat) = ![16 * (Ring.bk 40 (t.val + 1)).val, 1, 0] := by decide +kernel
@[sl_canon] theorem canon0_0_10 (t : Fin grid0.N) (h0 : cond0_0 (grid0.coords t)) (h1 : cond0_1 (grid0.coords t)) :
    (hbM0_0.slice (Rect.unit (s := S640x2x10112) ![16, 1, 0] S16x1x10112.size inb_S640x2x10112_S16x1x10112_16_1_0) (fun _ => rfl)).squeeze S16x10112 squeezes_S16x1x10112_S16x10112 = srcB0_0_1 (Ring.bk 40 (t.val + 1)) :=
  congrArg (fun M : Memref sig .tc .hbm S16x1x10112 .i32 => M.squeeze S16x10112 squeezes_S16x1x10112_S16x10112) (Memref.slice_unit_congr _ (coff0_0_10 t h0 h1) _ _ (fun _ => rfl) (fun _ => rfl))
@[sl_canon] theorem canon0_0_10' (t : Fin grid0.N) (h0 : cond0_0 (grid0.coords t)) (h1 : cond0_1 (grid0.coords t)) :
    (hbM0_0.slice (Rect.unit (s := S640x2x10112) ![16, 1, 0] ![16, 1, 10112] inb_S640x2x10112_S16x1x10112_16_1_0) (fun _ => rfl)).squeeze S16x10112 squeezes_S16x1x10112_S16x10112 = srcB0_0_1 (Ring.bk 40 (t.val + 1)) :=
  canon0_0_10 t h0 h1
set_option synthInstance.maxSize 4096 in
theorem coff0_0_11 : ∀ t : Fin grid0.N, k0_off2 (grid0.coords t) = ![(Ring.sl 3 (t.val + 2)).val, 0, 0, 0, 0] := by decide +kernel
@[sl_canon] theorem canon0_0_11 (t : Fin grid0.N) (h1 : cond0_1 (grid0.coords t)) :
    (scM0_0.slice (Rect.unit (s := S3x2x16x1x12288) (k0_off2 (grid0.coords t)) S1x1x16x1x10112.size (k0_off2_inb (grid0.coords t) h1)) (fun _ => rfl)).squeeze S16x10112 squeezes_S1x1x16x1x10112_S16x10112 = rwin0_0_0 (Ring.sl 3 (t.val + 2)) :=
  congrArg (fun M : Memref sig .tc .vmem S1x1x16x1x10112 .i32 => M.squeeze S16x10112 squeezes_S1x1x16x1x10112_S16x10112) (Memref.slice_unit_congr _ (coff0_0_11 t ) _ _ (fun _ => rfl) (fun _ => rfl))
@[sl_canon] theorem canon0_0_11' (t : Fin grid0.N) (h1 : cond0_1 (grid0.coords t)) :
    (scM0_0.slice (Rect.unit (s := S3x2x16x1x12288) (k0_off2 (grid0.coords t)) ![1, 1, 16, 1, 10112] (k0_off2_inb (grid0.coords t) h1)) (fun _ => rfl)).squeeze S16x10112 squeezes_S1x1x16x1x10112_S16x10112 = rwin0_0_0 (Ring.sl 3 (t.val + 2)) :=
  canon0_0_11 t h1
set_option synthInstance.maxSize 4096 in
theorem coff0_0_12 : ∀ t : Fin grid0.N, k0_off1 (grid0.coords t) = ![(Ring.sl 3 (t.val + 2)).val] := by decide +kernel
@[sl_canon] theorem canon0_0_12 (t : Fin grid0.N) (h1 : cond0_1 (grid0.coords t)) :
    (cc0_scratch2.slice (Rect.unit (s := S3) (k0_off1 (grid0.coords t)) S1.size (k0_off1_inb (grid0.coords t) h1))).squeeze S_ squeezes_S1_S_ = cellA0_0 (Ring.sl 3 (t.val + 2)) :=
  congrArg (fun A : DmaSems sig S1 => A.squeeze S_ squeezes_S1_S_) (SemArray.slice_unit_congr _ (coff0_0_12 t ) _ _)
@[sl_canon] theorem canon0_0_12' (t : Fin grid0.N) (h1 : cond0_1 (grid0.coords t)) :
    (cc0_scratch2.slice (Rect.unit (s := S3) (k0_off1 (grid0.coords t)) ![1] (k0_off1_inb (grid0.coords t) h1))).squeeze S_ squeezes_S1_S_ = cellA0_0 (Ring.sl 3 (t.val + 2)) :=
  canon0_0_12 t h1
set_option synthInstance.maxSize 4096 in
theorem coff0_0_13 : ∀ t : Fin grid0.N, cond0_0 (grid0.coords t) → cond0_1 (grid0.coords t) → k0_off3 (grid0.coords t) = ![16 * (Ring.bk 40 (t.val + 2)).val, 0, 0] := by decide +kernel
@[sl_canon] theorem canon0_0_13 (t : Fin grid0.N) (h0 : cond0_0 (grid0.coords t)) (h1 : cond0_1 (grid0.coords t)) :
    (hbM0_0.slice (Rect.unit (s := S640x2x10112) (k0_off3 (grid0.coords t)) S16x1x10112.size (k0_off3_inb (grid0.coords t) h1)) (fun _ => rfl)).squeeze S16x10112 squeezes_S16x1x10112_S16x10112 = srcB0_0_0 (Ring.bk 40 (t.val + 2)) :=
  congrArg (fun M : Memref sig .tc .hbm S16x1x10112 .i32 => M.squeeze S16x10112 squeezes_S16x1x10112_S16x10112) (Memref.slice_unit_congr _ (coff0_0_13 t h0 h1) _ _ (fun _ => rfl) (fun _ => rfl))
@[sl_canon] theorem canon0_0_13' (t : Fin grid0.N) (h0 : cond0_0 (grid0.coords t)) (h1 : cond0_1 (grid0.coords t)) :
    (hbM0_0.slice (Rect.unit (s := S640x2x10112) (k0_off3 (grid0.coords t)) ![16, 1, 10112] (k0_off3_inb (grid0.coords t) h1)) (fun _ => rfl)).squeeze S16x10112 squeezes_S16x1x10112_S16x10112 = srcB0_0_0 (Ring.bk 40 (t.val + 2)) :=
  canon0_0_13 t h0 h1
set_option synthInstance.maxSize 4096 in
theorem coff0_0_14 : ∀ t : Fin grid0.N, k0_off4 (grid0.coords t) = ![(Ring.sl 3 (t.val + 2)).val, 1, 0, 0, 0] := by decide +kernel
@[sl_canon] theorem canon0_0_14 (t : Fin grid0.N) (h1 : cond0_1 (grid0.coords t)) :
    (scM0_0.slice (Rect.unit (s := S3x2x16x1x12288) (k0_off4 (grid0.coords t)) S1x1x16x1x10112.size (k0_off4_inb (grid0.coords t) h1)) (fun _ => rfl)).squeeze S16x10112 squeezes_S1x1x16x1x10112_S16x10112 = rwin0_0_1 (Ring.sl 3 (t.val + 2)) :=
  congrArg (fun M : Memref sig .tc .vmem S1x1x16x1x10112 .i32 => M.squeeze S16x10112 squeezes_S1x1x16x1x10112_S16x10112) (Memref.slice_unit_congr _ (coff0_0_14 t ) _ _ (fun _ => rfl) (fun _ => rfl))
@[sl_canon] theorem canon0_0_14' (t : Fin grid0.N) (h1 : cond0_1 (grid0.coords t)) :
    (scM0_0.slice (Rect.unit (s := S3x2x16x1x12288) (k0_off4 (grid0.coords t)) ![1, 1, 16, 1, 10112] (k0_off4_inb (grid0.coords t) h1)) (fun _ => rfl)).squeeze S16x10112 squeezes_S1x1x16x1x10112_S16x10112 = rwin0_0_1 (Ring.sl 3 (t.val + 2)) :=
  canon0_0_14 t h1
set_option synthInstance.maxSize 4096 in
theorem coff0_0_15 : ∀ t : Fin grid0.N, cond0_0 (grid0.coords t) → cond0_1 (grid0.coords t) → k0_off5 (grid0.coords t) = ![16 * (Ring.bk 40 (t.val + 2)).val, 1, 0] := by decide +kernel
@[sl_canon] theorem canon0_0_15 (t : Fin grid0.N) (h0 : cond0_0 (grid0.coords t)) (h1 : cond0_1 (grid0.coords t)) :
    (hbM0_0.slice (Rect.unit (s := S640x2x10112) (k0_off5 (grid0.coords t)) S16x1x10112.size (k0_off5_inb (grid0.coords t) h1)) (fun _ => rfl)).squeeze S16x10112 squeezes_S16x1x10112_S16x10112 = srcB0_0_1 (Ring.bk 40 (t.val + 2)) :=
  congrArg (fun M : Memref sig .tc .hbm S16x1x10112 .i32 => M.squeeze S16x10112 squeezes_S16x1x10112_S16x10112) (Memref.slice_unit_congr _ (coff0_0_15 t h0 h1) _ _ (fun _ => rfl) (fun _ => rfl))
@[sl_canon] theorem canon0_0_15' (t : Fin grid0.N) (h0 : cond0_0 (grid0.coords t)) (h1 : cond0_1 (grid0.coords t)) :
    (hbM0_0.slice (Rect.unit (s := S640x2x10112) (k0_off5 (grid0.coords t)) ![16, 1, 10112] (k0_off5_inb (grid0.coords t) h1)) (fun _ => rfl)).squeeze S16x10112 squeezes_S16x1x10112_S16x10112 = srcB0_0_1 (Ring.bk 40 (t.val + 2)) :=
  canon0_0_15 t h0 h1
set_option synthInstance.maxSize 4096 in
theorem coff0_0_16 : ∀ t : Fin grid0.N, k0_off7 (grid0.coords t) = ![(Ring.sl 3 t.val).val, 0, 0, 0, 0] := by decide +kernel
@[sl_canon] theorem canon0_0_16 (t : Fin grid0.N) :
    (scM0_0.slice (Rect.unit (s := S3x2x16x1x12288) (k0_off7 (grid0.coords t)) S1x1x16x1x10112.size (k0_off7_inb (grid0.coords t))) (fun _ => rfl)).squeeze S16x10112 squeezes_S1x1x16x1x10112_S16x10112 = rwin0_0_0 (Ring.sl 3 t.val) :=
  congrArg (fun M : Memref sig .tc .vmem S1x1x16x1x10112 .i32 => M.squeeze S16x10112 squeezes_S1x1x16x1x10112_S16x10112) (Memref.slice_unit_congr _ (coff0_0_16 t ) _ _ (fun _ => rfl) (fun _ => rfl))
@[sl_canon] theorem canon0_0_16' (t : Fin grid0.N) :
    (scM0_0.slice (Rect.unit (s := S3x2x16x1x12288) (k0_off7 (grid0.coords t)) ![1, 1, 16, 1, 10112] (k0_off7_inb (grid0.coords t))) (fun _ => rfl)).squeeze S16x10112 squeezes_S1x1x16x1x10112_S16x10112 = rwin0_0_0 (Ring.sl 3 t.val) :=
  canon0_0_16 t
set_option synthInstance.maxSize 4096 in
theorem coff0_0_17 : ∀ t : Fin grid0.N, k0_off6 (grid0.coords t) = ![(Ring.sl 3 t.val).val] := by decide +kernel
@[sl_canon] theorem canon0_0_17 (t : Fin grid0.N) :
    (cc0_scratch2.slice (Rect.unit (s := S3) (k0_off6 (grid0.coords t)) S1.size (k0_off6_inb (grid0.coords t)))).squeeze S_ squeezes_S1_S_ = cellA0_0 (Ring.sl 3 t.val) :=
  congrArg (fun A : DmaSems sig S1 => A.squeeze S_ squeezes_S1_S_) (SemArray.slice_unit_congr _ (coff0_0_17 t ) _ _)
@[sl_canon] theorem canon0_0_17' (t : Fin grid0.N) :
    (cc0_scratch2.slice (Rect.unit (s := S3) (k0_off6 (grid0.coords t)) ![1] (k0_off6_inb (grid0.coords t)))).squeeze S_ squeezes_S1_S_ = cellA0_0 (Ring.sl 3 t.val) :=
  canon0_0_17 t
set_option synthInstance.maxSize 4096 in
theorem coff0_0_18 : ∀ t : Fin grid0.N, k0_off9 (grid0.coords t) = ![(Ring.sl 3 t.val).val, 1, 0, 0, 0] := by decide +kernel
@[sl_canon] theorem canon0_0_18 (t : Fin grid0.N) :
    (scM0_0.slice (Rect.unit (s := S3x2x16x1x12288) (k0_off9 (grid0.coords t)) S1x1x16x1x10112.size (k0_off9_inb (grid0.coords t))) (fun _ => rfl)).squeeze S16x10112 squeezes_S1x1x16x1x10112_S16x10112 = rwin0_0_1 (Ring.sl 3 t.val) :=
  congrArg (fun M : Memref sig .tc .vmem S1x1x16x1x10112 .i32 => M.squeeze S16x10112 squeezes_S1x1x16x1x10112_S16x10112) (Memref.slice_unit_congr _ (coff0_0_18 t ) _ _ (fun _ => rfl) (fun _ => rfl))
@[sl_canon] theorem canon0_0_18' (t : Fin grid0.N) :
    (scM0_0.slice (Rect.unit (s := S3x2x16x1x12288) (k0_off9 (grid0.coords t)) ![1, 1, 16, 1, 10112] (k0_off9_inb (grid0.coords t))) (fun _ => rfl)).squeeze S16x10112 squeezes_S1x1x16x1x10112_S16x10112 = rwin0_0_1 (Ring.sl 3 t.val) :=
  canon0_0_18 t
set_option synthInstance.maxSize 4096 in
theorem coff0_0_21 : ∀ t : Fin grid0.N, ¬cond0_0 (grid0.coords t) → cond0_1 (grid0.coords t) → k0_off3 (grid0.coords t) = ![16 * (Ring.bk 40 (t.val + 2)).val, 0, 0] := by decide +kernel
@[sl_canon] theorem canon0_0_21 (t : Fin grid0.N) (h0 : ¬cond0_0 (grid0.coords t)) (h1 : cond0_1 (grid0.coords t)) :
    (hbM0_0.slice (Rect.unit (s := S640x2x10112) (k0_off3 (grid0.coords t)) S16x1x10112.size (k0_off3_inb (grid0.coords t) h1)) (fun _ => rfl)).squeeze S16x10112 squeezes_S16x1x10112_S16x10112 = srcB0_0_0 (Ring.bk 40 (t.val + 2)) :=
  congrArg (fun M : Memref sig .tc .hbm S16x1x10112 .i32 => M.squeeze S16x10112 squeezes_S16x1x10112_S16x10112) (Memref.slice_unit_congr _ (coff0_0_21 t h0 h1) _ _ (fun _ => rfl) (fun _ => rfl))
@[sl_canon] theorem canon0_0_21' (t : Fin grid0.N) (h0 : ¬cond0_0 (grid0.coords t)) (h1 : cond0_1 (grid0.coords t)) :
    (hbM0_0.slice (Rect.unit (s := S640x2x10112) (k0_off3 (grid0.coords t)) ![16, 1, 10112] (k0_off3_inb (grid0.coords t) h1)) (fun _ => rfl)).squeeze S16x10112 squeezes_S16x1x10112_S16x10112 = srcB0_0_0 (Ring.bk 40 (t.val + 2)) :=
  canon0_0_21 t h0 h1
set_option synthInstance.maxSize 4096 in
theorem coff0_0_22 : ∀ t : Fin grid0.N, ¬cond0_0 (grid0.coords t) → cond0_1 (grid0.coords t) → k0_off5 (grid0.coords t) = ![16 * (Ring.bk 40 (t.val + 2)).val, 1, 0] := by decide +kernel
@[sl_canon] theorem canon0_0_22 (t : Fin grid0.N) (h0 : ¬cond0_0 (grid0.coords t)) (h1 : cond0_1 (grid0.coords t)) :
    (hbM0_0.slice (Rect.unit (s := S640x2x10112) (k0_off5 (grid0.coords t)) S16x1x10112.size (k0_off5_inb (grid0.coords t) h1)) (fun _ => rfl)).squeeze S16x10112 squeezes_S16x1x10112_S16x10112 = srcB0_0_1 (Ring.bk 40 (t.val + 2)) :=
  congrArg (fun M : Memref sig .tc .hbm S16x1x10112 .i32 => M.squeeze S16x10112 squeezes_S16x1x10112_S16x10112) (Memref.slice_unit_congr _ (coff0_0_22 t h0 h1) _ _ (fun _ => rfl) (fun _ => rfl))
@[sl_canon] theorem canon0_0_22' (t : Fin grid0.N) (h0 : ¬cond0_0 (grid0.coords t)) (h1 : cond0_1 (grid0.coords t)) :
    (hbM0_0.slice (Rect.unit (s := S640x2x10112) (k0_off5 (grid0.coords t)) ![16, 1, 10112] (k0_off5_inb (grid0.coords t) h1)) (fun _ => rfl)).squeeze S16x10112 squeezes_S16x1x10112_S16x10112 = srcB0_0_1 (Ring.bk 40 (t.val + 2)) :=
  canon0_0_22 t h0 h1
end Canon0_0

end Cert.Distances.Gen

end
-- ==== Proof.Rows.lean ====
/-  One trip of the row loop of the distance kernel: the row's length and query words read from the two tables, twenty
    slabs of 1024 signature words read from the scratch buffer, three packed slabs and one slab of minima stored. The
    scratch buffer is held only on a set of elements that includes what the trip reads, since copies into the rest of
    it are in flight meanwhile. -/
module

public import proofs.«01_k».proof.Proof.Gen.Distances.Skeleton
public import proofs.«01_k».proof.Proof.Gen.Distances.Launch
public import Idealize.ShloMosaic.Lib.Exec
public import Idealize.ShloMosaic.Lib.Tactic
public import Idealize.ShloMosaic.Lib.Pipeline.FrameBody

@[expose] public section

set_option maxRecDepth 8192
set_option maxHeartbeats 4000000

noncomputable section

namespace Cert.Distances.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What a trip holds: the tables (one half of them), the scratch buffer off `S`, the two output windows. -/
abbrev Trip (c : Dev nD) (arg1 : Memref sig .tc .smem S640 .i32) (arg2 : Memref sig .tc .smem S2x640 .i32) (arg6 : Memref sig .tc .vmem S3x2x16x1x12288 .i32) (arg4 : Memref sig .tc .vmem S16x1x3072 .i32) (arg5 : Memref sig .tc .vmem S16x1x1024 .i32) (X1 : BufTy.Contents (Elt F) arg1.view.ty) (X2 : BufTy.Contents (Elt F) arg2.view.ty) (S : Finset (Idx (arg6.view.loc (c : Thread nD τ)))) (X6 : Buf (Elt F) (arg6.view.loc (c : Thread nD τ))) (f4 : BufTy.Contents (Elt F) arg4.view.ty) (f5 : BufTy.Contents (Elt F) arg5.view.ty) : sProp 𝕄 :=
  iprop((arg1.view.loc (c : Thread nD τ) ↦[arg1.view.set]{fullShare.right} X1) ∗ (arg2.view.loc (c : Thread nD τ) ↦[arg2.view.set]{fullShare.right} X2) ∗ (arg6.view.loc (c : Thread nD τ) ↦[Finset.univ \ S]{fullShare} X6) ∗ (arg4.view.loc (c : Thread nD τ) ↦[arg4.view.set]{fullShare} f4) ∗ (arg5.view.loc (c : Thread nD τ) ↦[arg5.view.set]{fullShare} f5))

def trip (𝒱 : Variants) (c : Dev nD) (bd : Option 𝒱.V) (i : grid0.Coords) (arg1 : Memref sig .tc .smem S640 .i32) (harg1 : arg1.IsWhole) (arg2 : Memref sig .tc .smem S2x640 .i32) (harg2 : arg2.IsWhole) (arg3 : Memref sig .tc .hbm S640x2x10112 .i32) (harg3 : arg3.IsWhole) (arg4 : Memref sig .tc .vmem S16x1x3072 .i32) (harg4 : arg4.IsWhole) (arg5 : Memref sig .tc .vmem S16x1x1024 .i32) (harg5 : arg5.IsWhole) (arg6 : Memref sig .tc .vmem S3x2x16x1x12288 .i32) (harg6 : arg6.IsWhole) (arg7 : Memref sig .tc .vmem S1x1024 .i32) (harg7 : arg7.IsWhole) (arg8 : DmaSems sig S3) (arg0 : BitVec 32) (v50 : BitVec 32) (v51 : Vec F S1x1024 .i32)
    (X1 : BufTy.Contents (Elt F) arg1.view.ty) (X2 : BufTy.Contents (Elt F) arg2.view.ty) (S : Finset (Idx (arg6.view.loc (c : Thread nD τ)))) (X6 : Buf (Elt F) (arg6.view.loc (c : Thread nD τ))) (k : Fin k0_t1_loop.trips)
    (h14 : Disjoint (arg6.view.setOn (Rect.unit (s := S3x2x16x1x12288) (k0_off14 i k) S1x1x1x1x1024.size (k0_off14_inb i k)).toLoadRect.set) S)
    (h15 : Disjoint (arg6.view.setOn (Rect.unit (s := S3x2x16x1x12288) (k0_off15 i k) S1x1x1x1x1024.size (k0_off15_inb i k)).toLoadRect.set) S)
    (h16 : Disjoint (arg6.view.setOn (Rect.unit (s := S3x2x16x1x12288) (k0_off16 i k) S1x1x1x1x1024.size (k0_off16_inb i k)).toLoadRect.set) S)
    (h17 : Disjoint (arg6.view.setOn (Rect.unit (s := S3x2x16x1x12288) (k0_off17 i k) S1x1x1x1x1024.size (k0_off17_inb i k)).toLoadRect.set) S)
    (h18 : Disjoint (arg6.view.setOn (Rect.unit (s := S3x2x16x1x12288) (k0_off18 i k) S1x1x1x1x1024.size (k0_off18_inb i k)).toLoadRect.set) S)
    (h19 : Disjoint (arg6.view.setOn (Rect.unit (s := S3x2x16x1x12288) (k0_off19 i k) S1x1x1x1x1024.size (k0_off19_inb i k)).toLoadRect.set) S)
    (h20 : Disjoint (arg6.view.setOn (Rect.unit (s := S3x2x16x1x12288) (k0_off20 i k) S1x1x1x1x1024.size (k0_off20_inb i k)).toLoadRect.set) S)
    (h21 : Disjoint (arg6.view.setOn (Rect.unit (s := S3x2x16x1x12288) (k0_off21 i k) S1x1x1x1x1024.size (k0_off21_inb i k)).toLoadRect.set) S)
    (h23 : Disjoint (arg6.view.setOn (Rect.unit (s := S3x2x16x1x12288) (k0_off23 i k) S1x1x1x1x1024.size (k0_off23_inb i k)).toLoadRect.set) S)
    (h24 : Disjoint (arg6.view.setOn (Rect.unit (s := S3x2x16x1x12288) (k0_off24 i k) S1x1x1x1x1024.size (k0_off24_inb i k)).toLoadRect.set) S)
    (h25 : Disjoint (arg6.view.setOn (Rect.unit (s := S3x2x16x1x12288) (k0_off25 i k) S1x1x1x1x1024.size (k0_off25_inb i k)).toLoadRect.set) S)
    (h26 : Disjoint (arg6.view.setOn (Rect.unit (s := S3x2x16x1x12288) (k0_off26 i k) S1x1x1x1x1024.size (k0_off26_inb i k)).toLoadRect.set) S)
    (h27 : Disjoint (arg6.view.setOn (Rect.unit (s := S3x2x16x1x12288) (k0_off27 i k) S1x1x1x1x1024.size (k0_off27_inb i k)).toLoadRect.set) S)
    (h28 : Disjoint (arg6.view.setOn (Rect.unit (s := S3x2x16x1x12288) (k0_off28 i k) S1x1x1x1x1024.size (k0_off28_inb i k)).toLoadRect.set) S)
    (h29 : Disjoint (arg6.view.setOn (Rect.unit (s := S3x2x16x1x12288) (k0_off29 i k) S1x1x1x1x1024.size (k0_off29_inb i k)).toLoadRect.set) S)
    (h30 : Disjoint (arg6.view.setOn (Rect.unit (s := S3x2x16x1x12288) (k0_off30 i k) S1x1x1x1x1024.size (k0_off30_inb i k)).toLoadRect.set) S)
    (h32 : Disjoint (arg6.view.setOn (Rect.unit (s := S3x2x16x1x12288) (k0_off32 i k) S1x1x1x1x1024.size (k0_off32_inb i k)).toLoadRect.set) S)
    (h33 : Disjoint (arg6.view.setOn (Rect.unit (s := S3x2x16x1x12288) (k0_off33 i k) S1x1x1x1x1024.size (k0_off33_inb i k)).toLoadRect.set) S)
    (h34 : Disjoint (arg6.view.setOn (Rect.unit (s := S3x2x16x1x12288) (k0_off34 i k) S1x1x1x1x1024.size (k0_off34_inb i k)).toLoadRect.set) S)
    (h35 : Disjoint (arg6.view.setOn (Rect.unit (s := S3x2x16x1x12288) (k0_off35 i k) S1x1x1x1x1024.size (k0_off35_inb i k)).toLoadRect.set) S)
    : Σ' (L4 : List (View.Piece (Elt F) S16x1x3072 .i32)) , { L5 : List (View.Piece (Elt F) S16x1x1024 .i32) // ∀ (E : Set ℕ) (f4 : BufTy.Contents (Elt F) arg4.view.ty) (f5 : BufTy.Contents (Elt F) arg5.view.ty),
      Trip (F := F) c arg1 arg2 arg6 arg4 arg5 X1 X2 S X6 f4 f5
      ⊢ wp frame (wpE (defs₀ (F := F)) 𝒱 (c : Thread nD τ) bd) E (k0_t1_body (F := F) i arg1 harg1 arg2 harg2 arg3 harg3 arg4 harg4 arg5 harg5 arg6 harg6 arg7 harg7 arg8 arg0 v50 v51 k PUnit.unit)
          (fun _ => Trip (F := F) c arg1 arg2 arg6 arg4 arg5 X1 X2 S X6 (arg4.view.writes (Elt F) f4 L4) (arg5.view.writes (Elt F) f5 L5)) } := by
  have hk : k.val < 16 := Nat.lt_of_lt_of_le k.isLt k0_t1_abs.2.1
  refine ⟨?_, ?_, fun E f4 f5 => ?run⟩
  case run =>
    unfold k0_t1_body
    iintro ⟨HR1, HR2, HR6, HW4, HW5⟩
    sl_exec
    sl_step
    sl_close

end Cert.Distances.Gen

end
-- ==== Proof.Loop.lean ====
/-  The row loop of the distance kernel, sixteen trips, by its invariant: before trip `k` the rows before `k` of both output
    windows hold what their trips computed; the tables and the scratch buffer (held off the slots that are being filled)
    stay as they are. -/
module

public import proofs.«01_k».proof.Proof.Ring
public import proofs.«01_k».proof.Proof.Rows
public import Idealize.ShloMosaic.Lib.WritesUnit
public import Idealize.ShloMosaic.Lib.Exec
public import Idealize.ShloMosaic.Lib.Pointwise.Index

@[expose] public section

set_option maxRecDepth 8192
set_option maxHeartbeats 4000000

noncomputable section

namespace Cert.Distances.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The elements of every slot but `s`: what copies may be filling while slot `s` is in use. -/
def othersSet (s : Fin 3) : Finset S3x2x16x1x12288.Idx := (Finset.univ.filter fun j : Fin 3 × Fin 2 => j.1 ≠ s).biUnion winSet0_0

/-- An element of another slot has another first coordinate. -/
theorem ne_of_mem_othersSet {s : Fin 3} {x : S3x2x16x1x12288.Idx} (h : x ∈ othersSet s) : (x 0).val ≠ s.val := by
  unfold othersSet at h
  rw [Finset.mem_biUnion] at h
  obtain ⟨j, hj, hx⟩ := h
  rw [Finset.mem_filter] at hj
  have h0 := (Rect.mem_set_unit.mp hx) 0
  have e1 : winOff0_0 j 0 = j.1.val := rfl
  have e2 : S1x1x16x1x10112.size 0 = 1 := rfl
  rw [e1, e2] at h0
  intro hs
  exact hj.2 (Fin.ext (by omega))

/-- A slab of slot `s` meets no other slot. -/
theorem slab_others (s : Fin 3) (off : Fin 5 → Nat) (inb : ∀ a, off a + S1x1x1x1x1024.size a ≤ S3x2x16x1x12288.size a) (h0 : off 0 = s.val) :
    Disjoint (scM0_0.view.setOn (Rect.unit (s := S3x2x16x1x12288) off S1x1x1x1x1024.size inb).toLoadRect.set) (othersSet s) := by
  rw [Finset.disjoint_left]
  intro x hx hs
  have hx' : x ∈ (Rect.unit (s := S3x2x16x1x12288) off S1x1x1x1x1024.size inb).set := by
    obtain ⟨y, hy, rfl⟩ := Finset.mem_map.mp hx
    exact hy
  have hb := (Rect.mem_set_unit.mp hx') 0
  have e2 : S1x1x1x1x1024.size 0 = 1 := rfl
  rw [e2, h0] at hb
  exact ne_of_mem_othersSet hs (by omega)

theorem off14_eq : ∀ (t : Fin grid0.N) (k : Fin k0_t1_loop.trips), k0_off14 (grid0.coords t) k = ![(Ring.sl 3 t.val).val, 0, k.val, 0, 0] := by decide +kernel
theorem off15_eq : ∀ (t : Fin grid0.N) (k : Fin k0_t1_loop.trips), k0_off15 (grid0.coords t) k = ![(Ring.sl 3 t.val).val, 1, k.val, 0, 0] := by decide +kernel
theorem off16_eq : ∀ (t : Fin grid0.N) (k : Fin k0_t1_loop.trips), k0_off16 (grid0.coords t) k = ![(Ring.sl 3 t.val).val, 0, k.val, 0, 1024] := by decide +kernel
theorem off17_eq : ∀ (t : Fin grid0.N) (k : Fin k0_t1_loop.trips), k0_off17 (grid0.coords t) k = ![(Ring.sl 3 t.val).val, 1, k.val, 0, 1024] := by decide +kernel
theorem off18_eq : ∀ (t : Fin grid0.N) (k : Fin k0_t1_loop.trips), k0_off18 (grid0.coords t) k = ![(Ring.sl 3 t.val).val, 0, k.val, 0, 2048] := by decide +kernel
theorem off19_eq : ∀ (t : Fin grid0.N) (k : Fin k0_t1_loop.trips), k0_off19 (grid0.coords t) k = ![(Ring.sl 3 t.val).val, 1, k.val, 0, 2048] := by decide +kernel
theorem off20_eq : ∀ (t : Fin grid0.N) (k : Fin k0_t1_loop.trips), k0_off20 (grid0.coords t) k = ![(Ring.sl 3 t.val).val, 0, k.val, 0, 3072] := by decide +kernel
theorem off21_eq : ∀ (t : Fin grid0.N) (k : Fin k0_t1_loop.trips), k0_off21 (grid0.coords t) k = ![(Ring.sl 3 t.val).val, 1, k.val, 0, 3072] := by decide +kernel
theorem off23_eq : ∀ (t : Fin grid0.N) (k : Fin k0_t1_loop.trips), k0_off23 (grid0.coords t) k = ![(Ring.sl 3 t.val).val, 0, k.val, 0, 4096] := by decide +kernel
theorem off24_eq : ∀ (t : Fin grid0.N) (k : Fin k0_t1_loop.trips), k0_off24 (grid0.coords t) k = ![(Ring.sl 3 t.val).val, 1, k.val, 0, 4096] := by decide +kernel
theorem off25_eq : ∀ (t : Fin grid0.N) (k : Fin k0_t1_loop.trips), k0_off25 (grid0.coords t) k = ![(Ring.sl 3 t.val).val, 0, k.val, 0, 5120] := by decide +kernel
theorem off26_eq : ∀ (t : Fin grid0.N) (k : Fin k0_t1_loop.trips), k0_off26 (grid0.coords t) k = ![(Ring.sl 3 t.val).val, 1, k.val, 0, 5120] := by decide +kernel
theorem off27_eq : ∀ (t : Fin grid0.N) (k : Fin k0_t1_loop.trips), k0_off27 (grid0.coords t) k = ![(Ring.sl 3 t.val).val, 0, k.val, 0, 6144] := by decide +kernel
theorem off28_eq : ∀ (t : Fin grid0.N) (k : Fin k0_t1_loop.trips), k0_off28 (grid0.coords t) k = ![(Ring.sl 3 t.val).val, 1, k.val, 0, 6144] := by decide +kernel
theorem off29_eq : ∀ (t : Fin grid0.N) (k : Fin k0_t1_loop.trips), k0_off29 (grid0.coords t) k = ![(Ring.sl 3 t.val).val, 0, k.val, 0, 7168] := by decide +kernel
theorem off30_eq : ∀ (t : Fin grid0.N) (k : Fin k0_t1_loop.trips), k0_off30 (grid0.coords t) k = ![(Ring.sl 3 t.val).val, 1, k.val, 0, 7168] := by decide +kernel
theorem off32_eq : ∀ (t : Fin grid0.N) (k : Fin k0_t1_loop.trips), k0_off32 (grid0.coords t) k = ![(Ring.sl 3 t.val).val, 0, k.val, 0, 8192] := by decide +kernel
theorem off33_eq : ∀ (t : Fin grid0.N) (k : Fin k0_t1_loop.trips), k0_off33 (grid0.coords t) k = ![(Ring.sl 3 t.val).val, 1, k.val, 0, 8192] := by decide +kernel
theorem off34_eq : ∀ (t : Fin grid0.N) (k : Fin k0_t1_loop.trips), k0_off34 (grid0.coords t) k = ![(Ring.sl 3 t.val).val, 0, k.val, 0, 9216] := by decide +kernel
theorem off35_eq : ∀ (t : Fin grid0.N) (k : Fin k0_t1_loop.trips), k0_off35 (grid0.coords t) k = ![(Ring.sl 3 t.val).val, 1, k.val, 0, 9216] := by decide +kernel
theorem off11_eq : ∀ (t : Fin grid0.N) (k : Fin k0_t1_loop.trips), k0_off11 (grid0.coords t) k = ![16 * t.val + k.val] := by decide +kernel
theorem off12_eq : ∀ (t : Fin grid0.N) (k : Fin k0_t1_loop.trips), k0_off12 (grid0.coords t) k = ![0, 16 * t.val + k.val] := by decide +kernel
theorem off13_eq : ∀ (t : Fin grid0.N) (k : Fin k0_t1_loop.trips), k0_off13 (grid0.coords t) k = ![1, 16 * t.val + k.val] := by decide +kernel
theorem off22_eq : ∀ k : Fin k0_t1_loop.trips, k0_off22 k = ![k.val, 0, 0] := by decide +kernel
theorem off31_eq : ∀ k : Fin k0_t1_loop.trips, k0_off31 k = ![k.val, 0, 1024] := by decide +kernel
theorem off36_eq : ∀ k : Fin k0_t1_loop.trips, k0_off36 k = ![k.val, 0, 2048] := by decide +kernel
theorem off37_eq : ∀ k : Fin k0_t1_loop.trips, k0_off37 k = ![k.val, 0, 0] := by decide +kernel
theorem trips_eq : k0_t1_loop.trips = 16 := by decide +kernel

section Rows
variable (c : Dev nD) (t : Fin grid0.N) (arg4 : Memref sig .tc .vmem S16x1x3072 .i32) (harg4 : arg4.IsWhole) (arg5 : Memref sig .tc .vmem S16x1x1024 .i32) (harg5 : arg5.IsWhole) (arg7 : Memref sig .tc .vmem S1x1024 .i32) (harg7 : arg7.IsWhole) (arg0 v50 : BitVec 32) (v51 : Vec F S1x1024 .i32)
  (X1 : BufTy.Contents (Elt F) tbM0_0.view.ty) (X2 : BufTy.Contents (Elt F) tbM0_1.view.ty) (X6 : Buf (Elt F) (scM0_0.view.loc (c : Thread nD τ)))

/-- One trip at grid point `t`, the scratch buffer held off the other slots. -/
abbrev rowTrip (k : Fin k0_t1_loop.trips) :=
  trip (F := F) Variants.none c none (grid0.coords t) tbM0_0 htbM0_0 tbM0_1 htbM0_1 (Memref.whole main_arg2) (Memref.isWhole_whole _) arg4 harg4 arg5 harg5 scM0_0 (Memref.isWhole_whole _) arg7 harg7 cc0_scratch2 arg0 v50 v51 X1 X2 (othersSet (Ring.sl 3 t.val)) X6 k
    (slab_others (Ring.sl 3 t.val) _ (k0_off14_inb (grid0.coords t) k) (by rw [off14_eq]; rfl))
    (slab_others (Ring.sl 3 t.val) _ (k0_off15_inb (grid0.coords t) k) (by rw [off15_eq]; rfl))
    (slab_others (Ring.sl 3 t.val) _ (k0_off16_inb (grid0.coords t) k) (by rw [off16_eq]; rfl))
    (slab_others (Ring.sl 3 t.val) _ (k0_off17_inb (grid0.coords t) k) (by rw [off17_eq]; rfl))
    (slab_others (Ring.sl 3 t.val) _ (k0_off18_inb (grid0.coords t) k) (by rw [off18_eq]; rfl))
    (slab_others (Ring.sl 3 t.val) _ (k0_off19_inb (grid0.coords t) k) (by rw [off19_eq]; rfl))
    (slab_others (Ring.sl 3 t.val) _ (k0_off20_inb (grid0.coords t) k) (by rw [off20_eq]; rfl))
    (slab_others (Ring.sl 3 t.val) _ (k0_off21_inb (grid0.coords t) k) (by rw [off21_eq]; rfl))
    (slab_others (Ring.sl 3 t.val) _ (k0_off23_inb (grid0.coords t) k) (by rw [off23_eq]; rfl))
    (slab_others (Ring.sl 3 t.val) _ (k0_off24_inb (grid0.coords t) k) (by rw [off24_eq]; rfl))
    (slab_others (Ring.sl 3 t.val) _ (k0_off25_inb (grid0.coords t) k) (by rw [off25_eq]; rfl))
    (slab_others (Ring.sl 3 t.val) _ (k0_off26_inb (grid0.coords t) k) (by rw [off26_eq]; rfl))
    (slab_others (Ring.sl 3 t.val) _ (k0_off27_inb (grid0.coords t) k) (by rw [off27_eq]; rfl))
    (slab_others (Ring.sl 3 t.val) _ (k0_off28_inb (grid0.coords t) k) (by rw [off28_eq]; rfl))
    (slab_others (Ring.sl 3 t.val) _ (k0_off29_inb (grid0.coords t) k) (by rw [off29_eq]; rfl))
    (slab_others (Ring.sl 3 t.val) _ (k0_off30_inb (grid0.coords t) k) (by rw [off30_eq]; rfl))
    (slab_others (Ring.sl 3 t.val) _ (k0_off32_inb (grid0.coords t) k) (by rw [off32_eq]; rfl))
    (slab_others (Ring.sl 3 t.val) _ (k0_off33_inb (grid0.coords t) k) (by rw [off33_eq]; rfl))
    (slab_others (Ring.sl 3 t.val) _ (k0_off34_inb (grid0.coords t) k) (by rw [off34_eq]; rfl))
    (slab_others (Ring.sl 3 t.val) _ (k0_off35_inb (grid0.coords t) k) (by rw [off35_eq]; rfl))

/-- What trip `k` stores in row `k` of the packed window, lane by lane: three slabs of 1024 words. -/
def packRow (k : Fin k0_t1_loop.trips) (col : Fin 3072) : BitVec 32 :=
  if h0 : col.val < 1024 then trip.sl.v162 c (grid0.coords t) tbM0_0 tbM0_1 scM0_0 v51 X1 X2 X6 k (ix3 0 0 ⟨col.val, h0⟩)
  else if h1 : col.val < 2048 then trip.sl.v263 c (grid0.coords t) tbM0_0 tbM0_1 scM0_0 v51 X1 X2 X6 k (ix3 0 0 ⟨col.val - 1024, by omega⟩)
  else k0_pay1 (trip.sl.v288 c (grid0.coords t) tbM0_0 tbM0_1 scM0_0 v51 X1 X2 X6 k) (trip.sl.v308 c (grid0.coords t) tbM0_0 tbM0_1 scM0_0 v51 X1 X2 X6 k) (ix3 0 0 ⟨col.val - 2048, by omega⟩)

/-- What trip `k` stores in row `k` of the window of minima. -/
def leastRow (k : Fin k0_t1_loop.trips) (col : Fin 1024) : BitVec 32 :=
  k0_pay2 (trip.sl.v309 c (grid0.coords t) tbM0_0 tbM0_1 scM0_0 v51 X1 X2 X6 k) (ix3 0 0 col)

theorem read_pack_same (k : Fin k0_t1_loop.trips) (f4 : BufTy.Contents (Elt F) arg4.view.ty) (r : Fin 16) (hr : r.val = k.val) (col : Fin 3072) :
    arg4.view.read (Elt F) (arg4.view.writes (Elt F) f4 (rowTrip (F := F) c t arg4 harg4 arg5 harg5 arg7 harg7 arg0 v50 v51 X1 X2 X6 k).1) (ix3 r 0 col) = packRow c t v51 X1 X2 X6 k col := by
  unfold rowTrip trip packRow
  dsimp only
  by_cases h0 : col.val < 1024
  · rw [dif_pos h0,
      View.read_writes_cons_unit_of_not_mem _ _ _ _ _ _ (off36_eq k) 2 (Or.inl (by show col.val < 2048; omega)),
      View.read_writes_cons_unit_of_not_mem _ _ _ _ _ _ (off31_eq k) 2 (Or.inl (by show col.val < 1024; omega)),
      View.read_writes_cons_unit_of_mem _ _ _ _ _ _ (ix3 0 0 ⟨col.val, h0⟩) (off22_eq k)]
    intro a; fin_cases a
    · show r.val = k.val + 0; omega
    · rfl
    · show col.val = 0 + col.val; omega
  · rw [dif_neg h0]
    by_cases h1 : col.val < 2048
    · rw [dif_pos h1,
        View.read_writes_cons_unit_of_not_mem _ _ _ _ _ _ (off36_eq k) 2 (Or.inl (by show col.val < 2048; omega)),
        View.read_writes_cons_unit_of_mem _ _ _ _ _ _ (ix3 0 0 ⟨col.val - 1024, by omega⟩) (off31_eq k)]
      intro a; fin_cases a
      · show r.val = k.val + 0; omega
      · rfl
      · show col.val = 1024 + (col.val - 1024); omega
    · rw [dif_neg h1,
        View.read_writes_cons_unit_of_mem _ _ _ _ _ _ (ix3 0 0 ⟨col.val - 2048, by omega⟩) (off36_eq k)]
      intro a; fin_cases a
      · show r.val = k.val + 0; omega
      · rfl
      · show col.val = 2048 + (col.val - 2048); omega

theorem read_pack_other (k : Fin k0_t1_loop.trips) (f4 : BufTy.Contents (Elt F) arg4.view.ty) (r : Fin 16) (hr : r.val < k.val) (col : Fin 3072) :
    arg4.view.read (Elt F) (arg4.view.writes (Elt F) f4 (rowTrip (F := F) c t arg4 harg4 arg5 harg5 arg7 harg7 arg0 v50 v51 X1 X2 X6 k).1) (ix3 r 0 col) = arg4.view.read (Elt F) f4 (ix3 r 0 col) := by
  unfold rowTrip trip
  dsimp only
  rw [View.read_writes_cons_unit_of_not_mem _ _ _ _ _ _ (off36_eq k) 0 (Or.inl hr),
      View.read_writes_cons_unit_of_not_mem _ _ _ _ _ _ (off31_eq k) 0 (Or.inl hr),
      View.read_writes_cons_unit_of_not_mem _ _ _ _ _ _ (off22_eq k) 0 (Or.inl hr)]
  rfl

theorem read_least_same (k : Fin k0_t1_loop.trips) (f5 : BufTy.Contents (Elt F) arg5.view.ty) (r : Fin 16) (hr : r.val = k.val) (col : Fin 1024) :
    arg5.view.read (Elt F) (arg5.view.writes (Elt F) f5 (rowTrip (F := F) c t arg4 harg4 arg5 harg5 arg7 harg7 arg0 v50 v51 X1 X2 X6 k).2.1) (ix3 r 0 col) = leastRow c t v51 X1 X2 X6 k col := by
  unfold rowTrip trip leastRow
  dsimp only
  rw [View.read_writes_cons_unit_of_mem _ _ _ _ _ _ (ix3 0 0 col) (off37_eq k)]
  intro a; fin_cases a
  · show r.val = k.val + 0; omega
  · rfl
  · show col.val = 0 + col.val; omega

theorem read_least_other (k : Fin k0_t1_loop.trips) (f5 : BufTy.Contents (Elt F) arg5.view.ty) (r : Fin 16) (hr : r.val < k.val) (col : Fin 1024) :
    arg5.view.read (Elt F) (arg5.view.writes (Elt F) f5 (rowTrip (F := F) c t arg4 harg4 arg5 harg5 arg7 harg7 arg0 v50 v51 X1 X2 X6 k).2.1) (ix3 r 0 col) = arg5.view.read (Elt F) f5 (ix3 r 0 col) := by
  unfold rowTrip trip
  dsimp only
  rw [View.read_writes_cons_unit_of_not_mem _ _ _ _ _ _ (off37_eq k) 0 (Or.inl hr)]
  rfl

/-- The rows before `k` hold what their trips stored. -/
def PackDone (k : ℕ) (f4 : BufTy.Contents (Elt F) arg4.view.ty) : Prop :=
  ∀ (r : Fin 16) (j : Fin k0_t1_loop.trips), r.val = j.val → j.val < k → ∀ col : Fin 3072, arg4.view.read (Elt F) f4 (ix3 r 0 col) = packRow c t v51 X1 X2 X6 j col
def LeastDone (k : ℕ) (f5 : BufTy.Contents (Elt F) arg5.view.ty) : Prop :=
  ∀ (r : Fin 16) (j : Fin k0_t1_loop.trips), r.val = j.val → j.val < k → ∀ col : Fin 1024, arg5.view.read (Elt F) f5 (ix3 r 0 col) = leastRow c t v51 X1 X2 X6 j col

/-- The loop's invariant before trip `k`. -/
def rowsInv (k : ℕ) : sProp 𝕄 :=
  iprop((tbM0_0.view.loc (c : Thread nD τ) ↦[tbM0_0.view.set]{fullShare.right} X1) ∗ (tbM0_1.view.loc (c : Thread nD τ) ↦[tbM0_1.view.set]{fullShare.right} X2)
    ∗ (scM0_0.view.loc (c : Thread nD τ) ↦[Finset.univ \ othersSet (Ring.sl 3 t.val)]{fullShare} X6)
    ∗ (∃ f4, ⌜PackDone c t arg4 v51 X1 X2 X6 k f4⌝ ∗ (arg4.view.loc (c : Thread nD τ) ↦[arg4.view.set]{fullShare} f4))
    ∗ (∃ f5, ⌜LeastDone c t arg5 v51 X1 X2 X6 k f5⌝ ∗ (arg5.view.loc (c : Thread nD τ) ↦[arg5.view.set]{fullShare} f5)))

set_option warn.classDefReducibility false in
/-- The loop by that invariant. -/
def rowLoop : Idealize.ShloMosaic.LoopInv (M := 𝕄) Idealize.ShloMosaic.frame (wpE (defs₀ (F := F)) Variants.none (c : Thread nD τ) none) Set.univ
    k0_t1_loop.lb k0_t1_loop.ub k0_t1_loop.st k0_t1_ok () (k0_t1_body (F := F) (grid0.coords t) tbM0_0 htbM0_0 tbM0_1 htbM0_1 (Memref.whole main_arg2) (Memref.isWhole_whole _) arg4 harg4 arg5 harg5 scM0_0 (Memref.isWhole_whole _) arg7 harg7 cc0_scratch2 arg0 v50 v51) where
  inv k _ := rowsInv c t arg4 arg5 v51 X1 X2 X6 k
  step k acc := by
    unfold rowsInv
    iintro ⟨H1, H2, H6, ⟨%f4, %h4, H4⟩, ⟨%f5, %h5, H5⟩⟩
    iapply (wp_wand_r Idealize.ShloMosaic.frame (wpE (defs₀ (F := F)) Variants.none (c : Thread nD τ) none) Set.univ)
    isplitl [H1 H2 H6 H4 H5]
    · iapply ((rowTrip (F := F) c t arg4 harg4 arg5 harg5 arg7 harg7 arg0 v50 v51 X1 X2 X6 k).2.2 Set.univ f4 f5)
      isplitl [H1]; · iexact H1
      isplitl [H2]; · iexact H2
      isplitl [H6]; · iexact H6
      isplitl [H4]; · iexact H4
      iexact H5
    · iintro %_ ⟨H1, H2, H6, H4, H5⟩
      isplitl [H1]; · iexact H1
      isplitl [H2]; · iexact H2
      isplitl [H6]; · iexact H6
      isplitl [H4]
      · iexists _; isplitr; swap; · iexact H4
        ipureintro
        intro r j hr hj col
        by_cases hjk : j.val < k.val
        · exact (read_pack_other c t arg4 harg4 arg5 harg5 arg7 harg7 arg0 v50 v51 X1 X2 X6 k f4 r (by omega) col).trans (h4 r j hr hjk col)
        · obtain rfl : j = k := Fin.ext (by omega)
          exact read_pack_same c t arg4 harg4 arg5 harg5 arg7 harg7 arg0 v50 v51 X1 X2 X6 j f4 r hr col
      · iexists _; isplitr; swap; · iexact H5
        ipureintro
        intro r j hr hj col
        by_cases hjk : j.val < k.val
        · exact (read_least_other c t arg4 harg4 arg5 harg5 arg7 harg7 arg0 v50 v51 X1 X2 X6 k f5 r (by omega) col).trans (h5 r j hr hjk col)
        · obtain rfl : j = k := Fin.ext (by omega)
          exact read_least_same c t arg4 harg4 arg5 harg5 arg7 harg7 arg0 v50 v51 X1 X2 X6 j f5 r hr col
end Rows

end Cert.Distances.Gen

end
-- ==== Proof.Steps.lean ====
/-  The three kinds of grid step of the distance kernel, run: the first (it fills the table of lane numbers and starts the
    first two blocks), the steps that start a block two ahead, and the last two. Between the copies' arrival and the row
    loop the slot in use, its spare columns included, is held as one set of elements; the loop reads there and nowhere else. -/
module

public import proofs.«01_k».proof.Proof.Loop
public import Idealize.ShloMosaic.Lib.VecWindow

@[expose] public section

-- membership in a rectangle of production extents (`View.cover_of_tiled`): the elaborator's structural look
-- recurses once per coordinate of the long axes
set_option maxRecDepth 16384

noncomputable section

namespace Cert.Distances.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The slot in use as one set -/

/-- The scratch buffer holds block `b` in the two windows of slot `s`. -/
def Landed (c : Dev nD) (W0 : HbBuf0 (F := F) c hbM0_0) (s : Fin 3) (b : Fin 40) (X6 : HbBuf0 (F := F) c scM0_0) : Prop :=
  (∀ i ∈ winSet0_0 (s, 0), X6 i = landed0_0_0 c W0 s b i) ∧ (∀ i ∈ winSet0_0 (s, 1), X6 i = landed0_0_1 c W0 s b i)

/-- Everything off the other slots: the two windows of slot `s` and the spare columns. -/
theorem off_others_eq (s : Fin 3) : Finset.univ \ othersSet s = (winSet0_0 (s, 0) ∪ winSet0_0 (s, 1)) ∪ spareSet0_0 := by
  have hd := wins0_0_disjoint
  have ho : ∀ (w : Fin 2) x, x ∈ winSet0_0 (s, w) → x ∉ othersSet s := fun w x hx hm => by
    refine ne_of_mem_othersSet hm ?_
    have h0 := (Rect.mem_set_unit.mp hx) 0
    have e1 : winOff0_0 (s, w) 0 = s.val := rfl
    have e2 : S1x1x16x1x10112.size 0 = 1 := rfl
    rw [e1, e2] at h0
    omega
  ext x
  simp only [Finset.mem_sdiff, Finset.mem_union, Finset.mem_univ, true_and]
  constructor
  · intro hx
    by_cases hs : x ∈ Finset.univ.biUnion winSet0_0
    · left
      obtain ⟨⟨s', w⟩, -, hw⟩ := Finset.mem_biUnion.mp hs
      by_cases hss : s' = s
      · subst hss
        fin_cases w
        · exact Or.inl hw
        · exact Or.inr hw
      · exact absurd (show x ∈ othersSet s from Finset.mem_biUnion.mpr ⟨(s', w), Finset.mem_filter.mpr ⟨Finset.mem_univ _, hss⟩, hw⟩) hx
    · exact Or.inr hs
  · rintro ((h | h) | h)
    · exact ho 0 x h
    · exact ho 1 x h
    · intro hm
      obtain ⟨j, -, hj⟩ := Finset.mem_biUnion.mp hm
      exact h (Finset.mem_biUnion.mpr ⟨j, Finset.mem_univ _, hj⟩)

theorem wins_disjoint01 (s : Fin 3) : Disjoint (winSet0_0 (s, 0)) (winSet0_0 (s, 1)) :=
  wins0_0_disjoint (s, 0) (s, 1) (fun h => absurd (congrArg Prod.snd h) (by decide : (0 : Fin 2) ≠ 1))
theorem wins_spare_disjoint (s : Fin 3) : Disjoint (winSet0_0 (s, 0) ∪ winSet0_0 (s, 1)) spareSet0_0 := by
  rw [Finset.disjoint_left]
  intro x hx hs
  have hs' : x ∉ Finset.univ.biUnion winSet0_0 := (Finset.mem_sdiff.mp hs).2
  rcases Finset.mem_union.mp hx with h | h
  · exact hs' (Finset.mem_biUnion.mpr ⟨(s, 0), Finset.mem_univ _, h⟩)
  · exact hs' (Finset.mem_biUnion.mpr ⟨(s, 1), Finset.mem_univ _, h⟩)

section Glue
variable (c : Dev nD) (W0 : HbBuf0 (F := F) c hbM0_0) (s : Fin 3) (b : Fin 40)

theorem slot_glue : iprop(winP0_0_0 c s (landed0_0_0 c W0 s b) ∗ winP0_0_1 c s (landed0_0_1 c W0 s b) ∗ spareP0_0 (F := F) c)
    ⊢ (iprop(∃ X6 : HbBuf0 (F := F) c scM0_0, ⌜Landed c W0 s b X6⌝ ∗ (((c : Thread nD τ).loc cc0_scratch0) ↦[Finset.univ \ othersSet s]{fullShare} X6)) : sProp 𝕄) := by
  have e0 := winP0_0_eq (F := F) c (s, 0) (landed0_0_0 c W0 s b)
  have e1 := winP0_0_eq (F := F) c (s, 1) (landed0_0_1 c W0 s b)
  rw [off_others_eq s]
  rw [show winP0_0_0 (F := F) c s (landed0_0_0 c W0 s b) = _ from e0, show winP0_0_1 (F := F) c s (landed0_0_1 c W0 s b) = _ from e1]
  iintro ⟨H0, H1, ⟨%f, Hs⟩⟩
  iexists spareSet0_0.piecewise f ((winSet0_0 (s, 1)).piecewise (landed0_0_1 c W0 s b) (landed0_0_0 c W0 s b))
  isplitr
  · ipureintro
    have hd := Finset.disjoint_left.mp (wins_spare_disjoint s)
    refine ⟨fun i hi => ?_, fun i hi => ?_⟩
    · rw [Finset.piecewise_eq_of_notMem _ _ _ (hd (Finset.mem_union_left _ hi)), Finset.piecewise_eq_of_notMem _ _ _ (Finset.disjoint_left.mp (wins_disjoint01 s) hi)]
    · rw [Finset.piecewise_eq_of_notMem _ _ _ (hd (Finset.mem_union_right _ hi)), Finset.piecewise_eq_of_mem _ _ _ hi]
  iapply (pointsTo_join (wins_spare_disjoint s))
  isplitl [H0 H1]
  · iapply (pointsTo_join (wins_disjoint01 s))
    isplitl [H0]; · iexact H0
    iexact H1
  iexact Hs

theorem slot_unglue (X6 : HbBuf0 (F := F) c scM0_0) (h : Landed c W0 s b X6) :
    ((((c : Thread nD τ).loc cc0_scratch0) ↦[Finset.univ \ othersSet s]{fullShare} X6) : sProp 𝕄)
    ⊢ iprop(winP0_0_0 c s (landed0_0_0 c W0 s b) ∗ winP0_0_1 c s (landed0_0_1 c W0 s b) ∗ spareP0_0 (F := F) c) := by
  have e0 := winP0_0_eq (F := F) c (s, 0) (landed0_0_0 c W0 s b)
  have e1 := winP0_0_eq (F := F) c (s, 1) (landed0_0_1 c W0 s b)
  rw [off_others_eq s]
  rw [show winP0_0_0 (F := F) c s (landed0_0_0 c W0 s b) = _ from e0, show winP0_0_1 (F := F) c s (landed0_0_1 c W0 s b) = _ from e1]
  iintro H
  ihave H' := (pointsTo_union (wins_spare_disjoint s)).1 $$ H
  icases H' with ⟨HW, HS⟩
  ihave HW' := (pointsTo_union (wins_disjoint01 s)).1 $$ HW
  icases HW' with ⟨H0, H1⟩
  isplitl [H0]
  · iapply (Entails.of_eq (pointsTo_congr h.1)); iexact H0
  isplitl [H1]
  · iapply (Entails.of_eq (pointsTo_congr h.2)); iexact H1
  iexists X6; iexact HS
end Glue

/-! ## What a step leaves in the output windows -/

/-- The row a trip of the loop works on. -/
def rowOf (k : Fin 16) : Fin k0_t1_loop.trips := ⟨k.val, lt_of_lt_of_eq k.isLt trips_eq.symm⟩

/-- The packed window after grid point `t`: what the sixteen trips stored, reading a scratch buffer that holds block `t`. -/
def PackOut (c : Dev nD) (t : Fin grid0.N) (x0 : TbBuf0 (F := F) c tbM0_0) (x1 : TbBuf0 (F := F) c tbM0_1) (W0 : HbBuf0 (F := F) c hbM0_0) (d : Vec F S16x1x3072 .i32) : Prop :=
  ∃ X6, Landed c W0 (Ring.sl 3 t.val) (Ring.bk 40 t.val) X6 ∧ ∀ (r : Fin 16) (col : Fin 3072), d (ix3 r 0 col) = packRow c t k0_pay3 x0 x1 X6 (rowOf r) col
/-- The window of minima likewise. -/
def LeastOut (c : Dev nD) (t : Fin grid0.N) (x0 : TbBuf0 (F := F) c tbM0_0) (x1 : TbBuf0 (F := F) c tbM0_1) (W0 : HbBuf0 (F := F) c hbM0_0) (d : Vec F S16x1x1024 .i32) : Prop :=
  ∃ X6, Landed c W0 (Ring.sl 3 t.val) (Ring.bk 40 t.val) X6 ∧ ∀ (r : Fin 16) (col : Fin 1024), d (ix3 r 0 col) = leastRow c t k0_pay3 x0 x1 X6 (rowOf r) col

/-- The loop's invariant, the tables' windows being the tables. -/
theorem rowsInv_eq (c : Dev nD) (t : Fin grid0.N) (arg4 : Memref sig .tc .vmem S16x1x3072 .i32) (arg5 : Memref sig .tc .vmem S16x1x1024 .i32) (v51 : Vec F S1x1024 .i32) (x0 : TbBuf0 (F := F) c tbM0_0) (x1 : TbBuf0 (F := F) c tbM0_1) (X6 : HbBuf0 (F := F) c scM0_0) (k : ℕ) :
    (rowsInv c t arg4 arg5 v51 x0 x1 X6 k : sProp 𝕄) = iprop(tbPt0 c tbM0_0 x0 ∗ tbPt0 c tbM0_1 x1 ∗ (((c : Thread nD τ).loc cc0_scratch0) ↦[Finset.univ \ othersSet (Ring.sl 3 t.val)]{fullShare} X6)
      ∗ (∃ f4, ⌜PackDone c t arg4 v51 x0 x1 X6 k f4⌝ ∗ (arg4.view.loc (c : Thread nD τ) ↦[arg4.view.set]{fullShare} f4))
      ∗ (∃ f5, ⌜LeastDone c t arg5 v51 x0 x1 X6 k f5⌝ ∗ (arg5.view.loc (c : Thread nD τ) ↦[arg5.view.set]{fullShare} f5))) := by
  unfold rowsInv
  rw [htbM0_0.set_eq_univ, htbM0_1.set_eq_univ]

/-- The loop from its invariant before the first trip to its invariant after the last. -/
theorem rows_for (c : Dev nD) (t : Fin grid0.N) (arg4 : Memref sig .tc .vmem S16x1x3072 .i32) (harg4 : arg4.IsWhole) (arg5 : Memref sig .tc .vmem S16x1x1024 .i32) (harg5 : arg5.IsWhole)
    (arg0 v50 : BitVec 32) (v51 : Vec F S1x1024 .i32) (x0 : TbBuf0 (F := F) c tbM0_0) (x1 : TbBuf0 (F := F) c tbM0_1) (X6 : HbBuf0 (F := F) c scM0_0) {β : Type} {kk : PUnit.{1} → Prog (TpuEff nD τ sig (Elt F) Λ₀ .tc) β} {Q : β → sProp 𝕄} :
    (rowsInv c t arg4 arg5 v51 x0 x1 X6 0 : sProp 𝕄) ⊢ iprop((rowsInv c t arg4 arg5 v51 x0 x1 X6 k0_t1_loop.trips -∗ wp Idealize.ShloMosaic.frame (wpE (defs₀ (F := F)) Variants.none (c : Thread nD τ) none) Set.univ (kk ⟨⟩) Q)
      -∗ wp Idealize.ShloMosaic.frame (wpE (defs₀ (F := F)) Variants.none (c : Thread nD τ) none) Set.univ
        (k0_t1_loop.for k0_t1_ok PUnit.unit (k0_t1_body (F := F) (grid0.coords t) tbM0_0 htbM0_0 tbM0_1 htbM0_1 (Memref.whole main_arg2) (Memref.isWhole_whole _) arg4 harg4 arg5 harg5 scM0_0 (Memref.isWhole_whole _) scM0_1 (Memref.isWhole_whole _) cc0_scratch2 arg0 v50 v51) >>= kk) Q) := by
  have h := exec_loop _ _ _ _ _ _ _ _ _ (rowLoop c t arg4 harg4 arg5 harg5 scM0_1 (Memref.isWhole_whole _) arg0 v50 v51 x0 x1 X6) (kk := kk) (Q := Q)
  refine .trans h ?_
  iintro H Hk
  iapply H
  iintro %acc HI
  iapply Hk
  iapply (Entails.of_eq (show (rowLoop c t arg4 harg4 arg5 harg5 scM0_1 (Memref.isWhole_whole _) arg0 v50 v51 x0 x1 X6).inv k0_t1_loop.trips acc = rowsInv c t arg4 arg5 v51 x0 x1 X6 k0_t1_loop.trips from rfl))
  iexact HI

/-- The row loop from buffers as the steps hold them: the tables whole, the slot in use with the spare columns. -/
theorem rows_run (c : Dev nD) (t : Fin grid0.N) (arg4 : Memref sig .tc .vmem S16x1x3072 .i32) (harg4 : arg4.IsWhole) (arg5 : Memref sig .tc .vmem S16x1x1024 .i32) (harg5 : arg5.IsWhole)
    (arg0 v50 : BitVec 32) (v51 : Vec F S1x1024 .i32) (hv : v51 = k0_pay3) (x0 : TbBuf0 (F := F) c tbM0_0) (x1 : TbBuf0 (F := F) c tbM0_1) (W0 : HbBuf0 (F := F) c hbM0_0) (X6 : HbBuf0 (F := F) c scM0_0)
    (hX : Landed c W0 (Ring.sl 3 t.val) (Ring.bk 40 t.val) X6) {f4 : arg4.view.ty.Contents (Elt F)} {f5 : arg5.view.ty.Contents (Elt F)} {β : Type} {kk : PUnit.{1} → Prog (TpuEff nD τ sig (Elt F) Λ₀ .tc) β} {Q : β → sProp 𝕄} :
    iprop(tbPt0 c tbM0_0 x0 ∗ tbPt0 c tbM0_1 x1 ∗ (((c : Thread nD τ).loc cc0_scratch0) ↦[Finset.univ \ othersSet (Ring.sl 3 t.val)]{fullShare} X6)
      ∗ (arg4.view.loc (c : Thread nD τ) ↦[arg4.view.set]{fullShare} f4) ∗ (arg5.view.loc (c : Thread nD τ) ↦[arg5.view.set]{fullShare} f5)
      ∗ (iprop(tbPt0 c tbM0_0 x0 ∗ tbPt0 c tbM0_1 x1 ∗ (((c : Thread nD τ).loc cc0_scratch0) ↦[Finset.univ \ othersSet (Ring.sl 3 t.val)]{fullShare} X6)
          ∗ (∃ d, ⌜PackOut c t x0 x1 W0 d⌝ ∗ owns (c : Thread nD τ) arg4 fullShare d) ∗ (∃ d, ⌜LeastOut c t x0 x1 W0 d⌝ ∗ owns (c : Thread nD τ) arg5 fullShare d))
        -∗ wp Idealize.ShloMosaic.frame (wpE (defs₀ (F := F)) Variants.none (c : Thread nD τ) none) Set.univ (kk ⟨⟩) Q))
    ⊢ wp Idealize.ShloMosaic.frame (wpE (defs₀ (F := F)) Variants.none (c : Thread nD τ) none) Set.univ
        (k0_t1_loop.for k0_t1_ok PUnit.unit (k0_t1_body (F := F) (grid0.coords t) tbM0_0 htbM0_0 tbM0_1 htbM0_1 (Memref.whole main_arg2) (Memref.isWhole_whole _) arg4 harg4 arg5 harg5 scM0_0 (Memref.isWhole_whole _) scM0_1 (Memref.isWhole_whole _) cc0_scratch2 arg0 v50 v51) >>= kk) Q := by
  subst hv
  iintro ⟨H0, H1, HX, H2, H3, Hk⟩
  iapply (rows_for c t arg4 harg4 arg5 harg5 arg0 v50 k0_pay3 x0 x1 X6) $$ [H0 H1 HX H2 H3]
  · iapply (Entails.of_eq (rowsInv_eq c t arg4 arg5 k0_pay3 x0 x1 X6 0).symm)
    isplitl [H0]; · iexact H0
    isplitl [H1]; · iexact H1
    isplitl [HX]; · iexact HX
    isplitl [H2]
    · iexists _; isplitr; swap; · iexact H2
      ipureintro; intro _ _ _ h; exact absurd h (Nat.not_lt_zero _)
    iexists _; isplitr; swap; · iexact H3
    ipureintro; intro _ _ _ h; exact absurd h (Nat.not_lt_zero _)
  iintro HI0
  ihave HI := (Entails.of_eq (rowsInv_eq c t arg4 arg5 k0_pay3 x0 x1 X6 k0_t1_loop.trips)) $$ HI0
  icases HI with ⟨H0, H1, HX, ⟨%g4, %hg4, H2⟩, ⟨%g5, %hg5, H3⟩⟩
  iapply Hk
  isplitl [H0]; · iexact H0
  isplitl [H1]; · iexact H1
  isplitl [HX]; · iexact HX
  isplitl [H2]
  · iexists (View.read (Elt F) arg4.view g4); isplitr
    · ipureintro; exact ⟨X6, hX, fun r col => hg4 r (rowOf r) rfl (rowOf r).isLt col⟩
    unfold owns
    iexists g4; isplitr; · ipureintro; rfl
    iexact H2
  iexists (View.read (Elt F) arg5.view g5); isplitr
  · ipureintro; exact ⟨X6, hX, fun r col => hg5 r (rowOf r) rfl (rowOf r).isLt col⟩
  unfold owns
  iexists g5; isplitr; · ipureintro; rfl
  iexact H3

end Cert.Distances.Gen

end
-- ==== Proof.StepA.lean ====
/-  One kind of grid step of the distance kernel, run from the ring before it to the ring after it. -/
module

public import proofs.«01_k».proof.Proof.Steps

@[expose] public section

-- membership in a rectangle of production extents (`View.cover_of_tiled`): the elaborator's structural look
-- recurses once per coordinate of the long axes
set_option maxRecDepth 16384

noncomputable section

namespace Cert.Distances.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run is long: checking it walks past the default budget)
set_option maxHeartbeats 1000000 in
/-- The first step. -/
theorem kernelRun0_A (c : Dev nD) (t : Fin grid0.N) (arg4 : Memref sig .tc .vmem S16x1x3072 .i32) (harg4 : arg4.IsWhole) (arg5 : Memref sig .tc .vmem S16x1x1024 .i32) (harg5 : arg5.IsWhole) (hc0 : cond0_0 (grid0.coords t)) (hc1 : cond0_1 (grid0.coords t))
    (x0 : TbBuf0 (F := F) c tbM0_0) (x1 : TbBuf0 (F := F) c tbM0_1) (fh0 : HbBuf0 (F := F) c hbM0_0) :
      ∀ (W : Waits sig Unit) (K : PUnit → sProp 𝕄),
        iprop(tbPt0 c tbM0_0 x0 ∗ tbPt0 c tbM0_1 x1 ∗ (∃ d, owns (c : Thread nD τ) arg4 fullShare d) ∗ (∃ d, owns (c : Thread nD τ) arg5 fullShare d) ∗ (∃ d, owns (c : Thread nD τ) scM0_1 fullShare d) ∗ Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2)) ∗ spareP0_0 c ∗ owes (c : Thread nD τ) 0 W
            ∗ (iprop(tbPt0 c tbM0_0 x0 ∗ tbPt0 c tbM0_1 x1 ∗ (∃ d, ⌜PackOut c t x0 x1 fh0 d⌝ ∗ owns (c : Thread nD τ) arg4 fullShare d) ∗ (∃ d, ⌜LeastOut c t x0 x1 fh0 d⌝ ∗ owns (c : Thread nD τ) arg5 fullShare d) ∗ (owns (c : Thread nD τ) scM0_1 fullShare k0_pay3) ∗ Ring.inflight (flightW0_0 c fh0) (Ring.sl 3 (t.val + 1)) (Ring.bk 40 (t.val + 1)) ∗ Ring.inflight (flightW0_0 c fh0) (Ring.sl 3 (t.val + 2)) (Ring.bk 40 (t.val + 2)) ∗ Ring.free (cellP0_0 c) (slotW0_0 c fh0) (Ring.sl 3 t.val) ∗ spareP0_0 c ∗ (∃ W', owes (c : Thread nD τ) 0 W')) -∗ K ⟨⟩))
          ⊢ wp frame (wpE (defs₀ (F := F)) Variants.none c none) Set.univ (cc0_hamming (grid0.coords t) tbM0_0 htbM0_0 tbM0_1 htbM0_1 (Memref.whole main_arg2) (Memref.isWhole_whole _) arg4 harg4 arg5 harg5 scM0_0 (Memref.isWhole_whole _) scM0_1 (Memref.isWhole_whole _) cc0_scratch2) K := by
    intro W K
    haveI : Fact (cond0_0 (grid0.coords t)) := ⟨hc0⟩
    haveI : Fact (cond0_1 (grid0.coords t)) := ⟨hc1⟩
    simp only [cc0_hamming_eq_skeleton]; unfold cc0_hamming_skel
    simp only [k0_part9_eq_skeleton, k0_part1_eq_skeleton, k0_part2_eq_skeleton]
    have hcanon0 := canon0_0_1 t hc0 hc1
    have hcanon1 := canon0_0_1' t hc0 hc1
    have hcanon2 := canon0_0_2 t hc0 hc1
    have hcanon3 := canon0_0_2' t hc0 hc1
    have hcanon4 := canon0_0_3 t hc0 hc1
    have hcanon5 := canon0_0_3' t hc0 hc1
    have hcanon6 := canon0_0_4 t hc0 hc1
    have hcanon7 := canon0_0_4' t hc0 hc1
    have hcanon8 := canon0_0_5 t hc0 hc1
    have hcanon9 := canon0_0_5' t hc0 hc1
    have hcanon10 := canon0_0_6 t hc0 hc1
    have hcanon11 := canon0_0_6' t hc0 hc1
    have hcanon12 := canon0_0_7 t hc0 hc1
    have hcanon13 := canon0_0_7' t hc0 hc1
    have hcanon14 := canon0_0_8 t hc0 hc1
    have hcanon15 := canon0_0_8' t hc0 hc1
    have hcanon16 := canon0_0_9 t hc0 hc1
    have hcanon17 := canon0_0_9' t hc0 hc1
    have hcanon18 := canon0_0_10 t hc0 hc1
    have hcanon19 := canon0_0_10' t hc0 hc1
    unfold owns Ring.free Ring.inflight
    iintro ⟨H0, H1, ⟨%d2, %f2, -, H2⟩, ⟨%d3, %f3, -, H3⟩, ⟨%ds1, %fs1, -, HS1⟩, ⟨Hc0_0_0, ⟨%fs0_0_0, ⟨Hs0_0_0_0, Hs0_0_0_1⟩, Hw0_0_0_0, Hw0_0_0_1⟩⟩, ⟨Hc0_0_1, ⟨%fs0_0_1, ⟨Hs0_0_1_0, Hs0_0_1_1⟩, Hw0_0_1_0, Hw0_0_1_1⟩⟩, ⟨Hc0_0_2, ⟨%fs0_0_2, ⟨Hs0_0_2_0, Hs0_0_2_1⟩, Hw0_0_2_0, Hw0_0_2_1⟩⟩, HSp, HW, Hk⟩
    ihave Hsp0_0_0_0 := (src0_0_0_split c fh0 (Ring.sl 3 t.val) (Ring.bk 40 t.val)).1 $$ Hw0_0_0_0
    icases Hsp0_0_0_0 with ⟨Hh0_0_0_0, Hr0_0_0_0⟩
    ihave Hsp0_0_0_1 := (src0_0_1_split c fh0 (Ring.sl 3 t.val) (Ring.bk 40 t.val)).1 $$ Hw0_0_0_1
    icases Hsp0_0_0_1 with ⟨Hh0_0_0_1, Hr0_0_0_1⟩
    have hD0_0_0 := storable_winD0_0 (F := F) c fh0 (Ring.sl 3 t.val) (Ring.bk 40 t.val)
    imod (Transfers.batch_alloc' (Lvl := ℕ) countersEmb (c : Thread nD τ) default NN0_0 (winD0_0 c fh0 (Ring.sl 3 t.val) (Ring.bk 40 t.val)) (sm := cellR0_0 (Ring.sl 3 t.val)) (E := Set.univ)) $$ Hc0_0_0 with HB0_0_0
    clear hD0_0_0
    ihave Hsp0_0_1_0 := (src0_0_0_split c fh0 (Ring.sl 3 (t.val + 1)) (Ring.bk 40 (t.val + 1))).1 $$ Hw0_0_1_0
    icases Hsp0_0_1_0 with ⟨Hh0_0_1_0, Hr0_0_1_0⟩
    ihave Hsp0_0_1_1 := (src0_0_1_split c fh0 (Ring.sl 3 (t.val + 1)) (Ring.bk 40 (t.val + 1))).1 $$ Hw0_0_1_1
    icases Hsp0_0_1_1 with ⟨Hh0_0_1_1, Hr0_0_1_1⟩
    have hD0_0_1 := storable_winD0_0 (F := F) c fh0 (Ring.sl 3 (t.val + 1)) (Ring.bk 40 (t.val + 1))
    imod (Transfers.batch_alloc' (Lvl := ℕ) countersEmb (c : Thread nD τ) default NN0_0 (winD0_0 c fh0 (Ring.sl 3 (t.val + 1)) (Ring.bk 40 (t.val + 1))) (sm := cellR0_0 (Ring.sl 3 (t.val + 1))) (E := Set.univ)) $$ Hc0_0_1 with HB0_0_1
    clear hD0_0_1
    ihave Hsp0_0_2_0 := (src0_0_0_split c fh0 (Ring.sl 3 (t.val + 2)) (Ring.bk 40 (t.val + 2))).1 $$ Hw0_0_2_0
    icases Hsp0_0_2_0 with ⟨Hh0_0_2_0, Hr0_0_2_0⟩
    ihave Hsp0_0_2_1 := (src0_0_1_split c fh0 (Ring.sl 3 (t.val + 2)) (Ring.bk 40 (t.val + 2))).1 $$ Hw0_0_2_1
    icases Hsp0_0_2_1 with ⟨Hh0_0_2_1, Hr0_0_2_1⟩
    have hD0_0_2 := storable_winD0_0 (F := F) c fh0 (Ring.sl 3 (t.val + 2)) (Ring.bk 40 (t.val + 2))
    imod (Transfers.batch_alloc' (Lvl := ℕ) countersEmb (c : Thread nD τ) default NN0_0 (winD0_0 c fh0 (Ring.sl 3 (t.val + 2)) (Ring.bk 40 (t.val + 2))) (sm := cellR0_0 (Ring.sl 3 (t.val + 2))) (E := Set.univ)) $$ Hc0_0_2 with HB0_0_2
    clear hD0_0_2
    sl_exec (disch := first | sl_exact hc0 | sl_exact hc1)
    ihave HX := (slot_glue c fh0 (Ring.sl 3 t.val) (Ring.bk 40 t.val)) $$ [HB0_0_0_dst0 HB0_0_0_dst1 HSp]
    · isplitl [HB0_0_0_dst0]; · iexact HB0_0_0_dst0
      isplitl [HB0_0_0_dst1]; · iexact HB0_0_0_dst1
      iexact HSp
    icases HX with ⟨%X6, %hX6, HX⟩
    iapply (rows_run c t arg4 harg4 arg5 harg5 _ _ _ (by unfold kernelRun0_A.sl.v51 kernelRun0_A.sl.HS1_1; exact View.readCov_full _ _ _ _ _) x0 x1 fh0 X6 hX6)
    isplitl [H0]; · iexact H0
    isplitl [H1]; · iexact H1
    isplitl [HX]; · iexact HX
    isplitl [H2]; · iexact H2
    isplitl [H3]; · iexact H3
    iintro ⟨H0, H1, HX, H2, H3⟩
    ihave HU := (slot_unglue c fh0 (Ring.sl 3 t.val) (Ring.bk 40 t.val) X6 hX6) $$ HX
    icases HU with ⟨HB0_0_0_dst0, HB0_0_0_dst1, HSp⟩
    sl_step
    iapply Hk
    isplitl [H0]; · iexact H0
    isplitl [H1]; · iexact H1
    isplitl [H2]; · iexact H2
    isplitl [H3]; · iexact H3
    isplitl [HS1]
    · iexists _; isplitr; swap; · iexact HS1
      ipureintro; unfold kernelRun0_A.sl.HS1_1; exact View.read_writes_full _ _ _ _ _
    isplitl [HB0_0_1 Hr0_0_1_0 Hr0_0_1_1]
    · iexists fs0_0_1; isplitl [HB0_0_1]; · iexact HB0_0_1
      isplitl [Hr0_0_1_0]; · iexact Hr0_0_1_0
      iexact Hr0_0_1_1
    isplitl [HB0_0_2 Hr0_0_2_0 Hr0_0_2_1]
    · iexists fs0_0_2; isplitl [HB0_0_2]; · iexact HB0_0_2
      isplitl [Hr0_0_2_0]; · iexact Hr0_0_2_0
      iexact Hr0_0_2_1
    isplitl [HB0_0_0 HB0_0_0_dst0 HB0_0_0_dst1 HB0_0_0_src0 HB0_0_0_src1 Hr0_0_0_0 Hr0_0_0_1]
    · isplitl [HB0_0_0]; · iexact HB0_0_0
      iexists (landed0_0 c fh0 (Ring.sl 3 t.val) (Ring.bk 40 t.val)); isplitl [HB0_0_0_dst0 HB0_0_0_dst1]
      · iapply (slotP0_0_landed c fh0 (Ring.sl 3 t.val) (Ring.bk 40 t.val))
        isplitl [HB0_0_0_dst0]; · iexact HB0_0_0_dst0
        iexact HB0_0_0_dst1
      isplitl [HB0_0_0_src0 Hr0_0_0_0]
      · iapply (src0_0_0_split c fh0 (Ring.sl 3 t.val) (Ring.bk 40 t.val)).2; isplitl [HB0_0_0_src0]; · iexact HB0_0_0_src0
        iexact Hr0_0_0_0
      iapply (src0_0_1_split c fh0 (Ring.sl 3 t.val) (Ring.bk 40 t.val)).2; isplitl [HB0_0_0_src1]; · iexact HB0_0_0_src1
      iexact Hr0_0_0_1
    isplitl [HSp]; · iexact HSp
    iexists _; iexact HW

end Cert.Distances.Gen

end
-- ==== Proof.StepB.lean ====
/-  One kind of grid step of the distance kernel, run from the ring before it to the ring after it. -/
module

public import proofs.«01_k».proof.Proof.Steps

@[expose] public section

-- membership in a rectangle of production extents (`View.cover_of_tiled`): the elaborator's structural look
-- recurses once per coordinate of the long axes
set_option maxRecDepth 16384

noncomputable section

namespace Cert.Distances.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run is long: checking it walks past the default budget)
set_option maxHeartbeats 1000000 in
/-- The steps that wait for a block and start another. -/
theorem kernelRun0_B (c : Dev nD) (t : Fin grid0.N) (arg4 : Memref sig .tc .vmem S16x1x3072 .i32) (harg4 : arg4.IsWhole) (arg5 : Memref sig .tc .vmem S16x1x1024 .i32) (harg5 : arg5.IsWhole) (hc0 : ¬cond0_0 (grid0.coords t)) (hc1 : cond0_1 (grid0.coords t))
    (x0 : TbBuf0 (F := F) c tbM0_0) (x1 : TbBuf0 (F := F) c tbM0_1) (fh0 : HbBuf0 (F := F) c hbM0_0) :
      ∀ (W : Waits sig Unit) (K : PUnit → sProp 𝕄),
        iprop(tbPt0 c tbM0_0 x0 ∗ tbPt0 c tbM0_1 x1 ∗ (∃ d, owns (c : Thread nD τ) arg4 fullShare d) ∗ (∃ d, owns (c : Thread nD τ) arg5 fullShare d) ∗ (owns (c : Thread nD τ) scM0_1 fullShare k0_pay3) ∗ Ring.inflight (flightW0_0 c fh0) (Ring.sl 3 t.val) (Ring.bk 40 t.val) ∗ Ring.inflight (flightW0_0 c fh0) (Ring.sl 3 (t.val + 1)) (Ring.bk 40 (t.val + 1)) ∗ Ring.free (cellP0_0 c) (slotW0_0 c fh0) (Ring.sl 3 (t.val + 2)) ∗ spareP0_0 c ∗ owes (c : Thread nD τ) 0 W
            ∗ (iprop(tbPt0 c tbM0_0 x0 ∗ tbPt0 c tbM0_1 x1 ∗ (∃ d, ⌜PackOut c t x0 x1 fh0 d⌝ ∗ owns (c : Thread nD τ) arg4 fullShare d) ∗ (∃ d, ⌜LeastOut c t x0 x1 fh0 d⌝ ∗ owns (c : Thread nD τ) arg5 fullShare d) ∗ (owns (c : Thread nD τ) scM0_1 fullShare k0_pay3) ∗ Ring.inflight (flightW0_0 c fh0) (Ring.sl 3 (t.val + 1)) (Ring.bk 40 (t.val + 1)) ∗ Ring.inflight (flightW0_0 c fh0) (Ring.sl 3 (t.val + 2)) (Ring.bk 40 (t.val + 2)) ∗ Ring.free (cellP0_0 c) (slotW0_0 c fh0) (Ring.sl 3 t.val) ∗ spareP0_0 c ∗ (∃ W', owes (c : Thread nD τ) 0 W')) -∗ K ⟨⟩))
          ⊢ wp frame (wpE (defs₀ (F := F)) Variants.none c none) Set.univ (cc0_hamming (grid0.coords t) tbM0_0 htbM0_0 tbM0_1 htbM0_1 (Memref.whole main_arg2) (Memref.isWhole_whole _) arg4 harg4 arg5 harg5 scM0_0 (Memref.isWhole_whole _) scM0_1 (Memref.isWhole_whole _) cc0_scratch2) K := by
    intro W K
    haveI : Fact (¬cond0_0 (grid0.coords t)) := ⟨hc0⟩
    haveI : Fact (cond0_1 (grid0.coords t)) := ⟨hc1⟩
    simp only [cc0_hamming_eq_skeleton]; unfold cc0_hamming_skel
    simp only [k0_part9_eq_skeleton, k0_part2_eq_skeleton]
    unfold owns Ring.free Ring.inflight
    iintro ⟨H0, H1, ⟨%d2, %f2, -, H2⟩, ⟨%d3, %f3, -, H3⟩, ⟨%fs1, %hfs1, HS1⟩, ⟨%ff0_0_0, Hf0_0_0, Hrf0_0_0_0, Hrf0_0_0_1⟩, ⟨%ff0_0_1, Hf0_0_1, Hrf0_0_1_0, Hrf0_0_1_1⟩, ⟨Hc0_0_2, ⟨%fs0_0_2, ⟨Hs0_0_2_0, Hs0_0_2_1⟩, Hw0_0_2_0, Hw0_0_2_1⟩⟩, HSp, HW, Hk⟩
    obtain rfl : fs1 = k0_pay3 := hfs1
    ihave Hsp0_0_2_0 := (src0_0_0_split c fh0 (Ring.sl 3 (t.val + 2)) (Ring.bk 40 (t.val + 2))).1 $$ Hw0_0_2_0
    icases Hsp0_0_2_0 with ⟨Hh0_0_2_0, Hr0_0_2_0⟩
    ihave Hsp0_0_2_1 := (src0_0_1_split c fh0 (Ring.sl 3 (t.val + 2)) (Ring.bk 40 (t.val + 2))).1 $$ Hw0_0_2_1
    icases Hsp0_0_2_1 with ⟨Hh0_0_2_1, Hr0_0_2_1⟩
    have hD0_0_2 := storable_winD0_0 (F := F) c fh0 (Ring.sl 3 (t.val + 2)) (Ring.bk 40 (t.val + 2))
    imod (Transfers.batch_alloc' (Lvl := ℕ) countersEmb (c : Thread nD τ) default NN0_0 (winD0_0 c fh0 (Ring.sl 3 (t.val + 2)) (Ring.bk 40 (t.val + 2))) (sm := cellR0_0 (Ring.sl 3 (t.val + 2))) (E := Set.univ)) $$ Hc0_0_2 with HB0_0_2
    clear hD0_0_2
    sl_exec (disch := first | sl_exact hc0 | sl_exact hc1)
    ihave HX := (slot_glue c fh0 (Ring.sl 3 t.val) (Ring.bk 40 t.val)) $$ [Hf0_0_0_dst0 Hf0_0_0_dst1 HSp]
    · isplitl [Hf0_0_0_dst0]; · iexact Hf0_0_0_dst0
      isplitl [Hf0_0_0_dst1]; · iexact Hf0_0_0_dst1
      iexact HSp
    icases HX with ⟨%X6, %hX6, HX⟩
    iapply (rows_run c t arg4 harg4 arg5 harg5 _ _ _ (View.readAt_full _ _ _) x0 x1 fh0 X6 hX6)
    isplitl [H0]; · iexact H0
    isplitl [H1]; · iexact H1
    isplitl [HX]; · iexact HX
    isplitl [H2]; · iexact H2
    isplitl [H3]; · iexact H3
    iintro ⟨H0, H1, HX, H2, H3⟩
    ihave HU := (slot_unglue c fh0 (Ring.sl 3 t.val) (Ring.bk 40 t.val) X6 hX6) $$ HX
    icases HU with ⟨Hf0_0_0_dst0, Hf0_0_0_dst1, HSp⟩
    sl_step
    iapply Hk
    isplitl [H0]; · iexact H0
    isplitl [H1]; · iexact H1
    isplitl [H2]; · iexact H2
    isplitl [H3]; · iexact H3
    isplitl [HS1]
    · iexists _; isplitr; swap; · iexact HS1
      ipureintro; rfl
    isplitl [Hf0_0_1 Hrf0_0_1_0 Hrf0_0_1_1]
    · iexists ff0_0_1; isplitl [Hf0_0_1]; · iexact Hf0_0_1
      isplitl [Hrf0_0_1_0]; · iexact Hrf0_0_1_0
      iexact Hrf0_0_1_1
    isplitl [HB0_0_2 Hr0_0_2_0 Hr0_0_2_1]
    · iexists fs0_0_2; isplitl [HB0_0_2]; · iexact HB0_0_2
      isplitl [Hr0_0_2_0]; · iexact Hr0_0_2_0
      iexact Hr0_0_2_1
    isplitl [Hf0_0_0 Hf0_0_0_dst0 Hf0_0_0_dst1 Hf0_0_0_src0 Hf0_0_0_src1 Hrf0_0_0_0 Hrf0_0_0_1]
    · isplitl [Hf0_0_0]; · iexact Hf0_0_0
      iexists (landed0_0 c fh0 (Ring.sl 3 t.val) (Ring.bk 40 t.val)); isplitl [Hf0_0_0_dst0 Hf0_0_0_dst1]
      · iapply (slotP0_0_landed c fh0 (Ring.sl 3 t.val) (Ring.bk 40 t.val))
        isplitl [Hf0_0_0_dst0]; · iexact Hf0_0_0_dst0
        iexact Hf0_0_0_dst1
      isplitl [Hf0_0_0_src0 Hrf0_0_0_0]
      · iapply (src0_0_0_split c fh0 (Ring.sl 3 t.val) (Ring.bk 40 t.val)).2; isplitl [Hf0_0_0_src0]; · iexact Hf0_0_0_src0
        iexact Hrf0_0_0_0
      iapply (src0_0_1_split c fh0 (Ring.sl 3 t.val) (Ring.bk 40 t.val)).2; isplitl [Hf0_0_0_src1]; · iexact Hf0_0_0_src1
      iexact Hrf0_0_0_1
    isplitl [HSp]; · iexact HSp
    iexists _; iexact HW

end Cert.Distances.Gen

end
-- ==== Proof.StepC.lean ====
/-  One kind of grid step of the distance kernel, run from the ring before it to the ring after it. -/
module

public import proofs.«01_k».proof.Proof.Steps

@[expose] public section

-- membership in a rectangle of production extents (`View.cover_of_tiled`): the elaborator's structural look
-- recurses once per coordinate of the long axes
set_option maxRecDepth 16384

noncomputable section

namespace Cert.Distances.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run is long: checking it walks past the default budget)
set_option maxHeartbeats 1000000 in
/-- The last two steps: nothing more to start. -/
theorem kernelRun0_C (c : Dev nD) (t : Fin grid0.N) (arg4 : Memref sig .tc .vmem S16x1x3072 .i32) (harg4 : arg4.IsWhole) (arg5 : Memref sig .tc .vmem S16x1x1024 .i32) (harg5 : arg5.IsWhole) (hc0 : ¬cond0_0 (grid0.coords t)) (hc1 : ¬cond0_1 (grid0.coords t))
    (x0 : TbBuf0 (F := F) c tbM0_0) (x1 : TbBuf0 (F := F) c tbM0_1) (fh0 : HbBuf0 (F := F) c hbM0_0) :
      ∀ (W : Waits sig Unit) (K : PUnit → sProp 𝕄),
        iprop(tbPt0 c tbM0_0 x0 ∗ tbPt0 c tbM0_1 x1 ∗ (∃ d, owns (c : Thread nD τ) arg4 fullShare d) ∗ (∃ d, owns (c : Thread nD τ) arg5 fullShare d) ∗ (owns (c : Thread nD τ) scM0_1 fullShare k0_pay3) ∗ Ring.inflight (flightW0_0 c fh0) (Ring.sl 3 t.val) (Ring.bk 40 t.val) ∗ Ring.slotAt 2 (cellP0_0 c) (slotW0_0 c fh0) (flightW0_0 c fh0) t.val 1 ∗ Ring.free (cellP0_0 c) (slotW0_0 c fh0) (Ring.sl 3 (t.val + 2)) ∗ spareP0_0 c ∗ owes (c : Thread nD τ) 0 W
            ∗ (iprop(tbPt0 c tbM0_0 x0 ∗ tbPt0 c tbM0_1 x1 ∗ (∃ d, ⌜PackOut c t x0 x1 fh0 d⌝ ∗ owns (c : Thread nD τ) arg4 fullShare d) ∗ (∃ d, ⌜LeastOut c t x0 x1 fh0 d⌝ ∗ owns (c : Thread nD τ) arg5 fullShare d) ∗ (owns (c : Thread nD τ) scM0_1 fullShare k0_pay3) ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ spareP0_0 c ∗ (∃ W', owes (c : Thread nD τ) 0 W')) -∗ K ⟨⟩))
          ⊢ wp frame (wpE (defs₀ (F := F)) Variants.none c none) Set.univ (cc0_hamming (grid0.coords t) tbM0_0 htbM0_0 tbM0_1 htbM0_1 (Memref.whole main_arg2) (Memref.isWhole_whole _) arg4 harg4 arg5 harg5 scM0_0 (Memref.isWhole_whole _) scM0_1 (Memref.isWhole_whole _) cc0_scratch2) K := by
    intro W K
    haveI : Fact (¬cond0_0 (grid0.coords t)) := ⟨hc0⟩
    haveI : Fact (¬cond0_1 (grid0.coords t)) := ⟨hc1⟩
    simp only [cc0_hamming_eq_skeleton]; unfold cc0_hamming_skel
    simp only [k0_part9_eq_skeleton]
    unfold owns Ring.free Ring.inflight
    iintro ⟨H0, H1, ⟨%d2, %f2, -, H2⟩, ⟨%d3, %f3, -, H3⟩, ⟨%fs1, %hfs1, HS1⟩, ⟨%ff0_0_0, Hf0_0_0, Hrf0_0_0_0, Hrf0_0_0_1⟩, Hro0_0_1, ⟨Hc0_0_2, ⟨%fs0_0_2, ⟨Hs0_0_2_0, Hs0_0_2_1⟩, Hw0_0_2_0, Hw0_0_2_1⟩⟩, HSp, HW, Hk⟩
    obtain rfl : fs1 = k0_pay3 := hfs1
    sl_exec (disch := first | sl_exact hc0 | sl_exact hc1)
    ihave HX := (slot_glue c fh0 (Ring.sl 3 t.val) (Ring.bk 40 t.val)) $$ [Hf0_0_0_dst0 Hf0_0_0_dst1 HSp]
    · isplitl [Hf0_0_0_dst0]; · iexact Hf0_0_0_dst0
      isplitl [Hf0_0_0_dst1]; · iexact Hf0_0_0_dst1
      iexact HSp
    icases HX with ⟨%X6, %hX6, HX⟩
    iapply (rows_run c t arg4 harg4 arg5 harg5 _ _ _ (View.readAt_full _ _ _) x0 x1 fh0 X6 hX6)
    isplitl [H0]; · iexact H0
    isplitl [H1]; · iexact H1
    isplitl [HX]; · iexact HX
    isplitl [H2]; · iexact H2
    isplitl [H3]; · iexact H3
    iintro ⟨H0, H1, HX, H2, H3⟩
    ihave HU := (slot_unglue c fh0 (Ring.sl 3 t.val) (Ring.bk 40 t.val) X6 hX6) $$ HX
    icases HU with ⟨Hf0_0_0_dst0, Hf0_0_0_dst1, HSp⟩
    sl_step
    iapply Hk
    isplitl [H0]; · iexact H0
    isplitl [H1]; · iexact H1
    isplitl [H2]; · iexact H2
    isplitl [H3]; · iexact H3
    isplitl [HS1]
    · iexists _; isplitr; swap; · iexact HS1
      ipureintro; rfl
    isplitl [Hro0_0_1]; · iexact Hro0_0_1
    isplitl [Hc0_0_2 Hs0_0_2_0 Hs0_0_2_1 Hw0_0_2_0 Hw0_0_2_1]
    · isplitl [Hc0_0_2]; · iexact Hc0_0_2
      iexists fs0_0_2; isplitl [Hs0_0_2_0 Hs0_0_2_1]
      · isplitl [Hs0_0_2_0]; · iexact Hs0_0_2_0
        iexact Hs0_0_2_1
      isplitl [Hw0_0_2_0]; · iexact Hw0_0_2_0
      iexact Hw0_0_2_1
    isplitl [Hf0_0_0 Hf0_0_0_dst0 Hf0_0_0_dst1 Hf0_0_0_src0 Hf0_0_0_src1 Hrf0_0_0_0 Hrf0_0_0_1]
    · isplitl [Hf0_0_0]; · iexact Hf0_0_0
      iexists (landed0_0 c fh0 (Ring.sl 3 t.val) (Ring.bk 40 t.val)); isplitl [Hf0_0_0_dst0 Hf0_0_0_dst1]
      · iapply (slotP0_0_landed c fh0 (Ring.sl 3 t.val) (Ring.bk 40 t.val))
        isplitl [Hf0_0_0_dst0]; · iexact Hf0_0_0_dst0
        iexact Hf0_0_0_dst1
      isplitl [Hf0_0_0_src0 Hrf0_0_0_0]
      · iapply (src0_0_0_split c fh0 (Ring.sl 3 t.val) (Ring.bk 40 t.val)).2; isplitl [Hf0_0_0_src0]; · iexact Hf0_0_0_src0
        iexact Hrf0_0_0_0
      iapply (src0_0_1_split c fh0 (Ring.sl 3 t.val) (Ring.bk 40 t.val)).2; isplitl [Hf0_0_0_src1]; · iexact Hf0_0_0_src1
      iexact Hrf0_0_0_1
    isplitl [HSp]; · iexact HSp
    iexists _; iexact HW

end Cert.Distances.Gen

end
-- ==== Proof.Grid.lean ====
/-  The distance kernel's launch. The invariant between grid steps is the ring of blocks, the spare columns, the table
    of lane numbers (from the first step on) and the shares of the two prefetched tables. One step keeps it and leaves
    the two windows as `PackOut` and `LeastOut` say; from that come the run that names nothing of the results (`frame`) and the run
    that names them (`run_named`), where the step determines what it leaves. -/
module

public import proofs.«01_k».proof.Proof.StepA
public import proofs.«01_k».proof.Proof.StepB
public import proofs.«01_k».proof.Proof.StepC
public import Idealize.ShloMosaic.Lib.Claim

@[expose] public section

-- membership in a rectangle of production extents (`View.cover_of_tiled`): the elaborator's structural look
-- recurses once per coordinate of the long axes
set_option maxRecDepth 16384

noncomputable section

namespace Cert.Distances.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The invariant and one step -/

/-- The table of lane numbers: anything before the first step, the lane numbers from then on. -/
def lanesAt (c : Dev nD) (k : ℕ) : sProp 𝕄 := if k = 0 then iprop(∃ d, owns (c : Thread nD τ) scM0_1 fullShare d) else owns (c : Thread nD τ) scM0_1 fullShare k0_pay3
theorem lanesAt_zero (c : Dev nD) (k : ℕ) (h : k = 0) : (lanesAt c k : sProp 𝕄) = iprop(∃ d, owns (c : Thread nD τ) scM0_1 fullShare d) := if_pos h
theorem lanesAt_pos (c : Dev nD) (k : ℕ) (h : ¬k = 0) : (lanesAt c k : sProp 𝕄) = owns (c : Thread nD τ) scM0_1 fullShare k0_pay3 := if_neg h

/-- The invariant before step `k`. -/
def PhiR (c : Dev nD) (k : ℕ) : sProp 𝕄 :=
  iprop(lanesAt c k ∗ (∃ r, prngReg c r) ∗ (ringAt0_0 c (V m c main_arg2) k ∗ spareP0_0 c) ∗ (tbPt0 c tbM0_0 (tbl m 0) ∗ tbPt0 c tbM0_1 (tbl m 1)))

set_option maxHeartbeats 1200000 in
/-- One step keeps the invariant and leaves the two windows as the sixteen trips of its loop do. -/
theorem sound_core (hO : Ok m) (c : Dev nD) (t : Fin grid0.N) :
    iprop(PhiR m c t.val ∗ (∃ W, owes (c : Thread nD τ) 0 W)
      ∗ (∃ d, owns (c : Thread nD τ) (ms0_0 m hO t) fullShare d) ∗ (∃ d, owns (c : Thread nD τ) (ms0_1 m hO t) fullShare d))
    ⊢ wp frame (wpE (defs₀ (F := F)) Variants.none c none) Set.univ (bodyAt0 (adm m hO) t) (fun _ =>
      iprop(PhiR m c (t.val + 1) ∗ (∃ W, owes (c : Thread nD τ) 0 W)
        ∗ (∃ d, ⌜PackOut c t (tbl m 0) (tbl m 1) (V m c main_arg2) d⌝ ∗ owns (c : Thread nD τ) (ms0_0 m hO t) fullShare d)
        ∗ (∃ d, ⌜LeastOut c t (tbl m 0) (tbl m 1) (V m c main_arg2) d⌝ ∗ owns (c : Thread nD τ) (ms0_1 m hO t) fullShare d))) := by
  unfold bodyAt0 PhiR ringAt0_0
  have hgN : grid0.N = 40 := N_0
  have hN : t.val < 40 := lt_of_lt_of_eq t.isLt hgN
  by_cases h0 : t.val % 40 = 0
  · by_cases h1 : t.val < 38
    · have hr0 := rstep0_0_A t ((hcond0_0 t).mpr h0) ((hcond0_1 t).mpr h1)
      obtain ⟨hK00, hK10⟩ := hr0
      rw [lanesAt_zero _ _ hK00, lanesAt_pos _ _ (show ¬t.val + 1 = 0 by omega), if_pos hK00, if_neg (show ¬t.val + 1 = 0 by omega)]
      rw [Ring.At₀_eq3' _ _ _ t.val hK00 (by decide : 3 ≤ 40), Ring.At3_one' _ _ _ _ t.val hK00 (by decide : 3 ≤ 40)]
      iintro ⟨⟨HS1, Hg, ⟨⟨-, Hfr0_0_0, Hfr0_0_1, Hfr0_0_2⟩, HSp0_0⟩, ⟨HT0, HT1⟩⟩, ⟨%W, HW⟩, H2, H3⟩
      iapply ((kernelRun0_A c t _ _ _ _ ((hcond0_0 t).mpr h0) ((hcond0_1 t).mpr h1) (tbl m 0) (tbl m 1) (V m c main_arg2)) W _)
      isplitl [HT0]; · iexact HT0
      isplitl [HT1]; · iexact HT1
      isplitl [H2]; · iexact H2
      isplitl [H3]; · iexact H3
      isplitl [HS1]; · iexact HS1
      isplitl [Hfr0_0_0]; · iexact Hfr0_0_0
      isplitl [Hfr0_0_1]; · iexact Hfr0_0_1
      isplitl [Hfr0_0_2]; · iexact Hfr0_0_2
      isplitl [HSp0_0]; · iexact HSp0_0
      isplitl [HW]; · iexact HW
      iintro ⟨HT0, HT1, H2, H3, HS1, Hfa0_0', Hfb0_0', Hfc0_0', HSp0_0, ⟨%W', HW'⟩⟩
      isplitl [HS1 Hg HSp0_0 Hfa0_0' Hfb0_0' Hfc0_0' HT0 HT1]
      · isplitl [HS1]; · iexact HS1
        isplitl [Hg]; · iexact Hg
        isplitr [HT0 HT1]; swap
        · isplitl [HT0]; · iexact HT0
          iexact HT1
        isplitl [Hfa0_0' Hfb0_0' Hfc0_0']
        · iapply (Ring.with_homes (Idealize.SL.BI.Entails.refl _))
          isplitl [Hfa0_0']; · iexact Hfa0_0'
          isplitl [Hfb0_0']; · iexact Hfb0_0'
          iexact Hfc0_0'
        iexact HSp0_0
      isplitl [HW']
      · iexists W'; iexact HW'
      isplitl [H2]; · iexact H2
      iexact H3
    · exfalso; omega
  · by_cases h1 : t.val < 38
    · have hr0 := rstep0_0_B t (fun h => h0 ((hcond0_0 t).mp h)) ((hcond0_1 t).mpr h1)
      obtain ⟨hK10, hKB0, hKs0⟩ := hr0
      rw [lanesAt_pos _ _ (show ¬t.val = 0 by omega), lanesAt_pos _ _ (show ¬t.val + 1 = 0 by omega), if_neg (show ¬t.val = 0 by omega), if_neg (show ¬t.val + 1 = 0 by omega)]
      rw [Ring.At3_here _ _ _ _ t.val hKB0, Ring.At3_next _ _ _ _ t.val hKB0, Ring.slotAt3_next0 _ _ _ t.val (by omega), Ring.slotAt3_next1 _ _ _ t.val hKB0]
      iintro ⟨⟨HS1, Hg, ⟨⟨-, Hfr0_0_0, Hfr0_0_1, Hfr0_0_2⟩, HSp0_0⟩, ⟨HT0, HT1⟩⟩, ⟨%W, HW⟩, H2, H3⟩
      iapply ((kernelRun0_B c t _ _ _ _ (fun h => h0 ((hcond0_0 t).mp h)) ((hcond0_1 t).mpr h1) (tbl m 0) (tbl m 1) (V m c main_arg2)) W _)
      isplitl [HT0]; · iexact HT0
      isplitl [HT1]; · iexact HT1
      isplitl [H2]; · iexact H2
      isplitl [H3]; · iexact H3
      isplitl [HS1]; · iexact HS1
      isplitl [Hfr0_0_0]; · iexact Hfr0_0_0
      isplitl [Hfr0_0_1]; · iexact Hfr0_0_1
      isplitl [Hfr0_0_2]; · iexact Hfr0_0_2
      isplitl [HSp0_0]; · iexact HSp0_0
      isplitl [HW]; · iexact HW
      iintro ⟨HT0, HT1, H2, H3, HS1, Hfa0_0', Hfb0_0', Hfc0_0', HSp0_0, ⟨%W', HW'⟩⟩
      isplitl [HS1 Hg HSp0_0 Hfa0_0' Hfb0_0' Hfc0_0' HT0 HT1]
      · isplitl [HS1]; · iexact HS1
        isplitl [Hg]; · iexact Hg
        isplitr [HT0 HT1]; swap
        · isplitl [HT0]; · iexact HT0
          iexact HT1
        isplitl [Hfa0_0' Hfb0_0' Hfc0_0']
        · iapply (Ring.with_homes (Idealize.SL.BI.Entails.refl _))
          isplitl [Hfa0_0']; · iexact Hfa0_0'
          isplitl [Hfb0_0']; · iexact Hfb0_0'
          iexact Hfc0_0'
        iexact HSp0_0
      isplitl [HW']
      · iexists W'; iexact HW'
      isplitl [H2]; · iexact H2
      iexact H3
    · have hr0 := rstep0_0_C t (fun h => h0 ((hcond0_0 t).mp h)) (fun h => h1 ((hcond0_1 t).mp h))
      obtain ⟨hK10, hKB0, hKlt0, hKs0⟩ := hr0
      rw [lanesAt_pos _ _ (show ¬t.val = 0 by omega), lanesAt_pos _ _ (show ¬t.val + 1 = 0 by omega), if_neg (show ¬t.val = 0 by omega), if_neg (show ¬t.val + 1 = 0 by omega)]
      rw [Ring.At3_here_tail _ _ _ _ t.val hKlt0, Ring.At3_next_tail _ _ _ _ t.val hKB0 hKlt0, Ring.slotAt3_tail_role _ _ _ t.val]
      iintro ⟨⟨HS1, Hg, ⟨⟨-, Hfr0_0_0, Hfr0_0_1, Hfr0_0_2⟩, HSp0_0⟩, ⟨HT0, HT1⟩⟩, ⟨%W, HW⟩, H2, H3⟩
      iapply ((kernelRun0_C c t _ _ _ _ (fun h => h0 ((hcond0_0 t).mp h)) (fun h => h1 ((hcond0_1 t).mp h)) (tbl m 0) (tbl m 1) (V m c main_arg2)) W _)
      isplitl [HT0]; · iexact HT0
      isplitl [HT1]; · iexact HT1
      isplitl [H2]; · iexact H2
      isplitl [H3]; · iexact H3
      isplitl [HS1]; · iexact HS1
      isplitl [Hfr0_0_0]; · iexact Hfr0_0_0
      isplitl [Hfr0_0_1]; · iexact Hfr0_0_1
      isplitl [Hfr0_0_2]; · iexact Hfr0_0_2
      isplitl [HSp0_0]; · iexact HSp0_0
      isplitl [HW]; · iexact HW
      iintro ⟨HT0, HT1, H2, H3, HS1, Hfa0_0', Hfb0_0', Hfc0_0', HSp0_0, ⟨%W', HW'⟩⟩
      isplitl [HS1 Hg HSp0_0 Hfa0_0' Hfb0_0' Hfc0_0' HT0 HT1]
      · isplitl [HS1]; · iexact HS1
        isplitl [Hg]; · iexact Hg
        isplitr [HT0 HT1]; swap
        · isplitl [HT0]; · iexact HT0
          iexact HT1
        isplitl [Hfa0_0' Hfb0_0' Hfc0_0']
        · iapply (Ring.with_homes (Idealize.SL.BI.Entails.refl _))
          isplitl [Hfa0_0']; · iexact Hfa0_0'
          isplitl [Hfb0_0']; · iexact Hfb0_0'
          iexact Hfc0_0'
        iexact HSp0_0
      isplitl [HW']
      · iexists W'; iexact HW'
      isplitl [H2]; · iexact H2
      iexact H3

/-! ## The launch's proof data -/

section Launch
variable (hO : Ok m) (out0 : (c : Dev nD) → Fin grid0.N → Vec F S16x1x3072 .i32) (out1 : (c : Dev nD) → Fin grid0.N → Vec F S16x1x1024 .i32)

/-- The proof data of the one pipeline on core `c`, for given contents of the output windows after each point. -/
def dats (_ : Fin 1) (c : Dev nD) : Dat τ (Elt F) Unit ℕ (Pipeline.UD sig nD τ) ℕ (cfgM m hO) c where
  A w := V m c (Pipeline.arrRef spec0 w)
  after w t := match w with
    | ⟨0, _⟩ => out0 c t
    | ⟨1, _⟩ => out1 c t
  Φ t := PhiR m c t.val
  q _ := fullShare
  owed _ := 0

theorem A_eq (c : Dev nD) (w : Fin (cfgM m hO).W) : (dats m hO out0 out1 0 c).A w = V m c (Pipeline.arrRef spec0 w) := by
  dsimp only [dats]
theorem after_0 (c : Dev nD) (t : Fin (cfgM m hO).N) : (dats m hO out0 out1 0 c).after 0 t = out0 c t := rfl
theorem after_1 (c : Dev nD) (t : Fin (cfgM m hO).N) : (dats m hO out0 out1 0 c).after 1 t = out1 c t := rfl
theorem Phi_castSucc (c : Dev nD) (t : Fin (cfgM m hO).N) : (dats m hO out0 out1 0 c).Φ t.castSucc = PhiR m c t.val := by
  dsimp only [dats]; simp only [Fin.val_castSucc]
theorem Phi_succ (c : Dev nD) (t : Fin (cfgM m hO).N) : (dats m hO out0 out1 0 c).Φ t.succ = PhiR m c (t.val + 1) := by
  dsimp only [dats]; simp only [Fin.val_succ]

/-- What the body is called with at point `t`. -/
def bodyPre (c : Dev nD) (t : Fin (cfgM m hO).N) : sProp 𝕄 :=
  iprop((dats m hO out0 out1 0 c).Φ t.castSucc ∗ (dats m hO out0 out1 0 c).owesAt () t.castSucc
    ∗ (∃ d, owns (c : Thread nD τ) (ms0_0 m hO t) fullShare d)
    ∗ (∃ d, owns (c : Thread nD τ) (ms0_1 m hO t) fullShare d))

/-- The same as the named obligation spells it. -/
def bodyPreN (c : Dev nD) (t : Fin (cfgM m hO).N) : sProp 𝕄 :=
  iprop((dats m hO out0 out1 0 c).Φ t.castSucc ∗ (dats m hO out0 out1 0 c).owesAt () t.castSucc
    ∗ (∃ d, owns (c : Thread nD τ) (ms0_0 m hO t) fullShare ((dats m hO out0 out1 0 c).before 0 t d))
    ∗ (∃ d, owns (c : Thread nD τ) (ms0_1 m hO t) fullShare ((dats m hO out0 out1 0 c).before 1 t d)))

/-- What the body returns when nothing is named of the windows. -/
def bodyPost (c : Dev nD) (t : Fin (cfgM m hO).N) : sProp 𝕄 :=
  iprop((dats m hO out0 out1 0 c).Φ t.succ ∗ (dats m hO out0 out1 0 c).owesAt () t.succ
    ∗ (∃ d, owns (c : Thread nD τ) (ms0_0 m hO t) fullShare d)
    ∗ (∃ d, owns (c : Thread nD τ) (ms0_1 m hO t) fullShare d))

/-- What it returns when they are named. -/
def bodyPostN (c : Dev nD) (t : Fin (cfgM m hO).N) : sProp 𝕄 :=
  iprop((dats m hO out0 out1 0 c).Φ t.succ ∗ (dats m hO out0 out1 0 c).owesAt () t.succ
    ∗ owns (c : Thread nD τ) (ms0_0 m hO t) fullShare ((dats m hO out0 out1 0 c).after 0 t)
    ∗ owns (c : Thread nD τ) (ms0_1 m hO t) fullShare ((dats m hO out0 out1 0 c).after 1 t))

theorem owesAt_elim (c : Dev nD) (k : Fin ((cfgM m hO).N + 1)) : (dats m hO out0 out1 0 c).owesAt () k ⊢ (iprop(∃ W, owes (c : Thread nD τ) 0 W) : sProp 𝕄) := by
  unfold Dat.owesAt Pipeline.owesWithin
  rw [show (dats m hO out0 out1 0 c).owed k = 0 from rfl]
  iintro ⟨%W, -, HW⟩
  iexists W; iexact HW
theorem owesAt_intro (c : Dev nD) (k : Fin ((cfgM m hO).N + 1)) : (iprop(∃ W, owes (c : Thread nD τ) 0 W) : sProp 𝕄) ⊢ (dats m hO out0 out1 0 c).owesAt () k := by
  unfold Dat.owesAt Pipeline.owesWithin
  rw [show (dats m hO out0 out1 0 c).owed k = 0 from rfl]
  iintro ⟨%W, HW⟩
  iexists W; isplitr; · ipureintro; exact fun _ _ => Or.inl trivial
  iexact HW

/-- The body at any point, the windows forgotten, -/
theorem sound_body (c : Dev nD) (t : Fin (cfgM m hO).N) :
    bodyPre m hO out0 out1 c t ⊢ wp frame (wpE (defs₀ (F := F)) Variants.none c none) Set.univ (bodyAt0 (adm m hO) t) (fun _ => bodyPost m hO out0 out1 c t) := by
  unfold bodyPre bodyPost
  rw [Phi_castSucc, Phi_succ]
  iintro ⟨HP, HW, H2, H3⟩
  ihave HW' := (owesAt_elim m hO out0 out1 c t.castSucc) $$ HW
  iapply (wp_wand_r frame (wpE (defs₀ (F := F)) Variants.none c none) Set.univ)
  isplitl [HP HW' H2 H3]
  · iapply (sound_core m hO c t)
    isplitl [HP]; · iexact HP
    isplitl [HW']; · iexact HW'
    isplitl [H2]; · iexact H2
    iexact H3
  iintro %a ⟨HP, HW, ⟨%d2, -, H2⟩, ⟨%d3, -, H3⟩⟩
  isplitl [HP]; · iexact HP
  isplitl [HW]; · iapply (owesAt_intro m hO out0 out1 c t.succ); iexact HW
  isplitl [H2]; · iexists d2; iexact H2
  iexists d3; iexact H3

/-- and named, where a step determines them. -/
theorem sound_bodyN (h0 : ∀ (c : Dev nD) (t : Fin grid0.N) d, PackOut c t (tbl m 0) (tbl m 1) (V m c main_arg2) d → d = out0 c t) (h1 : ∀ (c : Dev nD) (t : Fin grid0.N) d, LeastOut c t (tbl m 0) (tbl m 1) (V m c main_arg2) d → d = out1 c t)
    (c : Dev nD) (t : Fin (cfgM m hO).N) :
    bodyPreN m hO out0 out1 c t ⊢ wp frame (wpE (defs₀ (F := F)) Variants.none c none) Set.univ (bodyAt0 (adm m hO) t) (fun _ => bodyPostN m hO out0 out1 c t) := by
  unfold bodyPreN bodyPostN
  rw [Phi_castSucc, Phi_succ, after_0, after_1]
  iintro ⟨HP, HW, ⟨%e0, H2⟩, ⟨%e1, H3⟩⟩
  ihave HW' := (owesAt_elim m hO out0 out1 c t.castSucc) $$ HW
  iapply (wp_wand_r frame (wpE (defs₀ (F := F)) Variants.none c none) Set.univ)
  isplitl [HP HW' H2 H3]
  · iapply (sound_core m hO c t)
    isplitl [HP]; · iexact HP
    isplitl [HW']; · iexact HW'
    isplitl [H2]; · iexists _; iexact H2
    iexists _; iexact H3
  iintro %a ⟨HP, HW, ⟨%d2, %e2, H2⟩, ⟨%d3, %e3, H3⟩⟩
  obtain rfl := h0 c t d2 e2
  obtain rfl := h1 c t d3 e3
  isplitl [HP]; · iexact HP
  isplitl [HW]; · iapply (owesAt_intro m hO out0 out1 c t.succ); iexact HW
  isplitl [H2]; · iexact H2
  iexact H3

/-- The body table's row at point `t`'s slots is the body as `bodyAt0` spells it. -/
theorem defs₀_row (t : Fin (cfgM m hO).N) :
    defs₀ (F := F) .tc (cfgM m hO).body ((cfgM m hO).bodyArgs t ((cfgM m hO).slots t)) = bodyAt0 (adm m hO) t := by
  unfold defs₀; rw [Defs.onTc_tc]

/-- Both windows forgotten. -/
def forgets0 : Fin 2 → Bool := fun _ => true

theorem body_obligation (c : Dev nD) : BodyObligation (dats (F := F) m hO out0 out1 0 c) (defs₀ (F := F)) Variants.none () Set.univ forgets0 := fun t => by
  rw [bigSep_W0, bigSep_W0, defs₀_row m hO]
  exact triple_restated (sound_body m hO out0 out1 c t) rfl .rfl fun _ => .rfl

theorem body_obligationN (h0 : ∀ (c : Dev nD) (t : Fin grid0.N) d, PackOut c t (tbl m 0) (tbl m 1) (V m c main_arg2) d → d = out0 c t) (h1 : ∀ (c : Dev nD) (t : Fin grid0.N) d, LeastOut c t (tbl m 0) (tbl m 1) (V m c main_arg2) d → d = out1 c t)
    (c : Dev nD) : BodyObligation (dats (F := F) m hO out0 out1 0 c) (defs₀ (F := F)) Variants.none () Set.univ := fun t => by
  rw [bigSep_W0, bigSep_W0, defs₀_row m hO]
  exact triple_restated (sound_bodyN m hO out0 out1 h0 h1 c t) rfl .rfl fun _ => .rfl

/-- The launch's pieces are the invariant before the first step, -/
theorem hin (c : Dev nD) : iprop(Pipeline.ΦD osem0 spec0 H0 (V m) c ∗ Pipeline.ΦT pre0 (tbl m) c) ⊢ (dats m hO out0 out1 0 c).Φ 0 := by
  rw [PhiD0_eq, PhiT0_eq, show (dats m hO out0 out1 0 c).Φ 0 = PhiR m c 0 from rfl]
  unfold PhiR
  rw [lanesAt_zero c 0 rfl]
  iintro ⟨⟨⟨HR0_0, HS1⟩, Hg, ⟨Hq0, Hq1, Hq2⟩, Hh0⟩, HT⟩
  isplitl [HS1]; · iexact HS1
  isplitl [Hg]; · iexact Hg
  isplitr [HT]; swap; · iexact HT
  iapply (ring0_0_in (F := F) m c)
  isplitl [HR0_0]; · iexact HR0_0
  isplitl [Hq0 Hq1 Hq2]
  · isplitl [Hq0]; · iexact Hq0
    isplitl [Hq1]; · iexact Hq1
    iexact Hq2
  iexact Hh0
/-- and the invariant after the last step gives them back. -/
theorem hout (c : Dev nD) : (dats m hO out0 out1 0 c).Φ (Fin.last (cfgM m hO).N) ⊢ Pipeline.ΦD osem0 spec0 H0 (V m) c := by
  rw [PhiD0_eq, show (dats m hO out0 out1 0 c).Φ (Fin.last (cfgM m hO).N) = PhiR m c grid0.N from rfl]
  unfold PhiR
  rw [show grid0.N = 40 by rw [N_0]]
  rw [lanesAt_pos c 40 (by decide)]
  iintro ⟨HS1, Hg, HR0_0, -⟩
  ihave HX0_0 := (ring0_0_out (F := F) m c) $$ HR0_0
  icases HX0_0 with ⟨HR0_0, ⟨Hq0, Hq1, Hq2⟩, Hh0⟩
  isplitl [HR0_0 HS1]
  · isplitl [HR0_0]; · iexact HR0_0
    iexists _; iexact HS1
  isplitl [Hg]
  · iexact Hg
  isplitl [Hq0 Hq1 Hq2]
  · isplitl [Hq0]; · iexact Hq0
    isplitl [Hq1]; · iexact Hq1
    iexact Hq2
  iexact Hh0

/-! ## The run -/

set_option backward.isDefEq.respectTransparency.types false in
/-- The run, nothing said of the two results: every other buffer as it was, every counter at zero. -/
theorem run_forgetting : θ_run defs (onTc (τ := τ) (main (F := F))) (s₀ m ρ) (fun r => (Pipeline.RDat.FramePost ((Pipeline.pin pcfgs fun _ => adm m hO) 0) (fun c => (dats m hO out0 out1 0 c).toRForget forgets0) (V m)) r ∧ r.2.sem = fun _ => 0) :=
  Pipeline.θ_run_frameP_dma_forget (Q' := _) pcfgs (fun _ => adm m hO) (dats m hO out0 out1) (0 : Fin 1) launch0 osem0 defs₀ Variants.none forgets0 ownSemFacts0 H0 H0_sub m ρ main
    (hbody := fun c => (body_obligation m hO out0 out1 c).loose) (hshare := fun c => (dats m hO out0 out1 0 c).share_full fun _ => rfl)
    (howed := fun _ _ => rfl) (V := V m) (hmain := hmain m Variants.none) (hA := A_eq m hO out0 out1) (hpf := V_pre m) (hin := hin m hO out0 out1) (hout := hout m hO out0 out1)

set_option backward.isDefEq.respectTransparency.types false in
/-- The run, the two results named. -/
theorem run_named (h0 : ∀ (c : Dev nD) (t : Fin grid0.N) d, PackOut c t (tbl m 0) (tbl m 1) (V m c main_arg2) d → d = out0 c t) (h1 : ∀ (c : Dev nD) (t : Fin grid0.N) d, LeastOut c t (tbl m 0) (tbl m 1) (V m c main_arg2) d → d = out1 c t) :
    θ_run defs (onTc (τ := τ) (main (F := F))) (s₀ m ρ) (Pipeline.FramePost (Pipeline.pin pcfgs fun _ => adm m hO) (dats m hO out0 out1) 0 (V m)) :=
  Pipeline.θ_run_frameP_dma (Q' := _) pcfgs (fun _ => adm m hO) (dats m hO out0 out1) (0 : Fin 1) launch0 osem0 defs₀ Variants.none ownSemFacts0 H0 H0_sub m ρ main
    (hbody := fun c => (body_obligationN m hO out0 out1 h0 h1 c).loose) (hshare := fun c => (dats m hO out0 out1 0 c).share_full fun _ => rfl)
    (howed := fun _ _ => rfl) (V := V m) (hmain := hmain m Variants.none) (hA := A_eq m hO out0 out1) (hpf := V_pre m) (hin := hin m hO out0 out1) (hout := hout m hO out0 out1)
end Launch

/-- The arguments end as they began and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  have h := run_forgetting m ρ hO (fun _ _ _ => 0#32) (fun _ _ _ => 0#32)
  θ_run_and (frame_of m ρ hO _ (A_eq m hO (fun _ _ _ => 0#32) (fun _ _ _ => 0#32)) ((θ_run defs _ _).mono (fun _ h => h.1) h)) ((θ_run defs _ _).mono (fun _ h => h.2) h)

end Cert.Distances.Gen

end
-- ==== Proof.Ideal.Ring.lean ====
/-  The distance kernel's copies: what the proofs of its three kinds of step share. The signatures stream from HBM through a
    scratch buffer of three slots, each slot two windows (one per signature word) of 16 rows and 10112 columns, both filled
    by copies counted on one semaphore, two blocks ahead of the block in use. Named here: the windows, the blocks, the
    semaphores, the resources of the ring before each step, and the scratch buffer's remaining columns, which no copy fills. -/
module

public import proofs.«01_k».proof.Proof.Gen.DistancesIdeal.Launch
public import proofs.«01_k».proof.Proof.Gen.DistancesIdeal.Skeleton
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.DistancesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S640 .i32 := Memref.whole main_arg0
abbrev htbM0_0 : tbM0_0.IsWhole := Memref.isWhole_whole _
abbrev tbM0_1 : Memref sig .tc .smem S2x640 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Distances`, Defs.lean, at any `F`). -/
theorem frame_of (hO : Ok m) (rdat : (c : Dev nD) → Pipeline.RDat τ (Elt F) Unit ℕ (Pipeline.UD sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 40 = 0 :=
  (fun t => by
    have ht : t.val < 40 := Nat.lt_of_lt_of_eq t.isLt N_0
    have e0 : (grid0.coords t 0).val = t.val / 1 % 40 := Pipeline.Grid.coords_val t 0 (by decide) rfl
    simp only [cond0_0, e0]
    word_cmp
   : ∀ t : Fin grid0.N, cond0_0 (grid0.coords t) ↔ t.val % 40 = 0)

/-- The condition of the body's `scf.if` 1 (`k0_h2`), from the grid coordinates (the skeleton's scalar
    chain substituted). -/
abbrev cond0_1 (i : grid0.Coords) : Prop := k0_cond2 i = 1#1
/-- It holds at the points before point 38 — decided over the grid. -/
theorem hcond0_1 : ∀ t : Fin grid0.N, cond0_1 (grid0.coords t) ↔ t.val < 38 :=
  (by decide +kernel : ∀ t : Fin grid0.N, cond0_1 (grid0.coords t) ↔ t.val < 38)

/-! ## The memrefs the body is handed -/

/-- Each window's current staging memref at point `t`, spelled as the pipeline passes it, and its wholeness. -/
abbrev ms0_0 (hO : Ok m) (t : Fin (cfgM m hO).N) : Memref sig .tc .vmem S16x1x3072 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S16x1x1024 .i32 := spec0_1.stage ((cfgM m hO).slots t 1)
abbrev hs0_1 (hO : Ok m) (t : Fin (cfgM m hO).N) : (ms0_1 m hO t).IsWhole := hstage0_1 (((cfgM m hO).slots t 1).cast nbuf0_1)
/-- The kernel body at point `t`, on what the pipeline calls it with. -/
abbrev bodyAt0 (a : (pcfg0 (F := F)).Adm) (t : Fin (cfg0 a).N) : Prog (TpuEff nD τ sig (Elt F) Λ₀ .tc) PUnit :=
  cc0_hamming (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (Memref.whole cc0_scratch0) (Memref.isWhole_whole _) (Memref.whole cc0_scratch1) (Memref.isWhole_whole _) cc0_scratch2
/-- The scratch operands: whole scoped buffers of the kernel's own, passed beside the windows. -/
abbrev scM0_0 : Memref sig .tc .vmem S3x2x16x1x12288 .i32 := Memref.whole cc0_scratch0
abbrev scM0_1 : Memref sig .tc .vmem S1x1024 .i32 := Memref.whole cc0_scratch1
/-- The operands left in HBM that the body copies into scratch itself, whole. -/
abbrev hbM0_0 : Memref sig .tc .hbm S640x2x10112 .i32 := Memref.whole main_arg2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 3 → SemLoc sig := fun j => (![SemLoc.dma 4, SemLoc.dma 5, SemLoc.dma 6] : Fin 3 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0) := by
  rw [Pipeline.ownSems0_eq_of_list c osem0 [0, 1, 2] (by decide) (by decide)]; rfl
/-- The HBM operands the body moves, as references: unscoped, no window's array (`Pipeline.restRefs`). -/
def H0 : Finset (Ref sig .tc) := {main_arg2}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2)) := by
  rw [BI.bigSep_eq_bigSepL_of_eq [main_arg2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 4) 0 ∗ semVal ((c : Thread nD τ), SemLoc.dma 5) 0 ∗ semVal ((c : Thread nD τ), SemLoc.dma 6) 0) ∗ iprop(hbPt0 c hbM0_0 (V m c main_arg2))) := by
  rw [Pipeline.ΦD_eq, scopedRest0_eq, ownSems00_eq, hbmPts0_eq]; simp only [scM0_0, scM0_1, owns_whole]; try rfl

/-! ## Ring 0 of kernel 0: `main_arg2` streamed through the 3 slots of `cc0_scratch0`, each slot 2 PARTS filled by 2 transfers counted on one cell of `cc0_scratch2`, 2 blocks ahead, in 40 steps  -/

instance : NeZero grid0.N := ⟨by rw [N_0]; decide⟩
theorem inb_win0_0 (s : Fin 3) (w : Fin 2) : ∀ a, (![s.val, w.val, 0, 0, 0] : Fin 5 → Nat) a + S1x1x16x1x10112.size a ≤ S3x2x16x1x12288.size a := by
  have := s.isLt; have := w.isLt; intro a; fin_cases a <;> simp <;> omega
theorem inb_cell0_0 (s : Fin 3) : ∀ a, (![s.val] : Fin 1 → Nat) a + S1.size a ≤ S3.size a := by
  have := s.isLt; intro a; fin_cases a <;> simp <;> omega
theorem inb_src0_0_0 (b : Fin 40) : ∀ a, (![16 * b.val, 0, 0] : Fin 3 → Nat) a + S16x1x10112.size a ≤ S640x2x10112.size a := by
  have := b.isLt; intro a; fin_cases a <;> simp <;> omega
/-- Part 0 of slot `s`, spelt as the transfers into it spell their destination, at offsets in `s`. -/
def rwin0_0_0 (s : Fin 3) : Memref sig .tc .vmem S16x10112 .i32 :=
  (scM0_0.slice (Rect.unit (s := S3x2x16x1x12288) ![s.val, 0, 0, 0, 0] S1x1x16x1x10112.size (inb_win0_0 s 0)) (fun _ => rfl)).squeeze S16x10112 squeezes_S1x1x16x1x10112_S16x10112
/-- Block `b` of `main_arg2` as part 0's transfers spell their source (the block step `b` waits), at offsets in `b`. -/
def srcB0_0_0 (b : Fin 40) : Memref sig .tc .hbm S16x10112 .i32 :=
  (hbM0_0.slice (Rect.unit (s := S640x2x10112) ![16 * b.val, 0, 0] S16x1x10112.size (inb_src0_0_0 b)) (fun _ => rfl)).squeeze S16x10112 squeezes_S16x1x10112_S16x10112
theorem inb_src0_0_1 (b : Fin 40) : ∀ a, (![16 * b.val, 1, 0] : Fin 3 → Nat) a + S16x1x10112.size a ≤ S640x2x10112.size a := by
  have := b.isLt; intro a; fin_cases a <;> simp <;> omega
/-- Part 1 of slot `s`, spelt as the transfers into it spell their destination, at offsets in `s`. -/
def rwin0_0_1 (s : Fin 3) : Memref sig .tc .vmem S16x10112 .i32 :=
  (scM0_0.slice (Rect.unit (s := S3x2x16x1x12288) ![s.val, 1, 0, 0, 0] S1x1x16x1x10112.size (inb_win0_0 s 1)) (fun _ => rfl)).squeeze S16x10112 squeezes_S1x1x16x1x10112_S16x10112
/-- Block `b` of `main_arg2` as part 1's transfers spell their source (the block step `b` waits), at offsets in `b`. -/
def srcB0_0_1 (b : Fin 40) : Memref sig .tc .hbm S16x10112 .i32 :=
  (hbM0_0.slice (Rect.unit (s := S640x2x10112) ![16 * b.val, 1, 0] S16x1x10112.size (inb_src0_0_1 b)) (fun _ => rfl)).squeeze S16x10112 squeezes_S16x1x10112_S16x10112
/-- Cell `s` of `cc0_scratch2`, spelt as the body spells a cell; its number in the pool. -/
def cellA0_0 (s : Fin 3) : DmaSems sig S_ := (cc0_scratch2.slice (Rect.unit (s := S3) ![s.val] S1.size (inb_cell0_0 s))).squeeze S_ squeezes_S1_S_
abbrev cellR0_0 (s : Fin 3) : SemLoc sig := SemLoc.dma (cellA0_0 s).sem
theorem cellR0_0_0 : cellR0_0 0 = SemLoc.dma 4 := by decide
theorem cellR0_0_1 : cellR0_0 1 = SemLoc.dma 5 := by decide
theorem cellR0_0_2 : cellR0_0 2 = SemLoc.dma 6 := by decide

section Ring0_0
variable (c : Dev nD) (W0 : HbBuf0 (F := F) c hbM0_0)
/-- Each operand is lent BY SHARE, one read-share copy of it per slot and member that streams it (the full share halved down
    a spine): whatever blocks the transfers in flight stream, each borrows from a copy of its own. -/
abbrev qs0_0_0 (s : Fin 3) : PosShare TreeShare := if s.val = 0 then fullShare.left else if s.val = 1 then fullShare.right.left else fullShare.right.right.left
abbrev qs0_0_1 (s : Fin 3) : PosShare TreeShare := if s.val = 0 then fullShare.right.right.right.left else if s.val = 1 then fullShare.right.right.right.right.left else fullShare.right.right.right.right.right
/-- The families the ring is stated over: part `w` of slot `s` held at `e` and the slot as its parts, each at its own contents `f w`; cell `s`
    at zero; per member, block `b`'s elements of slot `s`'s copy of its operand, the REST of that copy, the copy whole, and the part once
    block `b` LANDED in it: one listed write over junk (the executor restates the prior contents), so that what the flight
    delivers is fixed when it is allocated; the FLIGHT of block `b` into slot `s`: Lib/Batch.lean's batch of the 2 transfers on the
    slot's cell, all issued, nothing consumed, delivering each part landed and its lent elements back. -/
abbrev winP0_0_0 (s : Fin 3) (e : HbBuf0 (F := F) c scM0_0) : sProp 𝕄 := (rwin0_0_0 s).view.loc (c : Thread nD τ) ↦[(rwin0_0_0 s).view.set]{fullShare} e
abbrev winP0_0_1 (s : Fin 3) (e : HbBuf0 (F := F) c scM0_0) : sProp 𝕄 := (rwin0_0_1 s).view.loc (c : Thread nD τ) ↦[(rwin0_0_1 s).view.set]{fullShare} e
abbrev slotP0_0 (s : Fin 3) (f : Fin 2 → HbBuf0 (F := F) c scM0_0) : sProp 𝕄 := iprop(winP0_0_0 c s (f 0) ∗ winP0_0_1 c s (f 1))
abbrev cellP0_0 (s : Fin 3) : sProp 𝕄 := semVal ((c : Thread nD τ), cellR0_0 s) 0
abbrev srcP0_0_0 (s : Fin 3) (b : Fin 40) : sProp 𝕄 := (srcB0_0_0 b).view.loc (c : Thread nD τ) ↦[(srcB0_0_0 b).view.set]{qs0_0_0 s} W0
def restP0_0_0 (s : Fin 3) (b : Fin 40) : sProp 𝕄 := ((c : Thread nD τ).loc main_arg2) ↦[Finset.univ \ (srcB0_0_0 b).view.set]{qs0_0_0 s} W0
abbrev wholeP0_0_0 (s : Fin 3) : sProp 𝕄 := ((c : Thread nD τ).loc main_arg2) ↦[Finset.univ]{qs0_0_0 s} W0
abbrev landed0_0_0 (s : Fin 3) (b : Fin 40) : HbBuf0 (F := F) c scM0_0 :=
  (rwin0_0_0 s).view.writes (Elt F) (rwin0_0_0 s).view.junk [⟨Rect.whole S16x10112, ReadAs.same.apply ((srcB0_0_0 b).view.read (Elt F) W0)⟩]
abbrev srcP0_0_1 (s : Fin 3) (b : Fin 40) : sProp 𝕄 := (srcB0_0_1 b).view.loc (c : Thread nD τ) ↦[(srcB0_0_1 b).view.set]{qs0_0_1 s} W0
def restP0_0_1 (s : Fin 3) (b : Fin 40) : sProp 𝕄 := ((c : Thread nD τ).loc main_arg2) ↦[Finset.univ \ (srcB0_0_1 b).view.set]{qs0_0_1 s} W0
abbrev wholeP0_0_1 (s : Fin 3) : sProp 𝕄 := ((c : Thread nD τ).loc main_arg2) ↦[Finset.univ]{qs0_0_1 s} W0
abbrev landed0_0_1 (s : Fin 3) (b : Fin 40) : HbBuf0 (F := F) c scM0_0 :=
  (rwin0_0_1 s).view.writes (Elt F) (rwin0_0_1 s).view.junk [⟨Rect.whole S16x10112, ReadAs.same.apply ((srcB0_0_1 b).view.read (Elt F) W0)⟩]
abbrev landed0_0 (s : Fin 3) (b : Fin 40) : Fin 2 → HbBuf0 (F := F) c scM0_0 := ![landed0_0_0 c W0 s b, landed0_0_1 c W0 s b]
abbrev winD0_0 (s : Fin 3) (b : Fin 40) : Fin 2 → sProp 𝕄 :=
  ![iprop(winP0_0_0 c s (landed0_0_0 c W0 s b) ∗ srcP0_0_0 c W0 s b), iprop(winP0_0_1 c s (landed0_0_1 c W0 s b) ∗ srcP0_0_1 c W0 s b)]
/-- One part's transfer amount on the slot's cell (every part's is this: the executor checks each issue's by evaluation). -/
abbrev NN0_0 : ℕ := (rwin0_0_0 0).view.amount (cellR0_0 0)
abbrev flightP0_0 (s : Fin 3) (b : Fin 40) (_f : Fin 2 → HbBuf0 (F := F) c scM0_0) : sProp 𝕄 :=
  Transfers.Batch countersEmb (c : Thread nD τ) (cellR0_0 s) default NN0_0 (winD0_0 c W0 s b) 2 0
/-- A points-to is storable along the resources' factor, at any signature and algebra: stated over variables, so that citing it
    unfolds nothing of this program (instance search from a delivery's statement does, at a cost that grows with the program). -/
theorem storable_pt0_0 {nD' : Nat} {τ' : Topo} {sg : RefSig} {Ix' : Type} [DecidableEq Ix'] {Val' : EltTy → Type} {Name' : Type} [DecidableEq Name']
    {U' : Type} [URA U'] {Lvl' : Type} (ℓ : Loc nD' τ' sg) (I : Finset (Idx ℓ)) (q : PosShare TreeShare) (f : Buf Val' ℓ) :
    Storable (upEmb : UEmb _ (MT nD' τ' sg Ix' Val' Name' U' Lvl')) (ℓ ↦[I]{q} f) := inferInstance
/-- The flight's deliveries are storable, part by part (what `Transfers.batch_alloc'` asks): each a `Storable.sep` of two points-tos. -/
theorem storable_winD0_0 (s : Fin 3) (b : Fin 40) : ∀ w, Storable (upEmb : UEmb _ 𝕄) (winD0_0 (F := F) c W0 s b w) := by
  intro w; fin_cases w <;> exact @Storable.sep _ _ _ _ _ _ _ _ (storable_pt0_0 _ _ _ _) (storable_pt0_0 _ _ _ _)
/-- Lib/Ring.lean's `slot` and `flight` families: a slot not in flight carries each member's copy of its operand whole; a flight, the
    rests of the copies it borrowed from. No block is held apart: the `home` family is `emp`. -/
abbrev slotW0_0 (s : Fin 3) (f : Fin 2 → HbBuf0 (F := F) c scM0_0) : sProp 𝕄 := iprop(slotP0_0 c s f ∗ wholeP0_0_0 c W0 s ∗ wholeP0_0_1 c W0 s)
abbrev flightW0_0 (s : Fin 3) (b : Fin 40) (f : Fin 2 → HbBuf0 (F := F) c scM0_0) : sProp 𝕄 := iprop(flightP0_0 c W0 s b f ∗ restP0_0_0 c W0 s b ∗ restP0_0_1 c W0 s b)
abbrev noHome0_0 (b : Fin 40) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_0 (k : ℕ) : sProp 𝕄 :=
  if k = 0 then Ring.At₀ (cellP0_0 c) (slotW0_0 c W0) noHome0_0
  else Ring.At 2 (cellP0_0 c) (slotW0_0 c W0) noHome0_0 (flightW0_0 c W0) k
omit [FloatOps F] in
theorem cellP0_0_0 : cellP0_0 (F := F) c 0 = semVal ((c : Thread nD τ), SemLoc.dma 4) 0 := congrArg (fun x => (semVal ((c : Thread nD τ), x) 0 : sProp 𝕄)) cellR0_0_0
omit [FloatOps F] in
theorem cellP0_0_1 : cellP0_0 (F := F) c 1 = semVal ((c : Thread nD τ), SemLoc.dma 5) 0 := congrArg (fun x => (semVal ((c : Thread nD τ), x) 0 : sProp 𝕄)) cellR0_0_1
omit [FloatOps F] in
theorem cellP0_0_2 : cellP0_0 (F := F) c 2 = semVal ((c : Thread nD τ), SemLoc.dma 6) 0 := congrArg (fun x => (semVal ((c : Thread nD τ), x) 0 : sProp 𝕄)) cellR0_0_2
end Ring0_0

/-! ### The slots' parts: boxes of one size at box offsets over (slot, part), pairwise disjoint by box index (Lib/Ring/WriteBehind.lean `boxes_disjoint`); the scratch's other elements beside the ring -/

abbrev winOff0_0 (i : Fin 3 × Fin 2) : Fin 5 → Nat := ![i.1.val, i.2.val, 0, 0, 0]
theorem inb_win0_0' (i : Fin 3 × Fin 2) : ∀ a, winOff0_0 i a + S1x1x16x1x10112.size a ≤ S3x2x16x1x12288.size a := inb_win0_0 i.1 i.2
abbrev winSet0_0 (i : Fin 3 × Fin 2) : Finset S3x2x16x1x12288.Idx := (Rect.unit (s := S3x2x16x1x12288) (winOff0_0 i) S1x1x16x1x10112.size (inb_win0_0' i)).set
theorem winSet0_0_eq_0 (s : Fin 3) : (rwin0_0_0 s).view.set = winSet0_0 (s, 0) := by
  simp only [rwin0_0_0, Memref.view_squeeze, View.set_reshape]; exact View.set_slice_whole _ _
theorem winSet0_0_eq_1 (s : Fin 3) : (rwin0_0_1 s).view.set = winSet0_0 (s, 1) := by
  simp only [rwin0_0_1, Memref.view_squeeze, View.set_reshape]; exact View.set_slice_whole _ _
/-- part (s, w)'s box index per axis (offset / extent), and the (slot, part) at a box index (its left inverse). -/
def winIx0_0 (i : Fin 3 × Fin 2) : Fin 5 → ℕ := ![i.1.val, i.2.val, 0, 0, 0]
def winUn0_0 (v : Fin 5 → ℕ) : Fin 3 × Fin 2 := (Fin.ofNat 3 (v 0), Fin.ofNat 2 (v 1))
theorem winUn0_0_left : ∀ i : Fin 3 × Fin 2, winUn0_0 (winIx0_0 i) = i := by decide +kernel
theorem wins0_0_disjoint (i i' : Fin 3 × Fin 2) (h : i ≠ i') : Disjoint (winSet0_0 i) (winSet0_0 i') :=
  Ring.boxes_disjoint (s := S3x2x16x1x12288) S1x1x16x1x10112.size winOff0_0 inb_win0_0' winIx0_0
    (fun i a => by fin_cases a <;> simp [winOff0_0, winIx0_0] <;> omega) winUn0_0 winUn0_0_left i i' h
/-- The scratch's elements outside the ring's parts (none, when the parts tile it): no statement of the body names them; the
    invariant carries them beside the ring at some contents, so no theorem here says what they are. -/
abbrev spareSet0_0 : Finset S3x2x16x1x12288.Idx := Finset.univ \ Finset.univ.biUnion winSet0_0
abbrev spareP0_0 (c : Dev nD) : sProp 𝕄 := iprop(∃ f : Buf (Elt F) ((c : Thread nD τ).loc cc0_scratch0), ((c : Thread nD τ).loc cc0_scratch0) ↦[spareSet0_0]{fullShare} f)

/-! ### What the launch hands the ring, and takes back -/

section InOut0_0
variable (c : Dev nD) (W0 : HbBuf0 (F := F) c hbM0_0)
theorem winP0_0_eq (i : Fin 3 × Fin 2) (e : HbBuf0 (F := F) c scM0_0) : (![winP0_0_0 (F := F) c i.1 e, winP0_0_1 (F := F) c i.1 e] : Fin 2 → sProp 𝕄) i.2 = (((c : Thread nD τ).loc cc0_scratch0) ↦[winSet0_0 i]{fullShare} e : sProp 𝕄) := by
  obtain ⟨s, w⟩ := i
  fin_cases w
  · show winP0_0_0 (F := F) c s e = _; unfold winP0_0_0; rw [winSet0_0_eq_0]; rfl
  · show winP0_0_1 (F := F) c s e = _; unfold winP0_0_1; rw [winSet0_0_eq_1]; rfl
/-- The parts over (slot, part), each at SOME contents, are the slots, each at some contents per part; -/
theorem slots0_0_eq : (bigSep Finset.univ (fun i : Fin 3 × Fin 2 => iprop(∃ e, (fun (i : Fin 3 × Fin 2) (e : HbBuf0 (F := F) c scM0_0) => (![winP0_0_0 c i.1 e, winP0_0_1 c i.1 e] : Fin 2 → sProp 𝕄) i.2) i e)) : sProp 𝕄) = iprop((∃ f, slotP0_0 (F := F) c 0 f) ∗ (∃ f, slotP0_0 (F := F) c 1 f) ∗ ∃ f, slotP0_0 (F := F) c 2 f) := by
  rw [BI.bigSep_univ_prod, Ring.bigSep_fin3]
  have e : ∀ j : Fin 3, (bigSep Finset.univ (fun w : Fin 2 => iprop(∃ e, (fun (i : Fin 3 × Fin 2) (e : HbBuf0 (F := F) c scM0_0) => (![winP0_0_0 c i.1 e, winP0_0_1 c i.1 e] : Fin 2 → sProp 𝕄) i.2) (j, w) e)) : sProp 𝕄) = iprop(∃ f, slotP0_0 (F := F) c j f) := fun j => by
    rw [← Ring.bigSep_exists_pi_eq]; unfold slotP0_0
    refine congrArg _ (funext fun f => ?_)
    rw [BI.bigSep_eq_bigSepL_of_eq [0, 1] (by decide) (by decide)]; rfl
  rw [e 0, e 1, e 2]

/-- the slot at a tuple of contents written `![…]` is each of its parts at its own entry of the tuple: `rfl` over variables
    reduces the tuple and has no part's contents to unfold (unfolding a part's contents evaluates its view, element by element); -/
theorem slotP0_0_tuple (s : Fin 3) (a0 a1 : HbBuf0 (F := F) c scM0_0) : slotP0_0 (F := F) c s ![a0, a1] = iprop(winP0_0_0 c s a0 ∗ winP0_0_1 c s a1) := rfl
/-- so the slot at the tuple `landed0_0` (what the run names for the freed slot) is each of its parts at its own landed entry, the
    form in which the draining wait hands a part back (its assertion as `winD0_0` states it, verbatim): the run cites this and
    hands each part back by a syntactic match; -/
theorem slotP0_0_landed (s : Fin 3) (b : Fin 40) : iprop(winP0_0_0 c s (landed0_0_0 c W0 s b) ∗ winP0_0_1 c s (landed0_0_1 c W0 s b)) ⊢ slotP0_0 (F := F) c s (landed0_0 c W0 s b) :=
  Entails.of_eq (slotP0_0_tuple c s (landed0_0_0 c W0 s b) (landed0_0_1 c W0 s b)).symm
/-- a slot's copy of part 0's operand, whole, is block `b`'s elements and the rest (any `b`); -/
theorem src0_0_0_split (s : Fin 3) (b : Fin 40) : wholeP0_0_0 (F := F) c W0 s ⊣⊢ iprop(srcP0_0_0 c W0 s b ∗ restP0_0_0 c W0 s b) := by
  unfold restP0_0_0; exact pointsTo_split_subset (Finset.subset_univ _)
/-- a slot's copy of part 1's operand, whole, is block `b`'s elements and the rest (any `b`); -/
theorem src0_0_1_split (s : Fin 3) (b : Fin 40) : wholeP0_0_1 (F := F) c W0 s ⊣⊢ iprop(srcP0_0_1 c W0 s b ∗ restP0_0_1 c W0 s b) := by
  unfold restP0_0_1; exact pointsTo_split_subset (Finset.subset_univ _)
/-- `main_arg2` whole at the full share is its 6 copies (one per slot and member streaming it: the share halved down a spine). -/
theorem whole0_0_r0_split : (hbPt0 c hbM0_0 W0 : sProp 𝕄) ⊣⊢ iprop(wholeP0_0_0 c W0 0 ∗ wholeP0_0_0 c W0 1 ∗ wholeP0_0_0 c W0 2 ∗ wholeP0_0_1 c W0 0 ∗ wholeP0_0_1 c W0 1 ∗ wholeP0_0_1 c W0 2) := by
  refine ⟨?_, ?_⟩
  · iintro H
    ihave G0 := (pointsTo_share (PosShare.mem_left_op_right fullShare)).1 $$ H
    icases G0 with ⟨H0, R1⟩
    ihave G1 := (pointsTo_share (PosShare.mem_left_op_right fullShare.right)).1 $$ R1
    icases G1 with ⟨H1, R2⟩
    ihave G2 := (pointsTo_share (PosShare.mem_left_op_right fullShare.right.right)).1 $$ R2
    icases G2 with ⟨H2, R3⟩
    ihave G3 := (pointsTo_share (PosShare.mem_left_op_right fullShare.right.right.right)).1 $$ R3
    icases G3 with ⟨H3, R4⟩
    ihave G4 := (pointsTo_share (PosShare.mem_left_op_right fullShare.right.right.right.right)).1 $$ R4
    icases G4 with ⟨H4, H5⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2]; · iexact H2
    iapply (pointsTo_share (PosShare.mem_left_op_right fullShare.right.right.right)).2
    isplitl [H3]; · iexact H3
    iapply (pointsTo_share (PosShare.mem_left_op_right fullShare.right.right.right.right)).2
    isplitl [H4]; · iexact H4
    iexact H5

set_option maxHeartbeats 1000000 in
/-- the scratch whole at anything is its slots at something each, part by part, and its other elements at something; and back. -/
theorem slots0_0_in : iprop(∃ d, owns (c : Thread nD τ) scM0_0 fullShare d) ⊢ (iprop(((∃ f, slotP0_0 (F := F) c 0 f) ∗ (∃ f, slotP0_0 (F := F) c 1 f) ∗ ∃ f, slotP0_0 (F := F) c 2 f) ∗ spareP0_0 c) : sProp 𝕄) := by
  simp only [scM0_0, owns_whole]
  rw [← slots0_0_eq c]
  exact Ring.pieces_split_spare (U := Pipeline.UD sig nD τ) (ℓ := (c : Thread nD τ).loc cc0_scratch0) (q := fullShare) winSet0_0 wins0_0_disjoint
    (fun (i : Fin 3 × Fin 2) (e : HbBuf0 (F := F) c scM0_0) => (![winP0_0_0 c i.1 e, winP0_0_1 c i.1 e] : Fin 2 → sProp 𝕄) i.2) (winP0_0_eq c)
set_option maxHeartbeats 1000000 in
theorem slots0_0_out : (iprop(((∃ f, slotP0_0 (F := F) c 0 f) ∗ (∃ f, slotP0_0 (F := F) c 1 f) ∗ ∃ f, slotP0_0 (F := F) c 2 f) ∗ spareP0_0 c) : sProp 𝕄) ⊢ iprop(∃ d, owns (c : Thread nD τ) scM0_0 fullShare d) := by
  simp only [scM0_0, owns_whole]
  rw [← slots0_0_eq c]
  exact Ring.pieces_join_spare (U := Pipeline.UD sig nD τ) (ℓ := (c : Thread nD τ).loc cc0_scratch0) (q := fullShare) winSet0_0 wins0_0_disjoint
    (fun (i : Fin 3 × Fin 2) (e : HbBuf0 (F := F) c scM0_0) => (![winP0_0_0 c i.1 e, winP0_0_1 c i.1 e] : Fin 2 → sProp 𝕄) i.2) (winP0_0_eq c)
end InOut0_0

/-- INTO THE RING: the launch's pieces — the scratch whole, the cells at zero, each operand whole — are the ring before its first step and, beside it, the scratch's other elements; -/
theorem ring0_0_in (c : Dev nD) :
    iprop((∃ d, owns (c : Thread nD τ) scM0_0 fullShare d) ∗ (semVal ((c : Thread nD τ), SemLoc.dma 4) 0 ∗ semVal ((c : Thread nD τ), SemLoc.dma 5) 0 ∗ semVal ((c : Thread nD τ), SemLoc.dma 6) 0) ∗ hbPt0 c hbM0_0 (V m c main_arg2))
      ⊢ iprop(ringAt0_0 c (V m c main_arg2) 0 ∗ spareP0_0 c) := by
  unfold ringAt0_0; rw [if_pos rfl]; unfold Ring.At₀
  rw [Ring.bigSep_fin3]
  simp only [Ring.free, cellP0_0_0, cellP0_0_1, cellP0_0_2]
  iintro ⟨HS, Hc, HR0⟩
  icases Hc with ⟨H0, H1, H2⟩
  ihave HS' := (slots0_0_in (F := F) c) $$ HS
  icases HS' with ⟨⟨⟨%d0, HS0⟩, ⟨%d1, HS1⟩, ⟨%d2, HS2⟩⟩, HSp⟩
  ihave HR0' := (whole0_0_r0_split (F := F) c (V m c main_arg2)).1 $$ HR0
  icases HR0' with ⟨HW0_0, HW0_1, HW0_2, HW1_0, HW1_1, HW1_2⟩
  isplitl [H0 HS0 HW0_0 HW1_0 H1 HS1 HW0_1 HW1_1 H2 HS2 HW0_2 HW1_2]
  · iapply Ring.with_homes₀
    isplitl [H0 HS0 HW0_0 HW1_0]
    · isplitl [H0]; · iexact H0
      iexists d0; isplitl [HS0]; · iexact HS0
      isplitl [HW0_0]; · iexact HW0_0
      iexact HW1_0
    isplitl [H1 HS1 HW0_1 HW1_1]
    · isplitl [H1]; · iexact H1
      iexists d1; isplitl [HS1]; · iexact HS1
      isplitl [HW0_1]; · iexact HW0_1
      iexact HW1_1
    · isplitl [H2]; · iexact H2
      iexists d2; isplitl [HS2]; · iexact HS2
      isplitl [HW0_2]; · iexact HW0_2
      iexact HW1_2
  iexact HSp
/-- OUT OF THE RING: after the last step (every slot free) those pieces again. -/
theorem ring0_0_out (c : Dev nD) :
    iprop(ringAt0_0 c (V m c main_arg2) 40 ∗ spareP0_0 c)
      ⊢ iprop((∃ d, owns (c : Thread nD τ) scM0_0 fullShare d) ∗ (semVal ((c : Thread nD τ), SemLoc.dma 4) 0 ∗ semVal ((c : Thread nD τ), SemLoc.dma 5) 0 ∗ semVal ((c : Thread nD τ), SemLoc.dma 6) 0) ∗ hbPt0 c hbM0_0 (V m c main_arg2)) := by
  unfold ringAt0_0; rw [if_neg (by decide)]
  iintro ⟨H, HSp⟩
  ihave H' := (Ring.free3_of_At_last _ _ _ _) $$ H
  simp only [Ring.free, cellP0_0_0, cellP0_0_1, cellP0_0_2]
  icases H' with ⟨-, ⟨H0, ⟨%f0, HS0, HW0_0, HW1_0⟩⟩, ⟨H1, ⟨%f1, HS1, HW0_1, HW1_1⟩⟩, ⟨H2, ⟨%f2, HS2, HW0_2, HW1_2⟩⟩⟩
  isplitl [HS0 HS1 HS2 HSp]
  · iapply (slots0_0_out (F := F) c); isplitl [HS0 HS1 HS2]
    · isplitl [HS0]; · iexists f0; iexact HS0
      isplitl [HS1]; · iexists f1; iexact HS1
      iexists f2; iexact HS2
    iexact HSp
  isplitl [H0 H1 H2]
  · isplitl [H0]; · iexact H0
    isplitl [H1]; · iexact H1
    iexact H2
  · iapply (whole0_0_r0_split (F := F) c (V m c main_arg2)).2; isplitl [HW0_0]; · iexact HW0_0
    isplitl [HW0_1]; · iexact HW0_1
    isplitl [HW0_2]; · iexact HW0_2
    isplitl [HW1_0]; · iexact HW1_0
    isplitl [HW1_1]; · iexact HW1_1
    iexact HW1_2

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → 1 ≤ t.val ∧ t.val + 2 < 40 ∧ (t.val + 1) = t.val + 1 := by decide +kernel
/-- At the points of case C the ring takes its LAST step. -/
theorem rstep0_0_C : ∀ t : Fin grid0.N, ¬cond0_0 (grid0.coords t) → ¬cond0_1 (grid0.coords t) → 1 ≤ t.val ∧ 40 ≤ t.val + 2 ∧ t.val < 40 ∧ (t.val + 1) = t.val + 1 := by decide +kernel
set_option synthInstance.maxSize 4096 in
theorem coff0_0_1 : ∀ t : Fin grid0.N, cond0_0 (grid0.coords t) → cond0_1 (grid0.coords t) → (![0, 0, 0, 0, 0] : Fin 5 → Nat) = ![(Ring.sl 3 t.val).val, 0, 0, 0, 0] := by decide +kernel
@[sl_canon] theorem canon0_0_1 (t : Fin grid0.N) (h0 : cond0_0 (grid0.coords t)) (h1 : cond0_1 (grid0.coords t)) :
    (scM0_0.slice (Rect.unit (s := S3x2x16x1x12288) ![0, 0, 0, 0, 0] S1x1x16x1x10112.size inb_S3x2x16x1x12288_S1x1x16x1x10112_0_0_0_0_0) (fun _ => rfl)).squeeze S16x10112 squeezes_S1x1x16x1x10112_S16x10112 = rwin0_0_0 (Ring.sl 3 t.val) :=
  congrArg (fun M : Memref sig .tc .vmem S1x1x16x1x10112 .i32 => M.squeeze S16x10112 squeezes_S1x1x16x1x10112_S16x10112) (Memref.slice_unit_congr _ (coff0_0_1 t h0 h1) _ _ (fun _ => rfl) (fun _ => rfl))
@[sl_canon] theorem canon0_0_1' (t : Fin grid0.N) (h0 : cond0_0 (grid0.coords t)) (h1 : cond0_1 (grid0.coords t)) :
    (scM0_0.slice (Rect.unit (s := S3x2x16x1x12288) ![0, 0, 0, 0, 0] ![1, 1, 16, 1, 10112] inb_S3x2x16x1x12288_S1x1x16x1x10112_0_0_0_0_0) (fun _ => rfl)).squeeze S16x10112 squeezes_S1x1x16x1x10112_S16x10112 = rwin0_0_0 (Ring.sl 3 t.val) :=
  canon0_0_1 t h0 h1
set_option synthInstance.maxSize 4096 in
theorem coff0_0_2 : ∀ t : Fin grid0.N, cond0_0 (grid0.coords t) → cond0_1 (grid0.coords t) → (![0] : Fin 1 → Nat) = ![(Ring.sl 3 t.val).val] := by decide +kernel
@[sl_canon] theorem canon0_0_2 (t : Fin grid0.N) (h0 : cond0_0 (grid0.coords t)) (h1 : cond0_1 (grid0.coords t)) :
    (cc0_scratch2.slice (Rect.unit (s := S3) ![0] S1.size inb_S3_S1_0)).squeeze S_ squeezes_S1_S_ = cellA0_0 (Ring.sl 3 t.val) :=
  congrArg (fun A : DmaSems sig S1 => A.squeeze S_ squeezes_S1_S_) (SemArray.slice_unit_congr _ (coff0_0_2 t h0 h1) _ _)
@[sl_canon] theorem canon0_0_2' (t : Fin grid0.N) (h0 : cond0_0 (grid0.coords t)) (h1 : cond0_1 (grid0.coords t)) :
    (cc0_scratch2.slice (Rect.unit (s := S3) ![0] ![1] inb_S3_S1_0)).squeeze S_ squeezes_S1_S_ = cellA0_0 (Ring.sl 3 t.val) :=
  canon0_0_2 t h0 h1
set_option synthInstance.maxSize 4096 in
theorem coff0_0_3 : ∀ t : Fin grid0.N, cond0_0 (grid0.coords t) → cond0_1 (grid0.coords t) → (![0, 0, 0] : Fin 3 → Nat) = ![16 * (Ring.bk 40 t.val).val, 0, 0] := by decide +kernel
@[sl_canon] theorem canon0_0_3 (t : Fin grid0.N) (h0 : cond0_0 (grid0.coords t)) (h1 : cond0_1 (grid0.coords t)) :
    (hbM0_0.slice (Rect.unit (s := S640x2x10112) ![0, 0, 0] S16x1x10112.size inb_S640x2x10112_S16x1x10112_0_0_0) (fun _ => rfl)).squeeze S16x10112 squeezes_S16x1x10112_S16x10112 = srcB0_0_0 (Ring.bk 40 t.val) :=
  congrArg (fun M : Memref sig .tc .hbm S16x1x10112 .i32 => M.squeeze S16x10112 squeezes_S16x1x10112_S16x10112) (Memref.slice_unit_congr _ (coff0_0_3 t h0 h1) _ _ (fun _ => rfl) (fun _ => rfl))
@[sl_canon] theorem canon0_0_3' (t : Fin grid0.N) (h0 : cond0_0 (grid0.coords t)) (h1 : cond0_1 (grid0.coords t)) :
    (hbM0_0.slice (Rect.unit (s := S640x2x10112) ![0, 0, 0] ![16, 1, 10112] inb_S640x2x10112_S16x1x10112_0_0_0) (fun _ => rfl)).squeeze S16x10112 squeezes_S16x1x10112_S16x10112 = srcB0_0_0 (Ring.bk 40 t.val) :=
  canon0_0_3 t h0 h1
set_option synthInstance.maxSize 4096 in
theorem coff0_0_4 : ∀ t : Fin grid0.N, cond0_0 (grid0.coords t) → cond0_1 (grid0.coords t) → (![0, 1, 0, 0, 0] : Fin 5 → Nat) = ![(Ring.sl 3 t.val).val, 1, 0, 0, 0] := by decide +kernel
@[sl_canon] theorem canon0_0_4 (t : Fin grid0.N) (h0 : cond0_0 (grid0.coords t)) (h1 : cond0_1 (grid0.coords t)) :
    (scM0_0.slice (Rect.unit (s := S3x2x16x1x12288) ![0, 1, 0, 0, 0] S1x1x16x1x10112.size inb_S3x2x16x1x12288_S1x1x16x1x10112_0_1_0_0_0) (fun _ => rfl)).squeeze S16x10112 squeezes_S1x1x16x1x10112_S16x10112 = rwin0_0_1 (Ring.sl 3 t.val) :=
  congrArg (fun M : Memref sig .tc .vmem S1x1x16x1x10112 .i32 => M.squeeze S16x10112 squeezes_S1x1x16x1x10112_S16x10112) (Memref.slice_unit_congr _ (coff0_0_4 t h0 h1) _ _ (fun _ => rfl) (fun _ => rfl))
@[sl_canon] theorem canon0_0_4' (t : Fin grid0.N) (h0 : cond0_0 (grid0.coords t)) (h1 : cond0_1 (grid0.coords t)) :
    (scM0_0.slice (Rect.unit (s := S3x2x16x1x12288) ![0, 1, 0, 0, 0] ![1, 1, 16, 1, 10112] inb_S3x2x16x1x12288_S1x1x16x1x10112_0_1_0_0_0) (fun _ => rfl)).squeeze S16x10112 squeezes_S1x1x16x1x10112_S16x10112 = rwin0_0_1 (Ring.sl 3 t.val) :=
  canon0_0_4 t h0 h1
set_option synthInstance.maxSize 4096 in
theorem coff0_0_5 : ∀ t : Fin grid0.N, cond0_0 (grid0.coords t) → cond0_1 (grid0.coords t) → (![0, 1, 0] : Fin 3 → Nat) = ![16 * (Ring.bk 40 t.val).val, 1, 0] := by decide +kernel
@[sl_canon] theorem canon0_0_5 (t : Fin grid0.N) (h0 : cond0_0 (grid0.coords t)) (h1 : cond0_1 (grid0.coords t)) :
    (hbM0_0.slice (Rect.unit (s := S640x2x10112) ![0, 1, 0] S16x1x10112.size inb_S640x2x10112_S16x1x10112_0_1_0) (fun _ => rfl)).squeeze S16x10112 squeezes_S16x1x10112_S16x10112 = srcB0_0_1 (Ring.bk 40 t.val) :=
  congrArg (fun M : Memref sig .tc .hbm S16x1x10112 .i32 => M.squeeze S16x10112 squeezes_S16x1x10112_S16x10112) (Memref.slice_unit_congr _ (coff0_0_5 t h0 h1) _ _ (fun _ => rfl) (fun _ => rfl))
@[sl_canon] theorem canon0_0_5' (t : Fin grid0.N) (h0 : cond0_0 (grid0.coords t)) (h1 : cond0_1 (grid0.coords t)) :
    (hbM0_0.slice (Rect.unit (s := S640x2x10112) ![0, 1, 0] ![16, 1, 10112] inb_S640x2x10112_S16x1x10112_0_1_0) (fun _ => rfl)).squeeze S16x10112 squeezes_S16x1x10112_S16x10112 = srcB0_0_1 (Ring.bk 40 t.val) :=
  canon0_0_5 t h0 h1
set_option synthInstance.maxSize 4096 in
theorem coff0_0_6 : ∀ t : Fin grid0.N, cond0_0 (grid0.coords t) → cond0_1 (grid0.coords t) → (![1, 0, 0, 0, 0] : Fin 5 → Nat) = ![(Ring.sl 3 (t.val + 1)).val, 0, 0, 0, 0] := by decide +kernel
@[sl_canon] theorem canon0_0_6 (t : Fin grid0.N) (h0 : cond0_0 (grid0.coords t)) (h1 : cond0_1 (grid0.coords t)) :
    (scM0_0.slice (Rect.unit (s := S3x2x16x1x12288) ![1, 0, 0, 0, 0] S1x1x16x1x10112.size inb_S3x2x16x1x12288_S1x1x16x1x10112_1_0_0_0_0) (fun _ => rfl)).squeeze S16x10112 squeezes_S1x1x16x1x10112_S16x10112 = rwin0_0_0 (Ring.sl 3 (t.val + 1)) :=
  congrArg (fun M : Memref sig .tc .vmem S1x1x16x1x10112 .i32 => M.squeeze S16x10112 squeezes_S1x1x16x1x10112_S16x10112) (Memref.slice_unit_congr _ (coff0_0_6 t h0 h1) _ _ (fun _ => rfl) (fun _ => rfl))
@[sl_canon] theorem canon0_0_6' (t : Fin grid0.N) (h0 : cond0_0 (grid0.coords t)) (h1 : cond0_1 (grid0.coords t)) :
    (scM0_0.slice (Rect.unit (s := S3x2x16x1x12288) ![1, 0, 0, 0, 0] ![1, 1, 16, 1, 10112] inb_S3x2x16x1x12288_S1x1x16x1x10112_1_0_0_0_0) (fun _ => rfl)).squeeze S16x10112 squeezes_S1x1x16x1x10112_S16x10112 = rwin0_0_0 (Ring.sl 3 (t.val + 1)) :=
  canon0_0_6 t h0 h1
set_option synthInstance.maxSize 4096 in
theorem coff0_0_7 : ∀ t : Fin grid0.N, cond0_0 (grid0.coords t) → cond0_1 (grid0.coords t) → (![1] : Fin 1 → Nat) = ![(Ring.sl 3 (t.val + 1)).val] := by decide +kernel
@[sl_canon] theorem canon0_0_7 (t : Fin grid0.N) (h0 : cond0_0 (grid0.coords t)) (h1 : cond0_1 (grid0.coords t)) :
    (cc0_scratch2.slice (Rect.unit (s := S3) ![1] S1.size inb_S3_S1_1)).squeeze S_ squeezes_S1_S_ = cellA0_0 (Ring.sl 3 (t.val + 1)) :=
  congrArg (fun A : DmaSems sig S1 => A.squeeze S_ squeezes_S1_S_) (SemArray.slice_unit_congr _ (coff0_0_7 t h0 h1) _ _)
@[sl_canon] theorem canon0_0_7' (t : Fin grid0.N) (h0 : cond0_0 (grid0.coords t)) (h1 : cond0_1 (grid0.coords t)) :
    (cc0_scratch2.slice (Rect.unit (s := S3) ![1] ![1] inb_S3_S1_1)).squeeze S_ squeezes_S1_S_ = cellA0_0 (Ring.sl 3 (t.val + 1)) :=
  canon0_0_7 t h0 h1
set_option synthInstance.maxSize 4096 in
theorem coff0_0_8 : ∀ t : Fin grid0.N, cond0_0 (grid0.coords t) → cond0_1 (grid0.coords t) → (![16, 0, 0] : Fin 3 → Nat) = ![16 * (Ring.bk 40 (t.val + 1)).val, 0, 0] := by decide +kernel
@[sl_canon] theorem canon0_0_8 (t : Fin grid0.N) (h0 : cond0_0 (grid0.coords t)) (h1 : cond0_1 (grid0.coords t)) :
    (hbM0_0.slice (Rect.unit (s := S640x2x10112) ![16, 0, 0] S16x1x10112.size inb_S640x2x10112_S16x1x10112_16_0_0) (fun _ => rfl)).squeeze S16x10112 squeezes_S16x1x10112_S16x10112 = srcB0_0_0 (Ring.bk 40 (t.val + 1)) :=
  congrArg (fun M : Memref sig .tc .hbm S16x1x10112 .i32 => M.squeeze S16x10112 squeezes_S16x1x10112_S16x10112) (Memref.slice_unit_congr _ (coff0_0_8 t h0 h1) _ _ (fun _ => rfl) (fun _ => rfl))
@[sl_canon] theorem canon0_0_8' (t : Fin grid0.N) (h0 : cond0_0 (grid0.coords t)) (h1 : cond0_1 (grid0.coords t)) :
    (hbM0_0.slice (Rect.unit (s := S640x2x10112) ![16, 0, 0] ![16, 1, 10112] inb_S640x2x10112_S16x1x10112_16_0_0) (fun _ => rfl)).squeeze S16x10112 squeezes_S16x1x10112_S16x10112 = srcB0_0_0 (Ring.bk 40 (t.val + 1)) :=
  canon0_0_8 t h0 h1
set_option synthInstance.maxSize 4096 in
theorem coff0_0_9 : ∀ t : Fin grid0.N, cond0_0 (grid0.coords t) → cond0_1 (grid0.coords t) → (![1, 1, 0, 0, 0] : Fin 5 → Nat) = ![(Ring.sl 3 (t.val + 1)).val, 1, 0, 0, 0] := by decide +kernel
@[sl_canon] theorem canon0_0_9 (t : Fin grid0.N) (h0 : cond0_0 (grid0.coords t)) (h1 : cond0_1 (grid0.coords t)) :
    (scM0_0.slice (Rect.unit (s := S3x2x16x1x12288) ![1, 1, 0, 0, 0] S1x1x16x1x10112.size inb_S3x2x16x1x12288_S1x1x16x1x10112_1_1_0_0_0) (fun _ => rfl)).squeeze S16x10112 squeezes_S1x1x16x1x10112_S16x10112 = rwin0_0_1 (Ring.sl 3 (t.val + 1)) :=
  congrArg (fun M : Memref sig .tc .vmem S1x1x16x1x10112 .i32 => M.squeeze S16x10112 squeezes_S1x1x16x1x10112_S16x10112) (Memref.slice_unit_congr _ (coff0_0_9 t h0 h1) _ _ (fun _ => rfl) (fun _ => rfl))
@[sl_canon] theorem canon0_0_9' (t : Fin grid0.N) (h0 : cond0_0 (grid0.coords t)) (h1 : cond0_1 (grid0.coords t)) :
    (scM0_0.slice (Rect.unit (s := S3x2x16x1x12288) ![1, 1, 0, 0, 0] ![1, 1, 16, 1, 10112] inb_S3x2x16x1x12288_S1x1x16x1x10112_1_1_0_0_0) (fun _ => rfl)).squeeze S16x10112 squeezes_S1x1x16x1x10112_S16x10112 = rwin0_0_1 (Ring.sl 3 (t.val + 1)) :=
  canon0_0_9 t h0 h1
set_option synthInstance.maxSize 4096 in
theorem coff0_0_10 : ∀ t : Fin grid0.N, cond0_0 (grid0.coords t) → cond0_1 (grid0.coords t) → (![16, 1, 0] : Fin 3 → Nat) = ![16 * (Ring.bk 40 (t.val + 1)).val, 1, 0] := by decide +kernel
@[sl_canon] theorem canon0_0_10 (t : Fin grid0.N) (h0 : cond0_0 (grid0.coords t)) (h1 : cond0_1 (grid0.coords t)) :
    (hbM0_0.slice (Rect.unit (s := S640x2x10112) ![16, 1, 0] S16x1x10112.size inb_S640x2x10112_S16x1x10112_16_1_0) (fun _ => rfl)).squeeze S16x10112 squeezes_S16x1x10112_S16x10112 = srcB0_0_1 (Ring.bk 40 (t.val + 1)) :=
  congrArg (fun M : Memref sig .tc .hbm S16x1x10112 .i32 => M.squeeze S16x10112 squeezes_S16x1x10112_S16x10112) (Memref.slice_unit_congr _ (coff0_0_10 t h0 h1) _ _ (fun _ => rfl) (fun _ => rfl))
@[sl_canon] theorem canon0_0_10' (t : Fin grid0.N) (h0 : cond0_0 (grid0.coords t)) (h1 : cond0_1 (grid0.coords t)) :
    (hbM0_0.slice (Rect.unit (s := S640x2x10112) ![16, 1, 0] ![16, 1, 10112] inb_S640x2x10112_S16x1x10112_16_1_0) (fun _ => rfl)).squeeze S16x10112 squeezes_S16x1x10112_S16x10112 = srcB0_0_1 (Ring.bk 40 (t.val + 1)) :=
  canon0_0_10 t h0 h1
set_option synthInstance.maxSize 4096 in
theorem coff0_0_11 : ∀ t : Fin grid0.N, k0_off2 (grid0.coords t) = ![(Ring.sl 3 (t.val + 2)).val, 0, 0, 0, 0] := by decide +kernel
@[sl_canon] theorem canon0_0_11 (t : Fin grid0.N) (h1 : cond0_1 (grid0.coords t)) :
    (scM0_0.slice (Rect.unit (s := S3x2x16x1x12288) (k0_off2 (grid0.coords t)) S1x1x16x1x10112.size (k0_off2_inb (grid0.coords t) h1)) (fun _ => rfl)).squeeze S16x10112 squeezes_S1x1x16x1x10112_S16x10112 = rwin0_0_0 (Ring.sl 3 (t.val + 2)) :=
  congrArg (fun M : Memref sig .tc .vmem S1x1x16x1x10112 .i32 => M.squeeze S16x10112 squeezes_S1x1x16x1x10112_S16x10112) (Memref.slice_unit_congr _ (coff0_0_11 t ) _ _ (fun _ => rfl) (fun _ => rfl))
@[sl_canon] theorem canon0_0_11' (t : Fin grid0.N) (h1 : cond0_1 (grid0.coords t)) :
    (scM0_0.slice (Rect.unit (s := S3x2x16x1x12288) (k0_off2 (grid0.coords t)) ![1, 1, 16, 1, 10112] (k0_off2_inb (grid0.coords t) h1)) (fun _ => rfl)).squeeze S16x10112 squeezes_S1x1x16x1x10112_S16x10112 = rwin0_0_0 (Ring.sl 3 (t.val + 2)) :=
  canon0_0_11 t h1
set_option synthInstance.maxSize 4096 in
theorem coff0_0_12 : ∀ t : Fin grid0.N, k0_off1 (grid0.coords t) = ![(Ring.sl 3 (t.val + 2)).val] := by decide +kernel
@[sl_canon] theorem canon0_0_12 (t : Fin grid0.N) (h1 : cond0_1 (grid0.coords t)) :
    (cc0_scratch2.slice (Rect.unit (s := S3) (k0_off1 (grid0.coords t)) S1.size (k0_off1_inb (grid0.coords t) h1))).squeeze S_ squeezes_S1_S_ = cellA0_0 (Ring.sl 3 (t.val + 2)) :=
  congrArg (fun A : DmaSems sig S1 => A.squeeze S_ squeezes_S1_S_) (SemArray.slice_unit_congr _ (coff0_0_12 t ) _ _)
@[sl_canon] theorem canon0_0_12' (t : Fin grid0.N) (h1 : cond0_1 (grid0.coords t)) :
    (cc0_scratch2.slice (Rect.unit (s := S3) (k0_off1 (grid0.coords t)) ![1] (k0_off1_inb (grid0.coords t) h1))).squeeze S_ squeezes_S1_S_ = cellA0_0 (Ring.sl 3 (t.val + 2)) :=
  canon0_0_12 t h1
set_option synthInstance.maxSize 4096 in
theorem coff0_0_13 : ∀ t : Fin grid0.N, cond0_0 (grid0.coords t) → cond0_1 (grid0.coords t) → k0_off3 (grid0.coords t) = ![16 * (Ring.bk 40 (t.val + 2)).val, 0, 0] := by decide +kernel
@[sl_canon] theorem canon0_0_13 (t : Fin grid0.N) (h0 : cond0_0 (grid0.coords t)) (h1 : cond0_1 (grid0.coords t)) :
    (hbM0_0.slice (Rect.unit (s := S640x2x10112) (k0_off3 (grid0.coords t)) S16x1x10112.size (k0_off3_inb (grid0.coords t) h1)) (fun _ => rfl)).squeeze S16x10112 squeezes_S16x1x10112_S16x10112 = srcB0_0_0 (Ring.bk 40 (t.val + 2)) :=
  congrArg (fun M : Memref sig .tc .hbm S16x1x10112 .i32 => M.squeeze S16x10112 squeezes_S16x1x10112_S16x10112) (Memref.slice_unit_congr _ (coff0_0_13 t h0 h1) _ _ (fun _ => rfl) (fun _ => rfl))
@[sl_canon] theorem canon0_0_13' (t : Fin grid0.N) (h0 : cond0_0 (grid0.coords t)) (h1 : cond0_1 (grid0.coords t)) :
    (hbM0_0.slice (Rect.unit (s := S640x2x10112) (k0_off3 (grid0.coords t)) ![16, 1, 10112] (k0_off3_inb (grid0.coords t) h1)) (fun _ => rfl)).squeeze S16x10112 squeezes_S16x1x10112_S16x10112 = srcB0_0_0 (Ring.bk 40 (t.val + 2)) :=
  canon0_0_13 t h0 h1
set_option synthInstance.maxSize 4096 in
theorem coff0_0_14 : ∀ t : Fin grid0.N, k0_off4 (grid0.coords t) = ![(Ring.sl 3 (t.val + 2)).val, 1, 0, 0, 0] := by decide +kernel
@[sl_canon] theorem canon0_0_14 (t : Fin grid0.N) (h1 : cond0_1 (grid0.coords t)) :
    (scM0_0.slice (Rect.unit (s := S3x2x16x1x12288) (k0_off4 (grid0.coords t)) S1x1x16x1x10112.size (k0_off4_inb (grid0.coords t) h1)) (fun _ => rfl)).squeeze S16x10112 squeezes_S1x1x16x1x10112_S16x10112 = rwin0_0_1 (Ring.sl 3 (t.val + 2)) :=
  congrArg (fun M : Memref sig .tc .vmem S1x1x16x1x10112 .i32 => M.squeeze S16x10112 squeezes_S1x1x16x1x10112_S16x10112) (Memref.slice_unit_congr _ (coff0_0_14 t ) _ _ (fun _ => rfl) (fun _ => rfl))
@[sl_canon] theorem canon0_0_14' (t : Fin grid0.N) (h1 : cond0_1 (grid0.coords t)) :
    (scM0_0.slice (Rect.unit (s := S3x2x16x1x12288) (k0_off4 (grid0.coords t)) ![1, 1, 16, 1, 10112] (k0_off4_inb (grid0.coords t) h1)) (fun _ => rfl)).squeeze S16x10112 squeezes_S1x1x16x1x10112_S16x10112 = rwin0_0_1 (Ring.sl 3 (t.val + 2)) :=
  canon0_0_14 t h1
set_option synthInstance.maxSize 4096 in
theorem coff0_0_15 : ∀ t : Fin grid0.N, cond0_0 (grid0.coords t) → cond0_1 (grid0.coords t) → k0_off5 (grid0.coords t) = ![16 * (Ring.bk 40 (t.val + 2)).val, 1, 0] := by decide +kernel
@[sl_canon] theorem canon0_0_15 (t : Fin grid0.N) (h0 : cond0_0 (grid0.coords t)) (h1 : cond0_1 (grid0.coords t)) :
    (hbM0_0.slice (Rect.unit (s := S640x2x10112) (k0_off5 (grid0.coords t)) S16x1x10112.size (k0_off5_inb (grid0.coords t) h1)) (fun _ => rfl)).squeeze S16x10112 squeezes_S16x1x10112_S16x10112 = srcB0_0_1 (Ring.bk 40 (t.val + 2)) :=
  congrArg (fun M : Memref sig .tc .hbm S16x1x10112 .i32 => M.squeeze S16x10112 squeezes_S16x1x10112_S16x10112) (Memref.slice_unit_congr _ (coff0_0_15 t h0 h1) _ _ (fun _ => rfl) (fun _ => rfl))
@[sl_canon] theorem canon0_0_15' (t : Fin grid0.N) (h0 : cond0_0 (grid0.coords t)) (h1 : cond0_1 (grid0.coords t)) :
    (hbM0_0.slice (Rect.unit (s := S640x2x10112) (k0_off5 (grid0.coords t)) ![16, 1, 10112] (k0_off5_inb (grid0.coords t) h1)) (fun _ => rfl)).squeeze S16x10112 squeezes_S16x1x10112_S16x10112 = srcB0_0_1 (Ring.bk 40 (t.val + 2)) :=
  canon0_0_15 t h0 h1
set_option synthInstance.maxSize 4096 in
theorem coff0_0_16 : ∀ t : Fin grid0.N, k0_off7 (grid0.coords t) = ![(Ring.sl 3 t.val).val, 0, 0, 0, 0] := by decide +kernel
@[sl_canon] theorem canon0_0_16 (t : Fin grid0.N) :
    (scM0_0.slice (Rect.unit (s := S3x2x16x1x12288) (k0_off7 (grid0.coords t)) S1x1x16x1x10112.size (k0_off7_inb (grid0.coords t))) (fun _ => rfl)).squeeze S16x10112 squeezes_S1x1x16x1x10112_S16x10112 = rwin0_0_0 (Ring.sl 3 t.val) :=
  congrArg (fun M : Memref sig .tc .vmem S1x1x16x1x10112 .i32 => M.squeeze S16x10112 squeezes_S1x1x16x1x10112_S16x10112) (Memref.slice_unit_congr _ (coff0_0_16 t ) _ _ (fun _ => rfl) (fun _ => rfl))
@[sl_canon] theorem canon0_0_16' (t : Fin grid0.N) :
    (scM0_0.slice (Rect.unit (s := S3x2x16x1x12288) (k0_off7 (grid0.coords t)) ![1, 1, 16, 1, 10112] (k0_off7_inb (grid0.coords t))) (fun _ => rfl)).squeeze S16x10112 squeezes_S1x1x16x1x10112_S16x10112 = rwin0_0_0 (Ring.sl 3 t.val) :=
  canon0_0_16 t
set_option synthInstance.maxSize 4096 in
theorem coff0_0_17 : ∀ t : Fin grid0.N, k0_off6 (grid0.coords t) = ![(Ring.sl 3 t.val).val] := by decide +kernel
@[sl_canon] theorem canon0_0_17 (t : Fin grid0.N) :
    (cc0_scratch2.slice (Rect.unit (s := S3) (k0_off6 (grid0.coords t)) S1.size (k0_off6_inb (grid0.coords t)))).squeeze S_ squeezes_S1_S_ = cellA0_0 (Ring.sl 3 t.val) :=
  congrArg (fun A : DmaSems sig S1 => A.squeeze S_ squeezes_S1_S_) (SemArray.slice_unit_congr _ (coff0_0_17 t ) _ _)
@[sl_canon] theorem canon0_0_17' (t : Fin grid0.N) :
    (cc0_scratch2.slice (Rect.unit (s := S3) (k0_off6 (grid0.coords t)) ![1] (k0_off6_inb (grid0.coords t)))).squeeze S_ squeezes_S1_S_ = cellA0_0 (Ring.sl 3 t.val) :=
  canon0_0_17 t
set_option synthInstance.maxSize 4096 in
theorem coff0_0_18 : ∀ t : Fin grid0.N, k0_off9 (grid0.coords t) = ![(Ring.sl 3 t.val).val, 1, 0, 0, 0] := by decide +kernel
@[sl_canon] theorem canon0_0_18 (t : Fin grid0.N) :
    (scM0_0.slice (Rect.unit (s := S3x2x16x1x12288) (k0_off9 (grid0.coords t)) S1x1x16x1x10112.size (k0_off9_inb (grid0.coords t))) (fun _ => rfl)).squeeze S16x10112 squeezes_S1x1x16x1x10112_S16x10112 = rwin0_0_1 (Ring.sl 3 t.val) :=
  congrArg (fun M : Memref sig .tc .vmem S1x1x16x1x10112 .i32 => M.squeeze S16x10112 squeezes_S1x1x16x1x10112_S16x10112) (Memref.slice_unit_congr _ (coff0_0_18 t ) _ _ (fun _ => rfl) (fun _ => rfl))
@[sl_canon] theorem canon0_0_18' (t : Fin grid0.N) :
    (scM0_0.slice (Rect.unit (s := S3x2x16x1x12288) (k0_off9 (grid0.coords t)) ![1, 1, 16, 1, 10112] (k0_off9_inb (grid0.coords t))) (fun _ => rfl)).squeeze S16x10112 squeezes_S1x1x16x1x10112_S16x10112 = rwin0_0_1 (Ring.sl 3 t.val) :=
  canon0_0_18 t
set_option synthInstance.maxSize 4096 in
theorem coff0_0_21 : ∀ t : Fin grid0.N, ¬cond0_0 (grid0.coords t) → cond0_1 (grid0.coords t) → k0_off3 (grid0.coords t) = ![16 * (Ring.bk 40 (t.val + 2)).val, 0, 0] := by decide +kernel
@[sl_canon] theorem canon0_0_21 (t : Fin grid0.N) (h0 : ¬cond0_0 (grid0.coords t)) (h1 : cond0_1 (grid0.coords t)) :
    (hbM0_0.slice (Rect.unit (s := S640x2x10112) (k0_off3 (grid0.coords t)) S16x1x10112.size (k0_off3_inb (grid0.coords t) h1)) (fun _ => rfl)).squeeze S16x10112 squeezes_S16x1x10112_S16x10112 = srcB0_0_0 (Ring.bk 40 (t.val + 2)) :=
  congrArg (fun M : Memref sig .tc .hbm S16x1x10112 .i32 => M.squeeze S16x10112 squeezes_S16x1x10112_S16x10112) (Memref.slice_unit_congr _ (coff0_0_21 t h0 h1) _ _ (fun _ => rfl) (fun _ => rfl))
@[sl_canon] theorem canon0_0_21' (t : Fin grid0.N) (h0 : ¬cond0_0 (grid0.coords t)) (h1 : cond0_1 (grid0.coords t)) :
    (hbM0_0.slice (Rect.unit (s := S640x2x10112) (k0_off3 (grid0.coords t)) ![16, 1, 10112] (k0_off3_inb (grid0.coords t) h1)) (fun _ => rfl)).squeeze S16x10112 squeezes_S16x1x10112_S16x10112 = srcB0_0_0 (Ring.bk 40 (t.val + 2)) :=
  canon0_0_21 t h0 h1
set_option synthInstance.maxSize 4096 in
theorem coff0_0_22 : ∀ t : Fin grid0.N, ¬cond0_0 (grid0.coords t) → cond0_1 (grid0.coords t) → k0_off5 (grid0.coords t) = ![16 * (Ring.bk 40 (t.val + 2)).val, 1, 0] := by decide +kernel
@[sl_canon] theorem canon0_0_22 (t : Fin grid0.N) (h0 : ¬cond0_0 (grid0.coords t)) (h1 : cond0_1 (grid0.coords t)) :
    (hbM0_0.slice (Rect.unit (s := S640x2x10112) (k0_off5 (grid0.coords t)) S16x1x10112.size (k0_off5_inb (grid0.coords t) h1)) (fun _ => rfl)).squeeze S16x10112 squeezes_S16x1x10112_S16x10112 = srcB0_0_1 (Ring.bk 40 (t.val + 2)) :=
  congrArg (fun M : Memref sig .tc .hbm S16x1x10112 .i32 => M.squeeze S16x10112 squeezes_S16x1x10112_S16x10112) (Memref.slice_unit_congr _ (coff0_0_22 t h0 h1) _ _ (fun _ => rfl) (fun _ => rfl))
@[sl_canon] theorem canon0_0_22' (t : Fin grid0.N) (h0 : ¬cond0_0 (grid0.coords t)) (h1 : cond0_1 (grid0.coords t)) :
    (hbM0_0.slice (Rect.unit (s := S640x2x10112) (k0_off5 (grid0.coords t)) ![16, 1, 10112] (k0_off5_inb (grid0.coords t) h1)) (fun _ => rfl)).squeeze S16x10112 squeezes_S16x1x10112_S16x10112 = srcB0_0_1 (Ring.bk 40 (t.val + 2)) :=
  canon0_0_22 t h0 h1
end Canon0_0

end Cert.DistancesIdeal.Gen

end
-- ==== Proof.Ideal.Rows.lean ====
/-  One trip of the row loop of the distance kernel: the row's length and query words read from the two tables, twenty
    slabs of 1024 signature words read from the scratch buffer, three packed slabs and one slab of minima stored. The
    scratch buffer is held only on a set of elements that includes what the trip reads, since copies into the rest of
    it are in flight meanwhile. -/
module

public import proofs.«01_k».proof.Proof.Gen.DistancesIdeal.Skeleton
public import proofs.«01_k».proof.Proof.Gen.DistancesIdeal.Launch
public import Idealize.ShloMosaic.Lib.Exec
public import Idealize.ShloMosaic.Lib.Tactic
public import Idealize.ShloMosaic.Lib.Pipeline.FrameBody

@[expose] public section

set_option maxRecDepth 8192
set_option maxHeartbeats 4000000

noncomputable section

namespace Cert.DistancesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What a trip holds: the tables (one half of them), the scratch buffer off `S`, the two output windows. -/
abbrev Trip (c : Dev nD) (arg1 : Memref sig .tc .smem S640 .i32) (arg2 : Memref sig .tc .smem S2x640 .i32) (arg6 : Memref sig .tc .vmem S3x2x16x1x12288 .i32) (arg4 : Memref sig .tc .vmem S16x1x3072 .i32) (arg5 : Memref sig .tc .vmem S16x1x1024 .i32) (X1 : BufTy.Contents (Elt F) arg1.view.ty) (X2 : BufTy.Contents (Elt F) arg2.view.ty) (S : Finset (Idx (arg6.view.loc (c : Thread nD τ)))) (X6 : Buf (Elt F) (arg6.view.loc (c : Thread nD τ))) (f4 : BufTy.Contents (Elt F) arg4.view.ty) (f5 : BufTy.Contents (Elt F) arg5.view.ty) : sProp 𝕄 :=
  iprop((arg1.view.loc (c : Thread nD τ) ↦[arg1.view.set]{fullShare.right} X1) ∗ (arg2.view.loc (c : Thread nD τ) ↦[arg2.view.set]{fullShare.right} X2) ∗ (arg6.view.loc (c : Thread nD τ) ↦[Finset.univ \ S]{fullShare} X6) ∗ (arg4.view.loc (c : Thread nD τ) ↦[arg4.view.set]{fullShare} f4) ∗ (arg5.view.loc (c : Thread nD τ) ↦[arg5.view.set]{fullShare} f5))

def trip (𝒱 : Variants) (c : Dev nD) (bd : Option 𝒱.V) (i : grid0.Coords) (arg1 : Memref sig .tc .smem S640 .i32) (harg1 : arg1.IsWhole) (arg2 : Memref sig .tc .smem S2x640 .i32) (harg2 : arg2.IsWhole) (arg3 : Memref sig .tc .hbm S640x2x10112 .i32) (harg3 : arg3.IsWhole) (arg4 : Memref sig .tc .vmem S16x1x3072 .i32) (harg4 : arg4.IsWhole) (arg5 : Memref sig .tc .vmem S16x1x1024 .i32) (harg5 : arg5.IsWhole) (arg6 : Memref sig .tc .vmem S3x2x16x1x12288 .i32) (harg6 : arg6.IsWhole) (arg7 : Memref sig .tc .vmem S1x1024 .i32) (harg7 : arg7.IsWhole) (arg8 : DmaSems sig S3) (arg0 : BitVec 32) (v50 : BitVec 32) (v51 : Vec F S1x1024 .i32)
    (X1 : BufTy.Contents (Elt F) arg1.view.ty) (X2 : BufTy.Contents (Elt F) arg2.view.ty) (S : Finset (Idx (arg6.view.loc (c : Thread nD τ)))) (X6 : Buf (Elt F) (arg6.view.loc (c : Thread nD τ))) (k : Fin k0_t1_loop.trips)
    (h14 : Disjoint (arg6.view.setOn (Rect.unit (s := S3x2x16x1x12288) (k0_off14 i k) S1x1x1x1x1024.size (k0_off14_inb i k)).toLoadRect.set) S)
    (h15 : Disjoint (arg6.view.setOn (Rect.unit (s := S3x2x16x1x12288) (k0_off15 i k) S1x1x1x1x1024.size (k0_off15_inb i k)).toLoadRect.set) S)
    (h16 : Disjoint (arg6.view.setOn (Rect.unit (s := S3x2x16x1x12288) (k0_off16 i k) S1x1x1x1x1024.size (k0_off16_inb i k)).toLoadRect.set) S)
    (h17 : Disjoint (arg6.view.setOn (Rect.unit (s := S3x2x16x1x12288) (k0_off17 i k) S1x1x1x1x1024.size (k0_off17_inb i k)).toLoadRect.set) S)
    (h18 : Disjoint (arg6.view.setOn (Rect.unit (s := S3x2x16x1x12288) (k0_off18 i k) S1x1x1x1x1024.size (k0_off18_inb i k)).toLoadRect.set) S)
    (h19 : Disjoint (arg6.view.setOn (Rect.unit (s := S3x2x16x1x12288) (k0_off19 i k) S1x1x1x1x1024.size (k0_off19_inb i k)).toLoadRect.set) S)
    (h20 : Disjoint (arg6.view.setOn (Rect.unit (s := S3x2x16x1x12288) (k0_off20 i k) S1x1x1x1x1024.size (k0_off20_inb i k)).toLoadRect.set) S)
    (h21 : Disjoint (arg6.view.setOn (Rect.unit (s := S3x2x16x1x12288) (k0_off21 i k) S1x1x1x1x1024.size (k0_off21_inb i k)).toLoadRect.set) S)
    (h23 : Disjoint (arg6.view.setOn (Rect.unit (s := S3x2x16x1x12288) (k0_off23 i k) S1x1x1x1x1024.size (k0_off23_inb i k)).toLoadRect.set) S)
    (h24 : Disjoint (arg6.view.setOn (Rect.unit (s := S3x2x16x1x12288) (k0_off24 i k) S1x1x1x1x1024.size (k0_off24_inb i k)).toLoadRect.set) S)
    (h25 : Disjoint (arg6.view.setOn (Rect.unit (s := S3x2x16x1x12288) (k0_off25 i k) S1x1x1x1x1024.size (k0_off25_inb i k)).toLoadRect.set) S)
    (h26 : Disjoint (arg6.view.setOn (Rect.unit (s := S3x2x16x1x12288) (k0_off26 i k) S1x1x1x1x1024.size (k0_off26_inb i k)).toLoadRect.set) S)
    (h27 : Disjoint (arg6.view.setOn (Rect.unit (s := S3x2x16x1x12288) (k0_off27 i k) S1x1x1x1x1024.size (k0_off27_inb i k)).toLoadRect.set) S)
    (h28 : Disjoint (arg6.view.setOn (Rect.unit (s := S3x2x16x1x12288) (k0_off28 i k) S1x1x1x1x1024.size (k0_off28_inb i k)).toLoadRect.set) S)
    (h29 : Disjoint (arg6.view.setOn (Rect.unit (s := S3x2x16x1x12288) (k0_off29 i k) S1x1x1x1x1024.size (k0_off29_inb i k)).toLoadRect.set) S)
    (h30 : Disjoint (arg6.view.setOn (Rect.unit (s := S3x2x16x1x12288) (k0_off30 i k) S1x1x1x1x1024.size (k0_off30_inb i k)).toLoadRect.set) S)
    (h32 : Disjoint (arg6.view.setOn (Rect.unit (s := S3x2x16x1x12288) (k0_off32 i k) S1x1x1x1x1024.size (k0_off32_inb i k)).toLoadRect.set) S)
    (h33 : Disjoint (arg6.view.setOn (Rect.unit (s := S3x2x16x1x12288) (k0_off33 i k) S1x1x1x1x1024.size (k0_off33_inb i k)).toLoadRect.set) S)
    (h34 : Disjoint (arg6.view.setOn (Rect.unit (s := S3x2x16x1x12288) (k0_off34 i k) S1x1x1x1x1024.size (k0_off34_inb i k)).toLoadRect.set) S)
    (h35 : Disjoint (arg6.view.setOn (Rect.unit (s := S3x2x16x1x12288) (k0_off35 i k) S1x1x1x1x1024.size (k0_off35_inb i k)).toLoadRect.set) S)
    : Σ' (L4 : List (View.Piece (Elt F) S16x1x3072 .i32)) , { L5 : List (View.Piece (Elt F) S16x1x1024 .i32) // ∀ (E : Set ℕ) (f4 : BufTy.Contents (Elt F) arg4.view.ty) (f5 : BufTy.Contents (Elt F) arg5.view.ty),
      Trip (F := F) c arg1 arg2 arg6 arg4 arg5 X1 X2 S X6 f4 f5
      ⊢ wp frame (wpE (defs₀ (F := F)) 𝒱 (c : Thread nD τ) bd) E (k0_t1_body (F := F) i arg1 harg1 arg2 harg2 arg3 harg3 arg4 harg4 arg5 harg5 arg6 harg6 arg7 harg7 arg8 arg0 v50 v51 k PUnit.unit)
          (fun _ => Trip (F := F) c arg1 arg2 arg6 arg4 arg5 X1 X2 S X6 (arg4.view.writes (Elt F) f4 L4) (arg5.view.writes (Elt F) f5 L5)) } := by
  have hk : k.val < 16 := Nat.lt_of_lt_of_le k.isLt k0_t1_abs.2.1
  refine ⟨?_, ?_, fun E f4 f5 => ?run⟩
  case run =>
    unfold k0_t1_body
    iintro ⟨HR1, HR2, HR6, HW4, HW5⟩
    sl_exec
    sl_step
    sl_close

end Cert.DistancesIdeal.Gen

end
-- ==== Proof.Ideal.Loop.lean ====
/-  The row loop of the distance kernel, sixteen trips, by its invariant: before trip `k` the rows before `k` of both output
    windows hold what their trips computed; the tables and the scratch buffer (held off the slots that are being filled)
    stay as they are. -/
module

public import proofs.«01_k».proof.Proof.Ideal.Ring
public import proofs.«01_k».proof.Proof.Ideal.Rows
public import Idealize.ShloMosaic.Lib.WritesUnit
public import Idealize.ShloMosaic.Lib.Exec
public import Idealize.ShloMosaic.Lib.Pointwise.Index

@[expose] public section

set_option maxRecDepth 8192
set_option maxHeartbeats 4000000

noncomputable section

namespace Cert.DistancesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The elements of every slot but `s`: what copies may be filling while slot `s` is in use. -/
def othersSet (s : Fin 3) : Finset S3x2x16x1x12288.Idx := (Finset.univ.filter fun j : Fin 3 × Fin 2 => j.1 ≠ s).biUnion winSet0_0

/-- An element of another slot has another first coordinate. -/
theorem ne_of_mem_othersSet {s : Fin 3} {x : S3x2x16x1x12288.Idx} (h : x ∈ othersSet s) : (x 0).val ≠ s.val := by
  unfold othersSet at h
  rw [Finset.mem_biUnion] at h
  obtain ⟨j, hj, hx⟩ := h
  rw [Finset.mem_filter] at hj
  have h0 := (Rect.mem_set_unit.mp hx) 0
  have e1 : winOff0_0 j 0 = j.1.val := rfl
  have e2 : S1x1x16x1x10112.size 0 = 1 := rfl
  rw [e1, e2] at h0
  intro hs
  exact hj.2 (Fin.ext (by omega))

/-- A slab of slot `s` meets no other slot. -/
theorem slab_others (s : Fin 3) (off : Fin 5 → Nat) (inb : ∀ a, off a + S1x1x1x1x1024.size a ≤ S3x2x16x1x12288.size a) (h0 : off 0 = s.val) :
    Disjoint (scM0_0.view.setOn (Rect.unit (s := S3x2x16x1x12288) off S1x1x1x1x1024.size inb).toLoadRect.set) (othersSet s) := by
  rw [Finset.disjoint_left]
  intro x hx hs
  have hx' : x ∈ (Rect.unit (s := S3x2x16x1x12288) off S1x1x1x1x1024.size inb).set := by
    obtain ⟨y, hy, rfl⟩ := Finset.mem_map.mp hx
    exact hy
  have hb := (Rect.mem_set_unit.mp hx') 0
  have e2 : S1x1x1x1x1024.size 0 = 1 := rfl
  rw [e2, h0] at hb
  exact ne_of_mem_othersSet hs (by omega)

theorem off14_eq : ∀ (t : Fin grid0.N) (k : Fin k0_t1_loop.trips), k0_off14 (grid0.coords t) k = ![(Ring.sl 3 t.val).val, 0, k.val, 0, 0] := by decide +kernel
theorem off15_eq : ∀ (t : Fin grid0.N) (k : Fin k0_t1_loop.trips), k0_off15 (grid0.coords t) k = ![(Ring.sl 3 t.val).val, 1, k.val, 0, 0] := by decide +kernel
theorem off16_eq : ∀ (t : Fin grid0.N) (k : Fin k0_t1_loop.trips), k0_off16 (grid0.coords t) k = ![(Ring.sl 3 t.val).val, 0, k.val, 0, 1024] := by decide +kernel
theorem off17_eq : ∀ (t : Fin grid0.N) (k : Fin k0_t1_loop.trips), k0_off17 (grid0.coords t) k = ![(Ring.sl 3 t.val).val, 1, k.val, 0, 1024] := by decide +kernel
theorem off18_eq : ∀ (t : Fin grid0.N) (k : Fin k0_t1_loop.trips), k0_off18 (grid0.coords t) k = ![(Ring.sl 3 t.val).val, 0, k.val, 0, 2048] := by decide +kernel
theorem off19_eq : ∀ (t : Fin grid0.N) (k : Fin k0_t1_loop.trips), k0_off19 (grid0.coords t) k = ![(Ring.sl 3 t.val).val, 1, k.val, 0, 2048] := by decide +kernel
theorem off20_eq : ∀ (t : Fin grid0.N) (k : Fin k0_t1_loop.trips), k0_off20 (grid0.coords t) k = ![(Ring.sl 3 t.val).val, 0, k.val, 0, 3072] := by decide +kernel
theorem off21_eq : ∀ (t : Fin grid0.N) (k : Fin k0_t1_loop.trips), k0_off21 (grid0.coords t) k = ![(Ring.sl 3 t.val).val, 1, k.val, 0, 3072] := by decide +kernel
theorem off23_eq : ∀ (t : Fin grid0.N) (k : Fin k0_t1_loop.trips), k0_off23 (grid0.coords t) k = ![(Ring.sl 3 t.val).val, 0, k.val, 0, 4096] := by decide +kernel
theorem off24_eq : ∀ (t : Fin grid0.N) (k : Fin k0_t1_loop.trips), k0_off24 (grid0.coords t) k = ![(Ring.sl 3 t.val).val, 1, k.val, 0, 4096] := by decide +kernel
theorem off25_eq : ∀ (t : Fin grid0.N) (k : Fin k0_t1_loop.trips), k0_off25 (grid0.coords t) k = ![(Ring.sl 3 t.val).val, 0, k.val, 0, 5120] := by decide +kernel
theorem off26_eq : ∀ (t : Fin grid0.N) (k : Fin k0_t1_loop.trips), k0_off26 (grid0.coords t) k = ![(Ring.sl 3 t.val).val, 1, k.val, 0, 5120] := by decide +kernel
theorem off27_eq : ∀ (t : Fin grid0.N) (k : Fin k0_t1_loop.trips), k0_off27 (grid0.coords t) k = ![(Ring.sl 3 t.val).val, 0, k.val, 0, 6144] := by decide +kernel
theorem off28_eq : ∀ (t : Fin grid0.N) (k : Fin k0_t1_loop.trips), k0_off28 (grid0.coords t) k = ![(Ring.sl 3 t.val).val, 1, k.val, 0, 6144] := by decide +kernel
theorem off29_eq : ∀ (t : Fin grid0.N) (k : Fin k0_t1_loop.trips), k0_off29 (grid0.coords t) k = ![(Ring.sl 3 t.val).val, 0, k.val, 0, 7168] := by decide +kernel
theorem off30_eq : ∀ (t : Fin grid0.N) (k : Fin k0_t1_loop.trips), k0_off30 (grid0.coords t) k = ![(Ring.sl 3 t.val).val, 1, k.val, 0, 7168] := by decide +kernel
theorem off32_eq : ∀ (t : Fin grid0.N) (k : Fin k0_t1_loop.trips), k0_off32 (grid0.coords t) k = ![(Ring.sl 3 t.val).val, 0, k.val, 0, 8192] := by decide +kernel
theorem off33_eq : ∀ (t : Fin grid0.N) (k : Fin k0_t1_loop.trips), k0_off33 (grid0.coords t) k = ![(Ring.sl 3 t.val).val, 1, k.val, 0, 8192] := by decide +kernel
theorem off34_eq : ∀ (t : Fin grid0.N) (k : Fin k0_t1_loop.trips), k0_off34 (grid0.coords t) k = ![(Ring.sl 3 t.val).val, 0, k.val, 0, 9216] := by decide +kernel
theorem off35_eq : ∀ (t : Fin grid0.N) (k : Fin k0_t1_loop.trips), k0_off35 (grid0.coords t) k = ![(Ring.sl 3 t.val).val, 1, k.val, 0, 9216] := by decide +kernel
theorem off11_eq : ∀ (t : Fin grid0.N) (k : Fin k0_t1_loop.trips), k0_off11 (grid0.coords t) k = ![16 * t.val + k.val] := by decide +kernel
theorem off12_eq : ∀ (t : Fin grid0.N) (k : Fin k0_t1_loop.trips), k0_off12 (grid0.coords t) k = ![0, 16 * t.val + k.val] := by decide +kernel
theorem off13_eq : ∀ (t : Fin grid0.N) (k : Fin k0_t1_loop.trips), k0_off13 (grid0.coords t) k = ![1, 16 * t.val + k.val] := by decide +kernel
theorem off22_eq : ∀ k : Fin k0_t1_loop.trips, k0_off22 k = ![k.val, 0, 0] := by decide +kernel
theorem off31_eq : ∀ k : Fin k0_t1_loop.trips, k0_off31 k = ![k.val, 0, 1024] := by decide +kernel
theorem off36_eq : ∀ k : Fin k0_t1_loop.trips, k0_off36 k = ![k.val, 0, 2048] := by decide +kernel
theorem off37_eq : ∀ k : Fin k0_t1_loop.trips, k0_off37 k = ![k.val, 0, 0] := by decide +kernel
theorem trips_eq : k0_t1_loop.trips = 16 := by decide +kernel

section Rows
variable (c : Dev nD) (t : Fin grid0.N) (arg4 : Memref sig .tc .vmem S16x1x3072 .i32) (harg4 : arg4.IsWhole) (arg5 : Memref sig .tc .vmem S16x1x1024 .i32) (harg5 : arg5.IsWhole) (arg7 : Memref sig .tc .vmem S1x1024 .i32) (harg7 : arg7.IsWhole) (arg0 v50 : BitVec 32) (v51 : Vec F S1x1024 .i32)
  (X1 : BufTy.Contents (Elt F) tbM0_0.view.ty) (X2 : BufTy.Contents (Elt F) tbM0_1.view.ty) (X6 : Buf (Elt F) (scM0_0.view.loc (c : Thread nD τ)))

/-- One trip at grid point `t`, the scratch buffer held off the other slots. -/
abbrev rowTrip (k : Fin k0_t1_loop.trips) :=
  trip (F := F) Variants.none c none (grid0.coords t) tbM0_0 htbM0_0 tbM0_1 htbM0_1 (Memref.whole main_arg2) (Memref.isWhole_whole _) arg4 harg4 arg5 harg5 scM0_0 (Memref.isWhole_whole _) arg7 harg7 cc0_scratch2 arg0 v50 v51 X1 X2 (othersSet (Ring.sl 3 t.val)) X6 k
    (slab_others (Ring.sl 3 t.val) _ (k0_off14_inb (grid0.coords t) k) (by rw [off14_eq]; rfl))
    (slab_others (Ring.sl 3 t.val) _ (k0_off15_inb (grid0.coords t) k) (by rw [off15_eq]; rfl))
    (slab_others (Ring.sl 3 t.val) _ (k0_off16_inb (grid0.coords t) k) (by rw [off16_eq]; rfl))
    (slab_others (Ring.sl 3 t.val) _ (k0_off17_inb (grid0.coords t) k) (by rw [off17_eq]; rfl))
    (slab_others (Ring.sl 3 t.val) _ (k0_off18_inb (grid0.coords t) k) (by rw [off18_eq]; rfl))
    (slab_others (Ring.sl 3 t.val) _ (k0_off19_inb (grid0.coords t) k) (by rw [off19_eq]; rfl))
    (slab_others (Ring.sl 3 t.val) _ (k0_off20_inb (grid0.coords t) k) (by rw [off20_eq]; rfl))
    (slab_others (Ring.sl 3 t.val) _ (k0_off21_inb (grid0.coords t) k) (by rw [off21_eq]; rfl))
    (slab_others (Ring.sl 3 t.val) _ (k0_off23_inb (grid0.coords t) k) (by rw [off23_eq]; rfl))
    (slab_others (Ring.sl 3 t.val) _ (k0_off24_inb (grid0.coords t) k) (by rw [off24_eq]; rfl))
    (slab_others (Ring.sl 3 t.val) _ (k0_off25_inb (grid0.coords t) k) (by rw [off25_eq]; rfl))
    (slab_others (Ring.sl 3 t.val) _ (k0_off26_inb (grid0.coords t) k) (by rw [off26_eq]; rfl))
    (slab_others (Ring.sl 3 t.val) _ (k0_off27_inb (grid0.coords t) k) (by rw [off27_eq]; rfl))
    (slab_others (Ring.sl 3 t.val) _ (k0_off28_inb (grid0.coords t) k) (by rw [off28_eq]; rfl))
    (slab_others (Ring.sl 3 t.val) _ (k0_off29_inb (grid0.coords t) k) (by rw [off29_eq]; rfl))
    (slab_others (Ring.sl 3 t.val) _ (k0_off30_inb (grid0.coords t) k) (by rw [off30_eq]; rfl))
    (slab_others (Ring.sl 3 t.val) _ (k0_off32_inb (grid0.coords t) k) (by rw [off32_eq]; rfl))
    (slab_others (Ring.sl 3 t.val) _ (k0_off33_inb (grid0.coords t) k) (by rw [off33_eq]; rfl))
    (slab_others (Ring.sl 3 t.val) _ (k0_off34_inb (grid0.coords t) k) (by rw [off34_eq]; rfl))
    (slab_others (Ring.sl 3 t.val) _ (k0_off35_inb (grid0.coords t) k) (by rw [off35_eq]; rfl))

/-- What trip `k` stores in row `k` of the packed window, lane by lane: three slabs of 1024 words. -/
def packRow (k : Fin k0_t1_loop.trips) (col : Fin 3072) : BitVec 32 :=
  if h0 : col.val < 1024 then trip.sl.v162 c (grid0.coords t) tbM0_0 tbM0_1 scM0_0 v51 X1 X2 X6 k (ix3 0 0 ⟨col.val, h0⟩)
  else if h1 : col.val < 2048 then trip.sl.v263 c (grid0.coords t) tbM0_0 tbM0_1 scM0_0 v51 X1 X2 X6 k (ix3 0 0 ⟨col.val - 1024, by omega⟩)
  else k0_pay1 (trip.sl.v288 c (grid0.coords t) tbM0_0 tbM0_1 scM0_0 v51 X1 X2 X6 k) (trip.sl.v308 c (grid0.coords t) tbM0_0 tbM0_1 scM0_0 v51 X1 X2 X6 k) (ix3 0 0 ⟨col.val - 2048, by omega⟩)

/-- What trip `k` stores in row `k` of the window of minima. -/
def leastRow (k : Fin k0_t1_loop.trips) (col : Fin 1024) : BitVec 32 :=
  k0_pay2 (trip.sl.v309 c (grid0.coords t) tbM0_0 tbM0_1 scM0_0 v51 X1 X2 X6 k) (ix3 0 0 col)

theorem read_pack_same (k : Fin k0_t1_loop.trips) (f4 : BufTy.Contents (Elt F) arg4.view.ty) (r : Fin 16) (hr : r.val = k.val) (col : Fin 3072) :
    arg4.view.read (Elt F) (arg4.view.writes (Elt F) f4 (rowTrip (F := F) c t arg4 harg4 arg5 harg5 arg7 harg7 arg0 v50 v51 X1 X2 X6 k).1) (ix3 r 0 col) = packRow c t v51 X1 X2 X6 k col := by
  unfold rowTrip trip packRow
  dsimp only
  by_cases h0 : col.val < 1024
  · rw [dif_pos h0,
      View.read_writes_cons_unit_of_not_mem _ _ _ _ _ _ (off36_eq k) 2 (Or.inl (by show col.val < 2048; omega)),
      View.read_writes_cons_unit_of_not_mem _ _ _ _ _ _ (off31_eq k) 2 (Or.inl (by show col.val < 1024; omega)),
      View.read_writes_cons_unit_of_mem _ _ _ _ _ _ (ix3 0 0 ⟨col.val, h0⟩) (off22_eq k)]
    intro a; fin_cases a
    · show r.val = k.val + 0; omega
    · rfl
    · show col.val = 0 + col.val; omega
  · rw [dif_neg h0]
    by_cases h1 : col.val < 2048
    · rw [dif_pos h1,
        View.read_writes_cons_unit_of_not_mem _ _ _ _ _ _ (off36_eq k) 2 (Or.inl (by show col.val < 2048; omega)),
        View.read_writes_cons_unit_of_mem _ _ _ _ _ _ (ix3 0 0 ⟨col.val - 1024, by omega⟩) (off31_eq k)]
      intro a; fin_cases a
      · show r.val = k.val + 0; omega
      · rfl
      · show col.val = 1024 + (col.val - 1024); omega
    · rw [dif_neg h1,
        View.read_writes_cons_unit_of_mem _ _ _ _ _ _ (ix3 0 0 ⟨col.val - 2048, by omega⟩) (off36_eq k)]
      intro a; fin_cases a
      · show r.val = k.val + 0; omega
      · rfl
      · show col.val = 2048 + (col.val - 2048); omega

theorem read_pack_other (k : Fin k0_t1_loop.trips) (f4 : BufTy.Contents (Elt F) arg4.view.ty) (r : Fin 16) (hr : r.val < k.val) (col : Fin 3072) :
    arg4.view.read (Elt F) (arg4.view.writes (Elt F) f4 (rowTrip (F := F) c t arg4 harg4 arg5 harg5 arg7 harg7 arg0 v50 v51 X1 X2 X6 k).1) (ix3 r 0 col) = arg4.view.read (Elt F) f4 (ix3 r 0 col) := by
  unfold rowTrip trip
  dsimp only
  rw [View.read_writes_cons_unit_of_not_mem _ _ _ _ _ _ (off36_eq k) 0 (Or.inl hr),
      View.read_writes_cons_unit_of_not_mem _ _ _ _ _ _ (off31_eq k) 0 (Or.inl hr),
      View.read_writes_cons_unit_of_not_mem _ _ _ _ _ _ (off22_eq k) 0 (Or.inl hr)]
  rfl

theorem read_least_same (k : Fin k0_t1_loop.trips) (f5 : BufTy.Contents (Elt F) arg5.view.ty) (r : Fin 16) (hr : r.val = k.val) (col : Fin 1024) :
    arg5.view.read (Elt F) (arg5.view.writes (Elt F) f5 (rowTrip (F := F) c t arg4 harg4 arg5 harg5 arg7 harg7 arg0 v50 v51 X1 X2 X6 k).2.1) (ix3 r 0 col) = leastRow c t v51 X1 X2 X6 k col := by
  unfold rowTrip trip leastRow
  dsimp only
  rw [View.read_writes_cons_unit_of_mem _ _ _ _ _ _ (ix3 0 0 col) (off37_eq k)]
  intro a; fin_cases a
  · show r.val = k.val + 0; omega
  · rfl
  · show col.val = 0 + col.val; omega

theorem read_least_other (k : Fin k0_t1_loop.trips) (f5 : BufTy.Contents (Elt F) arg5.view.ty) (r : Fin 16) (hr : r.val < k.val) (col : Fin 1024) :
    arg5.view.read (Elt F) (arg5.view.writes (Elt F) f5 (rowTrip (F := F) c t arg4 harg4 arg5 harg5 arg7 harg7 arg0 v50 v51 X1 X2 X6 k).2.1) (ix3 r 0 col) = arg5.view.read (Elt F) f5 (ix3 r 0 col) := by
  unfold rowTrip trip
  dsimp only
  rw [View.read_writes_cons_unit_of_not_mem _ _ _ _ _ _ (off37_eq k) 0 (Or.inl hr)]
  rfl

/-- The rows before `k` hold what their trips stored. -/
def PackDone (k : ℕ) (f4 : BufTy.Contents (Elt F) arg4.view.ty) : Prop :=
  ∀ (r : Fin 16) (j : Fin k0_t1_loop.trips), r.val = j.val → j.val < k → ∀ col : Fin 3072, arg4.view.read (Elt F) f4 (ix3 r 0 col) = packRow c t v51 X1 X2 X6 j col
def LeastDone (k : ℕ) (f5 : BufTy.Contents (Elt F) arg5.view.ty) : Prop :=
  ∀ (r : Fin 16) (j : Fin k0_t1_loop.trips), r.val = j.val → j.val < k → ∀ col : Fin 1024, arg5.view.read (Elt F) f5 (ix3 r 0 col) = leastRow c t v51 X1 X2 X6 j col

/-- The loop's invariant before trip `k`. -/
def rowsInv (k : ℕ) : sProp 𝕄 :=
  iprop((tbM0_0.view.loc (c : Thread nD τ) ↦[tbM0_0.view.set]{fullShare.right} X1) ∗ (tbM0_1.view.loc (c : Thread nD τ) ↦[tbM0_1.view.set]{fullShare.right} X2)
    ∗ (scM0_0.view.loc (c : Thread nD τ) ↦[Finset.univ \ othersSet (Ring.sl 3 t.val)]{fullShare} X6)
    ∗ (∃ f4, ⌜PackDone c t arg4 v51 X1 X2 X6 k f4⌝ ∗ (arg4.view.loc (c : Thread nD τ) ↦[arg4.view.set]{fullShare} f4))
    ∗ (∃ f5, ⌜LeastDone c t arg5 v51 X1 X2 X6 k f5⌝ ∗ (arg5.view.loc (c : Thread nD τ) ↦[arg5.view.set]{fullShare} f5)))

set_option warn.classDefReducibility false in
/-- The loop by that invariant. -/
def rowLoop : Idealize.ShloMosaic.LoopInv (M := 𝕄) Idealize.ShloMosaic.frame (wpE (defs₀ (F := F)) Variants.none (c : Thread nD τ) none) Set.univ
    k0_t1_loop.lb k0_t1_loop.ub k0_t1_loop.st k0_t1_ok () (k0_t1_body (F := F) (grid0.coords t) tbM0_0 htbM0_0 tbM0_1 htbM0_1 (Memref.whole main_arg2) (Memref.isWhole_whole _) arg4 harg4 arg5 harg5 scM0_0 (Memref.isWhole_whole _) arg7 harg7 cc0_scratch2 arg0 v50 v51) where
  inv k _ := rowsInv c t arg4 arg5 v51 X1 X2 X6 k
  step k acc := by
    unfold rowsInv
    iintro ⟨H1, H2, H6, ⟨%f4, %h4, H4⟩, ⟨%f5, %h5, H5⟩⟩
    iapply (wp_wand_r Idealize.ShloMosaic.frame (wpE (defs₀ (F := F)) Variants.none (c : Thread nD τ) none) Set.univ)
    isplitl [H1 H2 H6 H4 H5]
    · iapply ((rowTrip (F := F) c t arg4 harg4 arg5 harg5 arg7 harg7 arg0 v50 v51 X1 X2 X6 k).2.2 Set.univ f4 f5)
      isplitl [H1]; · iexact H1
      isplitl [H2]; · iexact H2
      isplitl [H6]; · iexact H6
      isplitl [H4]; · iexact H4
      iexact H5
    · iintro %_ ⟨H1, H2, H6, H4, H5⟩
      isplitl [H1]; · iexact H1
      isplitl [H2]; · iexact H2
      isplitl [H6]; · iexact H6
      isplitl [H4]
      · iexists _; isplitr; swap; · iexact H4
        ipureintro
        intro r j hr hj col
        by_cases hjk : j.val < k.val
        · exact (read_pack_other c t arg4 harg4 arg5 harg5 arg7 harg7 arg0 v50 v51 X1 X2 X6 k f4 r (by omega) col).trans (h4 r j hr hjk col)
        · obtain rfl : j = k := Fin.ext (by omega)
          exact read_pack_same c t arg4 harg4 arg5 harg5 arg7 harg7 arg0 v50 v51 X1 X2 X6 j f4 r hr col
      · iexists _; isplitr; swap; · iexact H5
        ipureintro
        intro r j hr hj col
        by_cases hjk : j.val < k.val
        · exact (read_least_other c t arg4 harg4 arg5 harg5 arg7 harg7 arg0 v50 v51 X1 X2 X6 k f5 r (by omega) col).trans (h5 r j hr hjk col)
        · obtain rfl : j = k := Fin.ext (by omega)
          exact read_least_same c t arg4 harg4 arg5 harg5 arg7 harg7 arg0 v50 v51 X1 X2 X6 j f5 r hr col
end Rows

end Cert.DistancesIdeal.Gen

end
-- ==== Proof.Ideal.Steps.lean ====
/-  The three kinds of grid step of the distance kernel, run: the first (it fills the table of lane numbers and starts the
    first two blocks), the steps that start a block two ahead, and the last two. Between the copies' arrival and the row
    loop the slot in use, its spare columns included, is held as one set of elements; the loop reads there and nowhere else. -/
module

public import proofs.«01_k».proof.Proof.Ideal.Loop
public import Idealize.ShloMosaic.Lib.VecWindow

@[expose] public section

-- membership in a rectangle of production extents (`View.cover_of_tiled`): the elaborator's structural look
-- recurses once per coordinate of the long axes
set_option maxRecDepth 16384

noncomputable section

namespace Cert.DistancesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The slot in use as one set -/

/-- The scratch buffer holds block `b` in the two windows of slot `s`. -/
def Landed (c : Dev nD) (W0 : HbBuf0 (F := F) c hbM0_0) (s : Fin 3) (b : Fin 40) (X6 : HbBuf0 (F := F) c scM0_0) : Prop :=
  (∀ i ∈ winSet0_0 (s, 0), X6 i = landed0_0_0 c W0 s b i) ∧ (∀ i ∈ winSet0_0 (s, 1), X6 i = landed0_0_1 c W0 s b i)

/-- Everything off the other slots: the two windows of slot `s` and the spare columns. -/
theorem off_others_eq (s : Fin 3) : Finset.univ \ othersSet s = (winSet0_0 (s, 0) ∪ winSet0_0 (s, 1)) ∪ spareSet0_0 := by
  have hd := wins0_0_disjoint
  have ho : ∀ (w : Fin 2) x, x ∈ winSet0_0 (s, w) → x ∉ othersSet s := fun w x hx hm => by
    refine ne_of_mem_othersSet hm ?_
    have h0 := (Rect.mem_set_unit.mp hx) 0
    have e1 : winOff0_0 (s, w) 0 = s.val := rfl
    have e2 : S1x1x16x1x10112.size 0 = 1 := rfl
    rw [e1, e2] at h0
    omega
  ext x
  simp only [Finset.mem_sdiff, Finset.mem_union, Finset.mem_univ, true_and]
  constructor
  · intro hx
    by_cases hs : x ∈ Finset.univ.biUnion winSet0_0
    · left
      obtain ⟨⟨s', w⟩, -, hw⟩ := Finset.mem_biUnion.mp hs
      by_cases hss : s' = s
      · subst hss
        fin_cases w
        · exact Or.inl hw
        · exact Or.inr hw
      · exact absurd (show x ∈ othersSet s from Finset.mem_biUnion.mpr ⟨(s', w), Finset.mem_filter.mpr ⟨Finset.mem_univ _, hss⟩, hw⟩) hx
    · exact Or.inr hs
  · rintro ((h | h) | h)
    · exact ho 0 x h
    · exact ho 1 x h
    · intro hm
      obtain ⟨j, -, hj⟩ := Finset.mem_biUnion.mp hm
      exact h (Finset.mem_biUnion.mpr ⟨j, Finset.mem_univ _, hj⟩)

theorem wins_disjoint01 (s : Fin 3) : Disjoint (winSet0_0 (s, 0)) (winSet0_0 (s, 1)) :=
  wins0_0_disjoint (s, 0) (s, 1) (fun h => absurd (congrArg Prod.snd h) (by decide : (0 : Fin 2) ≠ 1))
theorem wins_spare_disjoint (s : Fin 3) : Disjoint (winSet0_0 (s, 0) ∪ winSet0_0 (s, 1)) spareSet0_0 := by
  rw [Finset.disjoint_left]
  intro x hx hs
  have hs' : x ∉ Finset.univ.biUnion winSet0_0 := (Finset.mem_sdiff.mp hs).2
  rcases Finset.mem_union.mp hx with h | h
  · exact hs' (Finset.mem_biUnion.mpr ⟨(s, 0), Finset.mem_univ _, h⟩)
  · exact hs' (Finset.mem_biUnion.mpr ⟨(s, 1), Finset.mem_univ _, h⟩)

section Glue
variable (c : Dev nD) (W0 : HbBuf0 (F := F) c hbM0_0) (s : Fin 3) (b : Fin 40)

theorem slot_glue : iprop(winP0_0_0 c s (landed0_0_0 c W0 s b) ∗ winP0_0_1 c s (landed0_0_1 c W0 s b) ∗ spareP0_0 (F := F) c)
    ⊢ (iprop(∃ X6 : HbBuf0 (F := F) c scM0_0, ⌜Landed c W0 s b X6⌝ ∗ (((c : Thread nD τ).loc cc0_scratch0) ↦[Finset.univ \ othersSet s]{fullShare} X6)) : sProp 𝕄) := by
  have e0 := winP0_0_eq (F := F) c (s, 0) (landed0_0_0 c W0 s b)
  have e1 := winP0_0_eq (F := F) c (s, 1) (landed0_0_1 c W0 s b)
  rw [off_others_eq s]
  rw [show winP0_0_0 (F := F) c s (landed0_0_0 c W0 s b) = _ from e0, show winP0_0_1 (F := F) c s (landed0_0_1 c W0 s b) = _ from e1]
  iintro ⟨H0, H1, ⟨%f, Hs⟩⟩
  iexists spareSet0_0.piecewise f ((winSet0_0 (s, 1)).piecewise (landed0_0_1 c W0 s b) (landed0_0_0 c W0 s b))
  isplitr
  · ipureintro
    have hd := Finset.disjoint_left.mp (wins_spare_disjoint s)
    refine ⟨fun i hi => ?_, fun i hi => ?_⟩
    · rw [Finset.piecewise_eq_of_notMem _ _ _ (hd (Finset.mem_union_left _ hi)), Finset.piecewise_eq_of_notMem _ _ _ (Finset.disjoint_left.mp (wins_disjoint01 s) hi)]
    · rw [Finset.piecewise_eq_of_notMem _ _ _ (hd (Finset.mem_union_right _ hi)), Finset.piecewise_eq_of_mem _ _ _ hi]
  iapply (pointsTo_join (wins_spare_disjoint s))
  isplitl [H0 H1]
  · iapply (pointsTo_join (wins_disjoint01 s))
    isplitl [H0]; · iexact H0
    iexact H1
  iexact Hs

theorem slot_unglue (X6 : HbBuf0 (F := F) c scM0_0) (h : Landed c W0 s b X6) :
    ((((c : Thread nD τ).loc cc0_scratch0) ↦[Finset.univ \ othersSet s]{fullShare} X6) : sProp 𝕄)
    ⊢ iprop(winP0_0_0 c s (landed0_0_0 c W0 s b) ∗ winP0_0_1 c s (landed0_0_1 c W0 s b) ∗ spareP0_0 (F := F) c) := by
  have e0 := winP0_0_eq (F := F) c (s, 0) (landed0_0_0 c W0 s b)
  have e1 := winP0_0_eq (F := F) c (s, 1) (landed0_0_1 c W0 s b)
  rw [off_others_eq s]
  rw [show winP0_0_0 (F := F) c s (landed0_0_0 c W0 s b) = _ from e0, show winP0_0_1 (F := F) c s (landed0_0_1 c W0 s b) = _ from e1]
  iintro H
  ihave H' := (pointsTo_union (wins_spare_disjoint s)).1 $$ H
  icases H' with ⟨HW, HS⟩
  ihave HW' := (pointsTo_union (wins_disjoint01 s)).1 $$ HW
  icases HW' with ⟨H0, H1⟩
  isplitl [H0]
  · iapply (Entails.of_eq (pointsTo_congr h.1)); iexact H0
  isplitl [H1]
  · iapply (Entails.of_eq (pointsTo_congr h.2)); iexact H1
  iexists X6; iexact HS
end Glue

/-! ## What a step leaves in the output windows -/

/-- The row a trip of the loop works on. -/
def rowOf (k : Fin 16) : Fin k0_t1_loop.trips := ⟨k.val, lt_of_lt_of_eq k.isLt trips_eq.symm⟩

/-- The packed window after grid point `t`: what the sixteen trips stored, reading a scratch buffer that holds block `t`. -/
def PackOut (c : Dev nD) (t : Fin grid0.N) (x0 : TbBuf0 (F := F) c tbM0_0) (x1 : TbBuf0 (F := F) c tbM0_1) (W0 : HbBuf0 (F := F) c hbM0_0) (d : Vec F S16x1x3072 .i32) : Prop :=
  ∃ X6, Landed c W0 (Ring.sl 3 t.val) (Ring.bk 40 t.val) X6 ∧ ∀ (r : Fin 16) (col : Fin 3072), d (ix3 r 0 col) = packRow c t k0_pay3 x0 x1 X6 (rowOf r) col
/-- The window of minima likewise. -/
def LeastOut (c : Dev nD) (t : Fin grid0.N) (x0 : TbBuf0 (F := F) c tbM0_0) (x1 : TbBuf0 (F := F) c tbM0_1) (W0 : HbBuf0 (F := F) c hbM0_0) (d : Vec F S16x1x1024 .i32) : Prop :=
  ∃ X6, Landed c W0 (Ring.sl 3 t.val) (Ring.bk 40 t.val) X6 ∧ ∀ (r : Fin 16) (col : Fin 1024), d (ix3 r 0 col) = leastRow c t k0_pay3 x0 x1 X6 (rowOf r) col

/-- The loop's invariant, the tables' windows being the tables. -/
theorem rowsInv_eq (c : Dev nD) (t : Fin grid0.N) (arg4 : Memref sig .tc .vmem S16x1x3072 .i32) (arg5 : Memref sig .tc .vmem S16x1x1024 .i32) (v51 : Vec F S1x1024 .i32) (x0 : TbBuf0 (F := F) c tbM0_0) (x1 : TbBuf0 (F := F) c tbM0_1) (X6 : HbBuf0 (F := F) c scM0_0) (k : ℕ) :
    (rowsInv c t arg4 arg5 v51 x0 x1 X6 k : sProp 𝕄) = iprop(tbPt0 c tbM0_0 x0 ∗ tbPt0 c tbM0_1 x1 ∗ (((c : Thread nD τ).loc cc0_scratch0) ↦[Finset.univ \ othersSet (Ring.sl 3 t.val)]{fullShare} X6)
      ∗ (∃ f4, ⌜PackDone c t arg4 v51 x0 x1 X6 k f4⌝ ∗ (arg4.view.loc (c : Thread nD τ) ↦[arg4.view.set]{fullShare} f4))
      ∗ (∃ f5, ⌜LeastDone c t arg5 v51 x0 x1 X6 k f5⌝ ∗ (arg5.view.loc (c : Thread nD τ) ↦[arg5.view.set]{fullShare} f5))) := by
  unfold rowsInv
  rw [htbM0_0.set_eq_univ, htbM0_1.set_eq_univ]

/-- The loop from its invariant before the first trip to its invariant after the last. -/
theorem rows_for (c : Dev nD) (t : Fin grid0.N) (arg4 : Memref sig .tc .vmem S16x1x3072 .i32) (harg4 : arg4.IsWhole) (arg5 : Memref sig .tc .vmem S16x1x1024 .i32) (harg5 : arg5.IsWhole)
    (arg0 v50 : BitVec 32) (v51 : Vec F S1x1024 .i32) (x0 : TbBuf0 (F := F) c tbM0_0) (x1 : TbBuf0 (F := F) c tbM0_1) (X6 : HbBuf0 (F := F) c scM0_0) {β : Type} {kk : PUnit.{1} → Prog (TpuEff nD τ sig (Elt F) Λ₀ .tc) β} {Q : β → sProp 𝕄} :
    (rowsInv c t arg4 arg5 v51 x0 x1 X6 0 : sProp 𝕄) ⊢ iprop((rowsInv c t arg4 arg5 v51 x0 x1 X6 k0_t1_loop.trips -∗ wp Idealize.ShloMosaic.frame (wpE (defs₀ (F := F)) Variants.none (c : Thread nD τ) none) Set.univ (kk ⟨⟩) Q)
      -∗ wp Idealize.ShloMosaic.frame (wpE (defs₀ (F := F)) Variants.none (c : Thread nD τ) none) Set.univ
        (k0_t1_loop.for k0_t1_ok PUnit.unit (k0_t1_body (F := F) (grid0.coords t) tbM0_0 htbM0_0 tbM0_1 htbM0_1 (Memref.whole main_arg2) (Memref.isWhole_whole _) arg4 harg4 arg5 harg5 scM0_0 (Memref.isWhole_whole _) scM0_1 (Memref.isWhole_whole _) cc0_scratch2 arg0 v50 v51) >>= kk) Q) := by
  have h := exec_loop _ _ _ _ _ _ _ _ _ (rowLoop c t arg4 harg4 arg5 harg5 scM0_1 (Memref.isWhole_whole _) arg0 v50 v51 x0 x1 X6) (kk := kk) (Q := Q)
  refine .trans h ?_
  iintro H Hk
  iapply H
  iintro %acc HI
  iapply Hk
  iapply (Entails.of_eq (show (rowLoop c t arg4 harg4 arg5 harg5 scM0_1 (Memref.isWhole_whole _) arg0 v50 v51 x0 x1 X6).inv k0_t1_loop.trips acc = rowsInv c t arg4 arg5 v51 x0 x1 X6 k0_t1_loop.trips from rfl))
  iexact HI

/-- The row loop from buffers as the steps hold them: the tables whole, the slot in use with the spare columns. -/
theorem rows_run (c : Dev nD) (t : Fin grid0.N) (arg4 : Memref sig .tc .vmem S16x1x3072 .i32) (harg4 : arg4.IsWhole) (arg5 : Memref sig .tc .vmem S16x1x1024 .i32) (harg5 : arg5.IsWhole)
    (arg0 v50 : BitVec 32) (v51 : Vec F S1x1024 .i32) (hv : v51 = k0_pay3) (x0 : TbBuf0 (F := F) c tbM0_0) (x1 : TbBuf0 (F := F) c tbM0_1) (W0 : HbBuf0 (F := F) c hbM0_0) (X6 : HbBuf0 (F := F) c scM0_0)
    (hX : Landed c W0 (Ring.sl 3 t.val) (Ring.bk 40 t.val) X6) {f4 : arg4.view.ty.Contents (Elt F)} {f5 : arg5.view.ty.Contents (Elt F)} {β : Type} {kk : PUnit.{1} → Prog (TpuEff nD τ sig (Elt F) Λ₀ .tc) β} {Q : β → sProp 𝕄} :
    iprop(tbPt0 c tbM0_0 x0 ∗ tbPt0 c tbM0_1 x1 ∗ (((c : Thread nD τ).loc cc0_scratch0) ↦[Finset.univ \ othersSet (Ring.sl 3 t.val)]{fullShare} X6)
      ∗ (arg4.view.loc (c : Thread nD τ) ↦[arg4.view.set]{fullShare} f4) ∗ (arg5.view.loc (c : Thread nD τ) ↦[arg5.view.set]{fullShare} f5)
      ∗ (iprop(tbPt0 c tbM0_0 x0 ∗ tbPt0 c tbM0_1 x1 ∗ (((c : Thread nD τ).loc cc0_scratch0) ↦[Finset.univ \ othersSet (Ring.sl 3 t.val)]{fullShare} X6)
          ∗ (∃ d, ⌜PackOut c t x0 x1 W0 d⌝ ∗ owns (c : Thread nD τ) arg4 fullShare d) ∗ (∃ d, ⌜LeastOut c t x0 x1 W0 d⌝ ∗ owns (c : Thread nD τ) arg5 fullShare d))
        -∗ wp Idealize.ShloMosaic.frame (wpE (defs₀ (F := F)) Variants.none (c : Thread nD τ) none) Set.univ (kk ⟨⟩) Q))
    ⊢ wp Idealize.ShloMosaic.frame (wpE (defs₀ (F := F)) Variants.none (c : Thread nD τ) none) Set.univ
        (k0_t1_loop.for k0_t1_ok PUnit.unit (k0_t1_body (F := F) (grid0.coords t) tbM0_0 htbM0_0 tbM0_1 htbM0_1 (Memref.whole main_arg2) (Memref.isWhole_whole _) arg4 harg4 arg5 harg5 scM0_0 (Memref.isWhole_whole _) scM0_1 (Memref.isWhole_whole _) cc0_scratch2 arg0 v50 v51) >>= kk) Q := by
  subst hv
  iintro ⟨H0, H1, HX, H2, H3, Hk⟩
  iapply (rows_for c t arg4 harg4 arg5 harg5 arg0 v50 k0_pay3 x0 x1 X6) $$ [H0 H1 HX H2 H3]
  · iapply (Entails.of_eq (rowsInv_eq c t arg4 arg5 k0_pay3 x0 x1 X6 0).symm)
    isplitl [H0]; · iexact H0
    isplitl [H1]; · iexact H1
    isplitl [HX]; · iexact HX
    isplitl [H2]
    · iexists _; isplitr; swap; · iexact H2
      ipureintro; intro _ _ _ h; exact absurd h (Nat.not_lt_zero _)
    iexists _; isplitr; swap; · iexact H3
    ipureintro; intro _ _ _ h; exact absurd h (Nat.not_lt_zero _)
  iintro HI0
  ihave HI := (Entails.of_eq (rowsInv_eq c t arg4 arg5 k0_pay3 x0 x1 X6 k0_t1_loop.trips)) $$ HI0
  icases HI with ⟨H0, H1, HX, ⟨%g4, %hg4, H2⟩, ⟨%g5, %hg5, H3⟩⟩
  iapply Hk
  isplitl [H0]; · iexact H0
  isplitl [H1]; · iexact H1
  isplitl [HX]; · iexact HX
  isplitl [H2]
  · iexists (View.read (Elt F) arg4.view g4); isplitr
    · ipureintro; exact ⟨X6, hX, fun r col => hg4 r (rowOf r) rfl (rowOf r).isLt col⟩
    unfold owns
    iexists g4; isplitr; · ipureintro; rfl
    iexact H2
  iexists (View.read (Elt F) arg5.view g5); isplitr
  · ipureintro; exact ⟨X6, hX, fun r col => hg5 r (rowOf r) rfl (rowOf r).isLt col⟩
  unfold owns
  iexists g5; isplitr; · ipureintro; rfl
  iexact H3

end Cert.DistancesIdeal.Gen

end
-- ==== Proof.Ideal.StepA.lean ====
/-  One kind of grid step of the distance kernel, run from the ring before it to the ring after it. -/
module

public import proofs.«01_k».proof.Proof.Ideal.Steps

@[expose] public section

-- membership in a rectangle of production extents (`View.cover_of_tiled`): the elaborator's structural look
-- recurses once per coordinate of the long axes
set_option maxRecDepth 16384

noncomputable section

namespace Cert.DistancesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run is long: checking it walks past the default budget)
set_option maxHeartbeats 1000000 in
/-- The first step. -/
theorem kernelRun0_A (c : Dev nD) (t : Fin grid0.N) (arg4 : Memref sig .tc .vmem S16x1x3072 .i32) (harg4 : arg4.IsWhole) (arg5 : Memref sig .tc .vmem S16x1x1024 .i32) (harg5 : arg5.IsWhole) (hc0 : cond0_0 (grid0.coords t)) (hc1 : cond0_1 (grid0.coords t))
    (x0 : TbBuf0 (F := F) c tbM0_0) (x1 : TbBuf0 (F := F) c tbM0_1) (fh0 : HbBuf0 (F := F) c hbM0_0) :
      ∀ (W : Waits sig Unit) (K : PUnit → sProp 𝕄),
        iprop(tbPt0 c tbM0_0 x0 ∗ tbPt0 c tbM0_1 x1 ∗ (∃ d, owns (c : Thread nD τ) arg4 fullShare d) ∗ (∃ d, owns (c : Thread nD τ) arg5 fullShare d) ∗ (∃ d, owns (c : Thread nD τ) scM0_1 fullShare d) ∗ Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2)) ∗ spareP0_0 c ∗ owes (c : Thread nD τ) 0 W
            ∗ (iprop(tbPt0 c tbM0_0 x0 ∗ tbPt0 c tbM0_1 x1 ∗ (∃ d, ⌜PackOut c t x0 x1 fh0 d⌝ ∗ owns (c : Thread nD τ) arg4 fullShare d) ∗ (∃ d, ⌜LeastOut c t x0 x1 fh0 d⌝ ∗ owns (c : Thread nD τ) arg5 fullShare d) ∗ (owns (c : Thread nD τ) scM0_1 fullShare k0_pay3) ∗ Ring.inflight (flightW0_0 c fh0) (Ring.sl 3 (t.val + 1)) (Ring.bk 40 (t.val + 1)) ∗ Ring.inflight (flightW0_0 c fh0) (Ring.sl 3 (t.val + 2)) (Ring.bk 40 (t.val + 2)) ∗ Ring.free (cellP0_0 c) (slotW0_0 c fh0) (Ring.sl 3 t.val) ∗ spareP0_0 c ∗ (∃ W', owes (c : Thread nD τ) 0 W')) -∗ K ⟨⟩))
          ⊢ wp frame (wpE (defs₀ (F := F)) Variants.none c none) Set.univ (cc0_hamming (grid0.coords t) tbM0_0 htbM0_0 tbM0_1 htbM0_1 (Memref.whole main_arg2) (Memref.isWhole_whole _) arg4 harg4 arg5 harg5 scM0_0 (Memref.isWhole_whole _) scM0_1 (Memref.isWhole_whole _) cc0_scratch2) K := by
    intro W K
    haveI : Fact (cond0_0 (grid0.coords t)) := ⟨hc0⟩
    haveI : Fact (cond0_1 (grid0.coords t)) := ⟨hc1⟩
    simp only [cc0_hamming_eq_skeleton]; unfold cc0_hamming_skel
    simp only [k0_part9_eq_skeleton, k0_part1_eq_skeleton, k0_part2_eq_skeleton]
    have hcanon0 := canon0_0_1 t hc0 hc1
    have hcanon1 := canon0_0_1' t hc0 hc1
    have hcanon2 := canon0_0_2 t hc0 hc1
    have hcanon3 := canon0_0_2' t hc0 hc1
    have hcanon4 := canon0_0_3 t hc0 hc1
    have hcanon5 := canon0_0_3' t hc0 hc1
    have hcanon6 := canon0_0_4 t hc0 hc1
    have hcanon7 := canon0_0_4' t hc0 hc1
    have hcanon8 := canon0_0_5 t hc0 hc1
    have hcanon9 := canon0_0_5' t hc0 hc1
    have hcanon10 := canon0_0_6 t hc0 hc1
    have hcanon11 := canon0_0_6' t hc0 hc1
    have hcanon12 := canon0_0_7 t hc0 hc1
    have hcanon13 := canon0_0_7' t hc0 hc1
    have hcanon14 := canon0_0_8 t hc0 hc1
    have hcanon15 := canon0_0_8' t hc0 hc1
    have hcanon16 := canon0_0_9 t hc0 hc1
    have hcanon17 := canon0_0_9' t hc0 hc1
    have hcanon18 := canon0_0_10 t hc0 hc1
    have hcanon19 := canon0_0_10' t hc0 hc1
    unfold owns Ring.free Ring.inflight
    iintro ⟨H0, H1, ⟨%d2, %f2, -, H2⟩, ⟨%d3, %f3, -, H3⟩, ⟨%ds1, %fs1, -, HS1⟩, ⟨Hc0_0_0, ⟨%fs0_0_0, ⟨Hs0_0_0_0, Hs0_0_0_1⟩, Hw0_0_0_0, Hw0_0_0_1⟩⟩, ⟨Hc0_0_1, ⟨%fs0_0_1, ⟨Hs0_0_1_0, Hs0_0_1_1⟩, Hw0_0_1_0, Hw0_0_1_1⟩⟩, ⟨Hc0_0_2, ⟨%fs0_0_2, ⟨Hs0_0_2_0, Hs0_0_2_1⟩, Hw0_0_2_0, Hw0_0_2_1⟩⟩, HSp, HW, Hk⟩
    ihave Hsp0_0_0_0 := (src0_0_0_split c fh0 (Ring.sl 3 t.val) (Ring.bk 40 t.val)).1 $$ Hw0_0_0_0
    icases Hsp0_0_0_0 with ⟨Hh0_0_0_0, Hr0_0_0_0⟩
    ihave Hsp0_0_0_1 := (src0_0_1_split c fh0 (Ring.sl 3 t.val) (Ring.bk 40 t.val)).1 $$ Hw0_0_0_1
    icases Hsp0_0_0_1 with ⟨Hh0_0_0_1, Hr0_0_0_1⟩
    have hD0_0_0 := storable_winD0_0 (F := F) c fh0 (Ring.sl 3 t.val) (Ring.bk 40 t.val)
    imod (Transfers.batch_alloc' (Lvl := ℕ) countersEmb (c : Thread nD τ) default NN0_0 (winD0_0 c fh0 (Ring.sl 3 t.val) (Ring.bk 40 t.val)) (sm := cellR0_0 (Ring.sl 3 t.val)) (E := Set.univ)) $$ Hc0_0_0 with HB0_0_0
    clear hD0_0_0
    ihave Hsp0_0_1_0 := (src0_0_0_split c fh0 (Ring.sl 3 (t.val + 1)) (Ring.bk 40 (t.val + 1))).1 $$ Hw0_0_1_0
    icases Hsp0_0_1_0 with ⟨Hh0_0_1_0, Hr0_0_1_0⟩
    ihave Hsp0_0_1_1 := (src0_0_1_split c fh0 (Ring.sl 3 (t.val + 1)) (Ring.bk 40 (t.val + 1))).1 $$ Hw0_0_1_1
    icases Hsp0_0_1_1 with ⟨Hh0_0_1_1, Hr0_0_1_1⟩
    have hD0_0_1 := storable_winD0_0 (F := F) c fh0 (Ring.sl 3 (t.val + 1)) (Ring.bk 40 (t.val + 1))
    imod (Transfers.batch_alloc' (Lvl := ℕ) countersEmb (c : Thread nD τ) default NN0_0 (winD0_0 c fh0 (Ring.sl 3 (t.val + 1)) (Ring.bk 40 (t.val + 1))) (sm := cellR0_0 (Ring.sl 3 (t.val + 1))) (E := Set.univ)) $$ Hc0_0_1 with HB0_0_1
    clear hD0_0_1
    ihave Hsp0_0_2_0 := (src0_0_0_split c fh0 (Ring.sl 3 (t.val + 2)) (Ring.bk 40 (t.val + 2))).1 $$ Hw0_0_2_0
    icases Hsp0_0_2_0 with ⟨Hh0_0_2_0, Hr0_0_2_0⟩
    ihave Hsp0_0_2_1 := (src0_0_1_split c fh0 (Ring.sl 3 (t.val + 2)) (Ring.bk 40 (t.val + 2))).1 $$ Hw0_0_2_1
    icases Hsp0_0_2_1 with ⟨Hh0_0_2_1, Hr0_0_2_1⟩
    have hD0_0_2 := storable_winD0_0 (F := F) c fh0 (Ring.sl 3 (t.val + 2)) (Ring.bk 40 (t.val + 2))
    imod (Transfers.batch_alloc' (Lvl := ℕ) countersEmb (c : Thread nD τ) default NN0_0 (winD0_0 c fh0 (Ring.sl 3 (t.val + 2)) (Ring.bk 40 (t.val + 2))) (sm := cellR0_0 (Ring.sl 3 (t.val + 2))) (E := Set.univ)) $$ Hc0_0_2 with HB0_0_2
    clear hD0_0_2
    sl_exec (disch := first | sl_exact hc0 | sl_exact hc1)
    ihave HX := (slot_glue c fh0 (Ring.sl 3 t.val) (Ring.bk 40 t.val)) $$ [HB0_0_0_dst0 HB0_0_0_dst1 HSp]
    · isplitl [HB0_0_0_dst0]; · iexact HB0_0_0_dst0
      isplitl [HB0_0_0_dst1]; · iexact HB0_0_0_dst1
      iexact HSp
    icases HX with ⟨%X6, %hX6, HX⟩
    iapply (rows_run c t arg4 harg4 arg5 harg5 _ _ _ (by unfold kernelRun0_A.sl.v51 kernelRun0_A.sl.HS1_1; exact View.readCov_full _ _ _ _ _) x0 x1 fh0 X6 hX6)
    isplitl [H0]; · iexact H0
    isplitl [H1]; · iexact H1
    isplitl [HX]; · iexact HX
    isplitl [H2]; · iexact H2
    isplitl [H3]; · iexact H3
    iintro ⟨H0, H1, HX, H2, H3⟩
    ihave HU := (slot_unglue c fh0 (Ring.sl 3 t.val) (Ring.bk 40 t.val) X6 hX6) $$ HX
    icases HU with ⟨HB0_0_0_dst0, HB0_0_0_dst1, HSp⟩
    sl_step
    iapply Hk
    isplitl [H0]; · iexact H0
    isplitl [H1]; · iexact H1
    isplitl [H2]; · iexact H2
    isplitl [H3]; · iexact H3
    isplitl [HS1]
    · iexists _; isplitr; swap; · iexact HS1
      ipureintro; unfold kernelRun0_A.sl.HS1_1; exact View.read_writes_full _ _ _ _ _
    isplitl [HB0_0_1 Hr0_0_1_0 Hr0_0_1_1]
    · iexists fs0_0_1; isplitl [HB0_0_1]; · iexact HB0_0_1
      isplitl [Hr0_0_1_0]; · iexact Hr0_0_1_0
      iexact Hr0_0_1_1
    isplitl [HB0_0_2 Hr0_0_2_0 Hr0_0_2_1]
    · iexists fs0_0_2; isplitl [HB0_0_2]; · iexact HB0_0_2
      isplitl [Hr0_0_2_0]; · iexact Hr0_0_2_0
      iexact Hr0_0_2_1
    isplitl [HB0_0_0 HB0_0_0_dst0 HB0_0_0_dst1 HB0_0_0_src0 HB0_0_0_src1 Hr0_0_0_0 Hr0_0_0_1]
    · isplitl [HB0_0_0]; · iexact HB0_0_0
      iexists (landed0_0 c fh0 (Ring.sl 3 t.val) (Ring.bk 40 t.val)); isplitl [HB0_0_0_dst0 HB0_0_0_dst1]
      · iapply (slotP0_0_landed c fh0 (Ring.sl 3 t.val) (Ring.bk 40 t.val))
        isplitl [HB0_0_0_dst0]; · iexact HB0_0_0_dst0
        iexact HB0_0_0_dst1
      isplitl [HB0_0_0_src0 Hr0_0_0_0]
      · iapply (src0_0_0_split c fh0 (Ring.sl 3 t.val) (Ring.bk 40 t.val)).2; isplitl [HB0_0_0_src0]; · iexact HB0_0_0_src0
        iexact Hr0_0_0_0
      iapply (src0_0_1_split c fh0 (Ring.sl 3 t.val) (Ring.bk 40 t.val)).2; isplitl [HB0_0_0_src1]; · iexact HB0_0_0_src1
      iexact Hr0_0_0_1
    isplitl [HSp]; · iexact HSp
    iexists _; iexact HW

end Cert.DistancesIdeal.Gen

end
-- ==== Proof.Ideal.StepB.lean ====
/-  One kind of grid step of the distance kernel, run from the ring before it to the ring after it. -/
module

public import proofs.«01_k».proof.Proof.Ideal.Steps

@[expose] public section

-- membership in a rectangle of production extents (`View.cover_of_tiled`): the elaborator's structural look
-- recurses once per coordinate of the long axes
set_option maxRecDepth 16384

noncomputable section

namespace Cert.DistancesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run is long: checking it walks past the default budget)
set_option maxHeartbeats 1000000 in
/-- The steps that wait for a block and start another. -/
theorem kernelRun0_B (c : Dev nD) (t : Fin grid0.N) (arg4 : Memref sig .tc .vmem S16x1x3072 .i32) (harg4 : arg4.IsWhole) (arg5 : Memref sig .tc .vmem S16x1x1024 .i32) (harg5 : arg5.IsWhole) (hc0 : ¬cond0_0 (grid0.coords t)) (hc1 : cond0_1 (grid0.coords t))
    (x0 : TbBuf0 (F := F) c tbM0_0) (x1 : TbBuf0 (F := F) c tbM0_1) (fh0 : HbBuf0 (F := F) c hbM0_0) :
      ∀ (W : Waits sig Unit) (K : PUnit → sProp 𝕄),
        iprop(tbPt0 c tbM0_0 x0 ∗ tbPt0 c tbM0_1 x1 ∗ (∃ d, owns (c : Thread nD τ) arg4 fullShare d) ∗ (∃ d, owns (c : Thread nD τ) arg5 fullShare d) ∗ (owns (c : Thread nD τ) scM0_1 fullShare k0_pay3) ∗ Ring.inflight (flightW0_0 c fh0) (Ring.sl 3 t.val) (Ring.bk 40 t.val) ∗ Ring.inflight (flightW0_0 c fh0) (Ring.sl 3 (t.val + 1)) (Ring.bk 40 (t.val + 1)) ∗ Ring.free (cellP0_0 c) (slotW0_0 c fh0) (Ring.sl 3 (t.val + 2)) ∗ spareP0_0 c ∗ owes (c : Thread nD τ) 0 W
            ∗ (iprop(tbPt0 c tbM0_0 x0 ∗ tbPt0 c tbM0_1 x1 ∗ (∃ d, ⌜PackOut c t x0 x1 fh0 d⌝ ∗ owns (c : Thread nD τ) arg4 fullShare d) ∗ (∃ d, ⌜LeastOut c t x0 x1 fh0 d⌝ ∗ owns (c : Thread nD τ) arg5 fullShare d) ∗ (owns (c : Thread nD τ) scM0_1 fullShare k0_pay3) ∗ Ring.inflight (flightW0_0 c fh0) (Ring.sl 3 (t.val + 1)) (Ring.bk 40 (t.val + 1)) ∗ Ring.inflight (flightW0_0 c fh0) (Ring.sl 3 (t.val + 2)) (Ring.bk 40 (t.val + 2)) ∗ Ring.free (cellP0_0 c) (slotW0_0 c fh0) (Ring.sl 3 t.val) ∗ spareP0_0 c ∗ (∃ W', owes (c : Thread nD τ) 0 W')) -∗ K ⟨⟩))
          ⊢ wp frame (wpE (defs₀ (F := F)) Variants.none c none) Set.univ (cc0_hamming (grid0.coords t) tbM0_0 htbM0_0 tbM0_1 htbM0_1 (Memref.whole main_arg2) (Memref.isWhole_whole _) arg4 harg4 arg5 harg5 scM0_0 (Memref.isWhole_whole _) scM0_1 (Memref.isWhole_whole _) cc0_scratch2) K := by
    intro W K
    haveI : Fact (¬cond0_0 (grid0.coords t)) := ⟨hc0⟩
    haveI : Fact (cond0_1 (grid0.coords t)) := ⟨hc1⟩
    simp only [cc0_hamming_eq_skeleton]; unfold cc0_hamming_skel
    simp only [k0_part9_eq_skeleton, k0_part2_eq_skeleton]
    unfold owns Ring.free Ring.inflight
    iintro ⟨H0, H1, ⟨%d2, %f2, -, H2⟩, ⟨%d3, %f3, -, H3⟩, ⟨%fs1, %hfs1, HS1⟩, ⟨%ff0_0_0, Hf0_0_0, Hrf0_0_0_0, Hrf0_0_0_1⟩, ⟨%ff0_0_1, Hf0_0_1, Hrf0_0_1_0, Hrf0_0_1_1⟩, ⟨Hc0_0_2, ⟨%fs0_0_2, ⟨Hs0_0_2_0, Hs0_0_2_1⟩, Hw0_0_2_0, Hw0_0_2_1⟩⟩, HSp, HW, Hk⟩
    obtain rfl : fs1 = k0_pay3 := hfs1
    ihave Hsp0_0_2_0 := (src0_0_0_split c fh0 (Ring.sl 3 (t.val + 2)) (Ring.bk 40 (t.val + 2))).1 $$ Hw0_0_2_0
    icases Hsp0_0_2_0 with ⟨Hh0_0_2_0, Hr0_0_2_0⟩
    ihave Hsp0_0_2_1 := (src0_0_1_split c fh0 (Ring.sl 3 (t.val + 2)) (Ring.bk 40 (t.val + 2))).1 $$ Hw0_0_2_1
    icases Hsp0_0_2_1 with ⟨Hh0_0_2_1, Hr0_0_2_1⟩
    have hD0_0_2 := storable_winD0_0 (F := F) c fh0 (Ring.sl 3 (t.val + 2)) (Ring.bk 40 (t.val + 2))
    imod (Transfers.batch_alloc' (Lvl := ℕ) countersEmb (c : Thread nD τ) default NN0_0 (winD0_0 c fh0 (Ring.sl 3 (t.val + 2)) (Ring.bk 40 (t.val + 2))) (sm := cellR0_0 (Ring.sl 3 (t.val + 2))) (E := Set.univ)) $$ Hc0_0_2 with HB0_0_2
    clear hD0_0_2
    sl_exec (disch := first | sl_exact hc0 | sl_exact hc1)
    ihave HX := (slot_glue c fh0 (Ring.sl 3 t.val) (Ring.bk 40 t.val)) $$ [Hf0_0_0_dst0 Hf0_0_0_dst1 HSp]
    · isplitl [Hf0_0_0_dst0]; · iexact Hf0_0_0_dst0
      isplitl [Hf0_0_0_dst1]; · iexact Hf0_0_0_dst1
      iexact HSp
    icases HX with ⟨%X6, %hX6, HX⟩
    iapply (rows_run c t arg4 harg4 arg5 harg5 _ _ _ (View.readAt_full _ _ _) x0 x1 fh0 X6 hX6)
    isplitl [H0]; · iexact H0
    isplitl [H1]; · iexact H1
    isplitl [HX]; · iexact HX
    isplitl [H2]; · iexact H2
    isplitl [H3]; · iexact H3
    iintro ⟨H0, H1, HX, H2, H3⟩
    ihave HU := (slot_unglue c fh0 (Ring.sl 3 t.val) (Ring.bk 40 t.val) X6 hX6) $$ HX
    icases HU with ⟨Hf0_0_0_dst0, Hf0_0_0_dst1, HSp⟩
    sl_step
    iapply Hk
    isplitl [H0]; · iexact H0
    isplitl [H1]; · iexact H1
    isplitl [H2]; · iexact H2
    isplitl [H3]; · iexact H3
    isplitl [HS1]
    · iexists _; isplitr; swap; · iexact HS1
      ipureintro; rfl
    isplitl [Hf0_0_1 Hrf0_0_1_0 Hrf0_0_1_1]
    · iexists ff0_0_1; isplitl [Hf0_0_1]; · iexact Hf0_0_1
      isplitl [Hrf0_0_1_0]; · iexact Hrf0_0_1_0
      iexact Hrf0_0_1_1
    isplitl [HB0_0_2 Hr0_0_2_0 Hr0_0_2_1]
    · iexists fs0_0_2; isplitl [HB0_0_2]; · iexact HB0_0_2
      isplitl [Hr0_0_2_0]; · iexact Hr0_0_2_0
      iexact Hr0_0_2_1
    isplitl [Hf0_0_0 Hf0_0_0_dst0 Hf0_0_0_dst1 Hf0_0_0_src0 Hf0_0_0_src1 Hrf0_0_0_0 Hrf0_0_0_1]
    · isplitl [Hf0_0_0]; · iexact Hf0_0_0
      iexists (landed0_0 c fh0 (Ring.sl 3 t.val) (Ring.bk 40 t.val)); isplitl [Hf0_0_0_dst0 Hf0_0_0_dst1]
      · iapply (slotP0_0_landed c fh0 (Ring.sl 3 t.val) (Ring.bk 40 t.val))
        isplitl [Hf0_0_0_dst0]; · iexact Hf0_0_0_dst0
        iexact Hf0_0_0_dst1
      isplitl [Hf0_0_0_src0 Hrf0_0_0_0]
      · iapply (src0_0_0_split c fh0 (Ring.sl 3 t.val) (Ring.bk 40 t.val)).2; isplitl [Hf0_0_0_src0]; · iexact Hf0_0_0_src0
        iexact Hrf0_0_0_0
      iapply (src0_0_1_split c fh0 (Ring.sl 3 t.val) (Ring.bk 40 t.val)).2; isplitl [Hf0_0_0_src1]; · iexact Hf0_0_0_src1
      iexact Hrf0_0_0_1
    isplitl [HSp]; · iexact HSp
    iexists _; iexact HW

end Cert.DistancesIdeal.Gen

end
-- ==== Proof.Ideal.StepC.lean ====
/-  One kind of grid step of the distance kernel, run from the ring before it to the ring after it. -/
module

public import proofs.«01_k».proof.Proof.Ideal.Steps

@[expose] public section

-- membership in a rectangle of production extents (`View.cover_of_tiled`): the elaborator's structural look
-- recurses once per coordinate of the long axes
set_option maxRecDepth 16384

noncomputable section

namespace Cert.DistancesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run is long: checking it walks past the default budget)
set_option maxHeartbeats 1000000 in
/-- The last two steps: nothing more to start. -/
theorem kernelRun0_C (c : Dev nD) (t : Fin grid0.N) (arg4 : Memref sig .tc .vmem S16x1x3072 .i32) (harg4 : arg4.IsWhole) (arg5 : Memref sig .tc .vmem S16x1x1024 .i32) (harg5 : arg5.IsWhole) (hc0 : ¬cond0_0 (grid0.coords t)) (hc1 : ¬cond0_1 (grid0.coords t))
    (x0 : TbBuf0 (F := F) c tbM0_0) (x1 : TbBuf0 (F := F) c tbM0_1) (fh0 : HbBuf0 (F := F) c hbM0_0) :
      ∀ (W : Waits sig Unit) (K : PUnit → sProp 𝕄),
        iprop(tbPt0 c tbM0_0 x0 ∗ tbPt0 c tbM0_1 x1 ∗ (∃ d, owns (c : Thread nD τ) arg4 fullShare d) ∗ (∃ d, owns (c : Thread nD τ) arg5 fullShare d) ∗ (owns (c : Thread nD τ) scM0_1 fullShare k0_pay3) ∗ Ring.inflight (flightW0_0 c fh0) (Ring.sl 3 t.val) (Ring.bk 40 t.val) ∗ Ring.slotAt 2 (cellP0_0 c) (slotW0_0 c fh0) (flightW0_0 c fh0) t.val 1 ∗ Ring.free (cellP0_0 c) (slotW0_0 c fh0) (Ring.sl 3 (t.val + 2)) ∗ spareP0_0 c ∗ owes (c : Thread nD τ) 0 W
            ∗ (iprop(tbPt0 c tbM0_0 x0 ∗ tbPt0 c tbM0_1 x1 ∗ (∃ d, ⌜PackOut c t x0 x1 fh0 d⌝ ∗ owns (c : Thread nD τ) arg4 fullShare d) ∗ (∃ d, ⌜LeastOut c t x0 x1 fh0 d⌝ ∗ owns (c : Thread nD τ) arg5 fullShare d) ∗ (owns (c : Thread nD τ) scM0_1 fullShare k0_pay3) ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ spareP0_0 c ∗ (∃ W', owes (c : Thread nD τ) 0 W')) -∗ K ⟨⟩))
          ⊢ wp frame (wpE (defs₀ (F := F)) Variants.none c none) Set.univ (cc0_hamming (grid0.coords t) tbM0_0 htbM0_0 tbM0_1 htbM0_1 (Memref.whole main_arg2) (Memref.isWhole_whole _) arg4 harg4 arg5 harg5 scM0_0 (Memref.isWhole_whole _) scM0_1 (Memref.isWhole_whole _) cc0_scratch2) K := by
    intro W K
    haveI : Fact (¬cond0_0 (grid0.coords t)) := ⟨hc0⟩
    haveI : Fact (¬cond0_1 (grid0.coords t)) := ⟨hc1⟩
    simp only [cc0_hamming_eq_skeleton]; unfold cc0_hamming_skel
    simp only [k0_part9_eq_skeleton]
    unfold owns Ring.free Ring.inflight
    iintro ⟨H0, H1, ⟨%d2, %f2, -, H2⟩, ⟨%d3, %f3, -, H3⟩, ⟨%fs1, %hfs1, HS1⟩, ⟨%ff0_0_0, Hf0_0_0, Hrf0_0_0_0, Hrf0_0_0_1⟩, Hro0_0_1, ⟨Hc0_0_2, ⟨%fs0_0_2, ⟨Hs0_0_2_0, Hs0_0_2_1⟩, Hw0_0_2_0, Hw0_0_2_1⟩⟩, HSp, HW, Hk⟩
    obtain rfl : fs1 = k0_pay3 := hfs1
    sl_exec (disch := first | sl_exact hc0 | sl_exact hc1)
    ihave HX := (slot_glue c fh0 (Ring.sl 3 t.val) (Ring.bk 40 t.val)) $$ [Hf0_0_0_dst0 Hf0_0_0_dst1 HSp]
    · isplitl [Hf0_0_0_dst0]; · iexact Hf0_0_0_dst0
      isplitl [Hf0_0_0_dst1]; · iexact Hf0_0_0_dst1
      iexact HSp
    icases HX with ⟨%X6, %hX6, HX⟩
    iapply (rows_run c t arg4 harg4 arg5 harg5 _ _ _ (View.readAt_full _ _ _) x0 x1 fh0 X6 hX6)
    isplitl [H0]; · iexact H0
    isplitl [H1]; · iexact H1
    isplitl [HX]; · iexact HX
    isplitl [H2]; · iexact H2
    isplitl [H3]; · iexact H3
    iintro ⟨H0, H1, HX, H2, H3⟩
    ihave HU := (slot_unglue c fh0 (Ring.sl 3 t.val) (Ring.bk 40 t.val) X6 hX6) $$ HX
    icases HU with ⟨Hf0_0_0_dst0, Hf0_0_0_dst1, HSp⟩
    sl_step
    iapply Hk
    isplitl [H0]; · iexact H0
    isplitl [H1]; · iexact H1
    isplitl [H2]; · iexact H2
    isplitl [H3]; · iexact H3
    isplitl [HS1]
    · iexists _; isplitr; swap; · iexact HS1
      ipureintro; rfl
    isplitl [Hro0_0_1]; · iexact Hro0_0_1
    isplitl [Hc0_0_2 Hs0_0_2_0 Hs0_0_2_1 Hw0_0_2_0 Hw0_0_2_1]
    · isplitl [Hc0_0_2]; · iexact Hc0_0_2
      iexists fs0_0_2; isplitl [Hs0_0_2_0 Hs0_0_2_1]
      · isplitl [Hs0_0_2_0]; · iexact Hs0_0_2_0
        iexact Hs0_0_2_1
      isplitl [Hw0_0_2_0]; · iexact Hw0_0_2_0
      iexact Hw0_0_2_1
    isplitl [Hf0_0_0 Hf0_0_0_dst0 Hf0_0_0_dst1 Hf0_0_0_src0 Hf0_0_0_src1 Hrf0_0_0_0 Hrf0_0_0_1]
    · isplitl [Hf0_0_0]; · iexact Hf0_0_0
      iexists (landed0_0 c fh0 (Ring.sl 3 t.val) (Ring.bk 40 t.val)); isplitl [Hf0_0_0_dst0 Hf0_0_0_dst1]
      · iapply (slotP0_0_landed c fh0 (Ring.sl 3 t.val) (Ring.bk 40 t.val))
        isplitl [Hf0_0_0_dst0]; · iexact Hf0_0_0_dst0
        iexact Hf0_0_0_dst1
      isplitl [Hf0_0_0_src0 Hrf0_0_0_0]
      · iapply (src0_0_0_split c fh0 (Ring.sl 3 t.val) (Ring.bk 40 t.val)).2; isplitl [Hf0_0_0_src0]; · iexact Hf0_0_0_src0
        iexact Hrf0_0_0_0
      iapply (src0_0_1_split c fh0 (Ring.sl 3 t.val) (Ring.bk 40 t.val)).2; isplitl [Hf0_0_0_src1]; · iexact Hf0_0_0_src1
      iexact Hrf0_0_0_1
    isplitl [HSp]; · iexact HSp
    iexists _; iexact HW

end Cert.DistancesIdeal.Gen

end
-- ==== Proof.Ideal.Grid.lean ====
/-  The distance kernel's launch. The invariant between grid steps is the ring of blocks, the spare columns, the table
    of lane numbers (from the first step on) and the shares of the two prefetched tables. One step keeps it and leaves
    the two windows as `PackOut` and `LeastOut` say; from that come the run that names nothing of the results (`frame`) and the run
    that names them (`run_named`), where the step determines what it leaves. -/
module

public import proofs.«01_k».proof.Proof.Ideal.StepA
public import proofs.«01_k».proof.Proof.Ideal.StepB
public import proofs.«01_k».proof.Proof.Ideal.StepC
public import Idealize.ShloMosaic.Lib.Claim

@[expose] public section

-- membership in a rectangle of production extents (`View.cover_of_tiled`): the elaborator's structural look
-- recurses once per coordinate of the long axes
set_option maxRecDepth 16384

noncomputable section

namespace Cert.DistancesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The invariant and one step -/

/-- The table of lane numbers: anything before the first step, the lane numbers from then on. -/
def lanesAt (c : Dev nD) (k : ℕ) : sProp 𝕄 := if k = 0 then iprop(∃ d, owns (c : Thread nD τ) scM0_1 fullShare d) else owns (c : Thread nD τ) scM0_1 fullShare k0_pay3
theorem lanesAt_zero (c : Dev nD) (k : ℕ) (h : k = 0) : (lanesAt c k : sProp 𝕄) = iprop(∃ d, owns (c : Thread nD τ) scM0_1 fullShare d) := if_pos h
theorem lanesAt_pos (c : Dev nD) (k : ℕ) (h : ¬k = 0) : (lanesAt c k : sProp 𝕄) = owns (c : Thread nD τ) scM0_1 fullShare k0_pay3 := if_neg h

/-- The invariant before step `k`. -/
def PhiR (c : Dev nD) (k : ℕ) : sProp 𝕄 :=
  iprop(lanesAt c k ∗ (∃ r, prngReg c r) ∗ (ringAt0_0 c (V m c main_arg2) k ∗ spareP0_0 c) ∗ (tbPt0 c tbM0_0 (tbl m 0) ∗ tbPt0 c tbM0_1 (tbl m 1)))

set_option maxHeartbeats 1200000 in
/-- One step keeps the invariant and leaves the two windows as the sixteen trips of its loop do. -/
theorem sound_core (hO : Ok m) (c : Dev nD) (t : Fin grid0.N) :
    iprop(PhiR m c t.val ∗ (∃ W, owes (c : Thread nD τ) 0 W)
      ∗ (∃ d, owns (c : Thread nD τ) (ms0_0 m hO t) fullShare d) ∗ (∃ d, owns (c : Thread nD τ) (ms0_1 m hO t) fullShare d))
    ⊢ wp frame (wpE (defs₀ (F := F)) Variants.none c none) Set.univ (bodyAt0 (adm m hO) t) (fun _ =>
      iprop(PhiR m c (t.val + 1) ∗ (∃ W, owes (c : Thread nD τ) 0 W)
        ∗ (∃ d, ⌜PackOut c t (tbl m 0) (tbl m 1) (V m c main_arg2) d⌝ ∗ owns (c : Thread nD τ) (ms0_0 m hO t) fullShare d)
        ∗ (∃ d, ⌜LeastOut c t (tbl m 0) (tbl m 1) (V m c main_arg2) d⌝ ∗ owns (c : Thread nD τ) (ms0_1 m hO t) fullShare d))) := by
  unfold bodyAt0 PhiR ringAt0_0
  have hgN : grid0.N = 40 := N_0
  have hN : t.val < 40 := lt_of_lt_of_eq t.isLt hgN
  by_cases h0 : t.val % 40 = 0
  · by_cases h1 : t.val < 38
    · have hr0 := rstep0_0_A t ((hcond0_0 t).mpr h0) ((hcond0_1 t).mpr h1)
      obtain ⟨hK00, hK10⟩ := hr0
      rw [lanesAt_zero _ _ hK00, lanesAt_pos _ _ (show ¬t.val + 1 = 0 by omega), if_pos hK00, if_neg (show ¬t.val + 1 = 0 by omega)]
      rw [Ring.At₀_eq3' _ _ _ t.val hK00 (by decide : 3 ≤ 40), Ring.At3_one' _ _ _ _ t.val hK00 (by decide : 3 ≤ 40)]
      iintro ⟨⟨HS1, Hg, ⟨⟨-, Hfr0_0_0, Hfr0_0_1, Hfr0_0_2⟩, HSp0_0⟩, ⟨HT0, HT1⟩⟩, ⟨%W, HW⟩, H2, H3⟩
      iapply ((kernelRun0_A c t _ _ _ _ ((hcond0_0 t).mpr h0) ((hcond0_1 t).mpr h1) (tbl m 0) (tbl m 1) (V m c main_arg2)) W _)
      isplitl [HT0]; · iexact HT0
      isplitl [HT1]; · iexact HT1
      isplitl [H2]; · iexact H2
      isplitl [H3]; · iexact H3
      isplitl [HS1]; · iexact HS1
      isplitl [Hfr0_0_0]; · iexact Hfr0_0_0
      isplitl [Hfr0_0_1]; · iexact Hfr0_0_1
      isplitl [Hfr0_0_2]; · iexact Hfr0_0_2
      isplitl [HSp0_0]; · iexact HSp0_0
      isplitl [HW]; · iexact HW
      iintro ⟨HT0, HT1, H2, H3, HS1, Hfa0_0', Hfb0_0', Hfc0_0', HSp0_0, ⟨%W', HW'⟩⟩
      isplitl [HS1 Hg HSp0_0 Hfa0_0' Hfb0_0' Hfc0_0' HT0 HT1]
      · isplitl [HS1]; · iexact HS1
        isplitl [Hg]; · iexact Hg
        isplitr [HT0 HT1]; swap
        · isplitl [HT0]; · iexact HT0
          iexact HT1
        isplitl [Hfa0_0' Hfb0_0' Hfc0_0']
        · iapply (Ring.with_homes (Idealize.SL.BI.Entails.refl _))
          isplitl [Hfa0_0']; · iexact Hfa0_0'
          isplitl [Hfb0_0']; · iexact Hfb0_0'
          iexact Hfc0_0'
        iexact HSp0_0
      isplitl [HW']
      · iexists W'; iexact HW'
      isplitl [H2]; · iexact H2
      iexact H3
    · exfalso; omega
  · by_cases h1 : t.val < 38
    · have hr0 := rstep0_0_B t (fun h => h0 ((hcond0_0 t).mp h)) ((hcond0_1 t).mpr h1)
      obtain ⟨hK10, hKB0, hKs0⟩ := hr0
      rw [lanesAt_pos _ _ (show ¬t.val = 0 by omega), lanesAt_pos _ _ (show ¬t.val + 1 = 0 by omega), if_neg (show ¬t.val = 0 by omega), if_neg (show ¬t.val + 1 = 0 by omega)]
      rw [Ring.At3_here _ _ _ _ t.val hKB0, Ring.At3_next _ _ _ _ t.val hKB0, Ring.slotAt3_next0 _ _ _ t.val (by omega), Ring.slotAt3_next1 _ _ _ t.val hKB0]
      iintro ⟨⟨HS1, Hg, ⟨⟨-, Hfr0_0_0, Hfr0_0_1, Hfr0_0_2⟩, HSp0_0⟩, ⟨HT0, HT1⟩⟩, ⟨%W, HW⟩, H2, H3⟩
      iapply ((kernelRun0_B c t _ _ _ _ (fun h => h0 ((hcond0_0 t).mp h)) ((hcond0_1 t).mpr h1) (tbl m 0) (tbl m 1) (V m c main_arg2)) W _)
      isplitl [HT0]; · iexact HT0
      isplitl [HT1]; · iexact HT1
      isplitl [H2]; · iexact H2
      isplitl [H3]; · iexact H3
      isplitl [HS1]; · iexact HS1
      isplitl [Hfr0_0_0]; · iexact Hfr0_0_0
      isplitl [Hfr0_0_1]; · iexact Hfr0_0_1
      isplitl [Hfr0_0_2]; · iexact Hfr0_0_2
      isplitl [HSp0_0]; · iexact HSp0_0
      isplitl [HW]; · iexact HW
      iintro ⟨HT0, HT1, H2, H3, HS1, Hfa0_0', Hfb0_0', Hfc0_0', HSp0_0, ⟨%W', HW'⟩⟩
      isplitl [HS1 Hg HSp0_0 Hfa0_0' Hfb0_0' Hfc0_0' HT0 HT1]
      · isplitl [HS1]; · iexact HS1
        isplitl [Hg]; · iexact Hg
        isplitr [HT0 HT1]; swap
        · isplitl [HT0]; · iexact HT0
          iexact HT1
        isplitl [Hfa0_0' Hfb0_0' Hfc0_0']
        · iapply (Ring.with_homes (Idealize.SL.BI.Entails.refl _))
          isplitl [Hfa0_0']; · iexact Hfa0_0'
          isplitl [Hfb0_0']; · iexact Hfb0_0'
          iexact Hfc0_0'
        iexact HSp0_0
      isplitl [HW']
      · iexists W'; iexact HW'
      isplitl [H2]; · iexact H2
      iexact H3
    · have hr0 := rstep0_0_C t (fun h => h0 ((hcond0_0 t).mp h)) (fun h => h1 ((hcond0_1 t).mp h))
      obtain ⟨hK10, hKB0, hKlt0, hKs0⟩ := hr0
      rw [lanesAt_pos _ _ (show ¬t.val = 0 by omega), lanesAt_pos _ _ (show ¬t.val + 1 = 0 by omega), if_neg (show ¬t.val = 0 by omega), if_neg (show ¬t.val + 1 = 0 by omega)]
      rw [Ring.At3_here_tail _ _ _ _ t.val hKlt0, Ring.At3_next_tail _ _ _ _ t.val hKB0 hKlt0, Ring.slotAt3_tail_role _ _ _ t.val]
      iintro ⟨⟨HS1, Hg, ⟨⟨-, Hfr0_0_0, Hfr0_0_1, Hfr0_0_2⟩, HSp0_0⟩, ⟨HT0, HT1⟩⟩, ⟨%W, HW⟩, H2, H3⟩
      iapply ((kernelRun0_C c t _ _ _ _ (fun h => h0 ((hcond0_0 t).mp h)) (fun h => h1 ((hcond0_1 t).mp h)) (tbl m 0) (tbl m 1) (V m c main_arg2)) W _)
      isplitl [HT0]; · iexact HT0
      isplitl [HT1]; · iexact HT1
      isplitl [H2]; · iexact H2
      isplitl [H3]; · iexact H3
      isplitl [HS1]; · iexact HS1
      isplitl [Hfr0_0_0]; · iexact Hfr0_0_0
      isplitl [Hfr0_0_1]; · iexact Hfr0_0_1
      isplitl [Hfr0_0_2]; · iexact Hfr0_0_2
      isplitl [HSp0_0]; · iexact HSp0_0
      isplitl [HW]; · iexact HW
      iintro ⟨HT0, HT1, H2, H3, HS1, Hfa0_0', Hfb0_0', Hfc0_0', HSp0_0, ⟨%W', HW'⟩⟩
      isplitl [HS1 Hg HSp0_0 Hfa0_0' Hfb0_0' Hfc0_0' HT0 HT1]
      · isplitl [HS1]; · iexact HS1
        isplitl [Hg]; · iexact Hg
        isplitr [HT0 HT1]; swap
        · isplitl [HT0]; · iexact HT0
          iexact HT1
        isplitl [Hfa0_0' Hfb0_0' Hfc0_0']
        · iapply (Ring.with_homes (Idealize.SL.BI.Entails.refl _))
          isplitl [Hfa0_0']; · iexact Hfa0_0'
          isplitl [Hfb0_0']; · iexact Hfb0_0'
          iexact Hfc0_0'
        iexact HSp0_0
      isplitl [HW']
      · iexists W'; iexact HW'
      isplitl [H2]; · iexact H2
      iexact H3

/-! ## The launch's proof data -/

section Launch
variable (hO : Ok m) (out0 : (c : Dev nD) → Fin grid0.N → Vec F S16x1x3072 .i32) (out1 : (c : Dev nD) → Fin grid0.N → Vec F S16x1x1024 .i32)

/-- The proof data of the one pipeline on core `c`, for given contents of the output windows after each point. -/
def dats (_ : Fin 1) (c : Dev nD) : Dat τ (Elt F) Unit ℕ (Pipeline.UD sig nD τ) ℕ (cfgM m hO) c where
  A w := V m c (Pipeline.arrRef spec0 w)
  after w t := match w with
    | ⟨0, _⟩ => out0 c t
    | ⟨1, _⟩ => out1 c t
  Φ t := PhiR m c t.val
  q _ := fullShare
  owed _ := 0

theorem A_eq (c : Dev nD) (w : Fin (cfgM m hO).W) : (dats m hO out0 out1 0 c).A w = V m c (Pipeline.arrRef spec0 w) := by
  dsimp only [dats]
theorem after_0 (c : Dev nD) (t : Fin (cfgM m hO).N) : (dats m hO out0 out1 0 c).after 0 t = out0 c t := rfl
theorem after_1 (c : Dev nD) (t : Fin (cfgM m hO).N) : (dats m hO out0 out1 0 c).after 1 t = out1 c t := rfl
theorem Phi_castSucc (c : Dev nD) (t : Fin (cfgM m hO).N) : (dats m hO out0 out1 0 c).Φ t.castSucc = PhiR m c t.val := by
  dsimp only [dats]; simp only [Fin.val_castSucc]
theorem Phi_succ (c : Dev nD) (t : Fin (cfgM m hO).N) : (dats m hO out0 out1 0 c).Φ t.succ = PhiR m c (t.val + 1) := by
  dsimp only [dats]; simp only [Fin.val_succ]

/-- What the body is called with at point `t`. -/
def bodyPre (c : Dev nD) (t : Fin (cfgM m hO).N) : sProp 𝕄 :=
  iprop((dats m hO out0 out1 0 c).Φ t.castSucc ∗ (dats m hO out0 out1 0 c).owesAt () t.castSucc
    ∗ (∃ d, owns (c : Thread nD τ) (ms0_0 m hO t) fullShare d)
    ∗ (∃ d, owns (c : Thread nD τ) (ms0_1 m hO t) fullShare d))

/-- The same as the named obligation spells it. -/
def bodyPreN (c : Dev nD) (t : Fin (cfgM m hO).N) : sProp 𝕄 :=
  iprop((dats m hO out0 out1 0 c).Φ t.castSucc ∗ (dats m hO out0 out1 0 c).owesAt () t.castSucc
    ∗ (∃ d, owns (c : Thread nD τ) (ms0_0 m hO t) fullShare ((dats m hO out0 out1 0 c).before 0 t d))
    ∗ (∃ d, owns (c : Thread nD τ) (ms0_1 m hO t) fullShare ((dats m hO out0 out1 0 c).before 1 t d)))

/-- What the body returns when nothing is named of the windows. -/
def bodyPost (c : Dev nD) (t : Fin (cfgM m hO).N) : sProp 𝕄 :=
  iprop((dats m hO out0 out1 0 c).Φ t.succ ∗ (dats m hO out0 out1 0 c).owesAt () t.succ
    ∗ (∃ d, owns (c : Thread nD τ) (ms0_0 m hO t) fullShare d)
    ∗ (∃ d, owns (c : Thread nD τ) (ms0_1 m hO t) fullShare d))

/-- What it returns when they are named. -/
def bodyPostN (c : Dev nD) (t : Fin (cfgM m hO).N) : sProp 𝕄 :=
  iprop((dats m hO out0 out1 0 c).Φ t.succ ∗ (dats m hO out0 out1 0 c).owesAt () t.succ
    ∗ owns (c : Thread nD τ) (ms0_0 m hO t) fullShare ((dats m hO out0 out1 0 c).after 0 t)
    ∗ owns (c : Thread nD τ) (ms0_1 m hO t) fullShare ((dats m hO out0 out1 0 c).after 1 t))

theorem owesAt_elim (c : Dev nD) (k : Fin ((cfgM m hO).N + 1)) : (dats m hO out0 out1 0 c).owesAt () k ⊢ (iprop(∃ W, owes (c : Thread nD τ) 0 W) : sProp 𝕄) := by
  unfold Dat.owesAt Pipeline.owesWithin
  rw [show (dats m hO out0 out1 0 c).owed k = 0 from rfl]
  iintro ⟨%W, -, HW⟩
  iexists W; iexact HW
theorem owesAt_intro (c : Dev nD) (k : Fin ((cfgM m hO).N + 1)) : (iprop(∃ W, owes (c : Thread nD τ) 0 W) : sProp 𝕄) ⊢ (dats m hO out0 out1 0 c).owesAt () k := by
  unfold Dat.owesAt Pipeline.owesWithin
  rw [show (dats m hO out0 out1 0 c).owed k = 0 from rfl]
  iintro ⟨%W, HW⟩
  iexists W; isplitr; · ipureintro; exact fun _ _ => Or.inl trivial
  iexact HW

/-- The body at any point, the windows forgotten, -/
theorem sound_body (c : Dev nD) (t : Fin (cfgM m hO).N) :
    bodyPre m hO out0 out1 c t ⊢ wp frame (wpE (defs₀ (F := F)) Variants.none c none) Set.univ (bodyAt0 (adm m hO) t) (fun _ => bodyPost m hO out0 out1 c t) := by
  unfold bodyPre bodyPost
  rw [Phi_castSucc, Phi_succ]
  iintro ⟨HP, HW, H2, H3⟩
  ihave HW' := (owesAt_elim m hO out0 out1 c t.castSucc) $$ HW
  iapply (wp_wand_r frame (wpE (defs₀ (F := F)) Variants.none c none) Set.univ)
  isplitl [HP HW' H2 H3]
  · iapply (sound_core m hO c t)
    isplitl [HP]; · iexact HP
    isplitl [HW']; · iexact HW'
    isplitl [H2]; · iexact H2
    iexact H3
  iintro %a ⟨HP, HW, ⟨%d2, -, H2⟩, ⟨%d3, -, H3⟩⟩
  isplitl [HP]; · iexact HP
  isplitl [HW]; · iapply (owesAt_intro m hO out0 out1 c t.succ); iexact HW
  isplitl [H2]; · iexists d2; iexact H2
  iexists d3; iexact H3

/-- and named, where a step determines them. -/
theorem sound_bodyN (h0 : ∀ (c : Dev nD) (t : Fin grid0.N) d, PackOut c t (tbl m 0) (tbl m 1) (V m c main_arg2) d → d = out0 c t) (h1 : ∀ (c : Dev nD) (t : Fin grid0.N) d, LeastOut c t (tbl m 0) (tbl m 1) (V m c main_arg2) d → d = out1 c t)
    (c : Dev nD) (t : Fin (cfgM m hO).N) :
    bodyPreN m hO out0 out1 c t ⊢ wp frame (wpE (defs₀ (F := F)) Variants.none c none) Set.univ (bodyAt0 (adm m hO) t) (fun _ => bodyPostN m hO out0 out1 c t) := by
  unfold bodyPreN bodyPostN
  rw [Phi_castSucc, Phi_succ, after_0, after_1]
  iintro ⟨HP, HW, ⟨%e0, H2⟩, ⟨%e1, H3⟩⟩
  ihave HW' := (owesAt_elim m hO out0 out1 c t.castSucc) $$ HW
  iapply (wp_wand_r frame (wpE (defs₀ (F := F)) Variants.none c none) Set.univ)
  isplitl [HP HW' H2 H3]
  · iapply (sound_core m hO c t)
    isplitl [HP]; · iexact HP
    isplitl [HW']; · iexact HW'
    isplitl [H2]; · iexists _; iexact H2
    iexists _; iexact H3
  iintro %a ⟨HP, HW, ⟨%d2, %e2, H2⟩, ⟨%d3, %e3, H3⟩⟩
  obtain rfl := h0 c t d2 e2
  obtain rfl := h1 c t d3 e3
  isplitl [HP]; · iexact HP
  isplitl [HW]; · iapply (owesAt_intro m hO out0 out1 c t.succ); iexact HW
  isplitl [H2]; · iexact H2
  iexact H3

/-- The body table's row at point `t`'s slots is the body as `bodyAt0` spells it. -/
theorem defs₀_row (t : Fin (cfgM m hO).N) :
    defs₀ (F := F) .tc (cfgM m hO).body ((cfgM m hO).bodyArgs t ((cfgM m hO).slots t)) = bodyAt0 (adm m hO) t := by
  unfold defs₀; rw [Defs.onTc_tc]

/-- Both windows forgotten. -/
def forgets0 : Fin 2 → Bool := fun _ => true

theorem body_obligation (c : Dev nD) : BodyObligation (dats (F := F) m hO out0 out1 0 c) (defs₀ (F := F)) Variants.none () Set.univ forgets0 := fun t => by
  rw [bigSep_W0, bigSep_W0, defs₀_row m hO]
  exact triple_restated (sound_body m hO out0 out1 c t) rfl .rfl fun _ => .rfl

theorem body_obligationN (h0 : ∀ (c : Dev nD) (t : Fin grid0.N) d, PackOut c t (tbl m 0) (tbl m 1) (V m c main_arg2) d → d = out0 c t) (h1 : ∀ (c : Dev nD) (t : Fin grid0.N) d, LeastOut c t (tbl m 0) (tbl m 1) (V m c main_arg2) d → d = out1 c t)
    (c : Dev nD) : BodyObligation (dats (F := F) m hO out0 out1 0 c) (defs₀ (F := F)) Variants.none () Set.univ := fun t => by
  rw [bigSep_W0, bigSep_W0, defs₀_row m hO]
  exact triple_restated (sound_bodyN m hO out0 out1 h0 h1 c t) rfl .rfl fun _ => .rfl

/-- The launch's pieces are the invariant before the first step, -/
theorem hin (c : Dev nD) : iprop(Pipeline.ΦD osem0 spec0 H0 (V m) c ∗ Pipeline.ΦT pre0 (tbl m) c) ⊢ (dats m hO out0 out1 0 c).Φ 0 := by
  rw [PhiD0_eq, PhiT0_eq, show (dats m hO out0 out1 0 c).Φ 0 = PhiR m c 0 from rfl]
  unfold PhiR
  rw [lanesAt_zero c 0 rfl]
  iintro ⟨⟨⟨HR0_0, HS1⟩, Hg, ⟨Hq0, Hq1, Hq2⟩, Hh0⟩, HT⟩
  isplitl [HS1]; · iexact HS1
  isplitl [Hg]; · iexact Hg
  isplitr [HT]; swap; · iexact HT
  iapply (ring0_0_in (F := F) m c)
  isplitl [HR0_0]; · iexact HR0_0
  isplitl [Hq0 Hq1 Hq2]
  · isplitl [Hq0]; · iexact Hq0
    isplitl [Hq1]; · iexact Hq1
    iexact Hq2
  iexact Hh0
/-- and the invariant after the last step gives them back. -/
theorem hout (c : Dev nD) : (dats m hO out0 out1 0 c).Φ (Fin.last (cfgM m hO).N) ⊢ Pipeline.ΦD osem0 spec0 H0 (V m) c := by
  rw [PhiD0_eq, show (dats m hO out0 out1 0 c).Φ (Fin.last (cfgM m hO).N) = PhiR m c grid0.N from rfl]
  unfold PhiR
  rw [show grid0.N = 40 by rw [N_0]]
  rw [lanesAt_pos c 40 (by decide)]
  iintro ⟨HS1, Hg, HR0_0, -⟩
  ihave HX0_0 := (ring0_0_out (F := F) m c) $$ HR0_0
  icases HX0_0 with ⟨HR0_0, ⟨Hq0, Hq1, Hq2⟩, Hh0⟩
  isplitl [HR0_0 HS1]
  · isplitl [HR0_0]; · iexact HR0_0
    iexists _; iexact HS1
  isplitl [Hg]
  · iexact Hg
  isplitl [Hq0 Hq1 Hq2]
  · isplitl [Hq0]; · iexact Hq0
    isplitl [Hq1]; · iexact Hq1
    iexact Hq2
  iexact Hh0

/-! ## The run -/

set_option backward.isDefEq.respectTransparency.types false in
/-- The run, nothing said of the two results: every other buffer as it was, every counter at zero. -/
theorem run_forgetting : θ_run defs (onTc (τ := τ) (main (F := F))) (s₀ m ρ) (fun r => (Pipeline.RDat.FramePost ((Pipeline.pin pcfgs fun _ => adm m hO) 0) (fun c => (dats m hO out0 out1 0 c).toRForget forgets0) (V m)) r ∧ r.2.sem = fun _ => 0) :=
  Pipeline.θ_run_frameP_dma_forget (Q' := _) pcfgs (fun _ => adm m hO) (dats m hO out0 out1) (0 : Fin 1) launch0 osem0 defs₀ Variants.none forgets0 ownSemFacts0 H0 H0_sub m ρ main
    (hbody := fun c => (body_obligation m hO out0 out1 c).loose) (hshare := fun c => (dats m hO out0 out1 0 c).share_full fun _ => rfl)
    (howed := fun _ _ => rfl) (V := V m) (hmain := hmain m Variants.none) (hA := A_eq m hO out0 out1) (hpf := V_pre m) (hin := hin m hO out0 out1) (hout := hout m hO out0 out1)

set_option backward.isDefEq.respectTransparency.types false in
/-- The run, the two results named. -/
theorem run_named (h0 : ∀ (c : Dev nD) (t : Fin grid0.N) d, PackOut c t (tbl m 0) (tbl m 1) (V m c main_arg2) d → d = out0 c t) (h1 : ∀ (c : Dev nD) (t : Fin grid0.N) d, LeastOut c t (tbl m 0) (tbl m 1) (V m c main_arg2) d → d = out1 c t) :
    θ_run defs (onTc (τ := τ) (main (F := F))) (s₀ m ρ) (Pipeline.FramePost (Pipeline.pin pcfgs fun _ => adm m hO) (dats m hO out0 out1) 0 (V m)) :=
  Pipeline.θ_run_frameP_dma (Q' := _) pcfgs (fun _ => adm m hO) (dats m hO out0 out1) (0 : Fin 1) launch0 osem0 defs₀ Variants.none ownSemFacts0 H0 H0_sub m ρ main
    (hbody := fun c => (body_obligationN m hO out0 out1 h0 h1 c).loose) (hshare := fun c => (dats m hO out0 out1 0 c).share_full fun _ => rfl)
    (howed := fun _ _ => rfl) (V := V m) (hmain := hmain m Variants.none) (hA := A_eq m hO out0 out1) (hpf := V_pre m) (hin := hin m hO out0 out1) (hout := hout m hO out0 out1)
end Launch

/-- The arguments end as they began and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  have h := run_forgetting m ρ hO (fun _ _ _ => 0#32) (fun _ _ _ => 0#32)
  θ_run_and (frame_of m ρ hO _ (A_eq m hO (fun _ _ _ => 0#32) (fun _ _ _ => 0#32)) ((θ_run defs _ _).mono (fun _ h => h.1) h)) ((θ_run defs _ _).mono (fun _ h => h.2) h)

end Cert.DistancesIdeal.Gen

end
-- ==== Proof.Words.lean ====
/-  THE MATHEMATICS of the distance call, on words: the distance at a position, 65 where it is masked or past the history,
    four distances to a word, and the least of the distances in a lane; with the arithmetic both programs' forms need. -/
module

public import Idealize.ShloMosaic.PureOps
public import Idealize.ShloMosaic.PureOps.Reduce
public import Mathlib.Data.Finset.Fold
public import Mathlib.Order.Lattice

@[expose] public section

noncomputable section

namespace Cert.Words

open Idealize.ShloMosaic

/-- The distance at position `p` of a row of length `n`: the differing bits of the two words from the two query words, 65
    from the row's end on. -/
def dist (n q0 q1 a b : BitVec 32) (p : ℕ) : BitVec 32 :=
  if (BitVec.ofNat 32 p).slt n then IntOp.ctpop (a ^^^ q0) + IntOp.ctpop (b ^^^ q1) else 65#32

/-- The same at every position below 12288, 65 past the history's 10112 positions. -/
def distAt (n q0 q1 : BitVec 32) (row : Fin 2 → Fin 10112 → BitVec 32) (p : ℕ) : BitVec 32 :=
  if h : p < 10112 then dist n q0 q1 (row 0 ⟨p, h⟩) (row 1 ⟨p, h⟩) p else 65#32

/-- Four bytes to a word, the first lowest. -/
def word (a b d e : BitVec 32) : BitVec 32 := a ||| (b <<< 8#32) ||| (d <<< 16#32) ||| (e <<< 24#32)

/-- Word `l` of group `g`: the distances 1024 apart from position `4096 g + l` on. -/
def packedAt (d : ℕ → BitVec 32) (g l : ℕ) : BitVec 32 :=
  word (d (4096 * g + l)) (d (4096 * g + 1024 + l)) (d (4096 * g + 2048 + l)) (d (4096 * g + 3072 + l))

/-- The least of ten words and of 65. -/
def leastOf (d : Fin 10 → BitVec 32) : BitVec 32 :=
  IntOp.minsi (IntOp.minsi (IntOp.minsi (IntOp.minsi (IntOp.minsi (IntOp.minsi (IntOp.minsi (IntOp.minsi (IntOp.minsi (IntOp.minsi 65#32 (d 0)) (d 1)) (d 2)) (d 3)) (d 4)) (d 5)) (d 6)) (d 7)) (d 8)) (d 9)

/-- The distance as it is masked group by group: the lane number against the length less `1024 j`. -/
def lane (v n q0 q1 a b : BitVec 32) (j : ℕ) : BitVec 32 :=
  if v.slt (n - BitVec.ofNat 32 (1024 * j)) then IntOp.ctpop (a ^^^ q0) + IntOp.ctpop (b ^^^ q1) else 65#32

theorem toInt_small (p : ℕ) (h : p < 12288) : (BitVec.ofNat 32 p).toInt = p := by
  rw [BitVec.toInt_eq_toNat_bmod, BitVec.toNat_ofNat, Nat.mod_eq_of_lt (by omega), Int.bmod_eq_of_le] <;> omega

theorem slt_iff (p : ℕ) (h : p < 12288) (n : BitVec 32) : (BitVec.ofNat 32 p).slt n = decide ((p : ℤ) < n.toInt) := by
  rw [BitVec.slt, toInt_small p h]

theorem toInt_sub_small (n : BitVec 32) (h0 : 0 ≤ n.toInt) (h1 : n.toInt ≤ 10112) (p : ℕ) (h : p < 12288) : (n - BitVec.ofNat 32 p).toInt = n.toInt - p := by
  rw [BitVec.toInt_sub, toInt_small p h, Int.bmod_eq_of_le] <;> omega

theorem lane_eq (n q0 q1 a b : BitVec 32) (h0 : 0 ≤ n.toInt) (h1 : n.toInt ≤ 10112) (j l : ℕ) (hj : j < 10) (hl : l < 1024) :
    lane (BitVec.ofNat 32 l) n q0 q1 a b j = dist n q0 q1 a b (1024 * j + l) := by
  unfold lane dist
  have e : (BitVec.ofNat 32 l).slt (n - BitVec.ofNat 32 (1024 * j)) = (BitVec.ofNat 32 (1024 * j + l)).slt n := by
    rw [slt_iff l (by omega), slt_iff (1024 * j + l) (by omega), toInt_sub_small n h0 h1 _ (by omega)]
    apply decide_eq_decide.mpr
    push_cast
    omega
  rw [e]

theorem dist_past (n q0 q1 a b : BitVec 32) (h1 : n.toInt ≤ 10112) (p : ℕ) (hp : 10112 ≤ p) (hp' : p < 12288) : dist n q0 q1 a b p = 65#32 := by
  unfold dist
  rw [slt_iff p hp', if_neg]
  simp only [decide_eq_true_eq]
  omega

/-! ## A distance is at most 65 -/

theorem ctpop_le (x : BitVec 32) : ∃ k : ℕ, k ≤ 32 ∧ IntOp.ctpop x = BitVec.ofNat 32 k :=
  ⟨_, (List.length_filter_le _ _).trans (by simp), rfl⟩

theorem dist_le (n q0 q1 a b : BitVec 32) (p : ℕ) : ∃ k : ℕ, k ≤ 65 ∧ dist n q0 q1 a b p = BitVec.ofNat 32 k := by
  unfold dist
  split
  · obtain ⟨k, hk, e⟩ := ctpop_le (a ^^^ q0)
    obtain ⟨k', hk', e'⟩ := ctpop_le (b ^^^ q1)
    exact ⟨k + k', by omega, by rw [e, e', BitVec.ofNat_add]⟩
  · exact ⟨65, le_rfl, rfl⟩

/-- An eight-bit copy of such a word, widened, is the word. -/
theorem narrow (k : ℕ) (hk : k ≤ 65) : ((BitVec.ofNat 32 k).setWidth 8).signExtend 32 = BitVec.ofNat 32 k :=
  (by decide : ∀ k : Fin 66, ((BitVec.ofNat 32 k.val).setWidth 8).signExtend 32 = BitVec.ofNat 32 k.val) ⟨k, by omega⟩

theorem dist_narrow (n q0 q1 a b : BitVec 32) (p : ℕ) : ((dist n q0 q1 a b p).setWidth 8).signExtend 32 = dist n q0 q1 a b p := by
  obtain ⟨k, hk, e⟩ := dist_le n q0 q1 a b p
  rw [e, narrow k hk]

/-! ## The least -/

theorem toInt_minsi (x y : BitVec 32) : (IntOp.minsi x y).toInt = min x.toInt y.toInt := by
  unfold IntOp.minsi BitVec.slt
  by_cases h : x.toInt < y.toInt
  · rw [if_pos (by simpa using h), min_eq_left h.le]
  · rw [if_neg (by simpa using h), min_eq_right (not_lt.mp h)]

instance : Std.Commutative (IntOp.minsi : BitVec 32 → BitVec 32 → BitVec 32) :=
  ⟨fun x y => BitVec.eq_of_toInt_eq (by rw [toInt_minsi, toInt_minsi, min_comm])⟩
instance : Std.Associative (IntOp.minsi : BitVec 32 → BitVec 32 → BitVec 32) :=
  ⟨fun x y z => BitVec.eq_of_toInt_eq (by simp only [toInt_minsi, min_assoc])⟩

theorem toInt_fold {α : Type} (S : Finset α) (M : BitVec 32) (f : α → BitVec 32) :
    (S.fold IntOp.minsi M f).toInt = S.fold min M.toInt fun i => (f i).toInt := by
  classical
  induction S using Finset.induction_on with
  | empty => rfl
  | insert a S ha ih => rw [Finset.fold_insert ha, Finset.fold_insert ha, toInt_minsi, ih]

/-- The least of twelve words, the last two 65, from the greatest word on. -/
theorem fold_least (f : Fin 12 → BitVec 32) (d : Fin 10 → BitVec 32) (hd : ∀ j : Fin 10, f ⟨j.val, by omega⟩ = d j) (h10 : f 10 = 65#32) (h11 : f 11 = 65#32) :
    (Finset.univ : Finset (Fin 12)).fold IntOp.minsi 2147483647#32 f = leastOf d := by
  apply BitVec.eq_of_toInt_eq
  rw [toInt_fold]
  unfold leastOf
  simp only [toInt_minsi]
  apply eq_of_forall_le_iff
  intro z
  rw [Finset.le_fold_min]
  simp only [le_min_iff]
  have e65 : (65#32).toInt = 65 := by decide
  have eM : (2147483647#32).toInt = 2147483647 := by decide
  constructor
  · rintro ⟨-, h⟩
    have h' : ∀ j : Fin 10, z ≤ (d j).toInt := fun j => by rw [← hd j]; exact h _ (Finset.mem_univ _)
    have h65 : z ≤ (65#32).toInt := by rw [← h10]; exact h _ (Finset.mem_univ _)
    exact ⟨⟨⟨⟨⟨⟨⟨⟨⟨⟨h65, h' 0⟩, h' 1⟩, h' 2⟩, h' 3⟩, h' 4⟩, h' 5⟩, h' 6⟩, h' 7⟩, h' 8⟩, h' 9⟩
  · rintro ⟨⟨⟨⟨⟨⟨⟨⟨⟨⟨h65, h0⟩, h1⟩, h2⟩, h3⟩, h4⟩, h5⟩, h6⟩, h7⟩, h8⟩, h9⟩
    refine ⟨by omega, fun j _ => ?_⟩
    match j with
    | ⟨0, _⟩ => exact (hd 0) ▸ h0
    | ⟨1, _⟩ => exact (hd 1) ▸ h1
    | ⟨2, _⟩ => exact (hd 2) ▸ h2
    | ⟨3, _⟩ => exact (hd 3) ▸ h3
    | ⟨4, _⟩ => exact (hd 4) ▸ h4
    | ⟨5, _⟩ => exact (hd 5) ▸ h5
    | ⟨6, _⟩ => exact (hd 6) ▸ h6
    | ⟨7, _⟩ => exact (hd 7) ▸ h7
    | ⟨8, _⟩ => exact (hd 8) ▸ h8
    | ⟨9, _⟩ => exact (hd 9) ▸ h9
    | ⟨10, _⟩ => exact h10.symm ▸ h65
    | ⟨11, _⟩ => exact h11.symm ▸ h65

/-! ## The precondition at one length -/

theorem range_of_ones (n : BitVec 32) (h : IntOp.andi (IntOp.cmpi .sge n 0#32) (IntOp.cmpi .sle n 10112#32) = 1#1) : 0 ≤ n.toInt ∧ n.toInt ≤ 10112 := by
  have e : (BitVec.ofBool ((0#32).sle n) &&& BitVec.ofBool (n.sle 10112#32)) = 1#1 := h
  unfold BitVec.sle at e
  by_cases h1 : (0#32).toInt ≤ n.toInt <;> by_cases h2 : n.toInt ≤ (10112#32).toInt <;> simp only [h1, h2, decide_true, decide_false] at e
  · exact ⟨h1, h2⟩
  all_goals exact absurd e (by decide)

end Cert.Words

end
-- ==== Proof.Ideal.Lanes.lean ====
/-  One trip of the kernel's row loop, element by element: the ten groups of 1024 distances (65 where masked), the three
    groups of packed words and the minima, as functions of the row's length, its query words and the scratch buffer. -/
module

public import proofs.«01_k».proof.Proof.Ideal.Steps
public import proofs.«01_k».proof.Proof.Words
public import Idealize.ShloMosaic.Lib.VecWindow
public import Idealize.ShloMosaic.Lib.Pointwise
public import Idealize.ShloMosaic.Lib.Pointwise.Index

@[expose] public section

set_option maxRecDepth 16384

noncomputable section

namespace Cert.DistancesIdeal.Gen

open Idealize.ShloMosaic Idealize.ShloMosaic.TcCoe Idealize.SL.Sem Cert.Words

variable {F : FTy → Type} [FloatOps F]
variable (c : Dev nD) (t : Fin grid0.N) (v51 : IVec S1x1024 32) (X1 : IVec S640 32) (X2 : IVec S2x640 32) (X6 : IVec S3x2x16x1x12288 32)

/-- Row `r` of step `t` among all rows. -/
def rowIx (r : Fin 16) : Fin 640 := ⟨16 * t.val + r.val, by have : t.val < 40 := t.isLt; omega⟩

theorem length_eq (r : Fin 16) : trip.sl.r (F := F) (grid0.coords t) tbM0_0 X1 (rowOf r) = X1 (ix1 (rowIx t r)) := by
  unfold trip.sl.r
  rw [View.readAt_apply]
  show X1 _ = X1 _
  congr 1
  funext a
  apply Fin.ext
  match a with
  | ⟨0, _⟩ =>
    show k0_off11 (grid0.coords t) (rowOf r) 0 + 0 = _
    rw [off11_eq]
    rfl

theorem query0_eq (r : Fin 16) : trip.sl.r_1 (F := F) (grid0.coords t) tbM0_1 X2 (rowOf r) = X2 (ix2 0 (rowIx t r)) := by
  unfold trip.sl.r_1
  rw [View.readAt_apply]
  show X2 _ = X2 _
  congr 1
  funext a
  apply Fin.ext
  match a with
  | ⟨0, _⟩ =>
    show k0_off12 (grid0.coords t) (rowOf r) 0 + 0 = _
    rw [off12_eq]
    rfl
  | ⟨1, _⟩ =>
    show k0_off12 (grid0.coords t) (rowOf r) 1 + 0 = _
    rw [off12_eq]
    rfl

theorem query1_eq (r : Fin 16) : trip.sl.r_2 (F := F) (grid0.coords t) tbM0_1 X2 (rowOf r) = X2 (ix2 1 (rowIx t r)) := by
  unfold trip.sl.r_2
  rw [View.readAt_apply]
  show X2 _ = X2 _
  congr 1
  funext a
  apply Fin.ext
  match a with
  | ⟨0, _⟩ =>
    show k0_off13 (grid0.coords t) (rowOf r) 0 + 0 = _
    rw [off13_eq]
    rfl
  | ⟨1, _⟩ =>
    show k0_off13 (grid0.coords t) (rowOf r) 1 + 0 = _
    rw [off13_eq]
    rfl

/-- One load of 1024 elements of a slot's row. -/
theorem load_eq (off : Fin 5 → Nat) (h : ∀ a, off a + S1x1x1x1x1024.size a ≤ S3x2x16x1x12288.size a) (s : Fin 3) (w : Fin 2) (r : Fin 16) (p : ℕ) (hp : p + 1024 ≤ 12288)
    (ho : off = ![s.val, w.val, r.val, 0, p]) (l : Fin 1024) :
    View.readAt (Elt F) scM0_0.view (Rect.unit (s := S3x2x16x1x12288) off S1x1x1x1x1024.size h).toLoadRect X6 (ix5 0 0 0 0 l) = X6 (ix5 s w r 0 ⟨p + l.val, by omega⟩) := by
  subst ho
  rw [View.readAt_apply]
  show X6 _ = X6 _
  congr 1
  funext a
  apply Fin.ext
  match a with
  | ⟨0, _⟩ => rfl
  | ⟨1, _⟩ => rfl
  | ⟨2, _⟩ => rfl
  | ⟨3, _⟩ => rfl
  | ⟨4, _⟩ => show p + 1 * l.val = p + l.val; omega

theorem cast5 (v : S1x1x1x1x1024.Idx → BitVec 32) (h : S1x1x1x1x1024.ShapeCasts S1x1024) (l : Fin 1024) : shapeCast S1x1024 v h (ix2 0 l) = v (ix5 0 0 0 0 l) := by
  pointwise

/-- Lane `l` of group `j` of row `r` of step `t`. -/
def laneAt (r : Fin 16) (j : Fin 10) (l : Fin 1024) : BitVec 32 :=
  lane (v51 (ix2 0 l)) (X1 (ix1 (rowIx t r))) (X2 (ix2 0 (rowIx t r))) (X2 (ix2 1 (rowIx t r)))
    (X6 (ix5 (Ring.sl 3 t.val) 0 r 0 ⟨1024 * j.val + l.val, by omega⟩)) (X6 (ix5 (Ring.sl 3 t.val) 1 r 0 ⟨1024 * j.val + l.val, by omega⟩)) j.val

theorem select_slt (a b x y : BitVec 32) : (if IntOp.cmpi .slt a b = 1#1 then x else y) = if a.slt b then x else y := by
  unfold IntOp.cmpi
  cases a.slt b <;> rfl

/-! ## The ten groups -/

theorem lane0_eq (r : Fin 16) (l : Fin 1024) : trip.sl.v82 (F := F) c (grid0.coords t) tbM0_0 tbM0_1 scM0_0 v51 X1 X2 X6 (rowOf r) (ix2 0 l) = laneAt t v51 X1 X2 X6 r 0 l := by
  have ha : trip.sl.v66 (F := F) c (grid0.coords t) scM0_0 X6 (rowOf r) (ix2 0 l) = X6 (ix5 (Ring.sl 3 t.val) 0 r 0 ⟨0 + l.val, by omega⟩) := by
    unfold trip.sl.v66; rw [cast5]; exact load_eq (F := F) X6 _ _ _ 0 r _ (by omega) (off14_eq t (rowOf r)) l
  have hb : trip.sl.v70 (F := F) c (grid0.coords t) scM0_0 X6 (rowOf r) (ix2 0 l) = X6 (ix5 (Ring.sl 3 t.val) 1 r 0 ⟨0 + l.val, by omega⟩) := by
    unfold trip.sl.v70; rw [cast5]; exact load_eq (F := F) X6 _ _ _ 1 r _ (by omega) (off15_eq t (rowOf r)) l
  unfold trip.sl.v82 trip.sl.v80 trip.sl.v79 trip.sl.v78 trip.sl.v77 trip.sl.v73 trip.sl.v72 trip.sl.v76 trip.sl.v75 trip.sl.v71 trip.sl.v74 trip.sl.v61
  show (if IntOp.cmpi .slt (v51 (ix2 0 l)) (trip.sl.r (F := F) (grid0.coords t) tbM0_0 X1 (rowOf r) - 0#32) = 1#1
    then IntOp.ctpop (trip.sl.v66 (F := F) c (grid0.coords t) scM0_0 X6 (rowOf r) (ix2 0 l) ^^^ trip.sl.r_1 (F := F) (grid0.coords t) tbM0_1 X2 (rowOf r))
      + IntOp.ctpop (trip.sl.v70 (F := F) c (grid0.coords t) scM0_0 X6 (rowOf r) (ix2 0 l) ^^^ trip.sl.r_2 (F := F) (grid0.coords t) tbM0_1 X2 (rowOf r)) else 65#32) = _
  rw [ha, hb, length_eq, query0_eq, query1_eq, select_slt]
  rfl

theorem lane1_eq (r : Fin 16) (l : Fin 1024) : trip.sl.v106 (F := F) c (grid0.coords t) tbM0_0 tbM0_1 scM0_0 v51 X1 X2 X6 (rowOf r) (ix2 0 l) = laneAt t v51 X1 X2 X6 r 1 l := by
  have ha : trip.sl.v90 (F := F) c (grid0.coords t) scM0_0 X6 (rowOf r) (ix2 0 l) = X6 (ix5 (Ring.sl 3 t.val) 0 r 0 ⟨1024 + l.val, by omega⟩) := by
    unfold trip.sl.v90; rw [cast5]; exact load_eq (F := F) X6 _ _ _ 0 r _ (by omega) (off16_eq t (rowOf r)) l
  have hb : trip.sl.v94 (F := F) c (grid0.coords t) scM0_0 X6 (rowOf r) (ix2 0 l) = X6 (ix5 (Ring.sl 3 t.val) 1 r 0 ⟨1024 + l.val, by omega⟩) := by
    unfold trip.sl.v94; rw [cast5]; exact load_eq (F := F) X6 _ _ _ 1 r _ (by omega) (off17_eq t (rowOf r)) l
  unfold trip.sl.v106 trip.sl.v104 trip.sl.v103 trip.sl.v102 trip.sl.v101 trip.sl.v97 trip.sl.v96 trip.sl.v100 trip.sl.v99 trip.sl.v71 trip.sl.v74 trip.sl.v61
  show (if IntOp.cmpi .slt (v51 (ix2 0 l)) (trip.sl.r (F := F) (grid0.coords t) tbM0_0 X1 (rowOf r) - 1024#32) = 1#1
    then IntOp.ctpop (trip.sl.v90 (F := F) c (grid0.coords t) scM0_0 X6 (rowOf r) (ix2 0 l) ^^^ trip.sl.r_1 (F := F) (grid0.coords t) tbM0_1 X2 (rowOf r))
      + IntOp.ctpop (trip.sl.v94 (F := F) c (grid0.coords t) scM0_0 X6 (rowOf r) (ix2 0 l) ^^^ trip.sl.r_2 (F := F) (grid0.coords t) tbM0_1 X2 (rowOf r)) else 65#32) = _
  rw [ha, hb, length_eq, query0_eq, query1_eq, select_slt]
  rfl

theorem lane2_eq (r : Fin 16) (l : Fin 1024) : trip.sl.v130 (F := F) c (grid0.coords t) tbM0_0 tbM0_1 scM0_0 v51 X1 X2 X6 (rowOf r) (ix2 0 l) = laneAt t v51 X1 X2 X6 r 2 l := by
  have ha : trip.sl.v114 (F := F) c (grid0.coords t) scM0_0 X6 (rowOf r) (ix2 0 l) = X6 (ix5 (Ring.sl 3 t.val) 0 r 0 ⟨2048 + l.val, by omega⟩) := by
    unfold trip.sl.v114; rw [cast5]; exact load_eq (F := F) X6 _ _ _ 0 r _ (by omega) (off18_eq t (rowOf r)) l
  have hb : trip.sl.v118 (F := F) c (grid0.coords t) scM0_0 X6 (rowOf r) (ix2 0 l) = X6 (ix5 (Ring.sl 3 t.val) 1 r 0 ⟨2048 + l.val, by omega⟩) := by
    unfold trip.sl.v118; rw [cast5]; exact load_eq (F := F) X6 _ _ _ 1 r _ (by omega) (off19_eq t (rowOf r)) l
  unfold trip.sl.v130 trip.sl.v128 trip.sl.v127 trip.sl.v126 trip.sl.v125 trip.sl.v121 trip.sl.v120 trip.sl.v124 trip.sl.v123 trip.sl.v71 trip.sl.v74 trip.sl.v61
  show (if IntOp.cmpi .slt (v51 (ix2 0 l)) (trip.sl.r (F := F) (grid0.coords t) tbM0_0 X1 (rowOf r) - 2048#32) = 1#1
    then IntOp.ctpop (trip.sl.v114 (F := F) c (grid0.coords t) scM0_0 X6 (rowOf r) (ix2 0 l) ^^^ trip.sl.r_1 (F := F) (grid0.coords t) tbM0_1 X2 (rowOf r))
      + IntOp.ctpop (trip.sl.v118 (F := F) c (grid0.coords t) scM0_0 X6 (rowOf r) (ix2 0 l) ^^^ trip.sl.r_2 (F := F) (grid0.coords t) tbM0_1 X2 (rowOf r)) else 65#32) = _
  rw [ha, hb, length_eq, query0_eq, query1_eq, select_slt]
  rfl

theorem lane3_eq (r : Fin 16) (l : Fin 1024) : trip.sl.v154 (F := F) c (grid0.coords t) tbM0_0 tbM0_1 scM0_0 v51 X1 X2 X6 (rowOf r) (ix2 0 l) = laneAt t v51 X1 X2 X6 r 3 l := by
  have ha : trip.sl.v138 (F := F) c (grid0.coords t) scM0_0 X6 (rowOf r) (ix2 0 l) = X6 (ix5 (Ring.sl 3 t.val) 0 r 0 ⟨3072 + l.val, by omega⟩) := by
    unfold trip.sl.v138; rw [cast5]; exact load_eq (F := F) X6 _ _ _ 0 r _ (by omega) (off20_eq t (rowOf r)) l
  have hb : trip.sl.v142 (F := F) c (grid0.coords t) scM0_0 X6 (rowOf r) (ix2 0 l) = X6 (ix5 (Ring.sl 3 t.val) 1 r 0 ⟨3072 + l.val, by omega⟩) := by
    unfold trip.sl.v142; rw [cast5]; exact load_eq (F := F) X6 _ _ _ 1 r _ (by omega) (off21_eq t (rowOf r)) l
  unfold trip.sl.v154 trip.sl.v152 trip.sl.v151 trip.sl.v150 trip.sl.v149 trip.sl.v145 trip.sl.v144 trip.sl.v148 trip.sl.v147 trip.sl.v71 trip.sl.v74 trip.sl.v61
  show (if IntOp.cmpi .slt (v51 (ix2 0 l)) (trip.sl.r (F := F) (grid0.coords t) tbM0_0 X1 (rowOf r) - 3072#32) = 1#1
    then IntOp.ctpop (trip.sl.v138 (F := F) c (grid0.coords t) scM0_0 X6 (rowOf r) (ix2 0 l) ^^^ trip.sl.r_1 (F := F) (grid0.coords t) tbM0_1 X2 (rowOf r))
      + IntOp.ctpop (trip.sl.v142 (F := F) c (grid0.coords t) scM0_0 X6 (rowOf r) (ix2 0 l) ^^^ trip.sl.r_2 (F := F) (grid0.coords t) tbM0_1 X2 (rowOf r)) else 65#32) = _
  rw [ha, hb, length_eq, query0_eq, query1_eq, select_slt]
  rfl

theorem lane4_eq (r : Fin 16) (l : Fin 1024) : trip.sl.v183 (F := F) c (grid0.coords t) tbM0_0 tbM0_1 scM0_0 v51 X1 X2 X6 (rowOf r) (ix2 0 l) = laneAt t v51 X1 X2 X6 r 4 l := by
  have ha : trip.sl.v167 (F := F) c (grid0.coords t) scM0_0 X6 (rowOf r) (ix2 0 l) = X6 (ix5 (Ring.sl 3 t.val) 0 r 0 ⟨4096 + l.val, by omega⟩) := by
    unfold trip.sl.v167; rw [cast5]; exact load_eq (F := F) X6 _ _ _ 0 r _ (by omega) (off23_eq t (rowOf r)) l
  have hb : trip.sl.v171 (F := F) c (grid0.coords t) scM0_0 X6 (rowOf r) (ix2 0 l) = X6 (ix5 (Ring.sl 3 t.val) 1 r 0 ⟨4096 + l.val, by omega⟩) := by
    unfold trip.sl.v171; rw [cast5]; exact load_eq (F := F) X6 _ _ _ 1 r _ (by omega) (off24_eq t (rowOf r)) l
  unfold trip.sl.v183 trip.sl.v181 trip.sl.v180 trip.sl.v179 trip.sl.v178 trip.sl.v174 trip.sl.v173 trip.sl.v177 trip.sl.v176 trip.sl.v71 trip.sl.v74 trip.sl.v61
  show (if IntOp.cmpi .slt (v51 (ix2 0 l)) (trip.sl.r (F := F) (grid0.coords t) tbM0_0 X1 (rowOf r) - 4096#32) = 1#1
    then IntOp.ctpop (trip.sl.v167 (F := F) c (grid0.coords t) scM0_0 X6 (rowOf r) (ix2 0 l) ^^^ trip.sl.r_1 (F := F) (grid0.coords t) tbM0_1 X2 (rowOf r))
      + IntOp.ctpop (trip.sl.v171 (F := F) c (grid0.coords t) scM0_0 X6 (rowOf r) (ix2 0 l) ^^^ trip.sl.r_2 (F := F) (grid0.coords t) tbM0_1 X2 (rowOf r)) else 65#32) = _
  rw [ha, hb, length_eq, query0_eq, query1_eq, select_slt]
  rfl

theorem lane5_eq (r : Fin 16) (l : Fin 1024) : trip.sl.v207 (F := F) c (grid0.coords t) tbM0_0 tbM0_1 scM0_0 v51 X1 X2 X6 (rowOf r) (ix2 0 l) = laneAt t v51 X1 X2 X6 r 5 l := by
  have ha : trip.sl.v191 (F := F) c (grid0.coords t) scM0_0 X6 (rowOf r) (ix2 0 l) = X6 (ix5 (Ring.sl 3 t.val) 0 r 0 ⟨5120 + l.val, by omega⟩) := by
    unfold trip.sl.v191; rw [cast5]; exact load_eq (F := F) X6 _ _ _ 0 r _ (by omega) (off25_eq t (rowOf r)) l
  have hb : trip.sl.v195 (F := F) c (grid0.coords t) scM0_0 X6 (rowOf r) (ix2 0 l) = X6 (ix5 (Ring.sl 3 t.val) 1 r 0 ⟨5120 + l.val, by omega⟩) := by
    unfold trip.sl.v195; rw [cast5]; exact load_eq (F := F) X6 _ _ _ 1 r _ (by omega) (off26_eq t (rowOf r)) l
  unfold trip.sl.v207 trip.sl.v205 trip.sl.v204 trip.sl.v203 trip.sl.v202 trip.sl.v198 trip.sl.v197 trip.sl.v201 trip.sl.v200 trip.sl.v71 trip.sl.v74 trip.sl.v61
  show (if IntOp.cmpi .slt (v51 (ix2 0 l)) (trip.sl.r (F := F) (grid0.coords t) tbM0_0 X1 (rowOf r) - 5120#32) = 1#1
    then IntOp.ctpop (trip.sl.v191 (F := F) c (grid0.coords t) scM0_0 X6 (rowOf r) (ix2 0 l) ^^^ trip.sl.r_1 (F := F) (grid0.coords t) tbM0_1 X2 (rowOf r))
      + IntOp.ctpop (trip.sl.v195 (F := F) c (grid0.coords t) scM0_0 X6 (rowOf r) (ix2 0 l) ^^^ trip.sl.r_2 (F := F) (grid0.coords t) tbM0_1 X2 (rowOf r)) else 65#32) = _
  rw [ha, hb, length_eq, query0_eq, query1_eq, select_slt]
  rfl

theorem lane6_eq (r : Fin 16) (l : Fin 1024) : trip.sl.v231 (F := F) c (grid0.coords t) tbM0_0 tbM0_1 scM0_0 v51 X1 X2 X6 (rowOf r) (ix2 0 l) = laneAt t v51 X1 X2 X6 r 6 l := by
  have ha : trip.sl.v215 (F := F) c (grid0.coords t) scM0_0 X6 (rowOf r) (ix2 0 l) = X6 (ix5 (Ring.sl 3 t.val) 0 r 0 ⟨6144 + l.val, by omega⟩) := by
    unfold trip.sl.v215; rw [cast5]; exact load_eq (F := F) X6 _ _ _ 0 r _ (by omega) (off27_eq t (rowOf r)) l
  have hb : trip.sl.v219 (F := F) c (grid0.coords t) scM0_0 X6 (rowOf r) (ix2 0 l) = X6 (ix5 (Ring.sl 3 t.val) 1 r 0 ⟨6144 + l.val, by omega⟩) := by
    unfold trip.sl.v219; rw [cast5]; exact load_eq (F := F) X6 _ _ _ 1 r _ (by omega) (off28_eq t (rowOf r)) l
  unfold trip.sl.v231 trip.sl.v229 trip.sl.v228 trip.sl.v227 trip.sl.v226 trip.sl.v222 trip.sl.v221 trip.sl.v225 trip.sl.v224 trip.sl.v71 trip.sl.v74 trip.sl.v61
  show (if IntOp.cmpi .slt (v51 (ix2 0 l)) (trip.sl.r (F := F) (grid0.coords t) tbM0_0 X1 (rowOf r) - 6144#32) = 1#1
    then IntOp.ctpop (trip.sl.v215 (F := F) c (grid0.coords t) scM0_0 X6 (rowOf r) (ix2 0 l) ^^^ trip.sl.r_1 (F := F) (grid0.coords t) tbM0_1 X2 (rowOf r))
      + IntOp.ctpop (trip.sl.v219 (F := F) c (grid0.coords t) scM0_0 X6 (rowOf r) (ix2 0 l) ^^^ trip.sl.r_2 (F := F) (grid0.coords t) tbM0_1 X2 (rowOf r)) else 65#32) = _
  rw [ha, hb, length_eq, query0_eq, query1_eq, select_slt]
  rfl

theorem lane7_eq (r : Fin 16) (l : Fin 1024) : trip.sl.v255 (F := F) c (grid0.coords t) tbM0_0 tbM0_1 scM0_0 v51 X1 X2 X6 (rowOf r) (ix2 0 l) = laneAt t v51 X1 X2 X6 r 7 l := by
  have ha : trip.sl.v239 (F := F) c (grid0.coords t) scM0_0 X6 (rowOf r) (ix2 0 l) = X6 (ix5 (Ring.sl 3 t.val) 0 r 0 ⟨7168 + l.val, by omega⟩) := by
    unfold trip.sl.v239; rw [cast5]; exact load_eq (F := F) X6 _ _ _ 0 r _ (by omega) (off29_eq t (rowOf r)) l
  have hb : trip.sl.v243 (F := F) c (grid0.coords t) scM0_0 X6 (rowOf r) (ix2 0 l) = X6 (ix5 (Ring.sl 3 t.val) 1 r 0 ⟨7168 + l.val, by omega⟩) := by
    unfold trip.sl.v243; rw [cast5]; exact load_eq (F := F) X6 _ _ _ 1 r _ (by omega) (off30_eq t (rowOf r)) l
  unfold trip.sl.v255 trip.sl.v253 trip.sl.v252 trip.sl.v251 trip.sl.v250 trip.sl.v246 trip.sl.v245 trip.sl.v249 trip.sl.v248 trip.sl.v71 trip.sl.v74 trip.sl.v61
  show (if IntOp.cmpi .slt (v51 (ix2 0 l)) (trip.sl.r (F := F) (grid0.coords t) tbM0_0 X1 (rowOf r) - 7168#32) = 1#1
    then IntOp.ctpop (trip.sl.v239 (F := F) c (grid0.coords t) scM0_0 X6 (rowOf r) (ix2 0 l) ^^^ trip.sl.r_1 (F := F) (grid0.coords t) tbM0_1 X2 (rowOf r))
      + IntOp.ctpop (trip.sl.v243 (F := F) c (grid0.coords t) scM0_0 X6 (rowOf r) (ix2 0 l) ^^^ trip.sl.r_2 (F := F) (grid0.coords t) tbM0_1 X2 (rowOf r)) else 65#32) = _
  rw [ha, hb, length_eq, query0_eq, query1_eq, select_slt]
  rfl

theorem lane8_eq (r : Fin 16) (l : Fin 1024) : trip.sl.v284 (F := F) c (grid0.coords t) tbM0_0 tbM0_1 scM0_0 v51 X1 X2 X6 (rowOf r) (ix2 0 l) = laneAt t v51 X1 X2 X6 r 8 l := by
  have ha : trip.sl.v268 (F := F) c (grid0.coords t) scM0_0 X6 (rowOf r) (ix2 0 l) = X6 (ix5 (Ring.sl 3 t.val) 0 r 0 ⟨8192 + l.val, by omega⟩) := by
    unfold trip.sl.v268; rw [cast5]; exact load_eq (F := F) X6 _ _ _ 0 r _ (by omega) (off32_eq t (rowOf r)) l
  have hb : trip.sl.v272 (F := F) c (grid0.coords t) scM0_0 X6 (rowOf r) (ix2 0 l) = X6 (ix5 (Ring.sl 3 t.val) 1 r 0 ⟨8192 + l.val, by omega⟩) := by
    unfold trip.sl.v272; rw [cast5]; exact load_eq (F := F) X6 _ _ _ 1 r _ (by omega) (off33_eq t (rowOf r)) l
  unfold trip.sl.v284 trip.sl.v282 trip.sl.v281 trip.sl.v280 trip.sl.v279 trip.sl.v275 trip.sl.v274 trip.sl.v278 trip.sl.v277 trip.sl.v71 trip.sl.v74 trip.sl.v61
  show (if IntOp.cmpi .slt (v51 (ix2 0 l)) (trip.sl.r (F := F) (grid0.coords t) tbM0_0 X1 (rowOf r) - 8192#32) = 1#1
    then IntOp.ctpop (trip.sl.v268 (F := F) c (grid0.coords t) scM0_0 X6 (rowOf r) (ix2 0 l) ^^^ trip.sl.r_1 (F := F) (grid0.coords t) tbM0_1 X2 (rowOf r))
      + IntOp.ctpop (trip.sl.v272 (F := F) c (grid0.coords t) scM0_0 X6 (rowOf r) (ix2 0 l) ^^^ trip.sl.r_2 (F := F) (grid0.coords t) tbM0_1 X2 (rowOf r)) else 65#32) = _
  rw [ha, hb, length_eq, query0_eq, query1_eq, select_slt]
  rfl

theorem lane9_eq (r : Fin 16) (l : Fin 1024) : trip.sl.v308 (F := F) c (grid0.coords t) tbM0_0 tbM0_1 scM0_0 v51 X1 X2 X6 (rowOf r) (ix2 0 l) = laneAt t v51 X1 X2 X6 r 9 l := by
  have ha : trip.sl.v292 (F := F) c (grid0.coords t) scM0_0 X6 (rowOf r) (ix2 0 l) = X6 (ix5 (Ring.sl 3 t.val) 0 r 0 ⟨9216 + l.val, by omega⟩) := by
    unfold trip.sl.v292; rw [cast5]; exact load_eq (F := F) X6 _ _ _ 0 r _ (by omega) (off34_eq t (rowOf r)) l
  have hb : trip.sl.v296 (F := F) c (grid0.coords t) scM0_0 X6 (rowOf r) (ix2 0 l) = X6 (ix5 (Ring.sl 3 t.val) 1 r 0 ⟨9216 + l.val, by omega⟩) := by
    unfold trip.sl.v296; rw [cast5]; exact load_eq (F := F) X6 _ _ _ 1 r _ (by omega) (off35_eq t (rowOf r)) l
  unfold trip.sl.v308 trip.sl.v306 trip.sl.v305 trip.sl.v304 trip.sl.v303 trip.sl.v299 trip.sl.v298 trip.sl.v302 trip.sl.v301 trip.sl.v71 trip.sl.v74 trip.sl.v61
  show (if IntOp.cmpi .slt (v51 (ix2 0 l)) (trip.sl.r (F := F) (grid0.coords t) tbM0_0 X1 (rowOf r) - 9216#32) = 1#1
    then IntOp.ctpop (trip.sl.v292 (F := F) c (grid0.coords t) scM0_0 X6 (rowOf r) (ix2 0 l) ^^^ trip.sl.r_1 (F := F) (grid0.coords t) tbM0_1 X2 (rowOf r))
      + IntOp.ctpop (trip.sl.v296 (F := F) c (grid0.coords t) scM0_0 X6 (rowOf r) (ix2 0 l) ^^^ trip.sl.r_2 (F := F) (grid0.coords t) tbM0_1 X2 (rowOf r)) else 65#32) = _
  rw [ha, hb, length_eq, query0_eq, query1_eq, select_slt]
  rfl

/-! ## The stored words -/

theorem shl8 (x : BitVec 32) : IntOp.shli .vector x 8#32 = x <<< 8#32 := if_pos (by decide)
theorem shl16 (x : BitVec 32) : IntOp.shli .vector x 16#32 = x <<< 16#32 := if_pos (by decide)
theorem shl24 (x : BitVec 32) : IntOp.shli .vector x 24#32 = x <<< 24#32 := if_pos (by decide)
theorem shl0 (x : BitVec 32) : IntOp.shli .vector x 0#32 = x := by
  rw [show IntOp.shli .vector x 0#32 = x <<< 0#32 from if_pos (by decide)]
  simp
theorem or0 (x : BitVec 32) : 0#32 ||| x = x := BitVec.zero_or
theorem hi16 : (4259840#32 : BitVec 32) = 65#32 <<< 16#32 := by decide
theorem hi24 : (1090519040#32 : BitVec 32) = 65#32 <<< 24#32 := by decide

theorem cast3 (v : S1x1024.Idx → BitVec 32) (h : S1x1024.ShapeCasts S1x1x1024) (l : Fin 1024) : shapeCast S1x1x1024 v h (ix3 0 0 l) = v (ix2 0 l) := by
  pointwise

theorem pack0_eq (r : Fin 16) (l : Fin 1024) : trip.sl.v162 (F := F) c (grid0.coords t) tbM0_0 tbM0_1 scM0_0 v51 X1 X2 X6 (rowOf r) (ix3 0 0 l)
    = word (laneAt t v51 X1 X2 X6 r 0 l) (laneAt t v51 X1 X2 X6 r 1 l) (laneAt t v51 X1 X2 X6 r 2 l) (laneAt t v51 X1 X2 X6 r 3 l) := by
  unfold trip.sl.v162
  rw [cast3]
  unfold trip.sl.v158 trip.sl.v157 trip.sl.v134 trip.sl.v133 trip.sl.v110 trip.sl.v109 trip.sl.v86 trip.sl.v85 trip.sl.v156 trip.sl.v132 trip.sl.v108 trip.sl.v62
  show ((0#32 ||| IntOp.shli .vector (trip.sl.v82 (F := F) c (grid0.coords t) tbM0_0 tbM0_1 scM0_0 v51 X1 X2 X6 (rowOf r) (ix2 0 l)) 0#32)
    ||| IntOp.shli .vector (trip.sl.v106 (F := F) c (grid0.coords t) tbM0_0 tbM0_1 scM0_0 v51 X1 X2 X6 (rowOf r) (ix2 0 l)) 8#32)
    ||| IntOp.shli .vector (trip.sl.v130 (F := F) c (grid0.coords t) tbM0_0 tbM0_1 scM0_0 v51 X1 X2 X6 (rowOf r) (ix2 0 l)) 16#32
    ||| IntOp.shli .vector (trip.sl.v154 (F := F) c (grid0.coords t) tbM0_0 tbM0_1 scM0_0 v51 X1 X2 X6 (rowOf r) (ix2 0 l)) 24#32 = _
  rw [shl0, shl8, shl16, shl24, or0, lane0_eq, lane1_eq, lane2_eq, lane3_eq]
  rfl

theorem pack1_eq (r : Fin 16) (l : Fin 1024) : trip.sl.v263 (F := F) c (grid0.coords t) tbM0_0 tbM0_1 scM0_0 v51 X1 X2 X6 (rowOf r) (ix3 0 0 l)
    = word (laneAt t v51 X1 X2 X6 r 4 l) (laneAt t v51 X1 X2 X6 r 5 l) (laneAt t v51 X1 X2 X6 r 6 l) (laneAt t v51 X1 X2 X6 r 7 l) := by
  unfold trip.sl.v263
  rw [cast3]
  unfold trip.sl.v259 trip.sl.v258 trip.sl.v235 trip.sl.v234 trip.sl.v211 trip.sl.v210 trip.sl.v187 trip.sl.v186 trip.sl.v156 trip.sl.v132 trip.sl.v108 trip.sl.v62
  show ((0#32 ||| IntOp.shli .vector (trip.sl.v183 (F := F) c (grid0.coords t) tbM0_0 tbM0_1 scM0_0 v51 X1 X2 X6 (rowOf r) (ix2 0 l)) 0#32)
    ||| IntOp.shli .vector (trip.sl.v207 (F := F) c (grid0.coords t) tbM0_0 tbM0_1 scM0_0 v51 X1 X2 X6 (rowOf r) (ix2 0 l)) 8#32)
    ||| IntOp.shli .vector (trip.sl.v231 (F := F) c (grid0.coords t) tbM0_0 tbM0_1 scM0_0 v51 X1 X2 X6 (rowOf r) (ix2 0 l)) 16#32
    ||| IntOp.shli .vector (trip.sl.v255 (F := F) c (grid0.coords t) tbM0_0 tbM0_1 scM0_0 v51 X1 X2 X6 (rowOf r) (ix2 0 l)) 24#32 = _
  rw [shl0, shl8, shl16, shl24, or0, lane4_eq, lane5_eq, lane6_eq, lane7_eq]
  rfl

theorem pack2_eq (r : Fin 16) (l : Fin 1024) : k0_pay1 (trip.sl.v288 (F := F) c (grid0.coords t) tbM0_0 tbM0_1 scM0_0 v51 X1 X2 X6 (rowOf r)) (trip.sl.v308 (F := F) c (grid0.coords t) tbM0_0 tbM0_1 scM0_0 v51 X1 X2 X6 (rowOf r)) (ix3 0 0 l)
    = word (laneAt t v51 X1 X2 X6 r 8 l) (laneAt t v51 X1 X2 X6 r 9 l) 65#32 65#32 := by
  unfold k0_pay1
  rw [cast3]
  unfold trip.sl.v288 trip.sl.v287 trip.sl.v62
  show (((0#32 ||| IntOp.shli .vector (trip.sl.v284 (F := F) c (grid0.coords t) tbM0_0 tbM0_1 scM0_0 v51 X1 X2 X6 (rowOf r) (ix2 0 l)) 0#32)
    ||| IntOp.shli .vector (trip.sl.v308 (F := F) c (grid0.coords t) tbM0_0 tbM0_1 scM0_0 v51 X1 X2 X6 (rowOf r) (ix2 0 l)) 8#32) ||| 4259840#32) ||| 1090519040#32 = _
  rw [shl0, shl8, or0, hi16, hi24, lane8_eq, lane9_eq]
  rfl

theorem least_eq (r : Fin 16) (l : Fin 1024) : leastRow (F := F) c t v51 X1 X2 X6 (rowOf r) l = leastOf fun j => laneAt t v51 X1 X2 X6 r j l := by
  unfold leastRow k0_pay2
  rw [cast3]
  unfold trip.sl.v309 trip.sl.v285 trip.sl.v256 trip.sl.v232 trip.sl.v208 trip.sl.v184 trip.sl.v155 trip.sl.v131 trip.sl.v107 trip.sl.v83 trip.sl.v61
  show IntOp.minsi (IntOp.minsi (IntOp.minsi (IntOp.minsi (IntOp.minsi (IntOp.minsi (IntOp.minsi (IntOp.minsi (IntOp.minsi (IntOp.minsi 65#32
    (trip.sl.v82 (F := F) c (grid0.coords t) tbM0_0 tbM0_1 scM0_0 v51 X1 X2 X6 (rowOf r) (ix2 0 l))) (trip.sl.v106 (F := F) c (grid0.coords t) tbM0_0 tbM0_1 scM0_0 v51 X1 X2 X6 (rowOf r) (ix2 0 l))) (trip.sl.v130 (F := F) c (grid0.coords t) tbM0_0 tbM0_1 scM0_0 v51 X1 X2 X6 (rowOf r) (ix2 0 l))) (trip.sl.v154 (F := F) c (grid0.coords t) tbM0_0 tbM0_1 scM0_0 v51 X1 X2 X6 (rowOf r) (ix2 0 l)))
    (trip.sl.v183 (F := F) c (grid0.coords t) tbM0_0 tbM0_1 scM0_0 v51 X1 X2 X6 (rowOf r) (ix2 0 l))) (trip.sl.v207 (F := F) c (grid0.coords t) tbM0_0 tbM0_1 scM0_0 v51 X1 X2 X6 (rowOf r) (ix2 0 l))) (trip.sl.v231 (F := F) c (grid0.coords t) tbM0_0 tbM0_1 scM0_0 v51 X1 X2 X6 (rowOf r) (ix2 0 l))) (trip.sl.v255 (F := F) c (grid0.coords t) tbM0_0 tbM0_1 scM0_0 v51 X1 X2 X6 (rowOf r) (ix2 0 l)))
    (trip.sl.v284 (F := F) c (grid0.coords t) tbM0_0 tbM0_1 scM0_0 v51 X1 X2 X6 (rowOf r) (ix2 0 l))) (trip.sl.v308 (F := F) c (grid0.coords t) tbM0_0 tbM0_1 scM0_0 v51 X1 X2 X6 (rowOf r) (ix2 0 l)) = _
  rw [lane0_eq, lane1_eq, lane2_eq, lane3_eq, lane4_eq, lane5_eq, lane6_eq, lane7_eq, lane8_eq, lane9_eq]
  rfl

end Cert.DistancesIdeal.Gen
-- ==== Proof.RefRun.lean ====
/-  THE DISTANCE REFERENCE'S RUN: a straight line of host operations, read at its two results and at its arguments. -/
module

public import proofs.«01_k».proof.Proof.Words
public import proofs.«01_k».proof.Proof.Gen.DistancesRefIdeal
public import Idealize.ShloMosaic.Lib.StableHlo.Run
public import Idealize.ShloMosaic.Lib.Quiescent
public import Idealize.ShloMosaic.Lib.Pointwise.Index

@[expose] public section

set_option maxRecDepth 16384

noncomputable section

namespace Cert.DistancesRefIdeal.Gen

open Idealize.ShloMosaic Idealize.ShloMosaic.TcCoe Idealize.ShloMosaic.StableHlo Idealize.SL.Sem
open Cert.DistancesRefIdeal

variable {F : FTy → Type} [FloatOps F]

/-- @main's operations in order, the two calls unfolded. -/
abbrev ops : List (HloOp τ sig (Elt F)) :=
  [ unary main_arg1 main_v0 (transpose S640x2 [1, 0] · transposes_S2x640_S640x2_1_0),
    unary main_v0 main_v1 (broadcastInDim S640x2x1 ![0, 1] bcast_S640x2_S640x2x1_0_1),
    unary main_v1 main_v2 (broadcastInDim S640x2x10112 ![0, 1, 2] bcast_S640x2x1_S640x2x10112_0_1_2),
    binary main_arg2 main_v2 main_v3 xori,
    unary main_v3 main_v4 ctpop,
    unary main_v4 main_v5 id,
    nullary main_c (constantI S_ 32 0#32),
    binary main_v5 main_c main_v6 (fun x v => Host.reduce IntOp.addi x v reducesTo_S640x2x10112_S640x10112_d1 h_S_),
    nullary main_v7 (iotaInDim S10112 32 0),
    unary main_v7 main_v8 (broadcastInDim S1x10112 ![1] bcast_S10112_S1x10112_1),
    unary main_arg0 main_v9 (broadcastInDim S640x1 ![0] bcast_S640_S640x1_0),
    unary main_v8 main_v10 (broadcastInDim S640x10112 ![0, 1] bcast_S1x10112_S640x10112_0_1),
    unary main_v9 main_v11 (broadcastInDim S640x10112 ![0, 1] bcast_S640x1_S640x10112_0_1),
    binary main_v10 main_v11 main_v12 (cmpi .slt),
    nullary main_c_0 (constantI S_ 32 65#32),
    TRef.unary (.of main_c_0) main_call0.v0 id,
    TRef.unary main_call0.v0 main_call0.v1 (broadcastInDim S640x10112 ![] bcast_S_S640x10112),
    TRef.ternary (.of main_v12) (.of main_v6) main_call0.v1 main_call0.v2 select,
    unary main_v13 main_v14 (trunci 8 · natLt_8_32),
    unary main_v14 main_v15 (extsi 32 · natLt_8_32),
    nullary main_c_1 (constantI S_ 32 65#32),
    TRef.unary (.of main_c_1) main_call1.v0 id,
    TRef.binary (.of main_v15 : TRef sig ⟨S640x10112, .i32⟩) main_call1.v0 main_call1.v1 (fun x v => pad S640x12288 ![0, 0] ![0, 2176] ![0, 0] x v pads_S640x10112_S640x12288_000_021760 h_S_),
    reshape main_v16 main_v17 rfl shapeCasts_S640x12288_S640x3x4x1024,
    unary main_v17 main_v18 (extractStridedSlice S640x3x1x1024 ![0, 0, 0, 0] · slices_S640x3x4x1024_S640x3x1x1024_0_0_0_0),
    reshape main_v18 main_v19 rfl shapeCasts_S640x3x1x1024_S640x3x1024,
    unary main_v17 main_v20 (extractStridedSlice S640x3x1x1024 ![0, 0, 1, 0] · slices_S640x3x4x1024_S640x3x1x1024_0_0_1_0),
    reshape main_v20 main_v21 rfl shapeCasts_S640x3x1x1024_S640x3x1024,
    nullary main_c_2 (constantI S_ 32 8#32),
    unary main_c_2 main_v22 (broadcastInDim S640x3x1024 ![] bcast_S_S640x3x1024),
    binary main_v21 main_v22 main_v23 Host.shli,
    binary main_v19 main_v23 main_v24 ori,
    unary main_v17 main_v25 (extractStridedSlice S640x3x1x1024 ![0, 0, 2, 0] · slices_S640x3x4x1024_S640x3x1x1024_0_0_2_0),
    reshape main_v25 main_v26 rfl shapeCasts_S640x3x1x1024_S640x3x1024,
    nullary main_c_3 (constantI S_ 32 16#32),
    unary main_c_3 main_v27 (broadcastInDim S640x3x1024 ![] bcast_S_S640x3x1024),
    binary main_v26 main_v27 main_v28 Host.shli,
    binary main_v24 main_v28 main_v29 ori,
    unary main_v17 main_v30 (extractStridedSlice S640x3x1x1024 ![0, 0, 3, 0] · slices_S640x3x4x1024_S640x3x1x1024_0_0_3_0),
    reshape main_v30 main_v31 rfl shapeCasts_S640x3x1x1024_S640x3x1024,
    nullary main_c_4 (constantI S_ 32 24#32),
    unary main_c_4 main_v32 (broadcastInDim S640x3x1024 ![] bcast_S_S640x3x1024),
    binary main_v31 main_v32 main_v33 Host.shli,
    binary main_v29 main_v33 main_v34 ori,
    reshape main_v16 main_v35 rfl shapeCasts_S640x12288_S640x12x1024,
    nullary main_c_5 (constantI S_ 32 2147483647#32),
    binary main_v35 main_c_5 main_v36 (fun x v => Host.reduce IntOp.minsi x v reducesTo_S640x12x1024_S640x1024_d1 h_S_),
    reshape main_v34 main_v37 rfl shapeCasts_S640x3x1024_S640x1x3072,
    reshape main_v36 main_v38 rfl shapeCasts_S640x1024_S640x1x1024 ]

/-- The operations up to the padded distances, -/
abbrev opsA : List (HloOp τ sig (Elt F)) :=
  [ unary main_arg1 main_v0 (transpose S640x2 [1, 0] · transposes_S2x640_S640x2_1_0),
    unary main_v0 main_v1 (broadcastInDim S640x2x1 ![0, 1] bcast_S640x2_S640x2x1_0_1),
    unary main_v1 main_v2 (broadcastInDim S640x2x10112 ![0, 1, 2] bcast_S640x2x1_S640x2x10112_0_1_2),
    binary main_arg2 main_v2 main_v3 xori,
    unary main_v3 main_v4 ctpop,
    unary main_v4 main_v5 id,
    nullary main_c (constantI S_ 32 0#32),
    binary main_v5 main_c main_v6 (fun x v => Host.reduce IntOp.addi x v reducesTo_S640x2x10112_S640x10112_d1 h_S_),
    nullary main_v7 (iotaInDim S10112 32 0),
    unary main_v7 main_v8 (broadcastInDim S1x10112 ![1] bcast_S10112_S1x10112_1),
    unary main_arg0 main_v9 (broadcastInDim S640x1 ![0] bcast_S640_S640x1_0),
    unary main_v8 main_v10 (broadcastInDim S640x10112 ![0, 1] bcast_S1x10112_S640x10112_0_1),
    unary main_v9 main_v11 (broadcastInDim S640x10112 ![0, 1] bcast_S640x1_S640x10112_0_1),
    binary main_v10 main_v11 main_v12 (cmpi .slt),
    nullary main_c_0 (constantI S_ 32 65#32),
    TRef.unary (.of main_c_0) main_call0.v0 id,
    TRef.unary main_call0.v0 main_call0.v1 (broadcastInDim S640x10112 ![] bcast_S_S640x10112),
    TRef.ternary (.of main_v12) (.of main_v6) main_call0.v1 main_call0.v2 select,
    unary main_v13 main_v14 (trunci 8 · natLt_8_32),
    unary main_v14 main_v15 (extsi 32 · natLt_8_32),
    nullary main_c_1 (constantI S_ 32 65#32),
    TRef.unary (.of main_c_1) main_call1.v0 id,
    TRef.binary (.of main_v15 : TRef sig ⟨S640x10112, .i32⟩) main_call1.v0 main_call1.v1 (fun x v => pad S640x12288 ![0, 0] ![0, 2176] ![0, 0] x v pads_S640x10112_S640x12288_000_021760 h_S_) ]
/-- and the others. -/
abbrev opsB : List (HloOp τ sig (Elt F)) :=
  [ reshape main_v16 main_v17 rfl shapeCasts_S640x12288_S640x3x4x1024,
    unary main_v17 main_v18 (extractStridedSlice S640x3x1x1024 ![0, 0, 0, 0] · slices_S640x3x4x1024_S640x3x1x1024_0_0_0_0),
    reshape main_v18 main_v19 rfl shapeCasts_S640x3x1x1024_S640x3x1024,
    unary main_v17 main_v20 (extractStridedSlice S640x3x1x1024 ![0, 0, 1, 0] · slices_S640x3x4x1024_S640x3x1x1024_0_0_1_0),
    reshape main_v20 main_v21 rfl shapeCasts_S640x3x1x1024_S640x3x1024,
    nullary main_c_2 (constantI S_ 32 8#32),
    unary main_c_2 main_v22 (broadcastInDim S640x3x1024 ![] bcast_S_S640x3x1024),
    binary main_v21 main_v22 main_v23 Host.shli,
    binary main_v19 main_v23 main_v24 ori,
    unary main_v17 main_v25 (extractStridedSlice S640x3x1x1024 ![0, 0, 2, 0] · slices_S640x3x4x1024_S640x3x1x1024_0_0_2_0),
    reshape main_v25 main_v26 rfl shapeCasts_S640x3x1x1024_S640x3x1024,
    nullary main_c_3 (constantI S_ 32 16#32),
    unary main_c_3 main_v27 (broadcastInDim S640x3x1024 ![] bcast_S_S640x3x1024),
    binary main_v26 main_v27 main_v28 Host.shli,
    binary main_v24 main_v28 main_v29 ori,
    unary main_v17 main_v30 (extractStridedSlice S640x3x1x1024 ![0, 0, 3, 0] · slices_S640x3x4x1024_S640x3x1x1024_0_0_3_0),
    reshape main_v30 main_v31 rfl shapeCasts_S640x3x1x1024_S640x3x1024,
    nullary main_c_4 (constantI S_ 32 24#32),
    unary main_c_4 main_v32 (broadcastInDim S640x3x1024 ![] bcast_S_S640x3x1024),
    binary main_v31 main_v32 main_v33 Host.shli,
    binary main_v29 main_v33 main_v34 ori,
    reshape main_v16 main_v35 rfl shapeCasts_S640x12288_S640x12x1024,
    nullary main_c_5 (constantI S_ 32 2147483647#32),
    binary main_v35 main_c_5 main_v36 (fun x v => Host.reduce IntOp.minsi x v reducesTo_S640x12x1024_S640x1024_d1 h_S_),
    reshape main_v34 main_v37 rfl shapeCasts_S640x3x1024_S640x1x3072,
    reshape main_v36 main_v38 rfl shapeCasts_S640x1024_S640x1x1024 ]

theorem main_eq (c : Dev nD) : main (F := F) c = seq ops := by
  simp only [main, fn_where.body, fn_pad.body, seq, bind_assoc, pure_bind]
  rfl

/-! ## What the operations compute -/

/-- The distances, one number per row and position, before the mask. -/
def sums (q : IVec S2x640 32) (sg : IVec S640x2x10112 32) : IVec S640x10112 32 :=
  Host.reduce IntOp.addi
    (ctpop (xori sg (broadcastInDim S640x2x10112 ![0, 1, 2] bcast_S640x2x1_S640x2x10112_0_1_2
      (broadcastInDim S640x2x1 ![0, 1] bcast_S640x2_S640x2x1_0_1 (transpose S640x2 [1, 0] q transposes_S2x640_S640x2_1_0)))))
    (constantI S_ 32 0#32) reducesTo_S640x2x10112_S640x10112_d1 h_S_
/-- The mask of the positions before a row's length. -/
def before (n : IVec S640 32) : IVec S640x10112 1 :=
  cmpi .slt (broadcastInDim S640x10112 ![0, 1] bcast_S1x10112_S640x10112_0_1 (broadcastInDim S1x10112 ![1] bcast_S10112_S1x10112_1 (iotaInDim S10112 32 0)))
    (broadcastInDim S640x10112 ![0, 1] bcast_S640x1_S640x10112_0_1 (broadcastInDim S640x1 ![0] bcast_S640_S640x1_0 n))
/-- The masked distances, stored in eight bits and read back. -/
def bytes (n : IVec S640 32) (q : IVec S2x640 32) (sg : IVec S640x2x10112 32) : IVec S640x10112 32 :=
  extsi 32 (trunci 8 (select (before n) (sums q sg) (broadcastInDim S640x10112 ![] bcast_S_S640x10112 (constantI S_ 32 65#32))) natLt_8_32) natLt_8_32
/-- The distances of every position of the layout, the ones past the history's end 65. -/
def every (n : IVec S640 32) (q : IVec S2x640 32) (sg : IVec S640x2x10112 32) : IVec S640x12288 32 :=
  pad S640x12288 ![0, 0] ![0, 2176] ![0, 0] (bytes n q sg) (constantI S_ 32 65#32) pads_S640x10112_S640x12288_000_021760 h_S_
/-- Four groups of 1024 distances, shifted into the four bytes of a word. -/
def words (e : IVec S640x12288 32) : IVec S640x1x3072 32 :=
  shapeCast S640x1x3072
    (ori (ori (ori (shapeCast S640x3x1024 (extractStridedSlice S640x3x1x1024 ![0, 0, 0, 0] (shapeCast S640x3x4x1024 e shapeCasts_S640x12288_S640x3x4x1024) slices_S640x3x4x1024_S640x3x1x1024_0_0_0_0) shapeCasts_S640x3x1x1024_S640x3x1024)
        (Host.shli (shapeCast S640x3x1024 (extractStridedSlice S640x3x1x1024 ![0, 0, 1, 0] (shapeCast S640x3x4x1024 e shapeCasts_S640x12288_S640x3x4x1024) slices_S640x3x4x1024_S640x3x1x1024_0_0_1_0) shapeCasts_S640x3x1x1024_S640x3x1024) (broadcastInDim S640x3x1024 ![] bcast_S_S640x3x1024 (constantI S_ 32 8#32))))
        (Host.shli (shapeCast S640x3x1024 (extractStridedSlice S640x3x1x1024 ![0, 0, 2, 0] (shapeCast S640x3x4x1024 e shapeCasts_S640x12288_S640x3x4x1024) slices_S640x3x4x1024_S640x3x1x1024_0_0_2_0) shapeCasts_S640x3x1x1024_S640x3x1024) (broadcastInDim S640x3x1024 ![] bcast_S_S640x3x1024 (constantI S_ 32 16#32))))
        (Host.shli (shapeCast S640x3x1024 (extractStridedSlice S640x3x1x1024 ![0, 0, 3, 0] (shapeCast S640x3x4x1024 e shapeCasts_S640x12288_S640x3x4x1024) slices_S640x3x4x1024_S640x3x1x1024_0_0_3_0) shapeCasts_S640x3x1x1024_S640x3x1024) (broadcastInDim S640x3x1024 ![] bcast_S_S640x3x1024 (constantI S_ 32 24#32))))
    shapeCasts_S640x3x1024_S640x1x3072
/-- The least of each lane's twelve distances. -/
def mins (e : IVec S640x12288 32) : IVec S640x1x1024 32 :=
  shapeCast S640x1x1024 (Host.reduce IntOp.minsi (shapeCast S640x12x1024 e shapeCasts_S640x12288_S640x12x1024) (constantI S_ 32 2147483647#32) reducesTo_S640x12x1024_S640x1024_d1 h_S_)
    shapeCasts_S640x1024_S640x1x1024

theorem every_eq (V : Valuation τ sig (Elt F)) :
    after opsA V (main_v16 : DevRef τ sig) = every (V (main_arg0 : DevRef τ sig)) (V (main_arg1 : DevRef τ sig)) (V (main_arg2 : DevRef τ sig)) := by
  after_results_simp
  simp -implicitDefEqProofs only [TRef.ofBuf_toBuf, TRef.ofBuf, TRef.toBuf, id, cast_eq]
  unfold every bytes before sums
  rfl
theorem words_of (V : Valuation τ sig (Elt F)) : after opsB V (main_v37 : DevRef τ sig) = words (V (main_v16 : DevRef τ sig)) := by
  after_results_simp
  rfl
theorem mins_of (V : Valuation τ sig (Elt F)) : after opsB V (main_v38 : DevRef τ sig) = mins (V (main_v16 : DevRef τ sig)) := by
  after_results_simp
  rfl
theorem after_ops (V : Valuation τ sig (Elt F)) : after ops V = after opsB (after opsA V) := by
  simp only [after_cons, after_nil]

theorem words_eq (V : Valuation τ sig (Elt F)) :
    after ops V (main_v37 : DevRef τ sig) = words (every (V (main_arg0 : DevRef τ sig)) (V (main_arg1 : DevRef τ sig)) (V (main_arg2 : DevRef τ sig))) := by
  rw [after_ops, words_of, every_eq]
theorem mins_eq (V : Valuation τ sig (Elt F)) :
    after ops V (main_v38 : DevRef τ sig) = mins (every (V (main_arg0 : DevRef τ sig)) (V (main_arg1 : DevRef τ sig)) (V (main_arg2 : DevRef τ sig))) := by
  rw [after_ops, mins_of, every_eq]
theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., binary_bufs_sub .., unary_bufs_sub .., unary_bufs_sub .., nullary_bufs_sub ..,
    binary_bufs_sub .., nullary_bufs_sub .., unary_bufs_sub .., unary_bufs_sub .., unary_bufs_sub .., unary_bufs_sub .., binary_bufs_sub ..,
    nullary_bufs_sub .., unary_bufs_sub .., unary_bufs_sub .., ternary_bufs_sub .., unary_bufs_sub .., unary_bufs_sub .., nullary_bufs_sub ..,
    unary_bufs_sub .., binary_bufs_sub .., reshape_bufs_sub .., unary_bufs_sub .., reshape_bufs_sub .., unary_bufs_sub .., reshape_bufs_sub ..,
    nullary_bufs_sub .., unary_bufs_sub .., binary_bufs_sub .., binary_bufs_sub .., unary_bufs_sub .., reshape_bufs_sub .., nullary_bufs_sub ..,
    unary_bufs_sub .., binary_bufs_sub .., binary_bufs_sub .., unary_bufs_sub .., reshape_bufs_sub .., nullary_bufs_sub .., unary_bufs_sub ..,
    binary_bufs_sub .., binary_bufs_sub .., reshape_bufs_sub .., nullary_bufs_sub .., binary_bufs_sub .., reshape_bufs_sub .., reshape_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

variable (m : (ℓ : Loc nD τ sig) → Buf (Elt F) ℓ) (ρ : Dev nD → PrngReg)

/-- The arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h c main_arg0).trans (arg0_eq _), (h c main_arg1).trans (arg1_eq _), (h c main_arg2).trans (arg2_eq _)⟩,
    Idealize.ShloMosaic.sem_eq_zero_of_no_sems (by decide) r.2⟩) (run_main m ρ)

/-- The run: the two results, the arguments unchanged. -/
theorem run : θ_run defs (onTc (τ := τ) (main (F := F))) ⟨m, fun _ => 0, ρ⟩ fun r => ∀ c : Dev nD,
      r.2.mem ((c.tc : Thread nD τ).loc main_v37) = words (every (m ((c.tc : Thread nD τ).loc main_arg0)) (m ((c.tc : Thread nD τ).loc main_arg1)) (m ((c.tc : Thread nD τ).loc main_arg2)))
      ∧ r.2.mem ((c.tc : Thread nD τ).loc main_v38) = mins (every (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v37).trans (words_eq _), (h c main_v38).trans (mins_eq _),
    (h c main_arg0).trans (arg0_eq _), (h c main_arg1).trans (arg1_eq _), (h c main_arg2).trans (arg2_eq _)⟩) (run_main m ρ)

end Cert.DistancesRefIdeal.Gen

end
-- ==== Proof.RefValues.lean ====
/-  THE DISTANCE REFERENCE'S VALUES: its two results, at an element, are the mathematics of `Words.lean` of the arguments. -/
module

public import proofs.«01_k».proof.Proof.Words
public import proofs.«01_k».proof.Proof.RefRun
public import Idealize.ShloMosaic.Lib.Pointwise

@[expose] public section

set_option maxRecDepth 16384

noncomputable section

namespace Cert.DistancesRefIdeal.Gen

open Idealize.ShloMosaic Idealize.ShloMosaic.TcCoe Idealize.ShloMosaic.Tactic Cert.Words
open Cert.DistancesRefIdeal

theorem sums_at (q : IVec S2x640 32) (sg : IVec S640x2x10112 32) (R : Fin 640) (p : Fin 10112) :
    sums q sg (ix2 R p) = IntOp.ctpop (sg (ix3 R 0 p) ^^^ q (ix2 0 R)) + IntOp.ctpop (sg (ix3 R 1 p) ^^^ q (ix2 1 R)) := by
  unfold sums
  pointwise
  rw [show (Finset.univ : Finset (Fin 2)) = insert 0 {1} from by decide, Finset.fold_insert (by decide), Finset.fold_singleton]
  show _ + (_ + 0#32) = _
  rw [BitVec.add_zero]
  rfl

theorem before_at (n : IVec S640 32) (R : Fin 640) (p : Fin 10112) :
    before n (ix2 R p) = BitVec.ofBool ((BitVec.ofNat 32 p.val).slt (n (ix1 R))) := by
  unfold before
  pointwise
  rfl

/-- Eight bits hold a distance. -/
theorem bytes_at (n : IVec S640 32) (q : IVec S2x640 32) (sg : IVec S640x2x10112 32) (R : Fin 640) (p : Fin 10112) :
    bytes n q sg (ix2 R p) = Cert.Words.dist (n (ix1 R)) (q (ix2 0 R)) (q (ix2 1 R)) (sg (ix3 R 0 p)) (sg (ix3 R 1 p)) p.val := by
  rw [← dist_narrow]
  unfold bytes
  pointwise
  show BitVec.signExtend 32 (BitVec.setWidth 8 (if before n (ix2 R p) = 1#1 then sums q sg (ix2 R p) else 65#32)) = _
  rw [before_at, sums_at]
  unfold Cert.Words.dist
  cases (BitVec.ofNat 32 p.val).slt (n (ix1 R)) <;> rfl

theorem every_pad (n : IVec S640 32) (q : IVec S2x640 32) (sg : IVec S640x2x10112 32) (R : Fin 640) (p : Fin 12288) :
    every n q sg (ix2 R p) = if h : p.val < 10112 then bytes n q sg (ix2 R ⟨p.val, h⟩) else 65#32 := by
  unfold every
  pointwise

/-- The distances of row `R`, by position. -/
def rowDist (n : IVec S640 32) (q : IVec S2x640 32) (sg : IVec S640x2x10112 32) (R : Fin 640) (p : ℕ) : BitVec 32 :=
  distAt (n (ix1 R)) (q (ix2 0 R)) (q (ix2 1 R)) (fun w p => sg (ix3 R w p)) p

theorem every_at (n : IVec S640 32) (q : IVec S2x640 32) (sg : IVec S640x2x10112 32) (R : Fin 640) (p : Fin 12288) :
    every n q sg (ix2 R p) = rowDist n q sg R p.val := by
  rw [every_pad]
  unfold rowDist distAt
  by_cases h : p.val < 10112
  · rw [dif_pos h, dif_pos h, bytes_at]
  · rw [dif_neg h, dif_neg h]

theorem shl_8 (x : BitVec 32) : IntOp.shli ArithUnit.host x 8#32 = x <<< 8#32 := rfl
theorem shl_16 (x : BitVec 32) : IntOp.shli ArithUnit.host x 16#32 = x <<< 16#32 := rfl
theorem shl_24 (x : BitVec 32) : IntOp.shli ArithUnit.host x 24#32 = x <<< 24#32 := rfl

theorem words_at (e : IVec S640x12288 32) (R : Fin 640) (l : Fin 3072) :
    words e (ix3 R 0 l) = word (e (ix2 R ⟨l.val / 1024 * 4096 + l.val % 1024, by omega⟩)) (e (ix2 R ⟨l.val / 1024 * 4096 + 1024 + l.val % 1024, by omega⟩))
      (e (ix2 R ⟨l.val / 1024 * 4096 + 2048 + l.val % 1024, by omega⟩)) (e (ix2 R ⟨l.val / 1024 * 4096 + 3072 + l.val % 1024, by omega⟩)) := by
  unfold words
  pointwise
  rw [shl_8, shl_16, shl_24]
  rfl

theorem mins_at (e : IVec S640x12288 32) (R : Fin 640) (l : Fin 1024) :
    mins e (ix3 R 0 l) = (Finset.univ : Finset (Fin 12)).fold IntOp.minsi 2147483647#32 fun j => e (ix2 R ⟨j.val * 1024 + l.val, by omega⟩) := by
  unfold mins
  pointwise

/-! ## The two results -/

theorem idx_eq {a n : Nat} (y : (⟨3, ![a, 1, n]⟩ : Shape).Idx) : ∃ (r : Fin a) (l : Fin n), y = ix3 r 0 l :=
  ⟨y 0, y 2, by funext a; match a with | ⟨0, _⟩ => rfl | ⟨1, _⟩ => exact Subsingleton.elim (α := Fin 1) _ _ | ⟨2, _⟩ => rfl⟩

theorem words_val (n : IVec S640 32) (q : IVec S2x640 32) (sg : IVec S640x2x10112 32) :
    words (every n q sg) = fun i => packedAt (rowDist n q sg (i 0)) ((i 2).val / 1024) ((i 2).val % 1024) := by
  funext i
  obtain ⟨R, l, rfl⟩ := idx_eq (a := 640) (n := 3072) i
  rw [words_at, every_at, every_at, every_at, every_at]
  show word (rowDist n q sg R (l.val / 1024 * 4096 + l.val % 1024)) (rowDist n q sg R (l.val / 1024 * 4096 + 1024 + l.val % 1024))
    (rowDist n q sg R (l.val / 1024 * 4096 + 2048 + l.val % 1024)) (rowDist n q sg R (l.val / 1024 * 4096 + 3072 + l.val % 1024)) = _
  rw [Nat.mul_comm (l.val / 1024) 4096]
  rfl

theorem mins_val (n : IVec S640 32) (q : IVec S2x640 32) (sg : IVec S640x2x10112 32) :
    mins (every n q sg) = fun i => leastOf fun j => rowDist n q sg (i 0) (1024 * j.val + (i 2).val) := by
  funext i
  obtain ⟨R, l, rfl⟩ := idx_eq (a := 640) (n := 1024) i
  rw [mins_at]
  refine fold_least _ _ (fun j => ?_) ?_ ?_
  · rw [every_at]
    show rowDist n q sg R (j.val * 1024 + l.val) = _
    rw [Nat.mul_comm j.val 1024]
    rfl
  all_goals
    rw [every_at]
    unfold rowDist distAt
    rw [dif_neg]
    simp only [Nat.not_lt]
    omega

end Cert.DistancesRefIdeal.Gen

end
-- ==== Proof.Ideal.Values.lean ====
/-  THE KERNEL'S VALUES: what a step's windows end with, at an element, is the mathematics of `Words.lean` of the row's length,
    its query words and its row of the history, the lengths being between 0 and 10112. -/
module

public import proofs.«01_k».proof.Proof.Ideal.Lanes

@[expose] public section

set_option maxRecDepth 16384

noncomputable section

namespace Cert.DistancesIdeal.Gen

open Idealize.ShloMosaic Idealize.ShloMosaic.TcCoe Idealize.SL.Sem Cert.Words

variable {F : FTy → Type} [FloatOps F]

/-! ## A landed block -/

theorem cast_win (v : S1x1x16x1x10112.Idx → BitVec 32) (h : S1x1x16x1x10112.ShapeCasts S16x10112) (r : Fin 16) (p : Fin 10112) :
    shapeCast S16x10112 v h (ix2 r p) = v (ix5 0 0 r 0 p) := by
  pointwise
theorem cast_src (v : S16x1x10112.Idx → BitVec 32) (h : S16x1x10112.ShapeCasts S16x10112) (r : Fin 16) (p : Fin 10112) :
    shapeCast S16x10112 v h (ix2 r p) = v (ix3 r 0 p) := by
  pointwise

/-- A part of a slot, read: the scratch at that slot, part, row and column. -/
theorem read_win {sp : Space} (M : Memref sig .tc sp S3x2x16x1x12288 .i32) (s : Fin 3) (w : Fin 2) (off : Fin 5 → Nat) (ho : off = ![s.val, w.val, 0, 0, 0])
    (inb : ∀ a, off a + S1x1x16x1x10112.size a ≤ S3x2x16x1x12288.size a) (hr) (hq : S1x1x16x1x10112.Squeezes S16x10112) (f : M.view.ty.Contents (Elt F)) (r : Fin 16) (p : Fin 10112) :
    ((M.slice (Rect.unit (s := S3x2x16x1x12288) off S1x1x16x1x10112.size inb) hr).squeeze S16x10112 hq).view.read (Elt F) f (ix2 r p)
      = M.view.read (Elt F) f (ix5 s w r 0 ⟨p.val, by omega⟩) := by
  subst ho
  have h1 : ((M.slice (Rect.unit (s := S3x2x16x1x12288) ![s.val, w.val, 0, 0, 0] S1x1x16x1x10112.size inb) hr).squeeze S16x10112 hq).view.read (Elt F) f (ix2 r p)
      = shapeCast S16x10112 (fun i => M.view.read (Elt F) f ((Rect.unit (s := S3x2x16x1x12288) ![s.val, w.val, 0, 0, 0] S1x1x16x1x10112.size inb).emb i)) hq.numel_eq (ix2 r p) := rfl
  rw [h1, cast_win]
  congr 1
  funext a
  apply Fin.ext
  rw [Rect.emb_apply]
  match a with
  | ⟨0, _⟩ => show s.val + 1 * 0 = s.val; omega
  | ⟨1, _⟩ => show w.val + 1 * 0 = w.val; omega
  | ⟨2, _⟩ => show 0 + 1 * r.val = r.val; omega
  | ⟨3, _⟩ => rfl
  | ⟨4, _⟩ => show 0 + 1 * p.val = p.val; omega

/-- A block of the history, read: the history at that row, word and position. -/
theorem read_src {sp : Space} (M : Memref sig .tc sp S640x2x10112 .i32) (b : Fin 40) (w : Fin 2) (off : Fin 3 → Nat) (ho : off = ![16 * b.val, w.val, 0])
    (inb : ∀ a, off a + S16x1x10112.size a ≤ S640x2x10112.size a) (hr) (hq : S16x1x10112.Squeezes S16x10112) (f : M.view.ty.Contents (Elt F)) (r : Fin 16) (p : Fin 10112) :
    ((M.slice (Rect.unit (s := S640x2x10112) off S16x1x10112.size inb) hr).squeeze S16x10112 hq).view.read (Elt F) f (ix2 r p)
      = M.view.read (Elt F) f (ix3 ⟨16 * b.val + r.val, by omega⟩ w p) := by
  subst ho
  have h1 : ((M.slice (Rect.unit (s := S640x2x10112) ![16 * b.val, w.val, 0] S16x1x10112.size inb) hr).squeeze S16x10112 hq).view.read (Elt F) f (ix2 r p)
      = shapeCast S16x10112 (fun i => M.view.read (Elt F) f ((Rect.unit (s := S640x2x10112) ![16 * b.val, w.val, 0] S16x1x10112.size inb).emb i)) hq.numel_eq (ix2 r p) := rfl
  rw [h1, cast_src]
  congr 1
  funext a
  apply Fin.ext
  rw [Rect.emb_apply]
  match a with
  | ⟨0, _⟩ => show 16 * b.val + 1 * r.val = 16 * b.val + r.val; omega
  | ⟨1, _⟩ => show w.val + 1 * 0 = w.val; omega
  | ⟨2, _⟩ => show 0 + 1 * p.val = p.val; omega

/-- Contents equal on a view's elements to one whole write through it read back as what was written. -/
theorem read_of_landed {sp : Space} {s : Shape} {e : EltTy} (v : View sig .tc sp s e) (f X : v.ty.Contents (Elt F)) (x : s.Idx → Elt F e)
    (h : ∀ i ∈ v.set, X i = v.writes (Elt F) f [⟨Rect.whole s, x⟩] i) (y : s.Idx) : v.read (Elt F) X y = x y := by
  have e1 : v.read (Elt F) X y = v.read (Elt F) (v.writes (Elt F) f [⟨Rect.whole s, x⟩]) y := by
    have e0 := h (v.emb y) (v.emb_mem_set y)
    unfold View.read
    rw [e0]
  rw [e1, View.read_writes_whole]

theorem landed0 (c : Dev nD) (W0 : IVec S640x2x10112 32) (s : Fin 3) (b : Fin 40) (X6 : IVec S3x2x16x1x12288 32) (h : Landed (F := F) c W0 s b X6)
    (r : Fin 16) (p : Fin 10112) : X6 (ix5 s 0 r 0 ⟨p.val, by omega⟩) = W0 (ix3 ⟨16 * b.val + r.val, by omega⟩ 0 p) := by
  have hr := read_of_landed (F := F) (rwin0_0_0 s).view (rwin0_0_0 s).view.junk X6 _ (fun i hi => h.1 i (by rw [← winSet0_0_eq_0 s]; exact hi)) (ix2 r p)
  have e1 : (rwin0_0_0 s).view.read (Elt F) X6 (ix2 r p) = X6 (ix5 s 0 r 0 ⟨p.val, by omega⟩) := read_win (F := F) scM0_0 s 0 _ rfl (inb_win0_0 s 0) (fun _ => rfl) squeezes_S1x1x16x1x10112_S16x10112 X6 r p
  have e2 : (srcB0_0_0 b).view.read (Elt F) W0 (ix2 r p) = W0 (ix3 ⟨16 * b.val + r.val, by omega⟩ 0 p) := read_src (F := F) hbM0_0 b 0 _ rfl (inb_src0_0_0 b) (fun _ => rfl) squeezes_S16x1x10112_S16x10112 W0 r p
  exact e1.symm.trans (hr.trans e2)

theorem landed1 (c : Dev nD) (W0 : IVec S640x2x10112 32) (s : Fin 3) (b : Fin 40) (X6 : IVec S3x2x16x1x12288 32) (h : Landed (F := F) c W0 s b X6)
    (r : Fin 16) (p : Fin 10112) : X6 (ix5 s 1 r 0 ⟨p.val, by omega⟩) = W0 (ix3 ⟨16 * b.val + r.val, by omega⟩ 1 p) := by
  have hr := read_of_landed (F := F) (rwin0_0_1 s).view (rwin0_0_1 s).view.junk X6 _ (fun i hi => h.2 i (by rw [← winSet0_0_eq_1 s]; exact hi)) (ix2 r p)
  have e1 : (rwin0_0_1 s).view.read (Elt F) X6 (ix2 r p) = X6 (ix5 s 1 r 0 ⟨p.val, by omega⟩) := read_win (F := F) scM0_0 s 1 _ rfl (inb_win0_0 s 1) (fun _ => rfl) squeezes_S1x1x16x1x10112_S16x10112 X6 r p
  have e2 : (srcB0_0_1 b).view.read (Elt F) W0 (ix2 r p) = W0 (ix3 ⟨16 * b.val + r.val, by omega⟩ 1 p) := read_src (F := F) hbM0_0 b 1 _ rfl (inb_src0_0_1 b) (fun _ => rfl) squeezes_S16x1x10112_S16x10112 W0 r p
  exact e1.symm.trans (hr.trans e2)

/-! ## The windows -/

/-- Row `R` of the history. -/
def histRow (W0 : IVec S640x2x10112 32) (R : Fin 640) : Fin 2 → Fin 10112 → BitVec 32 := fun w p => W0 (ix3 R w p)

/-- The distance of row `R` at position `p`. -/
def distOf (X1 : IVec S640 32) (X2 : IVec S2x640 32) (W0 : IVec S640x2x10112 32) (R : Fin 640) (p : ℕ) : BitVec 32 :=
  distAt (X1 (ix1 R)) (X2 (ix2 0 R)) (X2 (ix2 1 R)) (histRow W0 R) p

variable (c : Dev nD) (t : Fin grid0.N) (X1 : IVec S640 32) (X2 : IVec S2x640 32) (W0 : IVec S640x2x10112 32) (X6 : IVec S3x2x16x1x12288 32)
variable (hX : ∀ R : Fin 640, 0 ≤ (X1 (ix1 R)).toInt ∧ (X1 (ix1 R)).toInt ≤ 10112)

theorem lanes_apply (l : Fin 1024) : (k0_pay3 : IVec S1x1024 32) (ix2 0 l) = BitVec.ofNat 32 l.val := by
  unfold k0_pay3
  pointwise

theorem block_eq : (Ring.bk 40 t.val).val = t.val := by
  have h : t.val < 40 := t.isLt
  show t.val % 40 = t.val
  exact Nat.mod_eq_of_lt h

include hX in
theorem laneAt_eq (h : Landed (F := F) c W0 (Ring.sl 3 t.val) (Ring.bk 40 t.val) X6) (r : Fin 16) (j : Fin 10) (l : Fin 1024) :
    laneAt t k0_pay3 X1 X2 X6 r j l = distOf X1 X2 W0 (rowIx t r) (1024 * j.val + l.val) := by
  obtain ⟨hn0, hn1⟩ := hX (rowIx t r)
  unfold laneAt distOf distAt
  rw [lanes_apply, lane_eq _ _ _ _ _ hn0 hn1 j.val l.val j.isLt l.isLt]
  have hR : (⟨16 * (Ring.bk 40 t.val).val + r.val, by omega⟩ : Fin 640) = rowIx t r := Fin.ext (congrArg (fun n => 16 * n + r.val) (block_eq t))
  by_cases hp : 1024 * j.val + l.val < 10112
  · rw [dif_pos hp]
    have e0 := landed0 (F := F) c W0 _ _ X6 h r ⟨1024 * j.val + l.val, hp⟩
    have e1 := landed1 (F := F) c W0 _ _ X6 h r ⟨1024 * j.val + l.val, hp⟩
    rw [hR] at e0 e1
    rw [e0, e1]
    rfl
  · rw [dif_neg hp]
    exact dist_past _ _ _ _ _ hn1 _ (by omega) (by omega)

/-- The window of packed words of step `t`. -/
def packedBlock : Vec F S16x1x3072 .i32 := fun i => packedAt (distOf X1 X2 W0 (rowIx t (i 0))) ((i 2).val / 1024) ((i 2).val % 1024)
/-- The window of minima of step `t`. -/
def leastBlock : Vec F S16x1x1024 .i32 := fun i => leastOf fun j => distOf X1 X2 W0 (rowIx t (i 0)) (1024 * j.val + (i 2).val)

include hX in
theorem packed_unique (d : Vec F S16x1x3072 .i32) (h : PackOut (F := F) c t X1 X2 W0 d) : d = packedBlock t X1 X2 W0 := by
  obtain ⟨X6, hL, h⟩ := h
  funext i
  obtain ⟨r, z, col, rfl⟩ : ∃ r z col, i = (ix3 r z col : S16x1x3072.Idx) := ⟨i 0, i 1, i 2, by funext x; match x with | ⟨0, _⟩ => rfl | ⟨1, _⟩ => rfl | ⟨2, _⟩ => rfl⟩
  obtain rfl : z = 0 := Subsingleton.elim _ _
  rw [h r col]
  show _ = packedAt (distOf X1 X2 W0 (rowIx t r)) (col.val / 1024) (col.val % 1024)
  unfold packRow packedAt
  have e := laneAt_eq (F := F) c t X1 X2 W0 X6 hX hL r
  have past : ∀ p, 10112 ≤ p → distOf X1 X2 W0 (rowIx t r) p = 65#32 := fun p hp => dif_neg (by omega)
  by_cases h0 : col.val < 1024
  · rw [dif_pos h0, pack0_eq, e, e, e, e, show col.val / 1024 = 0 by omega, show col.val % 1024 = col.val by omega]
    congr 2 <;> simp
  · rw [dif_neg h0]
    by_cases h1 : col.val < 2048
    · rw [dif_pos h1, pack1_eq, e, e, e, e, show col.val / 1024 = 1 by omega, show col.val % 1024 = col.val - 1024 by omega]
      congr 2
    · rw [dif_neg h1, pack2_eq, e, e, show col.val / 1024 = 2 by omega, show col.val % 1024 = col.val - 2048 by omega,
        past (4096 * 2 + 2048 + (col.val - 2048)) (by omega), past (4096 * 2 + 3072 + (col.val - 2048)) (by omega)]
      congr 2

include hX in
theorem least_unique (d : Vec F S16x1x1024 .i32) (h : LeastOut (F := F) c t X1 X2 W0 d) : d = leastBlock t X1 X2 W0 := by
  obtain ⟨X6, hL, h⟩ := h
  funext i
  obtain ⟨r, z, col, rfl⟩ : ∃ r z col, i = (ix3 r z col : S16x1x1024.Idx) := ⟨i 0, i 1, i 2, by funext x; match x with | ⟨0, _⟩ => rfl | ⟨1, _⟩ => rfl | ⟨2, _⟩ => rfl⟩
  obtain rfl : z = 0 := Subsingleton.elim _ _
  rw [h r col, least_eq]
  exact congrArg leastOf (funext fun j => laneAt_eq (F := F) c t X1 X2 W0 X6 hX hL r j col)

end Cert.DistancesIdeal.Gen
-- ==== Proof.Ideal.Array.lean ====
/-  THE DISTANCE KERNEL'S RESULT ARRAYS at an index, as the mathematics of `Words.lean` of the arguments. -/
module

public import proofs.«01_k».proof.Proof.Ideal.Values
public import proofs.«01_k».proof.Proof.Ideal.Grid
public import Idealize.ShloMosaic.Lib.Pipeline.ValueKit.Geometry

@[expose] public section

set_option maxRecDepth 16384

noncomputable section

namespace Cert.DistancesIdeal.Gen

open Idealize.ShloMosaic Idealize.ShloMosaic.TcCoe Idealize.SL.Sem Cert.Words
open Idealize.ShloMosaic.Pipeline (Dat)

variable {F : FTy → Type} [FloatOps F]

variable (m : (ℓ : Loc nD τ sig) → Buf (Elt F) ℓ) (ρ : Dev nD → PrngReg)

/-- The packed words of device `c`'s arguments. -/
def packed (c : Dev nD) : Vec F S640x1x3072 .i32 := fun i =>
  packedAt (distOf (m ((c : Thread nD τ).loc main_arg0)) (m ((c : Thread nD τ).loc main_arg1)) (m ((c : Thread nD τ).loc main_arg2)) (i 0)) ((i 2).val / 1024) ((i 2).val % 1024)
/-- The least distances of its lanes. -/
def least (c : Dev nD) : Vec F S640x1x1024 .i32 := fun i =>
  leastOf fun j => distOf (m ((c : Thread nD τ).loc main_arg0)) (m ((c : Thread nD τ).loc main_arg1)) (m ((c : Thread nD τ).loc main_arg2)) (i 0) (1024 * j.val + (i 2).val)

/-! ## The windows' blocks in their arrays -/

variable (hO : Ok m)

/-- Some contents of the memory: the windows read none of it. -/
def someMem : (ℓ : Loc nD τ sig) → Buf (Elt Ideal) ℓ := fun _ _ => Classical.choice inferInstance

theorem covers0 : ((cfgM someMem trivial).win 0).Covers := by decide +kernel
theorem covers1 : ((cfgM someMem trivial).win 1).Covers := by decide +kernel
theorem index0 : ∀ t : Fin grid0.N, ((cfgM someMem trivial).win 0).index t = ![t.val, 0, 0] := by decide +kernel
theorem index1 : ∀ t : Fin grid0.N, ((cfgM someMem trivial).win 1).index t = ![t.val, 0, 0] := by decide +kernel

theorem emb0 (t : Fin grid0.N) (r : Fin 16) (l : Fin 3072) :
    (((cfgM m hO).win 0).blk t).view.emb (ix3 r 0 l) = (ix3 (rowIx t r) 0 l : (⟨3, ![640, 1, 3072]⟩ : Shape).Idx) := by
  have e : ((cfgM m hO).win 0).index t = ![t.val, 0, 0] := index0 t
  blk_ext [e]
  show t.val * 16 + r.val = 16 * t.val + r.val
  omega

theorem emb1 (t : Fin grid0.N) (r : Fin 16) (l : Fin 1024) :
    (((cfgM m hO).win 1).blk t).view.emb (ix3 r 0 l) = (ix3 (rowIx t r) 0 l : (⟨3, ![640, 1, 1024]⟩ : Shape).Idx) := by
  have e : ((cfgM m hO).win 1).index t = ![t.val, 0, 0] := index1 t
  blk_ext [e]
  show t.val * 16 + r.val = 16 * t.val + r.val
  omega

/-! ## The result arrays -/

theorem tbl_0 (c : Dev nD) : tbl m 0 = m ((c : Thread nD τ).loc main_arg0) := by rw [← V_main_arg0 m c]; exact (V_pre m c 0).symm
theorem tbl_1 (c : Dev nD) : tbl m 1 = m ((c : Thread nD τ).loc main_arg1) := by rw [← V_main_arg1 m c]; exact (V_pre m c 1).symm

/-- What step `t` leaves in the window of packed words. -/
def out0 (c : Dev nD) (t : Fin grid0.N) : Vec F S16x1x3072 .i32 :=
  packedBlock (F := F) t (m ((c : Thread nD τ).loc main_arg0)) (m ((c : Thread nD τ).loc main_arg1)) (m ((c : Thread nD τ).loc main_arg2))
/-- What it leaves in the window of least distances. -/
def out1 (c : Dev nD) (t : Fin grid0.N) : Vec F S16x1x1024 .i32 :=
  leastBlock (F := F) t (m ((c : Thread nD τ).loc main_arg0)) (m ((c : Thread nD τ).loc main_arg1)) (m ((c : Thread nD τ).loc main_arg2))

theorem idx_eq {n : Nat} (y : (⟨3, ![16, 1, n]⟩ : Shape).Idx) : ∃ (r : Fin 16) (l : Fin n), y = ix3 r 0 l :=
  ⟨y 0, y 2, by funext a; match a with | ⟨0, _⟩ => rfl | ⟨1, _⟩ => exact Subsingleton.elim (α := Fin 1) _ _ | ⟨2, _⟩ => rfl⟩

theorem final0 (c : Dev nD) : (dats m hO (out0 m) (out1 m) 0 c).arrAt 0 (cfgM m hO).N = packed m c := by
  refine (dats m hO (out0 m) (out1 m) 0 c).arrAt_eq_of_covers 0 _ covers0 fun t hf y => ?_
  obtain ⟨r, l, rfl⟩ := idx_eq (n := 3072) y
  rw [emb0]
  rfl

theorem final1 (c : Dev nD) : (dats m hO (out0 m) (out1 m) 0 c).arrAt 1 (cfgM m hO).N = least m c := by
  refine (dats m hO (out0 m) (out1 m) 0 c).arrAt_eq_of_covers 1 _ covers1 fun t hf y => ?_
  obtain ⟨r, l, rfl⟩ := idx_eq (n := 1024) y
  rw [emb1]
  rfl

/-- Every length is between 0 and the number of positions. -/
def InRange (c : Dev nD) : Prop :=
  ∀ R : Fin 640, 0 ≤ ((m ((c : Thread nD τ).loc main_arg0) : IVec S640 32) (ix1 R)).toInt ∧ ((m ((c : Thread nD τ).loc main_arg0) : IVec S640 32) (ix1 R)).toInt ≤ 10112

/-- The run: the two result arrays, the arguments unchanged. -/
theorem run (hX : ∀ c, InRange m c) : θ_run defs (onTc (τ := τ) (main (F := F))) ⟨m, fun _ => 0, ρ⟩ fun r => ∀ c : Dev nD,
      r.2.mem ((c : Thread nD τ).loc main_v0_0) = packed m c
      ∧ r.2.mem ((c : Thread nD τ).loc main_v0_1) = least m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 0).trans (final0 m trivial c), ((h c).1 1).trans (final1 m trivial c),
      (h c).2 main_arg0 (Pipeline.mem_restRefs_of main_arg0 rfl (by decide : ∀ w : Fin 2, (spec0 w).arr.view.ref ≠ main_arg0)),
      (h c).2 main_arg1 (Pipeline.mem_restRefs_of main_arg1 rfl (by decide : ∀ w : Fin 2, (spec0 w).arr.view.ref ≠ main_arg1)),
      (h c).2 main_arg2 (Pipeline.mem_restRefs_of main_arg2 rfl (by decide : ∀ w : Fin 2, (spec0 w).arr.view.ref ≠ main_arg2))⟩)
    (run_named m ρ trivial (out0 m) (out1 m)
      (fun c t d h => by
        rw [tbl_0 m c, tbl_1 m c, V_main_arg2] at h
        exact packed_unique c t _ _ _ (hX c) d h)
      (fun c t d h => by
        rw [tbl_0 m c, tbl_1 m c, V_main_arg2] at h
        exact least_unique c t _ _ _ (hX c) d h))

end Cert.DistancesIdeal.Gen

end
-- ==== Proof.lean ====
module

public import proofs.«01_k».proof.Proof.Array
public import proofs.«01_k».proof.Proof.RefArray
public import proofs.«01_k».proof.Proof.Ring
public import proofs.«01_k».proof.Proof.Grid
public import proofs.«01_k».proof.Proof.Ideal.Grid
public import proofs.«01_k».proof.Proof.Words
public import proofs.«01_k».proof.Proof.Ideal.Lanes
public import proofs.«01_k».proof.Proof.RefRun
public import proofs.«01_k».proof.Proof.RefValues
public import proofs.«01_k».proof.Proof.Ideal.Values
public import proofs.«01_k».proof.Proof.Ideal.Array
public import proofs.«01_k».proof.Defs
public import proofs.«01_k».proof.Proof.Gen.Attend
public import proofs.«01_k».proof.Proof.Gen.Attend.Skeleton
public import proofs.«01_k».proof.Proof.Gen.Attend.Launch
public import proofs.«01_k».proof.Proof.Gen.Attend.Points
public import proofs.«01_k».proof.Proof.Gen.Attend.Frame
public import proofs.«01_k».proof.Proof.Gen.AttendIdeal
public import proofs.«01_k».proof.Proof.Gen.AttendIdeal.Skeleton
public import proofs.«01_k».proof.Proof.Gen.AttendIdeal.Launch
public import proofs.«01_k».proof.Proof.Gen.AttendIdeal.Points
public import proofs.«01_k».proof.Proof.Gen.AttendIdeal.Frame
public import proofs.«01_k».proof.Proof.Gen.AttendRefIdeal
public import proofs.«01_k».proof.Proof.Gen.AttendRefIdeal.Skeleton
public import proofs.«01_k».proof.Proof.Gen.AttendRefIdeal.Launch
public import proofs.«01_k».proof.Proof.Gen.AttendRefIdeal.Points
public import proofs.«01_k».proof.Proof.Gen.AttendRefIdeal.Frame
public import proofs.«01_k».proof.Proof.Gen.Distances
public import proofs.«01_k».proof.Proof.Gen.Distances.Skeleton
public import proofs.«01_k».proof.Proof.Gen.Distances.Launch
public import proofs.«01_k».proof.Proof.Gen.DistancesIdeal
public import proofs.«01_k».proof.Proof.Gen.DistancesIdeal.Skeleton
public import proofs.«01_k».proof.Proof.Gen.DistancesIdeal.Launch
public import proofs.«01_k».proof.Proof.Gen.DistancesRefIdeal
public import proofs.«01_k».proof.Proof.Gen.Pre_lengths_in_range
public import Idealize.ShloMosaic.Adequacy
public import Idealize.ShloMosaic.Init

@[expose] public section

noncomputable section

namespace Cert.Proof

open Idealize.ShloMosaic Idealize.SL.Sem Cert.Attend

/-- Every length of device `c` is between 0 and 10112, if the precondition holds. -/
theorem in_range (m : (ℓ : Loc Cert.DistancesIdeal.nD Cert.DistancesIdeal.τ Cert.DistancesIdeal.sig) → Buf (Elt Ideal) ℓ)
    (h : Cert.Pre_DistancesIdeal_lengths_in_range m) (c : Dev Cert.DistancesIdeal.nD) : Cert.DistancesIdeal.Gen.InRange m c := fun R => by
  have e := congrFun (h c) (ix1 R)
  exact Cert.Words.range_of_ones _ e

theorem distances : Cert.algebraic_DistancesIdeal_DistancesRefIdeal_pre_lengths_in_range := fun m g m' g' pre agree => by
  refine ⟨Cert.DistancesIdeal.Gen.packed m, Cert.DistancesIdeal.Gen.least m, Cert.DistancesIdeal.Gen.run m g (in_range m pre), ?_⟩
  refine (θ_run _ _ _).mono (fun _ h c => ?_) (Cert.DistancesRefIdeal.Gen.run m' g')
  obtain ⟨h0, h1, h2⟩ := h c
  obtain ⟨a0, a1, a2⟩ := agree c
  refine ⟨h0.trans ?_, h1.trans ?_, h2⟩
  · rw [a0, a1, a2]
    exact Cert.DistancesRefIdeal.Gen.words_val _ _ _
  · rw [a0, a1, a2]
    exact Cert.DistancesRefIdeal.Gen.mins_val _ _ _

theorem attend : Cert.algebraic_AttendIdeal_AttendRefIdeal := fun m g m' g' _ agree => by
  refine ⟨Cert.AttendIdeal.Arrays.pooled m, Cert.AttendIdeal.Arrays.positions m, Cert.AttendIdeal.Arrays.attn m, Cert.AttendIdeal.Arrays.run m g, ?_⟩
  refine (θ_run _ _ _).mono (fun _ h c => ?_) (Cert.AttendRefIdeal.Arrays.run m' g')
  obtain ⟨h0, h1, h2, h3⟩ := h c
  obtain ⟨a0, a1, a2, a3⟩ := agree c
  refine ⟨h0.trans ?_, h1.trans ?_, h2.trans ?_, h3⟩
  · unfold Cert.AttendRefIdeal.Arrays.pooled Cert.AttendIdeal.Arrays.pooled
    rw [a0, a2, a3]
  · unfold Cert.AttendRefIdeal.Arrays.positions Cert.AttendIdeal.Arrays.positions
    rw [a1]
  · unfold Cert.AttendRefIdeal.Arrays.attn Cert.AttendIdeal.Arrays.attn
    rw [a0, a2, a3]

theorem claim : Cert.Claim :=
  ⟨Cert.Attend.Gen.facts, Cert.AttendIdeal.Gen.facts, Cert.AttendRefIdeal.Gen.facts, Cert.Distances.Gen.facts, Cert.DistancesIdeal.Gen.facts,
    Cert.DistancesRefIdeal.Gen.facts, Cert.Pre_lengths_in_range.Gen.facts,
    fun m g _ => Cert.Attend.Gen.frame m g, fun m g _ => Cert.AttendIdeal.Gen.frame m g, fun m g _ => Cert.AttendRefIdeal.Gen.frame m g,
    fun m g _ => Cert.Distances.Gen.frame m g trivial, fun m g _ => Cert.DistancesIdeal.Gen.frame m g trivial, fun m g _ => Cert.DistancesIdeal.Gen.frame m g trivial,
    fun m g _ => Cert.DistancesRefIdeal.Gen.frame m g, fun m g _ => Cert.DistancesRefIdeal.Gen.frame m g,
    trivial, attend, trivial, distances⟩

end Cert.Proof

end
